-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_4) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_2)) (v1 : (c : Dev Cert.Kernel5Ideal.nD) → Buf (Elt Ideal) ((c.tc : Thread Cert.Kernel5Ideal.nD Cert.Kernel5Ideal.τ).loc Cert.Kernel5Ideal.main_v1_0)) (v2 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_2) = v0 c
          ∧ r.2.mem ((c.tc : Thread Cert.Kernel5Ideal.nD Cert.Kernel5Ideal.τ).loc Cert.Kernel5Ideal.main_v1_0) = v1 c
          ∧ r.2.mem ((c.tc : Thread Cert.Kernel5Ideal.nD Cert.Kernel5Ideal.τ).loc Cert.Kernel5Ideal.main_v1_1) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v18) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v32) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v220) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v37) = v0 c
          ∧ r.2.mem ((c.tc : Thread Cert.Reference19Ideal.nD Cert.Reference19Ideal.τ).loc Cert.Reference19Ideal.main_v10) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v28) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v252) = v0 c
          ∧ r.2.mem ((c.tc : Thread Cert.Reference21Ideal.nD Cert.Reference21Ideal.τ).loc Cert.Reference21Ideal.main_v36) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v3) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_v6) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v15) = v0 c
          ∧ r.2.mem ((c.tc : Thread Cert.Reference24Ideal.nD Cert.Reference24Ideal.τ).loc Cert.Reference24Ideal.main_v16) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v2_0)) (v1 : (c : Dev Cert.Kernel25Ideal.nD) → Buf (Elt Ideal) ((c.tc : Thread Cert.Kernel25Ideal.nD Cert.Kernel25Ideal.τ).loc Cert.Kernel25Ideal.main_v3)) (v2 : (c : Dev Cert.Kernel25Ideal.nD) → Buf (Elt Ideal) ((c.tc : Thread Cert.Kernel25Ideal.nD Cert.Kernel25Ideal.τ).loc Cert.Kernel25Ideal.main_v4)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2_0) = v0 c
          ∧ r.2.mem ((c.tc : Thread Cert.Kernel25Ideal.nD Cert.Kernel25Ideal.τ).loc Cert.Kernel25Ideal.main_v3) = v1 c
          ∧ r.2.mem ((c.tc : Thread Cert.Kernel25Ideal.nD Cert.Kernel25Ideal.τ).loc Cert.Kernel25Ideal.main_v4) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v58) = v0 c
          ∧ r.2.mem ((c.tc : Thread Cert.Reference25Ideal.nD Cert.Reference25Ideal.τ).loc Cert.Reference25Ideal.main_v36) = v1 c
          ∧ r.2.mem ((c.tc : Thread Cert.Reference25Ideal.nD Cert.Reference25Ideal.τ).loc Cert.Reference25Ideal.main_v30) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v8) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v21) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v32) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v220) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v2) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v13) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v1_0)) (v1 : (c : Dev Cert.Kernel34Ideal.nD) → Buf (Elt Ideal) ((c.tc : Thread Cert.Kernel34Ideal.nD Cert.Kernel34Ideal.τ).loc Cert.Kernel34Ideal.main_v1_1)) (v2 : (c : Dev Cert.Kernel34Ideal.nD) → Buf (Elt Ideal) ((c.tc : Thread Cert.Kernel34Ideal.nD Cert.Kernel34Ideal.τ).loc Cert.Kernel34Ideal.main_v2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1_0) = v0 c
          ∧ r.2.mem ((c.tc : Thread Cert.Kernel34Ideal.nD Cert.Kernel34Ideal.τ).loc Cert.Kernel34Ideal.main_v1_1) = v1 c
          ∧ r.2.mem ((c.tc : Thread Cert.Kernel34Ideal.nD Cert.Kernel34Ideal.τ).loc Cert.Kernel34Ideal.main_v2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v36) = v0 c
          ∧ r.2.mem ((c.tc : Thread Cert.Reference34Ideal.nD Cert.Reference34Ideal.τ).loc Cert.Reference34Ideal.main_v37) = v1 c
          ∧ r.2.mem ((c.tc : Thread Cert.Reference34Ideal.nD Cert.Reference34Ideal.τ).loc Cert.Reference34Ideal.main_v21) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v3)) (v1 : (c : Dev Cert.Kernel35Ideal.nD) → Buf (Elt Ideal) ((c.tc : Thread Cert.Kernel35Ideal.nD Cert.Kernel35Ideal.τ).loc Cert.Kernel35Ideal.main_v1_1)) (v2 : (c : Dev Cert.Kernel35Ideal.nD) → Buf (Elt Ideal) ((c.tc : Thread Cert.Kernel35Ideal.nD Cert.Kernel35Ideal.τ).loc Cert.Kernel35Ideal.main_v1_2)) (v3 : (c : Dev Cert.Kernel35Ideal.nD) → Buf (Elt Ideal) ((c.tc : Thread Cert.Kernel35Ideal.nD Cert.Kernel35Ideal.τ).loc Cert.Kernel35Ideal.main_v4)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v3) = v0 c
          ∧ r.2.mem ((c.tc : Thread Cert.Kernel35Ideal.nD Cert.Kernel35Ideal.τ).loc Cert.Kernel35Ideal.main_v1_1) = v1 c
          ∧ r.2.mem ((c.tc : Thread Cert.Kernel35Ideal.nD Cert.Kernel35Ideal.τ).loc Cert.Kernel35Ideal.main_v1_2) = v2 c
          ∧ r.2.mem ((c.tc : Thread Cert.Kernel35Ideal.nD Cert.Kernel35Ideal.τ).loc Cert.Kernel35Ideal.main_v4) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v24) = v0 c
          ∧ r.2.mem ((c.tc : Thread Cert.Reference35Ideal.nD Cert.Reference35Ideal.τ).loc Cert.Reference35Ideal.main_v50) = v1 c
          ∧ r.2.mem ((c.tc : Thread Cert.Reference35Ideal.nD Cert.Reference35Ideal.τ).loc Cert.Reference35Ideal.main_v51) = v2 c
          ∧ r.2.mem ((c.tc : Thread Cert.Reference35Ideal.nD Cert.Reference35Ideal.τ).loc Cert.Reference35Ideal.main_v36) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_arg3) = v0 c
          ∧ r.2.mem ((c.tc : Thread Cert.Reference36Ideal.nD Cert.Reference36Ideal.τ).loc Cert.Reference36Ideal.main_v23) = v1 c
          ∧ r.2.mem ((c.tc : Thread Cert.Reference36Ideal.nD Cert.Reference36Ideal.τ).loc Cert.Reference36Ideal.main_v4) = v2 c
          ∧ r.2.mem ((c.tc : Thread Cert.Reference36Ideal.nD Cert.Reference36Ideal.τ).loc Cert.Reference36Ideal.main_v10) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Kernel.lean ====
abbrev S4096x2048 : Shape := ⟨2, ![4096, 2048]⟩
abbrev S4096x6144 : Shape := ⟨2, ![4096, 6144]⟩
abbrev S4096x1024 : Shape := ⟨2, ![4096, 1024]⟩
abbrev S256x512 : Shape := ⟨2, ![256, 512]⟩
abbrev S8x512 : Shape := ⟨2, ![8, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S8x512, .f32⟩
  | .local _ .vmem, ⟨13, _⟩ => ⟨S256x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_21 : BitVec 32 := 0#32
  let c32_i32 : BitVec 32 := 32#32
  let v47 : BitVec 32 := Scalar.addi c0_i32_21 c32_i32
  let c1_i32 : BitVec 32 := 1#32
  ⟨c0_i32_21, v47, c1_i32⟩
def k0_mult1 (k0_t1 : Fin k0_t1_loop.trips) : BitVec 32 :=
  let c31_i32 : BitVec 32 := 31#32
  let c0_i32_21 : BitVec 32 := 0#32
  let c1_i32 : BitVec 32 := 1#32
  let arg10 : BitVec 32 := Scf.iv c0_i32_21 c1_i32 k0_t1
  let v54 : BitVec 32 := Scalar.subi c31_i32 arg10
  let c8_i32 : BitVec 32 := 8#32
  let v55 : BitVec 32 := Scalar.muli v54 c8_i32
  v55
def k0_off1 (k0_t1 : Fin k0_t1_loop.trips) : Fin 2 → Nat :=
  let c31_i32 : BitVec 32 := 31#32
  let c0_i32_21 : BitVec 32 := 0#32
  let c1_i32 : BitVec 32 := 1#32
  let arg10 : BitVec 32 := Scf.iv c0_i32_21 c1_i32 k0_t1
  let v54 : BitVec 32 := Scalar.subi c31_i32 arg10
  let c8_i32 : BitVec 32 := 8#32
  let v55 : BitVec 32 := Scalar.muli v54 c8_i32
  let v56 : BitVec 32 := v55
  let v57 : Index := Scalar.indexCast v56
  let c0_25 : Index := 0#32
  ![v57.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x2048 : Shape := ⟨2, ![4096, 2048]⟩
abbrev S4096x6144 : Shape := ⟨2, ![4096, 6144]⟩
abbrev S4096x1024 : Shape := ⟨2, ![4096, 1024]⟩
abbrev S_ : Shape := ⟨0, ![]⟩
abbrev S1024 : Shape := ⟨1, ![1024]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S4096x1024, .f32⟩
  | .hbm, ⟨31, _⟩ => ⟨S_, .i32⟩
  | .hbm, ⟨32, _⟩ => ⟨S4096x1024, .f32⟩
  | .hbm, ⟨33, _⟩ => ⟨S4096x1024, .f32⟩
  | .hbm, ⟨34, _⟩ => ⟨S_, .i32⟩
  | .hbm, ⟨35, _⟩ => ⟨S1024, .f32⟩
  | .hbm, ⟨36, _⟩ => ⟨S4096x1024, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x1024, .f32⟩
  | .hbm, ⟨45, _⟩ => ⟨S1024, .f32⟩
  | .hbm, ⟨46, _⟩ => ⟨S_, .i32⟩
  | .hbm, ⟨47, _⟩ => ⟨S1x1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S_, .i32⟩
  | .hbm, ⟨53, _⟩ => ⟨S4096x1024, .f32⟩
  | .hbm, ⟨54, _⟩ => ⟨S_, .i32⟩
  | .hbm, ⟨55, _⟩ => ⟨S_, .i32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S4096x6144, .f32⟩
  | .hbm, ⟨105, _⟩ => ⟨S4096x1024, .f32⟩
  | .hbm, ⟨106, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_c : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_while0c_c_21 : Ref sig .tc := ⟨.hbm, 37, rfl⟩
abbrev main_while0c_v61 : Ref sig .tc := ⟨.hbm, 38, rfl⟩
abbrev main_while0b_c_21 : Ref sig .tc := ⟨.hbm, 39, rfl⟩
abbrev main_while0b_v61 : Ref sig .tc := ⟨.hbm, 40, rfl⟩
abbrev main_while0b_c_22 : Ref sig .tc := ⟨.hbm, 41, rfl⟩
abbrev main_while0b_v62 : Ref sig .tc := ⟨.hbm, 42, rfl⟩
abbrev main_while0b_call0_c : Ref sig .tc := ⟨.hbm, 43, rfl⟩
abbrev main_while0b_call0_v0 : Ref sig .tc := ⟨.hbm, 44, rfl⟩
abbrev main_while0b_v63 : Ref sig .tc := ⟨.hbm, 45, rfl⟩
abbrev main_while0b_call1_c : Ref sig .tc := ⟨.hbm, 46, rfl⟩
abbrev main_while0b_call1_v0 : Ref sig .tc := ⟨.hbm, 47, rfl⟩
abbrev main_while0b_v64 : Ref sig .tc := ⟨.hbm, 48, rfl⟩
abbrev main_while0b_v65 : Ref sig .tc := ⟨.hbm, 49, rfl⟩
abbrev main_while0b_v66 : Ref sig .tc := ⟨.hbm, 50, rfl⟩
abbrev main_while0b_call2_v0 : Ref sig .tc := ⟨.hbm, 51, rfl⟩
abbrev main_while0b_call2_c : Ref sig .tc := ⟨.hbm, 52, rfl⟩
abbrev main_while0b_v67 : Ref sig .tc := ⟨.hbm, 53, rfl⟩
abbrev main_while0b_c_23 : Ref sig .tc := ⟨.hbm, 54, rfl⟩
abbrev main_while0b_v68 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_6 : Ref sig .tc := ⟨.hbm, 60, rfl⟩
abbrev main_v25 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩
abbrev main_v34 : Ref sig .tc := ⟨.hbm, 73, rfl⟩
abbrev main_cst_10 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_11 : Ref sig .tc := ⟨.hbm, 78, rfl⟩
abbrev main_v38 : Ref sig .tc := ⟨.hbm, 79, rfl⟩
abbrev main_v39 : Ref sig .tc := ⟨.hbm, 80, rfl⟩
abbrev main_cst_12 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_13 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_14 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_15 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_16 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4096x2048 : Shape := ⟨2, ![4096, 2048]⟩
abbrev S4096x5632 : Shape := ⟨2, ![4096, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S4096x5632 : Shape := ⟨2, ![4096, 5632]⟩
abbrev S5632x2048 : Shape := ⟨2, ![5632, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S2048x5632, .f32⟩
  | .hbm, ⟨6, _⟩ => ⟨S2048x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4096x5632 : Shape := ⟨2, ![4096, 5632]⟩
abbrev S2048x5632 : Shape := ⟨2, ![2048, 5632]⟩
abbrev S4096x2048 : Shape := ⟨2, ![4096, 2048]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v15 : BitVec 1 := Scalar.cmpi .eq arg2 c10_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S4096x5632 : Shape := ⟨2, ![4096, 5632]⟩
abbrev S2048x5632 : Shape := ⟨2, ![2048, 5632]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x5632, .f32⟩
  | .hbm, ⟨5, _⟩ => ⟨S4096x5632, .f32⟩
  | .hbm, ⟨6, _⟩ => ⟨S2048x5632, .f32⟩
  | .hbm, ⟨7, _⟩ => ⟨S2048x5632, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 10
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S4096x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x2048, .bf16⟩
  | .local _ .vmem, ⟨13, _⟩ => ⟨S512x2048, .bf16⟩
  | .local _ .vmem, ⟨14, _⟩ => ⟨S1408x2048, .bf16⟩
  | .local _ .vmem, ⟨15, _⟩ => ⟨S1408x2048, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference5Ideal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S4096x2048, .bf16⟩
  | .hbm, ⟨5, _⟩ => ⟨S4096x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S4096x2048, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .bf16⟩
  | .hbm, ⟨45, _⟩ => ⟨S4096x5632, .bf16⟩
  | .hbm, ⟨46, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩

abbrev nD : Nat := 1
abbrev τ : Topo := Topo.v7x

variable {F : FTy → Type} [FloatOps F]
-- ==== Kernel6.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S1x2048 : Shape := ⟨2, ![1, 2048]⟩
abbrev S1024x1408 : Shape := ⟨2, ![1024, 1408]⟩
abbrev S1408x1024 : Shape := ⟨2, ![1408, 1024]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S_, .f32⟩
  | .hbm, ⟨4, _⟩ => ⟨S1x2048, .f32⟩
  | .hbm, ⟨5, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S4096x6144 : Shape := ⟨2, ![4096, 6144]⟩
abbrev S2048x6144 : Shape := ⟨2, ![2048, 6144]⟩
abbrev S512x1024 : Shape := ⟨2, ![512, 1024]⟩
abbrev S512x1536 : Shape := ⟨2, ![512, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x6144 : Shape := ⟨2, ![4096, 6144]⟩
abbrev S6144x2048 : Shape := ⟨2, ![6144, 2048]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S4096x6144, .f32⟩
  | .hbm, ⟨4, _⟩ => ⟨S6144x2048, .f32⟩
  | .hbm, ⟨5, _⟩ => ⟨S2048x6144, .f32⟩
  | .hbm, ⟨6, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x2048 : Shape := ⟨2, ![4096, 2048]⟩
abbrev S4096x5120 : Shape := ⟨2, ![4096, 5120]⟩
abbrev S2048x5120 : Shape := ⟨2, ![2048, 5120]⟩
abbrev S512x1024 : Shape := ⟨2, ![512, 1024]⟩
abbrev S512x1280 : Shape := ⟨2, ![512, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S512x1024, .bf16⟩
  | .local _ .vmem, ⟨1, _⟩ => ⟨S512x1024, .bf16⟩
  | .local _ .vmem, ⟨2, _⟩ => ⟨S512x1280, .bf16⟩
  | .local _ .vmem, ⟨3, _⟩ => ⟨S512x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x5120 : Shape := ⟨2, ![4096, 5120]⟩
abbrev S5120x2048 : Shape := ⟨2, ![5120, 2048]⟩
abbrev S2048x5120 : Shape := ⟨2, ![2048, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S4096x5120, .f32⟩
  | .hbm, ⟨4, _⟩ => ⟨S5120x2048, .f32⟩
  | .hbm, ⟨5, _⟩ => ⟨S2048x5120, .f32⟩
  | .hbm, ⟨6, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x6144 : Shape := ⟨2, ![4096, 6144]⟩
abbrev S2048x6144 : Shape := ⟨2, ![2048, 6144]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x6144, .f32⟩
  | .hbm, ⟨3, _⟩ => ⟨S2048x6144, .f32⟩
  | .hbm, ⟨4, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x5120 : Shape := ⟨2, ![4096, 5120]⟩
abbrev S2048x5120 : Shape := ⟨2, ![2048, 5120]⟩
abbrev S4096x2048 : Shape := ⟨2, ![4096, 2048]⟩
abbrev S1024x1280 : Shape := ⟨2, ![1024, 1280]⟩
abbrev S512x1280 : Shape := ⟨2, ![512, 1280]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .f32⟩
  | .local _ .vmem, ⟨0, _⟩ => ⟨S1024x1280, .bf16⟩
  | .local _ .vmem, ⟨1, _⟩ => ⟨S1024x1280, .bf16⟩
  | .local _ .vmem, ⟨2, _⟩ => ⟨S512x1280, .bf16⟩
  | .local _ .vmem, ⟨3, _⟩ => ⟨S512x1280, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x5120 : Shape := ⟨2, ![4096, 5120]⟩
abbrev S2048x5120 : Shape := ⟨2, ![2048, 5120]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x5120, .f32⟩
  | .hbm, ⟨3, _⟩ => ⟨S2048x5120, .f32⟩
  | .hbm, ⟨4, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x2048 : Shape := ⟨2, ![4096, 2048]⟩
abbrev S2048x6144 : Shape := ⟨2, ![2048, 6144]⟩
abbrev S6144 : Shape := ⟨1, ![6144]⟩
abbrev S1x6144 : Shape := ⟨2, ![1, 6144]⟩
abbrev S4096x6144 : Shape := ⟨2, ![4096, 6144]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S6144, .f32⟩
  | .hbm, ⟨3, _⟩ => ⟨S1x6144, .f32⟩
  | .hbm, ⟨4, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 12, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S2048x6144 : Shape := ⟨2, ![2048, 6144]⟩
abbrev S6144 : Shape := ⟨1, ![6144]⟩
abbrev S4096x6144 : Shape := ⟨2, ![4096, 6144]⟩
abbrev S1x6144 : Shape := ⟨2, ![1, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S6144, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S1x6144, .f32⟩
  | .hbm, ⟨7, _⟩ => ⟨S4096x6144, .f32⟩
  | .hbm, ⟨8, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x2048 : Shape := ⟨2, ![4096, 2048]⟩
abbrev S2048x5120 : Shape := ⟨2, ![2048, 5120]⟩
abbrev S5120 : Shape := ⟨1, ![5120]⟩
abbrev S1x5120 : Shape := ⟨2, ![1, 5120]⟩
abbrev S4096x5120 : Shape := ⟨2, ![4096, 5120]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S5120, .f32⟩
  | .hbm, ⟨3, _⟩ => ⟨S1x5120, .f32⟩
  | .hbm, ⟨4, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 10, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x2048 : Shape := ⟨2, ![4096, 2048]⟩
abbrev S2048x5120 : Shape := ⟨2, ![2048, 5120]⟩
abbrev S5120 : Shape := ⟨1, ![5120]⟩
abbrev S4096x5120 : Shape := ⟨2, ![4096, 5120]⟩
abbrev S1x5120 : Shape := ⟨2, ![1, 5120]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S5120, .f32⟩
  | .hbm, ⟨3, _⟩ => ⟨S4096x2048, .f32⟩
  | .hbm, ⟨4, _⟩ => ⟨S2048x5120, .f32⟩
  | .hbm, ⟨5, _⟩ => ⟨S4096x5120, .f32⟩
  | .hbm, ⟨6, _⟩ => ⟨S1x5120, .f32⟩
  | .hbm, ⟨7, _⟩ => ⟨S4096x5120, .f32⟩
  | .hbm, ⟨8, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S_ : Shape := ⟨0, ![]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S1x2048, .f32⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference15Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S4x1024 : Shape := ⟨2, ![4, 1024]⟩
abbrev S512x512 : Shape := ⟨2, ![512, 512]⟩
abbrev S4x512 : Shape := ⟨2, ![4, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x512, .f32⟩
  | .local _ .vmem, ⟨5, _⟩ => ⟨S4x512, .f32⟩
  | .local _ .vmem, ⟨6, _⟩ => ⟨S512x512, .bf16⟩
  | .local _ .vmem, ⟨7, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S4096x1024 : Shape := ⟨2, ![4096, 1024]⟩
abbrev S4x1024 : Shape := ⟨2, ![4, 1024]⟩
abbrev S_ : Shape := ⟨0, ![]⟩
abbrev S3x1024 : Shape := ⟨2, ![3, 1024]⟩
abbrev S1x1024 : Shape := ⟨2, ![1, 1024]⟩
abbrev S1024 : Shape := ⟨1, ![1024]⟩
abbrev S4099x1024 : Shape := ⟨2, ![4099, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S_, .f32⟩
  | .hbm, ⟨3, _⟩ => ⟨S3x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4099x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4099x1024, .f32⟩
  | .hbm, ⟨26, _⟩ => ⟨S4099x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4099x1024, .f32⟩
  | .hbm, ⟨31, _⟩ => ⟨S4099x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4099x1024, .f32⟩
  | .hbm, ⟨36, _⟩ => ⟨S4099x1024, .f32⟩
  | .hbm, ⟨37, _⟩ => ⟨S3x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel17.lean ====
abbrev S4096x1024 : Shape := ⟨2, ![4096, 1024]⟩
abbrev S3x1024 : Shape := ⟨2, ![3, 1024]⟩
abbrev S512x512 : Shape := ⟨2, ![512, 512]⟩
abbrev S3x512 : Shape := ⟨2, ![3, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S3x512, .f32⟩
  | .local _ .vmem, ⟨5, _⟩ => ⟨S3x512, .f32⟩
  | .local _ .vmem, ⟨6, _⟩ => ⟨S512x512, .f32⟩
  | .local _ .vmem, ⟨7, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S4096x1024 : Shape := ⟨2, ![4096, 1024]⟩
abbrev S3x1024 : Shape := ⟨2, ![3, 1024]⟩
abbrev S_ : Shape := ⟨0, ![]⟩
abbrev S2x1024 : Shape := ⟨2, ![2, 1024]⟩
abbrev S1x1024 : Shape := ⟨2, ![1, 1024]⟩
abbrev S1024 : Shape := ⟨1, ![1024]⟩
abbrev S4098x1024 : Shape := ⟨2, ![4098, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S_, .f32⟩
  | .hbm, ⟨3, _⟩ => ⟨S2x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4098x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4098x1024, .f32⟩
  | .hbm, ⟨23, _⟩ => ⟨S4098x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4098x1024, .f32⟩
  | .hbm, ⟨28, _⟩ => ⟨S4098x1024, .f32⟩
  | .hbm, ⟨29, _⟩ => ⟨S2x1024, .f32⟩
  | .hbm, ⟨30, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel18.lean ====
abbrev S4096x1024 : Shape := ⟨2, ![4096, 1024]⟩
abbrev S31x1024 : Shape := ⟨2, ![31, 1024]⟩
abbrev S256x256 : Shape := ⟨2, ![256, 256]⟩
abbrev S31x256 : Shape := ⟨2, ![31, 256]⟩
abbrev S1x256 : Shape := ⟨2, ![1, 256]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S31x1024, .f32⟩
  | .hbm, ⟨2, _⟩ => ⟨S4096x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S31x256, .f32⟩
  | .local _ .vmem, ⟨5, _⟩ => ⟨S31x256, .f32⟩
  | .local _ .vmem, ⟨6, _⟩ => ⟨S256x256, .f32⟩
  | .local _ .vmem, ⟨7, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S31x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S4096x1024 : Shape := ⟨2, ![4096, 1024]⟩
abbrev S31x1024 : Shape := ⟨2, ![31, 1024]⟩
abbrev S_ : Shape := ⟨0, ![]⟩
abbrev S30x1024 : Shape := ⟨2, ![30, 1024]⟩
abbrev S1x1024 : Shape := ⟨2, ![1, 1024]⟩
abbrev S1024 : Shape := ⟨1, ![1024]⟩
abbrev S4126x1024 : Shape := ⟨2, ![4126, 1024]⟩

abbrev nBuf : Space → Nat
  | .hbm => 255
  | .vmem => 0
  | .smem => 0
  | _ => 0

abbrev hbmTy0_0 (i : Nat) : BufTy := match i % 128 with
  | 0 => ⟨S4096x1024, .f32⟩
  | 1 => ⟨S31x1024, .f32⟩
  | 2 => ⟨S_, .f32⟩
  | 3 => ⟨S30x1024, .f32⟩
  | 4 => ⟨S1x1024, .f32⟩
  | 5 => ⟨S1024, .f32⟩
  | 6 => ⟨S1x1024, .f32⟩
  | 7 => ⟨S1x1024, .f32⟩
  | 8 => ⟨S1024, .f32⟩
  | 9 => ⟨S1x1024, .f32⟩
  | 10 => ⟨S1x1024, .f32⟩
  | 11 => ⟨S1024, .f32⟩
  | 12 => ⟨S1x1024, .f32⟩
  | 13 => ⟨S1x1024, .f32⟩
  | 14 => ⟨S1024, .f32⟩
  | 15 => ⟨S1x1024, .f32⟩
  | 16 => ⟨S1x1024, .f32⟩
  | 17 => ⟨S1024, .f32⟩
  | 18 => ⟨S1x1024, .f32⟩
  | 19 => ⟨S1x1024, .f32⟩
  | 20 => ⟨S1024, .f32⟩
  | 21 => ⟨S1x1024, .f32⟩
  | 22 => ⟨S1x1024, .f32⟩
  | 23 => ⟨S1024, .f32⟩
  | 24 => ⟨S1x1024, .f32⟩
  | 25 => ⟨S1x1024, .f32⟩
  | 26 => ⟨S1024, .f32⟩
  | 27 => ⟨S1x1024, .f32⟩
  | 28 => ⟨S1x1024, .f32⟩
  | 29 => ⟨S1024, .f32⟩
  | 30 => ⟨S1x1024, .f32⟩
  | 31 => ⟨S1x1024, .f32⟩
  | 32 => ⟨S1024, .f32⟩
  | 33 => ⟨S1x1024, .f32⟩
  | 34 => ⟨S1x1024, .f32⟩
  | 35 => ⟨S1024, .f32⟩
  | 36 => ⟨S1x1024, .f32⟩
  | 37 => ⟨S1x1024, .f32⟩
  | 38 => ⟨S1024, .f32⟩
  | 39 => ⟨S1x1024, .f32⟩
  | 40 => ⟨S1x1024, .f32⟩
  | 41 => ⟨S1024, .f32⟩
  | 42 => ⟨S1x1024, .f32⟩
  | 43 => ⟨S1x1024, .f32⟩
  | 44 => ⟨S1024, .f32⟩
  | 45 => ⟨S1x1024, .f32⟩
  | 46 => ⟨S1x1024, .f32⟩
  | 47 => ⟨S1024, .f32⟩
  | 48 => ⟨S1x1024, .f32⟩
  | 49 => ⟨S1x1024, .f32⟩
  | 50 => ⟨S1024, .f32⟩
  | 51 => ⟨S1x1024, .f32⟩
  | 52 => ⟨S1x1024, .f32⟩
  | 53 => ⟨S1024, .f32⟩
  | 54 => ⟨S1x1024, .f32⟩
  | 55 => ⟨S1x1024, .f32⟩
  | 56 => ⟨S1024, .f32⟩
  | 57 => ⟨S1x1024, .f32⟩
  | 58 => ⟨S1x1024, .f32⟩
  | 59 => ⟨S1024, .f32⟩
  | 60 => ⟨S1x1024, .f32⟩
  | 61 => ⟨S1x1024, .f32⟩
  | 62 => ⟨S1024, .f32⟩
  | 63 => ⟨S1x1024, .f32⟩
  | 64 => ⟨S1x1024, .f32⟩
  | 65 => ⟨S1024, .f32⟩
  | 66 => ⟨S1x1024, .f32⟩
  | 67 => ⟨S1x1024, .f32⟩
  | 68 => ⟨S1024, .f32⟩
  | 69 => ⟨S1x1024, .f32⟩
  | 70 => ⟨S1x1024, .f32⟩
  | 71 => ⟨S1024, .f32⟩
  | 72 => ⟨S1x1024, .f32⟩
  | 73 => ⟨S1x1024, .f32⟩
  | 74 => ⟨S1024, .f32⟩
  | 75 => ⟨S1x1024, .f32⟩
  | 76 => ⟨S1x1024, .f32⟩
  | 77 => ⟨S1024, .f32⟩
  | 78 => ⟨S1x1024, .f32⟩
  | 79 => ⟨S1x1024, .f32⟩
  | 80 => ⟨S1024, .f32⟩
  | 81 => ⟨S1x1024, .f32⟩
  | 82 => ⟨S1x1024, .f32⟩
  | 83 => ⟨S1024, .f32⟩
  | 84 => ⟨S1x1024, .f32⟩
  | 85 => ⟨S1x1024, .f32⟩
  | 86 => ⟨S1024, .f32⟩
  | 87 => ⟨S1x1024, .f32⟩
  | 88 => ⟨S1x1024, .f32⟩
  | 89 => ⟨S1024, .f32⟩
  | 90 => ⟨S1x1024, .f32⟩
  | 91 => ⟨S1x1024, .f32⟩
  | 92 => ⟨S1024, .f32⟩
  | 93 => ⟨S1x1024, .f32⟩
  | 94 => ⟨S1x1024, .f32⟩
  | 95 => ⟨S1024, .f32⟩
  | 96 => ⟨S1x1024, .f32⟩
  | 97 => ⟨S4096x1024, .f32⟩
  | 98 => ⟨S4096x1024, .f32⟩
  | 99 => ⟨S4096x1024, .f32⟩
  | 100 => ⟨S4096x1024, .f32⟩
  | 101 => ⟨S_, .f32⟩
  | 102 => ⟨S4126x1024, .f32⟩
  | 103 => ⟨S4096x1024, .f32⟩
  | 104 => ⟨S4096x1024, .f32⟩
  | 105 => ⟨S_, .f32⟩
  | 106 => ⟨S4126x1024, .f32⟩
  | 107 => ⟨S4126x1024, .f32⟩
  | 108 => ⟨S4096x1024, .f32⟩
  | 109 => ⟨S4096x1024, .f32⟩
  | 110 => ⟨S_, .f32⟩
  | 111 => ⟨S4126x1024, .f32⟩
  | 112 => ⟨S4126x1024, .f32⟩
  | 113 => ⟨S4096x1024, .f32⟩
  | 114 => ⟨S4096x1024, .f32⟩
  | 115 => ⟨S_, .f32⟩
  | 116 => ⟨S4126x1024, .f32⟩
  | 117 => ⟨S4126x1024, .f32⟩
  | 118 => ⟨S4096x1024, .f32⟩
  | 119 => ⟨S4096x1024, .f32⟩
  | 120 => ⟨S_, .f32⟩
  | 121 => ⟨S4126x1024, .f32⟩
  | 122 => ⟨S4126x1024, .f32⟩
  | 123 => ⟨S4096x1024, .f32⟩
  | 124 => ⟨S4096x1024, .f32⟩
  | 125 => ⟨S_, .f32⟩
  | 126 => ⟨S4126x1024, .f32⟩
  | 127 => ⟨S4126x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4126x1024, .f32⟩
  | 4 => ⟨S4126x1024, .f32⟩
  | 5 => ⟨S4096x1024, .f32⟩
  | 6 => ⟨S4096x1024, .f32⟩
  | 7 => ⟨S_, .f32⟩
  | 8 => ⟨S4126x1024, .f32⟩
  | 9 => ⟨S4126x1024, .f32⟩
  | 10 => ⟨S4096x1024, .f32⟩
  | 11 => ⟨S4096x1024, .f32⟩
  | 12 => ⟨S_, .f32⟩
  | 13 => ⟨S4126x1024, .f32⟩
  | 14 => ⟨S4126x1024, .f32⟩
  | 15 => ⟨S4096x1024, .f32⟩
  | 16 => ⟨S4096x1024, .f32⟩
  | 17 => ⟨S_, .f32⟩
  | 18 => ⟨S4126x1024, .f32⟩
  | 19 => ⟨S4126x1024, .f32⟩
  | 20 => ⟨S4096x1024, .f32⟩
  | 21 => ⟨S4096x1024, .f32⟩
  | 22 => ⟨S_, .f32⟩
  | 23 => ⟨S4126x1024, .f32⟩
  | 24 => ⟨S4126x1024, .f32⟩
  | 25 => ⟨S4096x1024, .f32⟩
  | 26 => ⟨S4096x1024, .f32⟩
  | 27 => ⟨S_, .f32⟩
  | 28 => ⟨S4126x1024, .f32⟩
  | 29 => ⟨S4126x1024, .f32⟩
  | 30 => ⟨S4096x1024, .f32⟩
  | 31 => ⟨S4096x1024, .f32⟩
  | 32 => ⟨S_, .f32⟩
  | 33 => ⟨S4126x1024, .f32⟩
  | 34 => ⟨S4126x1024, .f32⟩
  | 35 => ⟨S4096x1024, .f32⟩
  | 36 => ⟨S4096x1024, .f32⟩
  | 37 => ⟨S_, .f32⟩
  | 38 => ⟨S4126x1024, .f32⟩
  | 39 => ⟨S4126x1024, .f32⟩
  | 40 => ⟨S4096x1024, .f32⟩
  | 41 => ⟨S4096x1024, .f32⟩
  | 42 => ⟨S_, .f32⟩
  | 43 => ⟨S4126x1024, .f32⟩
  | 44 => ⟨S4126x1024, .f32⟩
  | 45 => ⟨S4096x1024, .f32⟩
  | 46 => ⟨S4096x1024, .f32⟩
  | 47 => ⟨S_, .f32⟩
  | 48 => ⟨S4126x1024, .f32⟩
  | 49 => ⟨S4126x1024, .f32⟩
  | 50 => ⟨S4096x1024, .f32⟩
  | 51 => ⟨S4096x1024, .f32⟩
  | 52 => ⟨S_, .f32⟩
  | 53 => ⟨S4126x1024, .f32⟩
  | 54 => ⟨S4126x1024, .f32⟩
  | 55 => ⟨S4096x1024, .f32⟩
  | 56 => ⟨S4096x1024, .f32⟩
  | 57 => ⟨S_, .f32⟩
  | 58 => ⟨S4126x1024, .f32⟩
  | 59 => ⟨S4126x1024, .f32⟩
  | 60 => ⟨S4096x1024, .f32⟩
  | 61 => ⟨S4096x1024, .f32⟩
  | 62 => ⟨S_, .f32⟩
  | 63 => ⟨S4126x1024, .f32⟩
  | 64 => ⟨S4126x1024, .f32⟩
  | 65 => ⟨S4096x1024, .f32⟩
  | 66 => ⟨S4096x1024, .f32⟩
  | 67 => ⟨S_, .f32⟩
  | 68 => ⟨S4126x1024, .f32⟩
  | 69 => ⟨S4126x1024, .f32⟩
  | 70 => ⟨S4096x1024, .f32⟩
  | 71 => ⟨S4096x1024, .f32⟩
  | 72 => ⟨S_, .f32⟩
  | 73 => ⟨S4126x1024, .f32⟩
  | 74 => ⟨S4126x1024, .f32⟩
  | 75 => ⟨S4096x1024, .f32⟩
  | 76 => ⟨S4096x1024, .f32⟩
  | 77 => ⟨S_, .f32⟩
  | 78 => ⟨S4126x1024, .f32⟩
  | 79 => ⟨S4126x1024, .f32⟩
  | 80 => ⟨S4096x1024, .f32⟩
  | 81 => ⟨S4096x1024, .f32⟩
  | 82 => ⟨S_, .f32⟩
  | 83 => ⟨S4126x1024, .f32⟩
  | 84 => ⟨S4126x1024, .f32⟩
  | 85 => ⟨S4096x1024, .f32⟩
  | 86 => ⟨S4096x1024, .f32⟩
  | 87 => ⟨S_, .f32⟩
  | 88 => ⟨S4126x1024, .f32⟩
  | 89 => ⟨S4126x1024, .f32⟩
  | 90 => ⟨S4096x1024, .f32⟩
  | 91 => ⟨S4096x1024, .f32⟩
  | 92 => ⟨S_, .f32⟩
  | 93 => ⟨S4126x1024, .f32⟩
  | 94 => ⟨S4126x1024, .f32⟩
  | 95 => ⟨S4096x1024, .f32⟩
  | 96 => ⟨S4096x1024, .f32⟩
  | 97 => ⟨S_, .f32⟩
  | 98 => ⟨S4126x1024, .f32⟩
  | 99 => ⟨S4126x1024, .f32⟩
  | 100 => ⟨S4096x1024, .f32⟩
  | 101 => ⟨S4096x1024, .f32⟩
  | 102 => ⟨S_, .f32⟩
  | 103 => ⟨S4126x1024, .f32⟩
  | 104 => ⟨S4126x1024, .f32⟩
  | 105 => ⟨S4096x1024, .f32⟩
  | 106 => ⟨S4096x1024, .f32⟩
  | 107 => ⟨S_, .f32⟩
  | 108 => ⟨S4126x1024, .f32⟩
  | 109 => ⟨S4126x1024, .f32⟩
  | 110 => ⟨S4096x1024, .f32⟩
  | 111 => ⟨S4096x1024, .f32⟩
  | 112 => ⟨S_, .f32⟩
  | 113 => ⟨S4126x1024, .f32⟩
  | 114 => ⟨S4126x1024, .f32⟩
  | 115 => ⟨S4096x1024, .f32⟩
  | 116 => ⟨S4096x1024, .f32⟩
  | 117 => ⟨S_, .f32⟩
  | 118 => ⟨S4126x1024, .f32⟩
  | 119 => ⟨S4126x1024, .f32⟩
  | 120 => ⟨S4096x1024, .f32⟩
  | 121 => ⟨S4096x1024, .f32⟩
  | 122 => ⟨S_, .f32⟩
  | 123 => ⟨S4126x1024, .f32⟩
  | 124 => ⟨S4126x1024, .f32⟩
  | 125 => ⟨S30x1024, .f32⟩
  | 126 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_cst_0 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_cst_1 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_cst_2 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_cst_3 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_cst_4 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_cst_5 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_cst_6 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_cst_7 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_cst_8 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_cst_9 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_cst_10 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_cst_11 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_cst_12 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_cst_13 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_cst_14 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_cst_15 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_cst_16 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_cst_17 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_cst_18 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_cst_19 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_cst_20 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_cst_21 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_cst_22 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_cst_23 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_cst_24 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_cst_25 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_cst_26 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_cst_27 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_cst_28 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_cst_29 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_cst_30 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩

abbrev nD : Nat := 1
abbrev τ : Topo := Topo.v7x

variable {F : FTy → Type} [FloatOps F]
-- ==== Kernel19.lean ====
abbrev S4096x1024 : Shape := ⟨2, ![4096, 1024]⟩
abbrev S4096x6144 : Shape := ⟨2, ![4096, 6144]⟩
abbrev S4x1024 : Shape := ⟨2, ![4, 1024]⟩
abbrev S1x1024 : Shape := ⟨2, ![1, 1024]⟩
abbrev S512x512 : Shape := ⟨2, ![512, 512]⟩
abbrev S4x512 : Shape := ⟨2, ![4, 512]⟩
abbrev S1x512 : Shape := ⟨2, ![1, 512]⟩
abbrev S512 : Shape := ⟨1, ![512]⟩
abbrev S1024 : Shape := ⟨1, ![1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4x1024, .f32⟩
  | .hbm, ⟨3, _⟩ => ⟨S1x1024, .f32⟩
  | .hbm, ⟨4, _⟩ => ⟨S1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4x512, .f32⟩
  | .local _ .vmem, ⟨7, _⟩ => ⟨S4x512, .f32⟩
  | .local _ .vmem, ⟨8, _⟩ => ⟨S1x512, .f32⟩
  | .local _ .vmem, ⟨9, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference19Ideal.lean ====
abbrev S4096x1024 : Shape := ⟨2, ![4096, 1024]⟩
abbrev S4096x6144 : Shape := ⟨2, ![4096, 6144]⟩
abbrev S_ : Shape := ⟨0, ![]⟩
abbrev S3x1024 : Shape := ⟨2, ![3, 1024]⟩
abbrev S4099x1024 : Shape := ⟨2, ![4099, 1024]⟩
abbrev S1024 : Shape := ⟨1, ![1024]⟩
abbrev S1x1024 : Shape := ⟨2, ![1, 1024]⟩
abbrev S4x1024 : Shape := ⟨2, ![4, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x1024, .f32⟩
  | .hbm, ⟨3, _⟩ => ⟨S_, .f32⟩
  | .hbm, ⟨4, _⟩ => ⟨S3x1024, .f32⟩
  | .hbm, ⟨5, _⟩ => ⟨S4099x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1024, .f32⟩
  | .hbm, ⟨16, _⟩ => ⟨S4096x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S4x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S4x1024, .f32⟩
  | .hbm, ⟨54, _⟩ => ⟨S4x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_11 : Ref sig .tc := ⟨.hbm, 46, rfl⟩
abbrev main_v32 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_v35 : Ref sig .tc := ⟨.hbm, 51, rfl⟩
abbrev main_cst_13 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel20.lean ====
abbrev S4096x1024 : Shape := ⟨2, ![4096, 1024]⟩
abbrev S3x1024 : Shape := ⟨2, ![3, 1024]⟩
abbrev S1x1024 : Shape := ⟨2, ![1, 1024]⟩
abbrev S512x512 : Shape := ⟨2, ![512, 512]⟩
abbrev S3x512 : Shape := ⟨2, ![3, 512]⟩
abbrev S1x512 : Shape := ⟨2, ![1, 512]⟩
abbrev S512 : Shape := ⟨1, ![512]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S3x1024, .f32⟩
  | .hbm, ⟨3, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference20Ideal.lean ====
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S1x1024 : Shape := ⟨2, ![1, 1024]⟩
abbrev S3x1024 : Shape := ⟨2, ![3, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S2x1024, .f32⟩
  | .hbm, ⟨4, _⟩ => ⟨S4098x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S4096x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S_, .f32⟩
  | .hbm, ⟨22, _⟩ => ⟨S3x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S_, .f32⟩
  | .hbm, ⟨31, _⟩ => ⟨S3x1024, .f32⟩
  | .hbm, ⟨32, _⟩ => ⟨S3x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S_, .f32⟩
  | .hbm, ⟨41, _⟩ => ⟨S3x1024, .f32⟩
  | .hbm, ⟨42, _⟩ => ⟨S3x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel21.lean ====
abbrev S4096x1024 : Shape := ⟨2, ![4096, 1024]⟩
abbrev S31x1024 : Shape := ⟨2, ![31, 1024]⟩
abbrev S1x1024 : Shape := ⟨2, ![1, 1024]⟩
abbrev S256x256 : Shape := ⟨2, ![256, 256]⟩
abbrev S31x256 : Shape := ⟨2, ![31, 256]⟩
abbrev S1x256 : Shape := ⟨2, ![1, 256]⟩
abbrev S256 : Shape := ⟨1, ![256]⟩
abbrev S1024 : Shape := ⟨1, ![1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S31x1024, .f32⟩
  | .hbm, ⟨3, _⟩ => ⟨S1x1024, .f32⟩
  | .hbm, ⟨4, _⟩ => ⟨S1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S31x256, .f32⟩
  | .local _ .vmem, ⟨7, _⟩ => ⟨S31x256, .f32⟩
  | .local _ .vmem, ⟨8, _⟩ => ⟨S1x256, .f32⟩
  | .local _ .vmem, ⟨9, _⟩ => ⟨S1x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference21Ideal.lean ====
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1024 : Shape := ⟨1, ![1024]⟩
abbrev S1x1024 : Shape := ⟨2, ![1, 1024]⟩
abbrev S31x1024 : Shape := ⟨2, ![31, 1024]⟩

abbrev nBuf : Space → Nat
  | .hbm => 351
  | .vmem => 0
  | .smem => 0
  | _ => 0

abbrev hbmTy0_0 (i : Nat) : BufTy := match i % 128 with
  | 0 => ⟨S4096x1024, .f32⟩
  | 1 => ⟨S4096x1024, .f32⟩
  | 2 => ⟨S_, .f32⟩
  | 3 => ⟨S30x1024, .f32⟩
  | 4 => ⟨S4126x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S1024, .f32⟩
  | 39 => ⟨S1x1024, .f32⟩
  | 40 => ⟨S_, .f32⟩
  | 41 => ⟨S1024, .f32⟩
  | 42 => ⟨S4096x1024, .f32⟩
  | 43 => ⟨S_, .f32⟩
  | 44 => ⟨S1024, .f32⟩
  | 45 => ⟨S1x1024, .f32⟩
  | 46 => ⟨S_, .f32⟩
  | 47 => ⟨S1024, .f32⟩
  | 48 => ⟨S1x1024, .f32⟩
  | 49 => ⟨S_, .f32⟩
  | 50 => ⟨S31x1024, .f32⟩
  | 51 => ⟨S4096x1024, .f32⟩
  | 52 => ⟨S_, .f32⟩
  | 53 => ⟨S1024, .f32⟩
  | 54 => ⟨S1x1024, .f32⟩
  | 55 => ⟨S_, .f32⟩
  | 56 => ⟨S1024, .f32⟩
  | 57 => ⟨S1x1024, .f32⟩
  | 58 => ⟨S_, .f32⟩
  | 59 => ⟨S31x1024, .f32⟩
  | 60 => ⟨S31x1024, .f32⟩
  | 61 => ⟨S4096x1024, .f32⟩
  | 62 => ⟨S_, .f32⟩
  | 63 => ⟨S1024, .f32⟩
  | 64 => ⟨S1x1024, .f32⟩
  | 65 => ⟨S_, .f32⟩
  | 66 => ⟨S1024, .f32⟩
  | 67 => ⟨S1x1024, .f32⟩
  | 68 => ⟨S_, .f32⟩
  | 69 => ⟨S31x1024, .f32⟩
  | 70 => ⟨S31x1024, .f32⟩
  | 71 => ⟨S4096x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S1x1024, .f32⟩
  | 78 => ⟨S_, .f32⟩
  | 79 => ⟨S31x1024, .f32⟩
  | 80 => ⟨S31x1024, .f32⟩
  | 81 => ⟨S4096x1024, .f32⟩
  | 82 => ⟨S_, .f32⟩
  | 83 => ⟨S1024, .f32⟩
  | 84 => ⟨S1x1024, .f32⟩
  | 85 => ⟨S_, .f32⟩
  | 86 => ⟨S1024, .f32⟩
  | 87 => ⟨S1x1024, .f32⟩
  | 88 => ⟨S_, .f32⟩
  | 89 => ⟨S31x1024, .f32⟩
  | 90 => ⟨S31x1024, .f32⟩
  | 91 => ⟨S4096x1024, .f32⟩
  | 92 => ⟨S_, .f32⟩
  | 93 => ⟨S1024, .f32⟩
  | 94 => ⟨S1x1024, .f32⟩
  | 95 => ⟨S_, .f32⟩
  | 96 => ⟨S1024, .f32⟩
  | 97 => ⟨S1x1024, .f32⟩
  | 98 => ⟨S_, .f32⟩
  | 99 => ⟨S31x1024, .f32⟩
  | 100 => ⟨S31x1024, .f32⟩
  | 101 => ⟨S4096x1024, .f32⟩
  | 102 => ⟨S_, .f32⟩
  | 103 => ⟨S1024, .f32⟩
  | 104 => ⟨S1x1024, .f32⟩
  | 105 => ⟨S_, .f32⟩
  | 106 => ⟨S1024, .f32⟩
  | 107 => ⟨S1x1024, .f32⟩
  | 108 => ⟨S_, .f32⟩
  | 109 => ⟨S31x1024, .f32⟩
  | 110 => ⟨S31x1024, .f32⟩
  | 111 => ⟨S4096x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S1x1024, .f32⟩
  | 118 => ⟨S_, .f32⟩
  | 119 => ⟨S31x1024, .f32⟩
  | 120 => ⟨S31x1024, .f32⟩
  | 121 => ⟨S4096x1024, .f32⟩
  | 122 => ⟨S_, .f32⟩
  | 123 => ⟨S1024, .f32⟩
  | 124 => ⟨S1x1024, .f32⟩
  | 125 => ⟨S_, .f32⟩
  | 126 => ⟨S1024, .f32⟩
  | 127 => ⟨S1x1024, .f32⟩
  | _ => ⟨S4096x1024, .f32⟩

abbrev hbmTy0_1 (i : Nat) : BufTy := match i % 128 with
  | 0 => ⟨S_, .f32⟩
  | 1 => ⟨S31x1024, .f32⟩
  | 2 => ⟨S31x1024, .f32⟩
  | 3 => ⟨S4096x1024, .f32⟩
  | 4 => ⟨S_, .f32⟩
  | 5 => ⟨S1024, .f32⟩
  | 6 => ⟨S1x1024, .f32⟩
  | 7 => ⟨S_, .f32⟩
  | 8 => ⟨S1024, .f32⟩
  | 9 => ⟨S1x1024, .f32⟩
  | 10 => ⟨S_, .f32⟩
  | 11 => ⟨S31x1024, .f32⟩
  | 12 => ⟨S31x1024, .f32⟩
  | 13 => ⟨S4096x1024, .f32⟩
  | 14 => ⟨S_, .f32⟩
  | 15 => ⟨S1024, .f32⟩
  | 16 => ⟨S1x1024, .f32⟩
  | 17 => ⟨S_, .f32⟩
  | 18 => ⟨S1024, .f32⟩
  | 19 => ⟨S1x1024, .f32⟩
  | 20 => ⟨S_, .f32⟩
  | 21 => ⟨S31x1024, .f32⟩
  | 22 => ⟨S31x1024, .f32⟩
  | 23 => ⟨S4096x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S1x1024, .f32⟩
  | 30 => ⟨S_, .f32⟩
  | 31 => ⟨S31x1024, .f32⟩
  | 32 => ⟨S31x1024, .f32⟩
  | 33 => ⟨S4096x1024, .f32⟩
  | 34 => ⟨S_, .f32⟩
  | 35 => ⟨S1024, .f32⟩
  | 36 => ⟨S1x1024, .f32⟩
  | 37 => ⟨S_, .f32⟩
  | 38 => ⟨S1024, .f32⟩
  | 39 => ⟨S1x1024, .f32⟩
  | 40 => ⟨S_, .f32⟩
  | 41 => ⟨S31x1024, .f32⟩
  | 42 => ⟨S31x1024, .f32⟩
  | 43 => ⟨S4096x1024, .f32⟩
  | 44 => ⟨S_, .f32⟩
  | 45 => ⟨S1024, .f32⟩
  | 46 => ⟨S1x1024, .f32⟩
  | 47 => ⟨S_, .f32⟩
  | 48 => ⟨S1024, .f32⟩
  | 49 => ⟨S1x1024, .f32⟩
  | 50 => ⟨S_, .f32⟩
  | 51 => ⟨S31x1024, .f32⟩
  | 52 => ⟨S31x1024, .f32⟩
  | 53 => ⟨S4096x1024, .f32⟩
  | 54 => ⟨S_, .f32⟩
  | 55 => ⟨S1024, .f32⟩
  | 56 => ⟨S1x1024, .f32⟩
  | 57 => ⟨S_, .f32⟩
  | 58 => ⟨S1024, .f32⟩
  | 59 => ⟨S1x1024, .f32⟩
  | 60 => ⟨S_, .f32⟩
  | 61 => ⟨S31x1024, .f32⟩
  | 62 => ⟨S31x1024, .f32⟩
  | 63 => ⟨S4096x1024, .f32⟩
  | 64 => ⟨S_, .f32⟩
  | 65 => ⟨S1024, .f32⟩
  | 66 => ⟨S1x1024, .f32⟩
  | 67 => ⟨S_, .f32⟩
  | 68 => ⟨S1024, .f32⟩
  | 69 => ⟨S1x1024, .f32⟩
  | 70 => ⟨S_, .f32⟩
  | 71 => ⟨S31x1024, .f32⟩
  | 72 => ⟨S31x1024, .f32⟩
  | 73 => ⟨S4096x1024, .f32⟩
  | 74 => ⟨S_, .f32⟩
  | 75 => ⟨S1024, .f32⟩
  | 76 => ⟨S1x1024, .f32⟩
  | 77 => ⟨S_, .f32⟩
  | 78 => ⟨S1024, .f32⟩
  | 79 => ⟨S1x1024, .f32⟩
  | 80 => ⟨S_, .f32⟩
  | 81 => ⟨S31x1024, .f32⟩
  | 82 => ⟨S31x1024, .f32⟩
  | 83 => ⟨S4096x1024, .f32⟩
  | 84 => ⟨S_, .f32⟩
  | 85 => ⟨S1024, .f32⟩
  | 86 => ⟨S1x1024, .f32⟩
  | 87 => ⟨S_, .f32⟩
  | 88 => ⟨S1024, .f32⟩
  | 89 => ⟨S1x1024, .f32⟩
  | 90 => ⟨S_, .f32⟩
  | 91 => ⟨S31x1024, .f32⟩
  | 92 => ⟨S31x1024, .f32⟩
  | 93 => ⟨S4096x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S1x1024, .f32⟩
  | 100 => ⟨S_, .f32⟩
  | 101 => ⟨S31x1024, .f32⟩
  | 102 => ⟨S31x1024, .f32⟩
  | 103 => ⟨S4096x1024, .f32⟩
  | 104 => ⟨S_, .f32⟩
  | 105 => ⟨S1024, .f32⟩
  | 106 => ⟨S1x1024, .f32⟩
  | 107 => ⟨S_, .f32⟩
  | 108 => ⟨S1024, .f32⟩
  | 109 => ⟨S1x1024, .f32⟩
  | 110 => ⟨S_, .f32⟩
  | 111 => ⟨S31x1024, .f32⟩
  | 112 => ⟨S31x1024, .f32⟩
  | 113 => ⟨S4096x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S1x1024, .f32⟩
  | 120 => ⟨S_, .f32⟩
  | 121 => ⟨S31x1024, .f32⟩
  | 122 => ⟨S31x1024, .f32⟩
  | 123 => ⟨S4096x1024, .f32⟩
  | 124 => ⟨S_, .f32⟩
  | 125 => ⟨S1024, .f32⟩
  | 126 => ⟨S1x1024, .f32⟩
  | 127 => ⟨S_, .f32⟩
  | _ => ⟨S4096x1024, .f32⟩

abbrev hbmTy0_2 (i : Nat) : BufTy := match i % 128 with
  | 0 => ⟨S1024, .f32⟩
  | 1 => ⟨S1x1024, .f32⟩
  | 2 => ⟨S_, .f32⟩
  | 3 => ⟨S31x1024, .f32⟩
  | 4 => ⟨S31x1024, .f32⟩
  | 5 => ⟨S4096x1024, .f32⟩
  | 6 => ⟨S_, .f32⟩
  | 7 => ⟨S1024, .f32⟩
  | 8 => ⟨S1x1024, .f32⟩
  | 9 => ⟨S_, .f32⟩
  | 10 => ⟨S1024, .f32⟩
  | 11 => ⟨S1x1024, .f32⟩
  | 12 => ⟨S_, .f32⟩
  | 13 => ⟨S31x1024, .f32⟩
  | 14 => ⟨S31x1024, .f32⟩
  | 15 => ⟨S4096x1024, .f32⟩
  | 16 => ⟨S_, .f32⟩
  | 17 => ⟨S1024, .f32⟩
  | 18 => ⟨S1x1024, .f32⟩
  | 19 => ⟨S_, .f32⟩
  | 20 => ⟨S1024, .f32⟩
  | 21 => ⟨S1x1024, .f32⟩
  | 22 => ⟨S_, .f32⟩
  | 23 => ⟨S31x1024, .f32⟩
  | 24 => ⟨S31x1024, .f32⟩
  | 25 => ⟨S4096x1024, .f32⟩
  | 26 => ⟨S_, .f32⟩
  | 27 => ⟨S1024, .f32⟩
  | 28 => ⟨S1x1024, .f32⟩
  | 29 => ⟨S_, .f32⟩
  | 30 => ⟨S1024, .f32⟩
  | 31 => ⟨S1x1024, .f32⟩
  | 32 => ⟨S_, .f32⟩
  | 33 => ⟨S31x1024, .f32⟩
  | 34 => ⟨S31x1024, .f32⟩
  | 35 => ⟨S4096x1024, .f32⟩
  | 36 => ⟨S_, .f32⟩
  | 37 => ⟨S1024, .f32⟩
  | 38 => ⟨S1x1024, .f32⟩
  | 39 => ⟨S_, .f32⟩
  | 40 => ⟨S1024, .f32⟩
  | 41 => ⟨S1x1024, .f32⟩
  | 42 => ⟨S_, .f32⟩
  | 43 => ⟨S31x1024, .f32⟩
  | 44 => ⟨S31x1024, .f32⟩
  | 45 => ⟨S4096x1024, .f32⟩
  | 46 => ⟨S_, .f32⟩
  | 47 => ⟨S1024, .f32⟩
  | 48 => ⟨S1x1024, .f32⟩
  | 49 => ⟨S_, .f32⟩
  | 50 => ⟨S1024, .f32⟩
  | 51 => ⟨S1x1024, .f32⟩
  | 52 => ⟨S_, .f32⟩
  | 53 => ⟨S31x1024, .f32⟩
  | 54 => ⟨S31x1024, .f32⟩
  | 55 => ⟨S4096x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S1x1024, .f32⟩
  | 62 => ⟨S_, .f32⟩
  | 63 => ⟨S31x1024, .f32⟩
  | 64 => ⟨S31x1024, .f32⟩
  | 65 => ⟨S4096x1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S1x1024, .f32⟩
  | 72 => ⟨S_, .f32⟩
  | 73 => ⟨S31x1024, .f32⟩
  | 74 => ⟨S31x1024, .f32⟩
  | 75 => ⟨S4096x1024, .f32⟩
  | 76 => ⟨S_, .f32⟩
  | 77 => ⟨S1024, .f32⟩
  | 78 => ⟨S1x1024, .f32⟩
  | 79 => ⟨S_, .f32⟩
  | 80 => ⟨S1024, .f32⟩
  | 81 => ⟨S1x1024, .f32⟩
  | 82 => ⟨S_, .f32⟩
  | 83 => ⟨S31x1024, .f32⟩
  | 84 => ⟨S31x1024, .f32⟩
  | 85 => ⟨S4096x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S1x1024, .f32⟩
  | 92 => ⟨S_, .f32⟩
  | 93 => ⟨S31x1024, .f32⟩
  | 94 => ⟨S31x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst_0 : Ref sig .tc := ⟨.hbm, 37, rfl⟩
abbrev main_v34 : Ref sig .tc := ⟨.hbm, 38, rfl⟩
abbrev main_v35 : Ref sig .tc := ⟨.hbm, 39, rfl⟩
abbrev main_cst_1 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_cst_6 : Ref sig .tc := ⟨.hbm, 55, rfl⟩
abbrev main_v46 : Ref sig .tc := ⟨.hbm, 56, rfl⟩
abbrev main_v47 : Ref sig .tc := ⟨.hbm, 57, rfl⟩
abbrev main_cst_7 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_8 : Ref sig .tc := ⟨.hbm, 62, rfl⟩
abbrev main_v51 : Ref sig .tc := ⟨.hbm, 63, rfl⟩
abbrev main_v52 : Ref sig .tc := ⟨.hbm, 64, rfl⟩
abbrev main_cst_9 : Ref sig .tc := ⟨.hbm, 65, rfl⟩
abbrev main_v53 : Ref sig .tc := ⟨.hbm, 66, rfl⟩
abbrev main_v54 : Ref sig .tc := ⟨.hbm, 67, rfl⟩
abbrev main_cst_10 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_11 : Ref sig .tc := ⟨.hbm, 72, rfl⟩
abbrev main_v58 : Ref sig .tc := ⟨.hbm, 73, rfl⟩
abbrev main_v59 : Ref sig .tc := ⟨.hbm, 74, rfl⟩
abbrev main_cst_12 : Ref sig .tc := ⟨.hbm, 75, rfl⟩
abbrev main_v60 : Ref sig .tc := ⟨.hbm, 76, rfl⟩
abbrev main_v61 : Ref sig .tc := ⟨.hbm, 77, rfl⟩
abbrev main_cst_13 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_14 : Ref sig .tc := ⟨.hbm, 82, rfl⟩
abbrev main_v65 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_v68 : Ref sig .tc := ⟨.hbm, 87, rfl⟩
abbrev main_cst_16 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_17 : Ref sig .tc := ⟨.hbm, 92, rfl⟩
abbrev main_v72 : Ref sig .tc := ⟨.hbm, 93, rfl⟩
abbrev main_v73 : Ref sig .tc := ⟨.hbm, 94, rfl⟩
abbrev main_cst_18 : Ref sig .tc := ⟨.hbm, 95, rfl⟩
abbrev main_v74 : Ref sig .tc := ⟨.hbm, 96, rfl⟩
abbrev main_v75 : Ref sig .tc := ⟨.hbm, 97, rfl⟩
abbrev main_cst_19 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_20 : Ref sig .tc := ⟨.hbm, 102, rfl⟩
abbrev main_v79 : Ref sig .tc := ⟨.hbm, 103, rfl⟩
abbrev main_v80 : Ref sig .tc := ⟨.hbm, 104, rfl⟩
abbrev main_cst_21 : Ref sig .tc := ⟨.hbm, 105, rfl⟩
abbrev main_v81 : Ref sig .tc := ⟨.hbm, 106, rfl⟩
abbrev main_v82 : Ref sig .tc := ⟨.hbm, 107, rfl⟩
abbrev main_cst_22 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_23 : Ref sig .tc := ⟨.hbm, 112, rfl⟩
abbrev main_v86 : Ref sig .tc := ⟨.hbm, 113, rfl⟩
abbrev main_v87 : Ref sig .tc := ⟨.hbm, 114, rfl⟩
abbrev main_cst_24 : Ref sig .tc := ⟨.hbm, 115, rfl⟩
abbrev main_v88 : Ref sig .tc := ⟨.hbm, 116, rfl⟩
abbrev main_v89 : Ref sig .tc := ⟨.hbm, 117, rfl⟩
abbrev main_cst_25 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_26 : Ref sig .tc := ⟨.hbm, 122, rfl⟩
abbrev main_v93 : Ref sig .tc := ⟨.hbm, 123, rfl⟩
abbrev main_v94 : Ref sig .tc := ⟨.hbm, 124, rfl⟩
abbrev main_cst_27 : Ref sig .tc := ⟨.hbm, 125, rfl⟩
abbrev main_v95 : Ref sig .tc := ⟨.hbm, 126, rfl⟩
abbrev main_v96 : Ref sig .tc := ⟨.hbm, 127, rfl⟩
abbrev main_cst_28 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_29 : Ref sig .tc := ⟨.hbm, 132, rfl⟩
abbrev main_v100 : Ref sig .tc := ⟨.hbm, 133, rfl⟩
abbrev main_v101 : Ref sig .tc := ⟨.hbm, 134, rfl⟩
abbrev main_cst_30 : Ref sig .tc := ⟨.hbm, 135, rfl⟩
abbrev main_v102 : Ref sig .tc := ⟨.hbm, 136, rfl⟩
abbrev main_v103 : Ref sig .tc := ⟨.hbm, 137, rfl⟩
abbrev main_cst_31 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_32 : Ref sig .tc := ⟨.hbm, 142, rfl⟩
abbrev main_v107 : Ref sig .tc := ⟨.hbm, 143, rfl⟩
abbrev main_v108 : Ref sig .tc := ⟨.hbm, 144, rfl⟩
abbrev main_cst_33 : Ref sig .tc := ⟨.hbm, 145, rfl⟩
abbrev main_v109 : Ref sig .tc := ⟨.hbm, 146, rfl⟩
abbrev main_v110 : Ref sig .tc := ⟨.hbm, 147, rfl⟩
abbrev main_cst_34 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_35 : Ref sig .tc := ⟨.hbm, 152, rfl⟩
abbrev main_v114 : Ref sig .tc := ⟨.hbm, 153, rfl⟩
abbrev main_v115 : Ref sig .tc := ⟨.hbm, 154, rfl⟩
abbrev main_cst_36 : Ref sig .tc := ⟨.hbm, 155, rfl⟩
abbrev main_v116 : Ref sig .tc := ⟨.hbm, 156, rfl⟩
abbrev main_v117 : Ref sig .tc := ⟨.hbm, 157, rfl⟩
abbrev main_cst_37 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_38 : Ref sig .tc := ⟨.hbm, 162, rfl⟩
abbrev main_v121 : Ref sig .tc := ⟨.hbm, 163, rfl⟩
abbrev main_v122 : Ref sig .tc := ⟨.hbm, 164, rfl⟩
abbrev main_cst_39 : Ref sig .tc := ⟨.hbm, 165, rfl⟩
abbrev main_v123 : Ref sig .tc := ⟨.hbm, 166, rfl⟩
abbrev main_v124 : Ref sig .tc := ⟨.hbm, 167, rfl⟩
abbrev main_cst_40 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_41 : Ref sig .tc := ⟨.hbm, 172, rfl⟩
abbrev main_v128 : Ref sig .tc := ⟨.hbm, 173, rfl⟩
abbrev main_v129 : Ref sig .tc := ⟨.hbm, 174, rfl⟩
abbrev main_cst_42 : Ref sig .tc := ⟨.hbm, 175, rfl⟩
abbrev main_v130 : Ref sig .tc := ⟨.hbm, 176, rfl⟩
abbrev main_v131 : Ref sig .tc := ⟨.hbm, 177, rfl⟩
abbrev main_cst_43 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_44 : Ref sig .tc := ⟨.hbm, 182, rfl⟩
abbrev main_v135 : Ref sig .tc := ⟨.hbm, 183, rfl⟩
abbrev main_v136 : Ref sig .tc := ⟨.hbm, 184, rfl⟩
abbrev main_cst_45 : Ref sig .tc := ⟨.hbm, 185, rfl⟩
abbrev main_v137 : Ref sig .tc := ⟨.hbm, 186, rfl⟩
abbrev main_v138 : Ref sig .tc := ⟨.hbm, 187, rfl⟩
abbrev main_cst_46 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_47 : Ref sig .tc := ⟨.hbm, 192, rfl⟩
abbrev main_v142 : Ref sig .tc := ⟨.hbm, 193, rfl⟩
abbrev main_v143 : Ref sig .tc := ⟨.hbm, 194, rfl⟩
abbrev main_cst_48 : Ref sig .tc := ⟨.hbm, 195, rfl⟩
abbrev main_v144 : Ref sig .tc := ⟨.hbm, 196, rfl⟩
abbrev main_v145 : Ref sig .tc := ⟨.hbm, 197, rfl⟩
abbrev main_cst_49 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_50 : Ref sig .tc := ⟨.hbm, 202, rfl⟩
abbrev main_v149 : Ref sig .tc := ⟨.hbm, 203, rfl⟩
abbrev main_v150 : Ref sig .tc := ⟨.hbm, 204, rfl⟩
abbrev main_cst_51 : Ref sig .tc := ⟨.hbm, 205, rfl⟩
abbrev main_v151 : Ref sig .tc := ⟨.hbm, 206, rfl⟩
abbrev main_v152 : Ref sig .tc := ⟨.hbm, 207, rfl⟩
abbrev main_cst_52 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_53 : Ref sig .tc := ⟨.hbm, 212, rfl⟩
abbrev main_v156 : Ref sig .tc := ⟨.hbm, 213, rfl⟩
abbrev main_v157 : Ref sig .tc := ⟨.hbm, 214, rfl⟩
abbrev main_cst_54 : Ref sig .tc := ⟨.hbm, 215, rfl⟩
abbrev main_v158 : Ref sig .tc := ⟨.hbm, 216, rfl⟩
abbrev main_v159 : Ref sig .tc := ⟨.hbm, 217, rfl⟩
abbrev main_cst_55 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_56 : Ref sig .tc := ⟨.hbm, 222, rfl⟩
abbrev main_v163 : Ref sig .tc := ⟨.hbm, 223, rfl⟩
abbrev main_v164 : Ref sig .tc := ⟨.hbm, 224, rfl⟩
abbrev main_cst_57 : Ref sig .tc := ⟨.hbm, 225, rfl⟩
abbrev main_v165 : Ref sig .tc := ⟨.hbm, 226, rfl⟩
abbrev main_v166 : Ref sig .tc := ⟨.hbm, 227, rfl⟩
abbrev main_cst_58 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_59 : Ref sig .tc := ⟨.hbm, 232, rfl⟩
abbrev main_v170 : Ref sig .tc := ⟨.hbm, 233, rfl⟩
abbrev main_v171 : Ref sig .tc := ⟨.hbm, 234, rfl⟩
abbrev main_cst_60 : Ref sig .tc := ⟨.hbm, 235, rfl⟩
abbrev main_v172 : Ref sig .tc := ⟨.hbm, 236, rfl⟩
abbrev main_v173 : Ref sig .tc := ⟨.hbm, 237, rfl⟩
abbrev main_cst_61 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_cst_62 : Ref sig .tc := ⟨.hbm, 242, rfl⟩
abbrev main_v177 : Ref sig .tc := ⟨.hbm, 243, rfl⟩
abbrev main_v178 : Ref sig .tc := ⟨.hbm, 244, rfl⟩
abbrev main_cst_63 : Ref sig .tc := ⟨.hbm, 245, rfl⟩
abbrev main_v179 : Ref sig .tc := ⟨.hbm, 246, rfl⟩
abbrev main_v180 : Ref sig .tc := ⟨.hbm, 247, rfl⟩
abbrev main_cst_64 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_cst_65 : Ref sig .tc := ⟨.hbm, 252, rfl⟩
abbrev main_v184 : Ref sig .tc := ⟨.hbm, 253, rfl⟩
abbrev main_v185 : Ref sig .tc := ⟨.hbm, 254, rfl⟩
abbrev main_cst_66 : Ref sig .tc := ⟨.hbm, 255, rfl⟩
abbrev main_v186 : Ref sig .tc := ⟨.hbm, 256, rfl⟩
abbrev main_v187 : Ref sig .tc := ⟨.hbm, 257, rfl⟩
abbrev main_cst_67 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_cst_68 : Ref sig .tc := ⟨.hbm, 262, rfl⟩
abbrev main_v191 : Ref sig .tc := ⟨.hbm, 263, rfl⟩
abbrev main_v192 : Ref sig .tc := ⟨.hbm, 264, rfl⟩
abbrev main_cst_69 : Ref sig .tc := ⟨.hbm, 265, rfl⟩
abbrev main_v193 : Ref sig .tc := ⟨.hbm, 266, rfl⟩
abbrev main_v194 : Ref sig .tc := ⟨.hbm, 267, rfl⟩
abbrev main_cst_70 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_cst_71 : Ref sig .tc := ⟨.hbm, 272, rfl⟩
abbrev main_v198 : Ref sig .tc := ⟨.hbm, 273, rfl⟩
abbrev main_v199 : Ref sig .tc := ⟨.hbm, 274, rfl⟩
abbrev main_cst_72 : Ref sig .tc := ⟨.hbm, 275, rfl⟩
abbrev main_v200 : Ref sig .tc := ⟨.hbm, 276, rfl⟩
abbrev main_v201 : Ref sig .tc := ⟨.hbm, 277, rfl⟩
abbrev main_cst_73 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_cst_74 : Ref sig .tc := ⟨.hbm, 282, rfl⟩
abbrev main_v205 : Ref sig .tc := ⟨.hbm, 283, rfl⟩
abbrev main_v206 : Ref sig .tc := ⟨.hbm, 284, rfl⟩
abbrev main_cst_75 : Ref sig .tc := ⟨.hbm, 285, rfl⟩
abbrev main_v207 : Ref sig .tc := ⟨.hbm, 286, rfl⟩
abbrev main_v208 : Ref sig .tc := ⟨.hbm, 287, rfl⟩
abbrev main_cst_76 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_cst_77 : Ref sig .tc := ⟨.hbm, 292, rfl⟩
abbrev main_v212 : Ref sig .tc := ⟨.hbm, 293, rfl⟩
abbrev main_v213 : Ref sig .tc := ⟨.hbm, 294, rfl⟩
abbrev main_cst_78 : Ref sig .tc := ⟨.hbm, 295, rfl⟩
abbrev main_v214 : Ref sig .tc := ⟨.hbm, 296, rfl⟩
abbrev main_v215 : Ref sig .tc := ⟨.hbm, 297, rfl⟩
abbrev main_cst_79 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_cst_80 : Ref sig .tc := ⟨.hbm, 302, rfl⟩
abbrev main_v219 : Ref sig .tc := ⟨.hbm, 303, rfl⟩
abbrev main_v220 : Ref sig .tc := ⟨.hbm, 304, rfl⟩
abbrev main_cst_81 : Ref sig .tc := ⟨.hbm, 305, rfl⟩
abbrev main_v221 : Ref sig .tc := ⟨.hbm, 306, rfl⟩
abbrev main_v222 : Ref sig .tc := ⟨.hbm, 307, rfl⟩
abbrev main_cst_82 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_cst_83 : Ref sig .tc := ⟨.hbm, 312, rfl⟩
abbrev main_v226 : Ref sig .tc := ⟨.hbm, 313, rfl⟩
abbrev main_v227 : Ref sig .tc := ⟨.hbm, 314, rfl⟩
abbrev main_cst_84 : Ref sig .tc := ⟨.hbm, 315, rfl⟩
abbrev main_v228 : Ref sig .tc := ⟨.hbm, 316, rfl⟩
abbrev main_v229 : Ref sig .tc := ⟨.hbm, 317, rfl⟩
abbrev main_cst_85 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_cst_86 : Ref sig .tc := ⟨.hbm, 322, rfl⟩
abbrev main_v233 : Ref sig .tc := ⟨.hbm, 323, rfl⟩
abbrev main_v234 : Ref sig .tc := ⟨.hbm, 324, rfl⟩
abbrev main_cst_87 : Ref sig .tc := ⟨.hbm, 325, rfl⟩
abbrev main_v235 : Ref sig .tc := ⟨.hbm, 326, rfl⟩
abbrev main_v236 : Ref sig .tc := ⟨.hbm, 327, rfl⟩
abbrev main_cst_88 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_cst_89 : Ref sig .tc := ⟨.hbm, 332, rfl⟩
abbrev main_v240 : Ref sig .tc := ⟨.hbm, 333, rfl⟩
abbrev main_v241 : Ref sig .tc := ⟨.hbm, 334, rfl⟩
abbrev main_cst_90 : Ref sig .tc := ⟨.hbm, 335, rfl⟩
abbrev main_v242 : Ref sig .tc := ⟨.hbm, 336, rfl⟩
abbrev main_v243 : Ref sig .tc := ⟨.hbm, 337, rfl⟩
abbrev main_cst_91 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_cst_92 : Ref sig .tc := ⟨.hbm, 342, rfl⟩
abbrev main_v247 : Ref sig .tc := ⟨.hbm, 343, rfl⟩
abbrev main_v248 : Ref sig .tc := ⟨.hbm, 344, rfl⟩
abbrev main_cst_93 : Ref sig .tc := ⟨.hbm, 345, rfl⟩
abbrev main_v249 : Ref sig .tc := ⟨.hbm, 346, rfl⟩
abbrev main_v250 : Ref sig .tc := ⟨.hbm, 347, rfl⟩
abbrev main_cst_94 : Ref sig .tc := ⟨.hbm, 348, rfl⟩
abbrev main_v251 : Ref sig .tc := ⟨.hbm, 349, rfl⟩
abbrev main_v252 : Ref sig .tc := ⟨.hbm, 350, rfl⟩

abbrev nD : Nat := 1
abbrev τ : Topo := Topo.v7x

variable {F : FTy → Type} [FloatOps F]
-- ==== Kernel22.lean ====
abbrev S4096x2048 : Shape := ⟨2, ![4096, 2048]⟩
abbrev S4096x1024 : Shape := ⟨2, ![4096, 1024]⟩
abbrev S4096x5120 : Shape := ⟨2, ![4096, 5120]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x5120, .f32⟩
  | .hbm, ⟨3, _⟩ => ⟨S4096x1024, .bf16⟩
  | .hbm, ⟨4, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S4096x2048 : Shape := ⟨2, ![4096, 2048]⟩
abbrev S4096x1024 : Shape := ⟨2, ![4096, 1024]⟩
abbrev S4096x5120 : Shape := ⟨2, ![4096, 5120]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x5120, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S4096x1024 : Shape := ⟨2, ![4096, 1024]⟩
abbrev S4096x5120 : Shape := ⟨2, ![4096, 5120]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S4096x1024, .bf16⟩
  | .hbm, ⟨3, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference23Ideal.lean ====
abbrev S4096x1024 : Shape := ⟨2, ![4096, 1024]⟩
abbrev S4096x5120 : Shape := ⟨2, ![4096, 5120]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel24.lean ====
abbrev S4096x1024 : Shape := ⟨2, ![4096, 1024]⟩
abbrev S4096x5120 : Shape := ⟨2, ![4096, 5120]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S4096x1024, .bf16⟩
  | .hbm, ⟨3, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference24Ideal.lean ====
abbrev S4096x1024 : Shape := ⟨2, ![4096, 1024]⟩
abbrev S4096x5120 : Shape := ⟨2, ![4096, 5120]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel25.lean ====
abbrev S4096x2048 : Shape := ⟨2, ![4096, 2048]⟩
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S4096x2048 : Shape := ⟨2, ![4096, 2048]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_cst_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩

abbrev nD : Nat := 1
abbrev τ : Topo := Topo.v7x

variable {F : FTy → Type} [FloatOps F]
-- ==== Kernel26.lean ====
abbrev S4096x5120 : Shape := ⟨2, ![4096, 5120]⟩
abbrev S4096x1024 : Shape := ⟨2, ![4096, 1024]⟩
abbrev S512x512 : Shape := ⟨2, ![512, 512]⟩

abbrev nBuf : Space → Nat
  | .hbm => 2
  | .vmem => 6
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S4096x5120 : Shape := ⟨2, ![4096, 5120]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4096x1024, .f32⟩
  | .hbm, ⟨3, _⟩ => ⟨S4096x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel27.lean ====
abbrev S4096x5120 : Shape := ⟨2, ![4096, 5120]⟩
abbrev S4096x1024 : Shape := ⟨2, ![4096, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S4096x5120 : Shape := ⟨2, ![4096, 5120]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S4096x5120 : Shape := ⟨2, ![4096, 5120]⟩
abbrev S4096x1024 : Shape := ⟨2, ![4096, 1024]⟩
abbrev S512x512 : Shape := ⟨2, ![512, 512]⟩

abbrev nBuf : Space → Nat
  | .hbm => 2
  | .vmem => 6
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S4096x5120 : Shape := ⟨2, ![4096, 5120]⟩
abbrev S4096x1024 : Shape := ⟨2, ![4096, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel29.lean ====
abbrev S4096x1024 : Shape := ⟨2, ![4096, 1024]⟩
abbrev S3x1024 : Shape := ⟨2, ![3, 1024]⟩
abbrev S512x512 : Shape := ⟨2, ![512, 512]⟩
abbrev S3x512 : Shape := ⟨2, ![3, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S3x512, .f32⟩
  | .local _ .vmem, ⟨5, _⟩ => ⟨S3x512, .f32⟩
  | .local _ .vmem, ⟨6, _⟩ => ⟨S512x512, .f32⟩
  | .local _ .vmem, ⟨7, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference29Ideal.lean ====
abbrev S4096x1024 : Shape := ⟨2, ![4096, 1024]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S_, .f32⟩
  | .hbm, ⟨3, _⟩ => ⟨S2x1024, .f32⟩
  | .hbm, ⟨4, _⟩ => ⟨S4098x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Kernel30.lean ====
abbrev S4096x6144 : Shape := ⟨2, ![4096, 6144]⟩
abbrev S4x1024 : Shape := ⟨2, ![4, 1024]⟩
abbrev S1024 : Shape := ⟨1, ![1024]⟩
abbrev S1x1024 : Shape := ⟨2, ![1, 1024]⟩
abbrev S4096x1024 : Shape := ⟨2, ![4096, 1024]⟩
abbrev S512x512 : Shape := ⟨2, ![512, 512]⟩
abbrev S4x512 : Shape := ⟨2, ![4, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x6144, .f32⟩
  | .hbm, ⟨1, _⟩ => ⟨S4x1024, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference30Ideal.lean ====
abbrev S4096x6144 : Shape := ⟨2, ![4096, 6144]⟩
abbrev S4x1024 : Shape := ⟨2, ![4, 1024]⟩
abbrev S1024 : Shape := ⟨1, ![1024]⟩
abbrev S4096x1024 : Shape := ⟨2, ![4096, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S3x1024, .f32⟩
  | .hbm, ⟨6, _⟩ => ⟨S4099x1024, .f32⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Kernel31.lean ====
abbrev S4096x1024 : Shape := ⟨2, ![4096, 1024]⟩
abbrev S31x1024 : Shape := ⟨2, ![31, 1024]⟩
abbrev S1024 : Shape := ⟨1, ![1024]⟩
abbrev S1x1024 : Shape := ⟨2, ![1, 1024]⟩
abbrev S256x256 : Shape := ⟨2, ![256, 256]⟩
abbrev S31x256 : Shape := ⟨2, ![31, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S31x1024, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S31x256, .f32⟩
  | .local _ .vmem, ⟨5, _⟩ => ⟨S31x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S31x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference31Ideal.lean ====
abbrev S4096x1024 : Shape := ⟨2, ![4096, 1024]⟩
abbrev S31x1024 : Shape := ⟨2, ![31, 1024]⟩
abbrev S1024 : Shape := ⟨1, ![1024]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩

abbrev nBuf : Space → Nat
  | .hbm => 225
  | .vmem => 0
  | .smem => 0
  | _ => 0

abbrev hbmTy0_0 (i : Nat) : BufTy := match i % 128 with
  | 0 => ⟨S4096x1024, .f32⟩
  | 1 => ⟨S31x1024, .f32⟩
  | 2 => ⟨S1024, .f32⟩
  | 3 => ⟨S_, .f32⟩
  | 4 => ⟨S30x1024, .f32⟩
  | 5 => ⟨S4126x1024, .f32⟩
  | 6 => ⟨S1x1024, .f32⟩
  | 7 => ⟨S1024, .f32⟩
  | 8 => ⟨S4096x1024, .f32⟩
  | 9 => ⟨S1x1024, .f32⟩
  | 10 => ⟨S4096x1024, .f32⟩
  | 11 => ⟨S4096x1024, .f32⟩
  | 12 => ⟨S1x1024, .f32⟩
  | 13 => ⟨S1024, .f32⟩
  | 14 => ⟨S4096x1024, .f32⟩
  | 15 => ⟨S1x1024, .f32⟩
  | 16 => ⟨S4096x1024, .f32⟩
  | 17 => ⟨S4096x1024, .f32⟩
  | 18 => ⟨S4096x1024, .f32⟩
  | 19 => ⟨S1x1024, .f32⟩
  | 20 => ⟨S1024, .f32⟩
  | 21 => ⟨S4096x1024, .f32⟩
  | 22 => ⟨S1x1024, .f32⟩
  | 23 => ⟨S4096x1024, .f32⟩
  | 24 => ⟨S4096x1024, .f32⟩
  | 25 => ⟨S4096x1024, .f32⟩
  | 26 => ⟨S1x1024, .f32⟩
  | 27 => ⟨S1024, .f32⟩
  | 28 => ⟨S4096x1024, .f32⟩
  | 29 => ⟨S1x1024, .f32⟩
  | 30 => ⟨S4096x1024, .f32⟩
  | 31 => ⟨S4096x1024, .f32⟩
  | 32 => ⟨S4096x1024, .f32⟩
  | 33 => ⟨S1x1024, .f32⟩
  | 34 => ⟨S1024, .f32⟩
  | 35 => ⟨S4096x1024, .f32⟩
  | 36 => ⟨S1x1024, .f32⟩
  | 37 => ⟨S4096x1024, .f32⟩
  | 38 => ⟨S4096x1024, .f32⟩
  | 39 => ⟨S4096x1024, .f32⟩
  | 40 => ⟨S1x1024, .f32⟩
  | 41 => ⟨S1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S1x1024, .f32⟩
  | 48 => ⟨S1024, .f32⟩
  | 49 => ⟨S4096x1024, .f32⟩
  | 50 => ⟨S1x1024, .f32⟩
  | 51 => ⟨S4096x1024, .f32⟩
  | 52 => ⟨S4096x1024, .f32⟩
  | 53 => ⟨S4096x1024, .f32⟩
  | 54 => ⟨S1x1024, .f32⟩
  | 55 => ⟨S1024, .f32⟩
  | 56 => ⟨S4096x1024, .f32⟩
  | 57 => ⟨S1x1024, .f32⟩
  | 58 => ⟨S4096x1024, .f32⟩
  | 59 => ⟨S4096x1024, .f32⟩
  | 60 => ⟨S4096x1024, .f32⟩
  | 61 => ⟨S1x1024, .f32⟩
  | 62 => ⟨S1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S1x1024, .f32⟩
  | 69 => ⟨S1024, .f32⟩
  | 70 => ⟨S4096x1024, .f32⟩
  | 71 => ⟨S1x1024, .f32⟩
  | 72 => ⟨S4096x1024, .f32⟩
  | 73 => ⟨S4096x1024, .f32⟩
  | 74 => ⟨S4096x1024, .f32⟩
  | 75 => ⟨S1x1024, .f32⟩
  | 76 => ⟨S1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S1x1024, .f32⟩
  | 83 => ⟨S1024, .f32⟩
  | 84 => ⟨S4096x1024, .f32⟩
  | 85 => ⟨S1x1024, .f32⟩
  | 86 => ⟨S4096x1024, .f32⟩
  | 87 => ⟨S4096x1024, .f32⟩
  | 88 => ⟨S4096x1024, .f32⟩
  | 89 => ⟨S1x1024, .f32⟩
  | 90 => ⟨S1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S1x1024, .f32⟩
  | 97 => ⟨S1024, .f32⟩
  | 98 => ⟨S4096x1024, .f32⟩
  | 99 => ⟨S1x1024, .f32⟩
  | 100 => ⟨S4096x1024, .f32⟩
  | 101 => ⟨S4096x1024, .f32⟩
  | 102 => ⟨S4096x1024, .f32⟩
  | 103 => ⟨S1x1024, .f32⟩
  | 104 => ⟨S1024, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S1x1024, .f32⟩
  | 111 => ⟨S1024, .f32⟩
  | 112 => ⟨S4096x1024, .f32⟩
  | 113 => ⟨S1x1024, .f32⟩
  | 114 => ⟨S4096x1024, .f32⟩
  | 115 => ⟨S4096x1024, .f32⟩
  | 116 => ⟨S4096x1024, .f32⟩
  | 117 => ⟨S1x1024, .f32⟩
  | 118 => ⟨S1024, .f32⟩
  | 119 => ⟨S4096x1024, .f32⟩
  | 120 => ⟨S1x1024, .f32⟩
  | 121 => ⟨S4096x1024, .f32⟩
  | 122 => ⟨S4096x1024, .f32⟩
  | 123 => ⟨S4096x1024, .f32⟩
  | 124 => ⟨S1x1024, .f32⟩
  | 125 => ⟨S1024, .f32⟩
  | 126 => ⟨S4096x1024, .f32⟩
  | 127 => ⟨S1x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S1x1024, .f32⟩
  | 4 => ⟨S1024, .f32⟩
  | 5 => ⟨S4096x1024, .f32⟩
  | 6 => ⟨S1x1024, .f32⟩
  | 7 => ⟨S4096x1024, .f32⟩
  | 8 => ⟨S4096x1024, .f32⟩
  | 9 => ⟨S4096x1024, .f32⟩
  | 10 => ⟨S1x1024, .f32⟩
  | 11 => ⟨S1024, .f32⟩
  | 12 => ⟨S4096x1024, .f32⟩
  | 13 => ⟨S1x1024, .f32⟩
  | 14 => ⟨S4096x1024, .f32⟩
  | 15 => ⟨S4096x1024, .f32⟩
  | 16 => ⟨S4096x1024, .f32⟩
  | 17 => ⟨S1x1024, .f32⟩
  | 18 => ⟨S1024, .f32⟩
  | 19 => ⟨S4096x1024, .f32⟩
  | 20 => ⟨S1x1024, .f32⟩
  | 21 => ⟨S4096x1024, .f32⟩
  | 22 => ⟨S4096x1024, .f32⟩
  | 23 => ⟨S4096x1024, .f32⟩
  | 24 => ⟨S1x1024, .f32⟩
  | 25 => ⟨S1024, .f32⟩
  | 26 => ⟨S4096x1024, .f32⟩
  | 27 => ⟨S1x1024, .f32⟩
  | 28 => ⟨S4096x1024, .f32⟩
  | 29 => ⟨S4096x1024, .f32⟩
  | 30 => ⟨S4096x1024, .f32⟩
  | 31 => ⟨S1x1024, .f32⟩
  | 32 => ⟨S1024, .f32⟩
  | 33 => ⟨S4096x1024, .f32⟩
  | 34 => ⟨S1x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S4096x1024, .f32⟩
  | 41 => ⟨S1x1024, .f32⟩
  | 42 => ⟨S4096x1024, .f32⟩
  | 43 => ⟨S4096x1024, .f32⟩
  | 44 => ⟨S4096x1024, .f32⟩
  | 45 => ⟨S1x1024, .f32⟩
  | 46 => ⟨S1024, .f32⟩
  | 47 => ⟨S4096x1024, .f32⟩
  | 48 => ⟨S1x1024, .f32⟩
  | 49 => ⟨S4096x1024, .f32⟩
  | 50 => ⟨S4096x1024, .f32⟩
  | 51 => ⟨S4096x1024, .f32⟩
  | 52 => ⟨S1x1024, .f32⟩
  | 53 => ⟨S1024, .f32⟩
  | 54 => ⟨S4096x1024, .f32⟩
  | 55 => ⟨S1x1024, .f32⟩
  | 56 => ⟨S4096x1024, .f32⟩
  | 57 => ⟨S4096x1024, .f32⟩
  | 58 => ⟨S4096x1024, .f32⟩
  | 59 => ⟨S1x1024, .f32⟩
  | 60 => ⟨S1024, .f32⟩
  | 61 => ⟨S4096x1024, .f32⟩
  | 62 => ⟨S1x1024, .f32⟩
  | 63 => ⟨S4096x1024, .f32⟩
  | 64 => ⟨S4096x1024, .f32⟩
  | 65 => ⟨S4096x1024, .f32⟩
  | 66 => ⟨S1x1024, .f32⟩
  | 67 => ⟨S1024, .f32⟩
  | 68 => ⟨S4096x1024, .f32⟩
  | 69 => ⟨S1x1024, .f32⟩
  | 70 => ⟨S4096x1024, .f32⟩
  | 71 => ⟨S4096x1024, .f32⟩
  | 72 => ⟨S4096x1024, .f32⟩
  | 73 => ⟨S1x1024, .f32⟩
  | 74 => ⟨S1024, .f32⟩
  | 75 => ⟨S4096x1024, .f32⟩
  | 76 => ⟨S1x1024, .f32⟩
  | 77 => ⟨S4096x1024, .f32⟩
  | 78 => ⟨S4096x1024, .f32⟩
  | 79 => ⟨S4096x1024, .f32⟩
  | 80 => ⟨S1x1024, .f32⟩
  | 81 => ⟨S1024, .f32⟩
  | 82 => ⟨S4096x1024, .f32⟩
  | 83 => ⟨S1x1024, .f32⟩
  | 84 => ⟨S4096x1024, .f32⟩
  | 85 => ⟨S4096x1024, .f32⟩
  | 86 => ⟨S4096x1024, .f32⟩
  | 87 => ⟨S1x1024, .f32⟩
  | 88 => ⟨S1024, .f32⟩
  | 89 => ⟨S4096x1024, .f32⟩
  | 90 => ⟨S1x1024, .f32⟩
  | 91 => ⟨S4096x1024, .f32⟩
  | 92 => ⟨S4096x1024, .f32⟩
  | 93 => ⟨S4096x1024, .f32⟩
  | 94 => ⟨S1x1024, .f32⟩
  | 95 => ⟨S4096x1024, .f32⟩
  | 96 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_v201 : Ref sig .tc := ⟨.hbm, 205, rfl⟩
abbrev main_v202 : Ref sig .tc := ⟨.hbm, 206, rfl⟩
abbrev main_v203 : Ref sig .tc := ⟨.hbm, 207, rfl⟩
abbrev main_v204 : Ref sig .tc := ⟨.hbm, 208, rfl⟩
abbrev main_v205 : Ref sig .tc := ⟨.hbm, 209, rfl⟩
abbrev main_v206 : Ref sig .tc := ⟨.hbm, 210, rfl⟩
abbrev main_v207 : Ref sig .tc := ⟨.hbm, 211, rfl⟩
abbrev main_v208 : Ref sig .tc := ⟨.hbm, 212, rfl⟩
abbrev main_v209 : Ref sig .tc := ⟨.hbm, 213, rfl⟩
abbrev main_v210 : Ref sig .tc := ⟨.hbm, 214, rfl⟩
abbrev main_v211 : Ref sig .tc := ⟨.hbm, 215, rfl⟩
abbrev main_v212 : Ref sig .tc := ⟨.hbm, 216, rfl⟩
abbrev main_v213 : Ref sig .tc := ⟨.hbm, 217, rfl⟩
abbrev main_v214 : Ref sig .tc := ⟨.hbm, 218, rfl⟩
abbrev main_v215 : Ref sig .tc := ⟨.hbm, 219, rfl⟩
abbrev main_v216 : Ref sig .tc := ⟨.hbm, 220, rfl⟩
abbrev main_v217 : Ref sig .tc := ⟨.hbm, 221, rfl⟩
abbrev main_v218 : Ref sig .tc := ⟨.hbm, 222, rfl⟩
abbrev main_v219 : Ref sig .tc := ⟨.hbm, 223, rfl⟩
abbrev main_v220 : Ref sig .tc := ⟨.hbm, 224, rfl⟩

abbrev nD : Nat := 1
abbrev τ : Topo := Topo.v7x

variable {F : FTy → Type} [FloatOps F]
-- ==== Kernel32.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel33.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel34.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference34Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel35.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x128, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x1, .f32⟩
  | .hbm, ⟨9, _⟩ => ⟨S_, .f32⟩
  | .hbm, ⟨10, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference35Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel36.lean ====
abbrev S5120x128 : Shape := ⟨2, ![5120, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S5120x128, .f32⟩
  | .hbm, ⟨1, _⟩ => ⟨S5120x128, .f32⟩
  | .hbm, ⟨2, _⟩ => ⟨S5120x128, .f32⟩
  | .hbm, ⟨3, _⟩ => ⟨S5120x128, .f32⟩
  | .hbm, ⟨4, _⟩ => ⟨S5120x128, .f32⟩
  | .hbm, ⟨5, _⟩ => ⟨S5120x128, .f32⟩
  | .hbm, ⟨6, _⟩ => ⟨S5120x128, .f32⟩
  | .hbm, ⟨7, _⟩ => ⟨S5120x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S5120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![10, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference36Ideal.lean ====
abbrev S5120x128 : Shape := ⟨2, ![5120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5120x128, .f32⟩
  | .hbm, ⟨1, _⟩ => ⟨S5120x128, .f32⟩
  | .hbm, ⟨2, _⟩ => ⟨S5120x128, .f32⟩
  | .hbm, ⟨3, _⟩ => ⟨S5120x128, .f32⟩
  | .hbm, ⟨4, _⟩ => ⟨S_, .f32⟩
  | .hbm, ⟨5, _⟩ => ⟨S5120x128, .f32⟩
  | .hbm, ⟨6, _⟩ => ⟨S5120x128, .f32⟩
  | .hbm, ⟨7, _⟩ => ⟨S_, .f32⟩
  | .hbm, ⟨8, _⟩ => ⟨S5120x128, .f32⟩
  | .hbm, ⟨9, _⟩ => ⟨S5120x128, .f32⟩
  | .hbm, ⟨10, _⟩ => ⟨S5120x128, .f32⟩
  | .hbm, ⟨11, _⟩ => ⟨S_, .f32⟩
  | .hbm, ⟨12, _⟩ => ⟨S5120x128, .f32⟩
  | .hbm, ⟨13, _⟩ => ⟨S5120x128, .f32⟩
  | .hbm, ⟨14, _⟩ => ⟨S5120x128, .f32⟩
  | .hbm, ⟨15, _⟩ => ⟨S_, .f32⟩
  | .hbm, ⟨16, _⟩ => ⟨S5120x128, .f32⟩
  | .hbm, ⟨17, _⟩ => ⟨S5120x128, .f32⟩
  | .hbm, ⟨18, _⟩ => ⟨S5120x128, .f32⟩
  | .hbm, ⟨19, _⟩ => ⟨S_, .f32⟩
  | .hbm, ⟨20, _⟩ => ⟨S5120x128, .f32⟩
  | .hbm, ⟨21, _⟩ => ⟨S5120x128, .f32⟩
  | .hbm, ⟨22, _⟩ => ⟨S_, .f32⟩
  | .hbm, ⟨23, _⟩ => ⟨S5120x128, .f32⟩
  | .hbm, ⟨24, _⟩ => ⟨S5120x128, .f32⟩
  | .hbm, ⟨25, _⟩ => ⟨S5120x128, .f32⟩
  | .hbm, ⟨26, _⟩ => ⟨S_, .f32⟩
  | .hbm, ⟨27, _⟩ => ⟨S5120x128, .f32⟩
  | .hbm, ⟨28, _⟩ => ⟨S5120x128, .f32⟩
  | .hbm, ⟨29, _⟩ => ⟨S5120x128, .f32⟩
  | .hbm, ⟨30, _⟩ => ⟨S_, .f32⟩
  | .hbm, ⟨31, _⟩ => ⟨S5120x128, .f32⟩
  | .hbm, ⟨32, _⟩ => ⟨S5120x128, .f32⟩
  | .hbm, ⟨33, _⟩ => ⟨S5120x128, .f32⟩
  | .hbm, ⟨34, _⟩ => ⟨S_, .f32⟩
  | .hbm, ⟨35, _⟩ => ⟨S5120x128, .f32⟩
  | .hbm, ⟨36, _⟩ => ⟨S5120x128, .f32⟩
  | _, _ => ⟨S5120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.LruBlock.lean ====
/-
  One block of the RG-LRU recurrence's gradient: 256 rows of time by 512 columns, taken from the last row to the first.
  With `a` the decays, `d` the cotangents of `h` and `c` the value carried in from the rows after the block, the carried
  value after the last `n` rows is `carry a d c n`, and the gradient at row `r` is `d r + carry a d c (255 - r)`.
  The kernel takes eight rows a trip; this file reads one trip's payloads at an index and says what the 32 trips leave.
-/
module

public import proofs.«01_k».proof.Proof.Gen.KernelIdeal.Frame
public import proofs.«01_k».proof.Proof.Gen.KernelIdeal.Loops
public import Idealize.ShloMosaic.Lib.WritesUnit
public import Idealize.ShloMosaic.Lib.VecWindow
public import Idealize.ShloMosaic.Lib.Pointwise

@[expose] public section

set_option maxRecDepth 16384

noncomputable section

namespace Cert.LruBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The recurrence on one block -/

/-- Row `r`, column `j` of a block. -/
def at256 {e : EltTy} (x : Vec F S256x512 e) (r : ℕ) (j : Fin 512) : Elt F e :=
  x (ix2 ⟨r % 256, Nat.mod_lt _ (by decide)⟩ j)

/-- The value carried out of the last `n` rows of the block, from `c` carried in. -/
def carry (a d : Vec F S256x512 .f32) (c : Fin 512 → F .f32) : ℕ → Fin 512 → F .f32
  | 0, j => c j
  | n + 1, j => FloatOps.mulf (at256 a (255 - n) j) (FloatOps.addf (at256 d (255 - n) j) (carry a d c n j))

/-- The gradient `n` rows before the block's last. -/
def lamAt (a d : Vec F S256x512 .f32) (c : Fin 512 → F .f32) (n : ℕ) (j : Fin 512) : F .f32 :=
  FloatOps.addf (at256 d (255 - n) j) (carry a d c n j)

/-- The block's gradients. -/
def lamBlk (a d : Vec F S256x512 .f32) (c : Fin 512 → F .f32) : Vec F S256x512 .f32 :=
  fun y => lamAt a d c (255 - (y 0).val) (y 1)

theorem carry_succ (a d : Vec F S256x512 .f32) (c : Fin 512 → F .f32) (n : ℕ) (j : Fin 512) :
    carry a d c (n + 1) j = FloatOps.mulf (at256 a (255 - n) j) (lamAt a d c n j) := rfl

/-! ## One trip's payloads -/

section Payloads

variable (acc : Vec F S1x512 .f32) (a8 d8 : Vec F S8x512 .f32) (j : Fin 512)

theorem pay3_at : k0_pay3 acc d8 (ix2 (0 : Fin 1) j) = FloatOps.addf (d8 (ix2 (7 : Fin 8) j)) (acc (ix2 (0 : Fin 1) j)) := by
  unfold k0_pay3; pointwise
theorem pay4_at : k0_pay4 acc a8 d8 (ix2 (0 : Fin 1) j) = FloatOps.addf (d8 (ix2 (6 : Fin 8) j)) (FloatOps.mulf (a8 (ix2 (7 : Fin 8) j)) (k0_pay3 acc d8 (ix2 (0 : Fin 1) j))) := by
  unfold k0_pay4; pointwise
theorem pay5_at : k0_pay5 acc a8 d8 (ix2 (0 : Fin 1) j) = FloatOps.addf (d8 (ix2 (5 : Fin 8) j)) (FloatOps.mulf (a8 (ix2 (6 : Fin 8) j)) (k0_pay4 acc a8 d8 (ix2 (0 : Fin 1) j))) := by
  unfold k0_pay5; pointwise
theorem pay6_at : k0_pay6 acc a8 d8 (ix2 (0 : Fin 1) j) = FloatOps.addf (d8 (ix2 (4 : Fin 8) j)) (FloatOps.mulf (a8 (ix2 (5 : Fin 8) j)) (k0_pay5 acc a8 d8 (ix2 (0 : Fin 1) j))) := by
  unfold k0_pay6; pointwise
theorem pay7_at : k0_pay7 acc a8 d8 (ix2 (0 : Fin 1) j) = FloatOps.addf (d8 (ix2 (3 : Fin 8) j)) (FloatOps.mulf (a8 (ix2 (4 : Fin 8) j)) (k0_pay6 acc a8 d8 (ix2 (0 : Fin 1) j))) := by
  unfold k0_pay7; pointwise
theorem pay8_at : k0_pay8 acc a8 d8 (ix2 (0 : Fin 1) j) = FloatOps.addf (d8 (ix2 (2 : Fin 8) j)) (FloatOps.mulf (a8 (ix2 (3 : Fin 8) j)) (k0_pay7 acc a8 d8 (ix2 (0 : Fin 1) j))) := by
  unfold k0_pay8; pointwise
theorem pay9_at : k0_pay9 acc a8 d8 (ix2 (0 : Fin 1) j) = FloatOps.addf (d8 (ix2 (1 : Fin 8) j)) (FloatOps.mulf (a8 (ix2 (2 : Fin 8) j)) (k0_pay8 acc a8 d8 (ix2 (0 : Fin 1) j))) := by
  unfold k0_pay9; pointwise
theorem pay10_at : k0_pay10 acc a8 d8 (ix2 (0 : Fin 1) j) = FloatOps.addf (d8 (ix2 (0 : Fin 8) j)) (FloatOps.mulf (a8 (ix2 (1 : Fin 8) j)) (k0_pay9 acc a8 d8 (ix2 (0 : Fin 1) j))) := by
  unfold k0_pay10; pointwise
theorem pay11_at : k0_pay11 acc a8 d8 (ix2 (0 : Fin 1) j) = FloatOps.mulf (a8 (ix2 (0 : Fin 8) j)) (k0_pay10 acc a8 d8 (ix2 (0 : Fin 1) j)) := by
  unfold k0_pay11; pointwise

/-- Row `r` of the eight rows a trip stores is the payload that computed it. -/
theorem pay12_at (r : Fin 8) : k0_pay12 acc a8 d8 (ix2 r j) = (match r with
    | 0 => k0_pay10 acc a8 d8 | 1 => k0_pay9 acc a8 d8 | 2 => k0_pay8 acc a8 d8 | 3 => k0_pay7 acc a8 d8
    | 4 => k0_pay6 acc a8 d8 | 5 => k0_pay5 acc a8 d8 | 6 => k0_pay4 acc a8 d8 | 7 => k0_pay3 acc d8) (ix2 (0 : Fin 1) j) := by
  unfold k0_pay12
  fin_cases r <;> pointwise

/-- One trip: from the value carried after `n` rows and the next eight rows of decays and cotangents, the value carried
    after `n + 8` rows and the eight gradients. -/
theorem trip_at (a d : Vec F S256x512 .f32) (c : Fin 512 → F .f32) (n : ℕ)
    (hacc : acc (ix2 (0 : Fin 1) j) = carry a d c n j)
    (ha : ∀ r : Fin 8, a8 (ix2 r j) = at256 a (248 - n + r.val) j)
    (hd : ∀ r : Fin 8, d8 (ix2 r j) = at256 d (248 - n + r.val) j) (hn : n ≤ 248) :
    k0_pay11 acc a8 d8 (ix2 (0 : Fin 1) j) = carry a d c (n + 8) j
    ∧ ∀ r : Fin 8, k0_pay12 acc a8 d8 (ix2 r j) = lamAt a d c (n + (7 - r.val)) j := by
  have e3 : k0_pay3 acc d8 (ix2 (0 : Fin 1) j) = lamAt a d c n j := by
    rw [pay3_at, hd 7, hacc, lamAt]; congr 2
    show 248 - n + 7 = 255 - n; omega
  have e4 : k0_pay4 acc a8 d8 (ix2 (0 : Fin 1) j) = lamAt a d c (n + 1) j := by
    rw [pay4_at, hd 6, ha 7, e3,
      show 248 - n + (6 : Fin 8).val = 255 - (n + 1) from by show 248 - n + 6 = _; omega,
      show 248 - n + (7 : Fin 8).val = 255 - (n + 0) from by show 248 - n + 7 = _; omega]
    rfl
  have e5 : k0_pay5 acc a8 d8 (ix2 (0 : Fin 1) j) = lamAt a d c (n + 2) j := by
    rw [pay5_at, hd 5, ha 6, e4,
      show 248 - n + (5 : Fin 8).val = 255 - (n + 2) from by show 248 - n + 5 = _; omega,
      show 248 - n + (6 : Fin 8).val = 255 - (n + 1) from by show 248 - n + 6 = _; omega]
    rfl
  have e6 : k0_pay6 acc a8 d8 (ix2 (0 : Fin 1) j) = lamAt a d c (n + 3) j := by
    rw [pay6_at, hd 4, ha 5, e5,
      show 248 - n + (4 : Fin 8).val = 255 - (n + 3) from by show 248 - n + 4 = _; omega,
      show 248 - n + (5 : Fin 8).val = 255 - (n + 2) from by show 248 - n + 5 = _; omega]
    rfl
  have e7 : k0_pay7 acc a8 d8 (ix2 (0 : Fin 1) j) = lamAt a d c (n + 4) j := by
    rw [pay7_at, hd 3, ha 4, e6,
      show 248 - n + (3 : Fin 8).val = 255 - (n + 4) from by show 248 - n + 3 = _; omega,
      show 248 - n + (4 : Fin 8).val = 255 - (n + 3) from by show 248 - n + 4 = _; omega]
    rfl
  have e8 : k0_pay8 acc a8 d8 (ix2 (0 : Fin 1) j) = lamAt a d c (n + 5) j := by
    rw [pay8_at, hd 2, ha 3, e7,
      show 248 - n + (2 : Fin 8).val = 255 - (n + 5) from by show 248 - n + 2 = _; omega,
      show 248 - n + (3 : Fin 8).val = 255 - (n + 4) from by show 248 - n + 3 = _; omega]
    rfl
  have e9 : k0_pay9 acc a8 d8 (ix2 (0 : Fin 1) j) = lamAt a d c (n + 6) j := by
    rw [pay9_at, hd 1, ha 2, e8,
      show 248 - n + (1 : Fin 8).val = 255 - (n + 6) from by show 248 - n + 1 = _; omega,
      show 248 - n + (2 : Fin 8).val = 255 - (n + 5) from by show 248 - n + 2 = _; omega]
    rfl
  have e10 : k0_pay10 acc a8 d8 (ix2 (0 : Fin 1) j) = lamAt a d c (n + 7) j := by
    rw [pay10_at, hd 0, ha 1, e9,
      show 248 - n + (0 : Fin 8).val = 255 - (n + 7) from by show 248 - n + 0 = _; omega,
      show 248 - n + (1 : Fin 8).val = 255 - (n + 6) from by show 248 - n + 1 = _; omega]
    rfl
  refine ⟨?_, fun r => ?_⟩
  · rw [pay11_at, ha 0, e10, carry_succ]
    rw [show 248 - n + (0 : Fin 8).val = 255 - (n + 7) from by show 248 - n + 0 = _; omega]
  · rw [pay12_at]
    fin_cases r
    · exact e10
    · exact e9
    · exact e8
    · exact e7
    · exact e6
    · exact e5
    · exact e4
    · exact e3

end Payloads

/-! ## The 32 trips -/

section Trip

variable (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S8x512 .f32) (harg8 : arg8.IsWhole) (arg9 : Memref sig .tc .vmem S256x512 .f32) (harg9 : arg9.IsWhole) (X5 : BufTy.Contents (Elt F) arg5.view.ty) (X9 : BufTy.Contents (Elt F) arg9.view.ty) (k : Fin k0_t1_loop.trips) (acc : Vec F S1x512 .f32)

/-- The eight rows a trip loads. -/
abbrev rows8 (M : Memref sig .tc .vmem S256x512 .f32) (X : BufTy.Contents (Elt F) M.view.ty) (k : Fin k0_t1_loop.trips) : Vec F S8x512 .f32 :=
  M.view.readAt (Elt F) (Rect.unit (s := S256x512) (k0_off1 k) S8x512.size (k0_off1_inb k)).toLoadRect X

theorem tripR_eq : tripR_k0_t1 𝒱 c bd i arg2 harg2 arg3 harg3 arg4 harg4 arg5 harg5 arg6 harg6 arg7 harg7 arg8 harg8 arg9 harg9 X5 X9 k acc
    = k0_pay11 acc (rows8 arg5 X5 k) (rows8 arg9 X9 k) := by
  unfold tripR_k0_t1 trip_k0_t1
  rfl

theorem tripL_eq : tripL_k0_t1 𝒱 c bd i arg2 harg2 arg3 harg3 arg4 harg4 arg5 harg5 arg6 harg6 arg7 harg7 arg8 harg8 arg9 harg9 X5 X9 k acc
    = [⟨Rect.unit (s := S256x512) (k0_off1 k) S8x512.size (k0_off1_inb k), k0_pay12 acc (rows8 arg5 X5 k) (rows8 arg9 X9 k)⟩] := by
  unfold tripL_k0_t1 trip_k0_t1
  rfl

theorem trips_eq : k0_t1_loop.trips = 32 := by decide

/-- What the trips before `n` leave: the carried row and the pieces stored, last first. -/
abbrev st (init : Vec F S1x512 .f32) (n : ℕ) : Vec F S1x512 .f32 × List (View.Piece (Elt F) S256x512 .f32) :=
  st_k0_t1 𝒱 c bd i arg2 harg2 arg3 harg3 arg4 harg4 arg5 harg5 arg6 harg6 arg7 harg7 arg8 harg8 arg9 harg9 X5 X9 init n

omit [FloatOps F] in
theorem rows8_at (M : Memref sig .tc .vmem S256x512 .f32) (X : BufTy.Contents (Elt F) M.view.ty) (k : Fin k0_t1_loop.trips)
    (x : Vec F S256x512 .f32) (hx : M.view.read (Elt F) X = x) (r : Fin 8) (j : Fin 512) :
    rows8 M X k (ix2 r j) = at256 x (248 - 8 * k.val + r.val) j := by
  subst hx
  have hk : k.val < 32 := k.isLt.trans_eq trips_eq
  have hr := r.isLt
  refine congrArg (M.view.read (Elt F) X) (funext fun a => Fin.ext ?_)
  have e := k0_off1_eq k
  fin_cases a
  · show k0_off1 k 0 + 1 * r.val = (248 - 8 * k.val + r.val) % 256
    rw [e]
    show 248 - 8 * k.val + 1 * r.val = _
    omega
  · show k0_off1 k 1 + 1 * j.val = j.val
    rw [e]
    show 0 + 1 * j.val = j.val
    omega

/-- After `n` trips the carried row is the recurrence after `8 n` rows, and the last `8 n` rows of the output block read as
    the gradients. -/
theorem loop_at (a d : Vec F S256x512 .f32) (h5 : arg5.view.read (Elt F) X5 = a) (h9 : arg9.view.read (Elt F) X9 = d)
    (c0 : Fin 512 → F .f32) (init : Vec F S1x512 .f32) (hinit : ∀ j, init (ix2 (0 : Fin 1) j) = c0 j) (n : ℕ) (hn : n ≤ 32) :
    (∀ j, (st 𝒱 c bd i arg2 harg2 arg3 harg3 arg4 harg4 arg5 harg5 arg6 harg6 arg7 harg7 arg8 harg8 arg9 harg9 X5 X9 init n).1 (ix2 (0 : Fin 1) j) = carry a d c0 (8 * n) j)
    ∧ ∀ (f : BufTy.Contents (Elt F) arg6.view.ty) (y : S256x512.Idx), 256 - 8 * n ≤ (y 0).val →
        arg6.view.read (Elt F) (arg6.view.writes (Elt F) f (st 𝒱 c bd i arg2 harg2 arg3 harg3 arg4 harg4 arg5 harg5 arg6 harg6 arg7 harg7 arg8 harg8 arg9 harg9 X5 X9 init n).2) y = lamBlk a d c0 y := by
  induction n with
  | zero =>
    refine ⟨fun j => hinit j, fun f y hy => absurd (show (y 0).val < 256 from (y 0).isLt) (by omega)⟩
  | succ n ih =>
    obtain ⟨ih1, ih2⟩ := ih (by omega)
    have hk : n < k0_t1_loop.trips := by rw [trips_eq]; omega
    have e : st 𝒱 c bd i arg2 harg2 arg3 harg3 arg4 harg4 arg5 harg5 arg6 harg6 arg7 harg7 arg8 harg8 arg9 harg9 X5 X9 init (n + 1) = _ := st_k0_t1_succ 𝒱 c bd i arg2 harg2 arg3 harg3 arg4 harg4 arg5 harg5 arg6 harg6 arg7 harg7 arg8 harg8 arg9 harg9 X5 X9 init ⟨n, hk⟩
    rw [tripR_eq, tripL_eq] at e
    have T := fun j => trip_at (st 𝒱 c bd i arg2 harg2 arg3 harg3 arg4 harg4 arg5 harg5 arg6 harg6 arg7 harg7 arg8 harg8 arg9 harg9 X5 X9 init n).1 (rows8 arg5 X5 ⟨n, hk⟩) (rows8 arg9 X9 ⟨n, hk⟩) j a d c0 (8 * n) (ih1 j)
      (fun r => rows8_at arg5 X5 ⟨n, hk⟩ a h5 r j) (fun r => rows8_at arg9 X9 ⟨n, hk⟩ d h9 r j) (by omega)
    rw [e]
    refine ⟨fun j => (T j).1, fun f y hy => ?_⟩
    have hy2 : (y 0).val < 256 := (y 0).isLt
    rw [List.singleton_append]
    by_cases hm : (y 0).val < 256 - 8 * n
    · have hoff : k0_off1 ⟨n, hk⟩ = ![248 - 8 * n, 0] := k0_off1_eq ⟨n, hk⟩
      rw [View.read_writes_cons_rows_of_mem (arg6.view) f (k0_off1_inb ⟨n, hk⟩) _ _ y
        (ix2 (⟨(y 0).val - (248 - 8 * n), by omega⟩ : Fin 8) (y 1)) hoff (by show (y 0).val = 248 - 8 * n + ((y 0).val - (248 - 8 * n)); omega) rfl]
      rw [(T (y 1)).2]
      show lamAt a d c0 (8 * n + (7 - ((y 0).val - (248 - 8 * n)))) (y 1) = lamAt a d c0 (255 - (y 0).val) (y 1)
      congr 1; omega
    · have hoff : k0_off1 ⟨n, hk⟩ = ![248 - 8 * n, 0] := k0_off1_eq ⟨n, hk⟩
      rw [View.read_writes_cons_rows_of_not_mem (W := 8) (arg6.view) f (k0_off1_inb ⟨n, hk⟩) _ _ y hoff rfl (Or.inr (by omega))]
      exact ih2 f y (by omega)

/-- The whole output block after the loop. -/
theorem loop_blk (a d : Vec F S256x512 .f32) (c0 : Fin 512 → F .f32) (init : Vec F S1x512 .f32) (f : BufTy.Contents (Elt F) arg6.view.ty)
    (h5 : arg5.view.read (Elt F) X5 = a) (h9 : arg9.view.read (Elt F) X9 = d) (hinit : ∀ j, init (ix2 (0 : Fin 1) j) = c0 j) :
    arg6.view.read (Elt F) (arg6.view.writes (Elt F) f (st_k0_t1 𝒱 c bd i arg2 harg2 arg3 harg3 arg4 harg4 arg5 harg5 arg6 harg6 arg7 harg7 arg8 harg8 arg9 harg9 X5 X9 init 32).2) = lamBlk a d c0 :=
  funext fun y => (loop_at 𝒱 c bd i arg2 harg2 arg3 harg3 arg4 harg4 arg5 harg5 arg6 harg6 arg7 harg7 arg8 harg8 arg9 harg9 X5 X9 a d h5 h9 c0 init hinit 32 le_rfl).2 f y (by omega)

/-- The carried row after the loop. -/
theorem loop_carry (a d : Vec F S256x512 .f32) (c0 : Fin 512 → F .f32) (init : Vec F S1x512 .f32) (j : Fin 512)
    (h5 : arg5.view.read (Elt F) X5 = a) (h9 : arg9.view.read (Elt F) X9 = d) (hinit : ∀ j, init (ix2 (0 : Fin 1) j) = c0 j) :
    (st_k0_t1 𝒱 c bd i arg2 harg2 arg3 harg3 arg4 harg4 arg5 harg5 arg6 harg6 arg7 harg7 arg8 harg8 arg9 harg9 X5 X9 init 32).1 (ix2 (0 : Fin 1) j) = carry a d c0 256 j :=
  (loop_at 𝒱 c bd i arg2 harg2 arg3 harg3 arg4 harg4 arg5 harg5 arg6 harg6 arg7 harg7 arg8 harg8 arg9 harg9 X5 X9 a d h5 h9 c0 init hinit 32 le_rfl).1 j

end Trip

end Cert.LruBwd
end
-- ==== Proof.LruBody.lean ====
module

public import proofs.«01_k».proof.Proof.Gen.KernelIdeal.Frame
public import proofs.«01_k».proof.Proof.Gen.KernelIdeal.Loops
public import proofs.«01_k».proof.Proof.LruBlock
public import Idealize.ShloMosaic.Lib.WritesUnit
public import Idealize.ShloMosaic.Lib.VecWindow
public import Idealize.ShloMosaic.Lib.Pointwise

@[expose] public section

set_option maxRecDepth 16384

noncomputable section

namespace Cert.LruBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's test: the first time block of a column block. -/
abbrev cond0 (i : grid0.Coords) : Prop := (Scalar.cmpi .ne (Scalar.extui (Scalar.cmpi .eq (BitVec.ofNat 32 (i 1).val) 0#32)) 0#32) = 1#1

/-- The cotangent of `h` on one block: the incoming cotangent times the gate's gelu. -/
def dhBlk (dy g : Vec F S256x512 .f32) : Vec F S256x512 .f32 := k0_pay2 (k0_pay19 g dy)

/-- The gradient of the gate on one block, rounded to bf16. -/
def dgBlk (dy g h : Vec F S256x512 .f32) : Vec F S256x512 .bf16 :=
  k0_pay1 (k0_pay15 g) (k0_pay21 h g dy) (k0_pay22 h g dy)

/-- The carry row spread over the eight rows of its scratch buffer. -/
def carry8 (a d : Vec F S256x512 .f32) (c : Fin 512 → F .f32) : Vec F S8x512 .f32 := fun y => carry a d c 256 (y 1)

theorem pay13_at (v : Vec F S1x512 .f32) (y : S8x512.Idx) : k0_pay13 v y = v (ix2 (0 : Fin 1) (y 1)) := by
  unfold k0_pay13; pointwise

theorem pay14_at (y : S8x512.Idx) : k0_pay14 (F := F) y = Scalar.ofBits .f32 0x00000000#32 := by
  unfold k0_pay14; pointwise

/-- A load of a whole block reads the block. -/
theorem rd (M : Memref sig .tc .vmem S256x512 .f32) (hM : M.IsWhole) (x : Vec F S256x512 .f32) :
    M.view.readAt (Elt F) (Rect.unit (s := S256x512) ![0, 0] ![256, 512] inb_S256x512_S256x512_0_0).toLoadRect (hM.unread x) = x :=
  (View.readAt_full M.view (hM.unread x) inb_S256x512_S256x512_0_0).trans (hM.read_unread _)

/-- A block whose one store was whole reads as what was stored. -/
theorem wr {e : EltTy} (M : Memref sig .tc .vmem S256x512 e) (f : BufTy.Contents (Elt F) M.view.ty) (w : Vec F S256x512 e) :
    M.view.read (Elt F) (M.view.writes (Elt F) f [⟨Rect.unit (s := S256x512) ![0, 0] ![256, 512] inb_S256x512_S256x512_0_0, w⟩]) = w :=
  View.read_writes_full M.view f inb_S256x512_S256x512_0_0 w []

theorem wr8 (M : Memref sig .tc .vmem S8x512 .f32) (f : BufTy.Contents (Elt F) M.view.ty) (w : Vec F S8x512 .f32) (L) :
    M.view.read (Elt F) (M.view.writes (Elt F) f (⟨Rect.unit (s := S8x512) ![0, 0] ![8, 512] inb_S8x512_S8x512_0_0, w⟩ :: L)) = w :=
  View.read_writes_full M.view f inb_S8x512_S8x512_0_0 w L

theorem initA (arg8 : Memref sig .tc .vmem S8x512 .f32) (j : Fin 512) :
    (arg8.view.readCov (Val := Elt F) [⟨Rect.unit (s := S8x512) ![0, 0] S8x512.size inb_S8x512_S8x512_0_0, k0_pay14⟩]
      (Rect.unit (s := S8x512) ![0, 0] ![1, 512] inb_S8x512_S1x512_0_0).toLoadRect : Vec F S1x512 .f32) (ix2 (0 : Fin 1) j) = Scalar.ofBits .f32 0x00000000#32 := by
  unfold View.readCov
  rw [View.readAt_apply, View.read_writes_full, pay14_at]

theorem initB (arg8 : Memref sig .tc .vmem S8x512 .f32) (harg8 : arg8.IsWhole) (xs : Vec F S8x512 .f32) (j : Fin 512) :
    (arg8.view.readAt (Elt F) (Rect.unit (s := S8x512) ![0, 0] ![1, 512] inb_S8x512_S1x512_0_0).toLoadRect (harg8.unread xs) : Vec F S1x512 .f32) (ix2 (0 : Fin 1) j)
      = xs (ix2 (0 : Fin 8) j) := by
  rw [View.readAt_apply, harg8.read_unread]
  refine congrArg xs (funext fun a => Fin.ext ?_)
  fin_cases a
  · rfl
  · show 0 + 1 * j.val = j.val; omega

set_option maxHeartbeats 1000000 in
theorem bodyA (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S8x512 .f32) (harg8 : arg8.IsWhole) (arg9 : Memref sig .tc .vmem S256x512 .f32) (harg9 : arg9.IsWhole) (hc0 : cond0 i)
    (x0 : Vec F S256x512 .f32) (x1 : Vec F S256x512 .f32) (x2 : Vec F S256x512 .f32) (x3 : Vec F S256x512 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (lamBlk x3 (dhBlk x0 x1) (fun _ => Scalar.ofBits .f32 0x00000000#32)) ∗ owns (c : Thread nD τ) arg7 fullShare (dgBlk x0 x1 x2) ∗ owns (c : Thread nD τ) arg8 fullShare (carry8 x3 (dhBlk x0 x1) (fun _ => Scalar.ofBits .f32 0x00000000#32)) ∗ (∃ d, owns (c : Thread nD τ) arg9 fullShare d)) -∗ K ⟨⟩))
          ⊢ wp frame (wpE (defs₀ (F := F)) Variants.none c none) E (cc0_lru_scan_bwd i arg2 harg2 arg3 harg3 arg4 harg4 arg5 harg5 arg6 harg6 arg7 harg7 arg8 harg8 arg9 harg9) K := by
  simp only [cc0_lru_scan_bwd_eq_skeleton]; unfold cc0_lru_scan_bwd_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3

  isplitl [H4]
  · iexists _; isplitr; swap; · iexact H4
    ipureintro
    sl_unfold_words
    rw [rd arg2 harg2, rd arg3 harg3]
    rw [show Scf.trips k0_t1_loop.lb k0_t1_loop.ub k0_t1_loop.st = 32 from trips_eq]
    refine loop_blk Variants.none c none i arg2 harg2 arg3 harg3 arg4 harg4 arg5 harg5 arg6 harg6 arg7 harg7 arg8 harg8 arg9 harg9 _ _ x3 (dhBlk x0 x1) (fun _ => Scalar.ofBits .f32 0x00000000#32) _ _ (harg5.read_unread _) ?_ ?_
    · exact wr _ _ _
    · exact (fun j => initA arg8 j)
  isplitl [H5]
  · iexists _; isplitr; swap; · iexact H5
    ipureintro
    sl_unfold_words
    rw [rd arg2 harg2, rd arg3 harg3, rd arg4 harg4]
    exact wr _ _ _
  isplitl [HS0]
  · iexists _; isplitr; swap; · iexact HS0
    ipureintro
    sl_unfold_words
    rw [rd arg2 harg2, rd arg3 harg3]
    rw [show Scf.trips k0_t1_loop.lb k0_t1_loop.ub k0_t1_loop.st = 32 from trips_eq]
    refine (wr8 _ _ _ _).trans (funext fun y => ?_)
    rw [pay13_at]
    refine loop_carry Variants.none c none i arg2 harg2 arg3 harg3 arg4 harg4 arg5 harg5 arg6 harg6 arg7 harg7 arg8 harg8 arg9 harg9 _ _ x3 (dhBlk x0 x1) (fun _ => Scalar.ofBits .f32 0x00000000#32) _ (y 1) (harg5.read_unread _) ?_ ?_
    · exact wr _ _ _
    · exact (fun j => initA arg8 j)
  iexists _, _; isplitr; swap; · iexact HS1
  ipureintro; rfl

set_option maxHeartbeats 1000000 in
theorem bodyB (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S8x512 .f32) (harg8 : arg8.IsWhole) (arg9 : Memref sig .tc .vmem S256x512 .f32) (harg9 : arg9.IsWhole) (hc0 : ¬cond0 i)
    (x0 : Vec F S256x512 .f32) (x1 : Vec F S256x512 .f32) (x2 : Vec F S256x512 .f32) (x3 : Vec F S256x512 .f32) (xs : Vec F S8x512 .f32) (c0 : Fin 512 → F .f32) (hxs : ∀ j, xs (ix2 (0 : Fin 8) j) = c0 j)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (lamBlk x3 (dhBlk x0 x1) c0) ∗ owns (c : Thread nD τ) arg7 fullShare (dgBlk x0 x1 x2) ∗ owns (c : Thread nD τ) arg8 fullShare (carry8 x3 (dhBlk x0 x1) c0) ∗ (∃ d, owns (c : Thread nD τ) arg9 fullShare d)) -∗ K ⟨⟩))
          ⊢ wp frame (wpE (defs₀ (F := F)) Variants.none c none) E (cc0_lru_scan_bwd i arg2 harg2 arg3 harg3 arg4 harg4 arg5 harg5 arg6 harg6 arg7 harg7 arg8 harg8 arg9 harg9) K := by
  simp only [cc0_lru_scan_bwd_eq_skeleton]; unfold cc0_lru_scan_bwd_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg8.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3

  isplitl [H4]
  · iexists _; isplitr; swap; · iexact H4
    ipureintro
    sl_unfold_words
    rw [rd arg2 harg2, rd arg3 harg3]
    rw [show Scf.trips k0_t1_loop.lb k0_t1_loop.ub k0_t1_loop.st = 32 from trips_eq]
    refine loop_blk Variants.none c none i arg2 harg2 arg3 harg3 arg4 harg4 arg5 harg5 arg6 harg6 arg7 harg7 arg8 harg8 arg9 harg9 _ _ x3 (dhBlk x0 x1) c0 _ _ (harg5.read_unread _) ?_ ?_
    · exact wr _ _ _
    · exact (fun j => (initB arg8 harg8 xs j).trans (hxs j))
  isplitl [H5]
  · iexists _; isplitr; swap; · iexact H5
    ipureintro
    sl_unfold_words
    rw [rd arg2 harg2, rd arg3 harg3, rd arg4 harg4]
    exact wr _ _ _
  isplitl [HS0]
  · iexists _; isplitr; swap; · iexact HS0
    ipureintro
    sl_unfold_words
    rw [rd arg2 harg2, rd arg3 harg3]
    rw [show Scf.trips k0_t1_loop.lb k0_t1_loop.ub k0_t1_loop.st = 32 from trips_eq]
    refine (wr8 _ _ _ _).trans (funext fun y => ?_)
    rw [pay13_at]
    refine loop_carry Variants.none c none i arg2 harg2 arg3 harg3 arg4 harg4 arg5 harg5 arg6 harg6 arg7 harg7 arg8 harg8 arg9 harg9 _ _ x3 (dhBlk x0 x1) c0 _ (y 1) (harg5.read_unread _) ?_ ?_
    · exact wr _ _ _
    · exact (fun j => (initB arg8 harg8 xs j).trans (hxs j))
  iexists _, _; isplitr; swap; · iexact HS1
  ipureintro; rfl

end Cert.LruBwd
end
-- ==== Proof.LruArr.lean ====
/-
  The gradient of the whole recurrence, column by column, and its blocks. Column `q` of the 4096 rows is taken from the
  last row to the first: `car a d n` is the value carried out of the last `n` rows. A block of 256 rows continues it from
  where the block after it stopped, so the blocks of the launch, taken in the launch's order, compute it.
-/
module

public import proofs.«01_k».proof.Proof.LruBody
public import Idealize.ShloMosaic.Lib.Pipeline.ValueKit

@[expose] public section

set_option maxRecDepth 16384

noncomputable section

namespace Cert.LruBwd

open Cert.KernelIdeal Cert.KernelIdeal.Gen
open Idealize.ShloMosaic Idealize.ShloMosaic.TcCoe Idealize.ShloMosaic.Tactic
open Idealize.SL

variable {F : FTy → Type} [FloatOps F]

/-! ## One column -/

/-- The value carried out of the last `n` of the 4096 rows. -/
def car (a d : ℕ → F .f32) : ℕ → F .f32
  | 0 => Scalar.ofBits .f32 0x00000000#32
  | n + 1 => FloatOps.mulf (a (4095 - n)) (FloatOps.addf (d (4095 - n)) (car a d n))

/-- A block whose rows are rows `256 * (15 - b)` on continues the column's recurrence. -/
theorem carry_eq_car (A D : Vec F S256x512 .f32) (c : Fin 512 → F .f32) (j : Fin 512) (a d : ℕ → F .f32) (b : ℕ) (hb : b < 16)
    (hA : ∀ r, r < 256 → at256 A r j = a (256 * (15 - b) + r)) (hD : ∀ r, r < 256 → at256 D r j = d (256 * (15 - b) + r))
    (hc : c j = car a d (256 * b)) (n : ℕ) (hn : n ≤ 256) : carry A D c n j = car a d (256 * b + n) := by
  induction n with
  | zero => exact hc
  | succ n ih =>
    show FloatOps.mulf (at256 A (255 - n) j) (FloatOps.addf (at256 D (255 - n) j) (carry A D c n j)) = _
    rw [ih (by omega), hA _ (by omega), hD _ (by omega), show 256 * (15 - b) + (255 - n) = 4095 - (256 * b + n) from by omega]
    rfl

/-! ## One element of the gate's derivative -/

/-- The cotangent of `h` at one element. -/
def dhS (dy g : F .f32) : F .f32 := dhBlk (fun _ => dy) (fun _ => g) (ix2 (0 : Fin 256) (0 : Fin 512))

/-- The gradient of the gate at one element. -/
def dgS (dy g h : F .f32) : F .bf16 := dgBlk (fun _ => dy) (fun _ => g) (fun _ => h) (ix2 (0 : Fin 256) (0 : Fin 512))

theorem dhBlk_at (dy g : Vec F S256x512 .f32) (y : S256x512.Idx) : dhBlk dy g y = dhS (dy y) (g y) := by
  unfold dhS dhBlk k0_pay2 k0_pay19 k0_pay17 k0_pay16; pointwise

theorem dgBlk_at (dy g h : Vec F S256x512 .f32) (y : S256x512.Idx) : dgBlk dy g h y = dgS (dy y) (g y) (h y) := by
  unfold dgS dgBlk k0_pay1 k0_pay15 k0_pay21 k0_pay22 k0_pay20 k0_pay18 k0_pay17 k0_pay16; pointwise

/-! ## The arrays -/

variable (m : (ℓ : Loc nD τ sig) → Buf (Elt F) ℓ) (c : Dev nD)

/-- The cotangent of the mixer's output (columns 0 to 1023 are this branch's), the projections (columns 1024 to 2047 are
    the gate), the hidden states and the decays. -/
abbrev DY : Vec F S4096x2048 .f32 := m ((c : Thread nD τ).loc main_arg0)
abbrev PR : Vec F S4096x6144 .f32 := m ((c : Thread nD τ).loc main_arg1)
abbrev HL : Vec F S4096x1024 .f32 := m ((c : Thread nD τ).loc main_arg2)
abbrev AA : Vec F S4096x1024 .f32 := m ((c : Thread nD τ).loc main_arg3)

/-- Row `r` (modulo 4096) of column `q` of the decays, and of the cotangent of `h`. -/
def aCol (A : Vec F S4096x1024 .f32) (q : Fin 1024) (r : ℕ) : F .f32 := A (ix2 ⟨r % 4096, Nat.mod_lt _ (by decide)⟩ q)
def dCol (Y : Vec F S4096x2048 .f32) (P : Vec F S4096x6144 .f32) (q : Fin 1024) (r : ℕ) : F .f32 :=
  dhS (Y (ix2 ⟨r % 4096, Nat.mod_lt _ (by decide)⟩ ⟨q.val, by have := q.isLt; omega⟩))
    (P (ix2 ⟨r % 4096, Nat.mod_lt _ (by decide)⟩ ⟨1024 + q.val, by have := q.isLt; omega⟩))

/-- The gradient of the recurrence's input. -/
def outL (Y : Vec F S4096x2048 .f32) (P : Vec F S4096x6144 .f32) (A : Vec F S4096x1024 .f32) : Vec F S4096x1024 .f32 := fun i =>
  FloatOps.addf (dCol Y P (i 1) (i 0).val) (car (aCol A (i 1)) (dCol Y P (i 1)) (4095 - (i 0).val))

/-- The gradient of the gate. -/
def outG (Y : Vec F S4096x2048 .f32) (P : Vec F S4096x6144 .f32) (H : Vec F S4096x1024 .f32) : Vec F S4096x1024 .bf16 := fun i =>
  dgS (Y (ix2 (i 0) ⟨(i 1).val, by have : (i 1).val < 1024 := (i 1).isLt; omega⟩))
    (P (ix2 (i 0) ⟨1024 + (i 1).val, by have : (i 1).val < 1024 := (i 1).isLt; omega⟩)) (H i)

/-! ## The blocks: point `t` is time block `15 - t % 16` of column block `t / 16` -/

theorem idx0_0 : ∀ t : Fin cfg0.N, win0_0.index t = ![15 - t.val % 16, t.val / 16] := (by decide +kernel : ∀ t : Fin grid0.N, _)
theorem idx0_1 : ∀ t : Fin cfg0.N, win0_1.index t = ![15 - t.val % 16, 2 + t.val / 16] := (by decide +kernel : ∀ t : Fin grid0.N, _)
theorem idx0_2 : ∀ t : Fin cfg0.N, win0_2.index t = ![15 - t.val % 16, t.val / 16] := (by decide +kernel : ∀ t : Fin grid0.N, _)
theorem idx0_3 : ∀ t : Fin cfg0.N, win0_3.index t = ![15 - t.val % 16, t.val / 16] := (by decide +kernel : ∀ t : Fin grid0.N, _)
theorem idx0_4 : ∀ t : Fin cfg0.N, win0_4.index t = ![15 - t.val % 16, t.val / 16] := (by decide +kernel : ∀ t : Fin grid0.N, _)
theorem idx0_5 : ∀ t : Fin cfg0.N, win0_5.index t = ![15 - t.val % 16, t.val / 16] := (by decide +kernel : ∀ t : Fin grid0.N, _)

theorem lt32 (t : Fin cfg0.N) : t.val < 32 := lt_of_lt_of_eq t.isLt (show cfg0.N = 32 from N_0)

theorem iblk0_at (t : Fin cfg0.N) (r : Fin 256) (j : Fin 512) : iblk m c 0 t (ix2 r j)
    = DY m c (ix2 ⟨256 * (15 - t.val % 16) + r.val, by omega⟩ ⟨512 * (t.val / 16) + j.val, by have := lt32 t; omega⟩) := by
  blk_simp [iblk]
  refine congrArg _ ?_
  blk_ext [idx0_0]

theorem iblk1_at (t : Fin cfg0.N) (r : Fin 256) (j : Fin 512) : iblk m c 1 t (ix2 r j)
    = PR m c (ix2 ⟨256 * (15 - t.val % 16) + r.val, by omega⟩ ⟨1024 + (512 * (t.val / 16) + j.val), by have := lt32 t; omega⟩) := by
  blk_simp [iblk]
  refine congrArg _ ?_
  blk_ext [idx0_1]

theorem iblk2_at (t : Fin cfg0.N) (r : Fin 256) (j : Fin 512) : iblk m c 2 t (ix2 r j)
    = HL m c (ix2 ⟨256 * (15 - t.val % 16) + r.val, by omega⟩ ⟨512 * (t.val / 16) + j.val, by have := lt32 t; omega⟩) := by
  blk_simp [iblk]
  refine congrArg _ ?_
  blk_ext [idx0_2]

theorem iblk3_at (t : Fin cfg0.N) (r : Fin 256) (j : Fin 512) : iblk m c 3 t (ix2 r j)
    = AA m c (ix2 ⟨256 * (15 - t.val % 16) + r.val, by omega⟩ ⟨512 * (t.val / 16) + j.val, by have := lt32 t; omega⟩) := by
  blk_simp [iblk]
  refine congrArg _ ?_
  blk_ext [idx0_3]

/-! ## What a point computes, in the arrays -/

/-- Column `j` of the column block of point `n`. -/
def colq (n : ℕ) (j : Fin 512) : Fin 1024 := ⟨(512 * (n / 16) + j.val) % 1024, Nat.mod_lt _ (by decide)⟩

/-- The carry scratch after point `n`. -/
def scrAt (n : ℕ) : Vec F S8x512 .f32 := fun y =>
  car (aCol (AA m c) (colq n (y 1))) (dCol (DY m c) (PR m c) (colq n (y 1))) (256 * (n % 16 + 1))

/-- Element `y` of the block of point `t`, in the array. -/
def emb (t : Fin cfg0.N) (y : S256x512.Idx) : S4096x1024.Idx :=
  ix2 (⟨256 * (15 - t.val % 16) + (y 0).val, by have : (y 0).val < 256 := (y 0).isLt; omega⟩ : Fin 4096)
    (⟨512 * (t.val / 16) + (y 1).val, by have := lt32 t; have : (y 1).val < 512 := (y 1).isLt; omega⟩ : Fin 1024)

/-- The two output blocks of point `t`. -/
def blkL (t : Fin cfg0.N) : Vec F S256x512 .f32 := fun y => outL (DY m c) (PR m c) (AA m c) (emb t y)
def blkG (t : Fin cfg0.N) : Vec F S256x512 .bf16 := fun y => outG (DY m c) (PR m c) (HL m c) (emb t y)

theorem aBlk_at (t : Fin cfg0.N) (j : Fin 512) (r : ℕ) (hr : r < 256) :
    at256 (iblk m c 3 t) r j = aCol (AA m c) (colq t.val j) (256 * (15 - t.val % 16) + r) := by
  unfold at256 aCol colq
  rw [iblk3_at]
  have := lt32 t
  congr 2 <;> (apply Fin.ext; simp only []; omega)

theorem dBlk_at (t : Fin cfg0.N) (j : Fin 512) (r : ℕ) (hr : r < 256) :
    at256 (dhBlk (iblk m c 0 t) (iblk m c 1 t)) r j = dCol (DY m c) (PR m c) (colq t.val j) (256 * (15 - t.val % 16) + r) := by
  unfold at256 dCol colq
  rw [dhBlk_at, iblk0_at, iblk1_at]
  have := lt32 t
  congr 3 <;> (apply Fin.ext; simp only []; omega)

/-- A point's carry, from the value carried in. -/
theorem carry_at (t : Fin cfg0.N) (c0 : Fin 512 → F .f32)
    (h0 : ∀ j, c0 j = car (aCol (AA m c) (colq t.val j)) (dCol (DY m c) (PR m c) (colq t.val j)) (256 * (t.val % 16)))
    (j : Fin 512) (n : ℕ) (hn : n ≤ 256) : carry (iblk m c 3 t) (dhBlk (iblk m c 0 t) (iblk m c 1 t)) c0 n j
      = car (aCol (AA m c) (colq t.val j)) (dCol (DY m c) (PR m c) (colq t.val j)) (256 * (t.val % 16) + n) :=
  carry_eq_car _ _ _ j _ _ (t.val % 16) (Nat.mod_lt _ (by decide)) (aBlk_at m c t j) (dBlk_at m c t j) (h0 j) n hn

theorem carry8_eq (t : Fin cfg0.N) (c0 : Fin 512 → F .f32)
    (h0 : ∀ j, c0 j = car (aCol (AA m c) (colq t.val j)) (dCol (DY m c) (PR m c) (colq t.val j)) (256 * (t.val % 16))) :
    carry8 (iblk m c 3 t) (dhBlk (iblk m c 0 t) (iblk m c 1 t)) c0 = scrAt m c t.val :=
  funext fun y => carry_at m c t c0 h0 (y 1) 256 le_rfl

theorem lamBlk_eq (t : Fin cfg0.N) (c0 : Fin 512 → F .f32)
    (h0 : ∀ j, c0 j = car (aCol (AA m c) (colq t.val j)) (dCol (DY m c) (PR m c) (colq t.val j)) (256 * (t.val % 16))) :
    lamBlk (iblk m c 3 t) (dhBlk (iblk m c 0 t) (iblk m c 1 t)) c0 = blkL m c t := by
  funext y
  have hy : (y 0).val < 256 := (y 0).isLt
  have hy1 : (y 1).val < 512 := (y 1).isLt
  have ht := lt32 t
  have hq : colq t.val (y 1) = emb t y 1 := Fin.ext (show (512 * (t.val / 16) + (y 1).val) % 1024 = 512 * (t.val / 16) + (y 1).val from
    Nat.mod_eq_of_lt (by omega))
  have hr : (emb t y 0).val = 256 * (15 - t.val % 16) + (y 0).val := rfl
  show lamAt _ _ c0 (255 - (y 0).val) (y 1) = outL (DY m c) (PR m c) (AA m c) (emb t y)
  unfold lamAt outL
  rw [carry_at m c t c0 h0 (y 1) _ (by omega), show 255 - (255 - (y 0).val) = (y 0).val from by omega, dBlk_at m c t (y 1) _ hy, hq, hr,
    show 256 * (t.val % 16) + (255 - (y 0).val) = 4095 - (256 * (15 - t.val % 16) + (y 0).val) from by omega]

theorem dgBlk_eq (t : Fin cfg0.N) : dgBlk (iblk m c 0 t) (iblk m c 1 t) (iblk m c 2 t) = blkG m c t := by
  funext y
  obtain ⟨r, j, rfl⟩ : ∃ (r : Fin 256) (j : Fin 512), y = ix2 r j := ⟨y 0, y 1, by funext a; fin_cases a <;> rfl⟩
  rw [dgBlk_at, iblk0_at, iblk1_at, iblk2_at]
  rfl

/-- The scratch at anything becomes a block's zero carry at the first time block, -/
theorem carryIn_first (t : Fin cfg0.N) (ht : t.val % 16 = 0) (j : Fin 512) : (Scalar.ofBits .f32 0x00000000#32 : F .f32)
    = car (aCol (AA m c) (colq t.val j)) (dCol (DY m c) (PR m c) (colq t.val j)) (256 * (t.val % 16)) := by
  rw [ht]; rfl

/-- and otherwise holds what the point before left. -/
theorem carryIn_next (t : Fin cfg0.N) (ht : ¬ t.val % 16 = 0) (j : Fin 512) : scrAt m c (t.val - 1) (ix2 (0 : Fin 8) j)
    = car (aCol (AA m c) (colq t.val j)) (dCol (DY m c) (PR m c) (colq t.val j)) (256 * (t.val % 16)) := by
  have e : colq (t.val - 1) j = colq t.val j := by
    unfold colq; apply Fin.ext; simp only []; rw [show (t.val - 1) / 16 = t.val / 16 from by omega]
  show car (aCol _ (colq (t.val - 1) j)) (dCol _ _ (colq (t.val - 1) j)) (256 * ((t.val - 1) % 16 + 1)) = _
  rw [e, show (t.val - 1) % 16 + 1 = t.val % 16 from by omega]

end Cert.LruBwd
end
-- ==== Proof.LruRun.lean ====
/-
  The launch of the scan's gradient: at every point the two output blocks are the arrays' closed forms, the carry scratch
  holds each column's recurrence up to there, and after the 32 points the two results are the closed forms whole.
-/
module

public import proofs.«01_k».proof.Proof.LruArr

@[expose] public section

set_option maxRecDepth 16384

noncomputable section

namespace Cert.LruBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first time block of a column block: every sixteenth point. -/
theorem cond0_iff : ∀ t : Fin cfg0.N, cond0 (grid0.coords t) ↔ t.val % 16 = 0 :=
  (by decide +kernel : ∀ t : Fin grid0.N, cond0 (grid0.coords t) ↔ t.val % 16 = 0)

/-- The staging buffers at a point, and the two scratch buffers. -/
abbrev w0 (t : Fin cfg0.N) : Memref sig .tc .vmem S256x512 .f32 := win0_0.stage (cfg0.slots t 0)
abbrev w1 (t : Fin cfg0.N) : Memref sig .tc .vmem S256x512 .f32 := win0_1.stage (cfg0.slots t 1)
abbrev w2 (t : Fin cfg0.N) : Memref sig .tc .vmem S256x512 .f32 := win0_2.stage (cfg0.slots t 2)
abbrev w3 (t : Fin cfg0.N) : Memref sig .tc .vmem S256x512 .f32 := win0_3.stage (cfg0.slots t 3)
abbrev w4 (t : Fin cfg0.N) : Memref sig .tc .vmem S256x512 .f32 := win0_4.stage (cfg0.slots t 4)
abbrev w5 (t : Fin cfg0.N) : Memref sig .tc .vmem S256x512 .bf16 := win0_5.stage (cfg0.slots t 5)
abbrev carryM : Memref sig .tc .vmem S8x512 .f32 := Memref.whole cc0_scratch0
abbrev dhM : Memref sig .tc .vmem S256x512 .f32 := Memref.whole cc0_scratch1

theorem launch_scratch (c : Dev nD) : (Pipeline.ΦA spec0 c : sProp 𝕄)
    = iprop(iprop((∃ d, owns (c : Thread nD τ) carryM fullShare d) ∗ (∃ d, owns (c : Thread nD τ) dhM fullShare d)) ∗ (∃ r, prngReg c r)) := by
  unfold Pipeline.ΦA; rw [scopedRest0_eq]; simp only [carryM, dhM, owns_whole]; rfl

/-- Between points: the carry scratch at the recurrence so far (at anything before the first), the rest at anything. -/
def between (c : Dev nD) : (n : ℕ) → sProp 𝕄
  | 0 => Pipeline.ΦA spec0 c
  | n + 1 => iprop(iprop(owns (c : Thread nD τ) carryM fullShare (scrAt m c n) ∗ (∃ d, owns (c : Thread nD τ) dhM fullShare d)) ∗ (∃ r, prngReg c r))

theorem between_pos (c : Dev nD) (n : ℕ) (hn : n ≠ 0) : between m c n
    = iprop(iprop(owns (c : Thread nD τ) carryM fullShare (scrAt m c (n - 1)) ∗ (∃ d, owns (c : Thread nD τ) dhM fullShare d)) ∗ (∃ r, prngReg c r)) := by
  cases n with
  | zero => exact absurd rfl hn
  | succ n => rfl

/-- The scratch buffers before any point, whatever the carry holds. -/
theorem between_any (c : Dev nD) (n : ℕ) : between m c n ⊢
    iprop(iprop((∃ d, owns (c : Thread nD τ) carryM fullShare d) ∗ (∃ d, owns (c : Thread nD τ) dhM fullShare d)) ∗ (∃ r, prngReg c r)) := by
  by_cases hn : n = 0
  · subst hn
    rw [show between m c 0 = Pipeline.ΦA spec0 c from rfl, launch_scratch]
  · rw [between_pos m c n hn]
    iintro ⟨⟨HS0, HS1⟩, Hg⟩
    isplitl [HS0 HS1]
    · isplitl [HS0]
      · iexists _; iexact HS0
      iexact HS1
    iexact Hg

/-- The launch's data: the inputs' blocks stay, the outputs' are the closed forms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blkL m c t
    | ⟨5, _⟩ => blkG m c t
  Φ t := between m c t.val
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blkL m c t := by dsimp only [dats]
theorem after_5 (c : Dev nD) (t : Fin cfg0.N) : (dats m 0 c).after 5 t = blkG m c t := by dsimp only [dats]

theorem before_0 (c : Dev nD) (t : Fin cfg0.N) (d) : (dats m 0 c).before 0 t d = iblk m c 0 t := before0_0_of m _ (dats_A m c 0) (after_0 m c) t d
theorem before_1 (c : Dev nD) (t : Fin cfg0.N) (d) : (dats m 0 c).before 1 t d = iblk m c 1 t := before0_1_of m _ (dats_A m c 1) (after_1 m c) t d
theorem before_2 (c : Dev nD) (t : Fin cfg0.N) (d) : (dats m 0 c).before 2 t d = iblk m c 2 t := before0_2_of m _ (dats_A m c 2) (after_2 m c) t d
theorem before_3 (c : Dev nD) (t : Fin cfg0.N) (d) : (dats m 0 c).before 3 t d = iblk m c 3 t := before0_3_of m _ (dats_A m c 3) (after_3 m c) t d

/-- What the body is given at a point, and what it leaves. -/
def pre (c : Dev nD) (t : Fin cfg0.N) : sProp 𝕄 :=
  iprop(between m c t.val ∗ (dats m 0 c).owesAt () t.castSucc
    ∗ (∃ d, owns (c : Thread nD τ) (w0 t) fullShare ((dats m 0 c).before 0 t d))
    ∗ (∃ d, owns (c : Thread nD τ) (w1 t) fullShare ((dats m 0 c).before 1 t d))
    ∗ (∃ d, owns (c : Thread nD τ) (w2 t) fullShare ((dats m 0 c).before 2 t d))
    ∗ (∃ d, owns (c : Thread nD τ) (w3 t) fullShare ((dats m 0 c).before 3 t d))
    ∗ (∃ d, owns (c : Thread nD τ) (w4 t) fullShare ((dats m 0 c).before 4 t d))
    ∗ (∃ d, owns (c : Thread nD τ) (w5 t) fullShare ((dats m 0 c).before 5 t d)))

def post (c : Dev nD) (t : Fin cfg0.N) : sProp 𝕄 :=
  iprop(between m c (t.val + 1) ∗ (dats m 0 c).owesAt () t.castSucc
    ∗ owns (c : Thread nD τ) (w0 t) fullShare (iblk m c 0 t)
    ∗ owns (c : Thread nD τ) (w1 t) fullShare (iblk m c 1 t)
    ∗ owns (c : Thread nD τ) (w2 t) fullShare (iblk m c 2 t)
    ∗ owns (c : Thread nD τ) (w3 t) fullShare (iblk m c 3 t)
    ∗ owns (c : Thread nD τ) (w4 t) fullShare (blkL m c t)
    ∗ owns (c : Thread nD τ) (w5 t) fullShare (blkG m c t))

set_option maxHeartbeats 1600000 in
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show between m c (t.val + 1) = iprop(iprop(owns (c : Thread nD τ) carryM fullShare (scrAt m c t.val) ∗ (∃ d, owns (c : Thread nD τ) dhM fullShare d)) ∗ (∃ r, prngReg c r)) from rfl]
  by_cases h0 : t.val % 16 = 0
  · refine (sep_mono_left (between_any m c t.val)).trans ?_
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (bodyA c (grid0.coords t) _ _ _ _ _ _ _ _ _ _ _ _ _ (Memref.isWhole_whole _) _ (Memref.isWhole_whole _) ((cond0_iff t).mpr h0) (iblk m c 0 t) (iblk m c 1 t) (iblk m c 2 t) (iblk m c 3 t) Set.univ _)
    rw [carry8_eq m c t _ (carryIn_first m c t h0), lamBlk_eq m c t _ (carryIn_first m c t h0), dgBlk_eq m c t]
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [between_pos m c t.val (fun h => h0 (by rw [h]))]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (bodyB c (grid0.coords t) _ _ _ _ _ _ _ _ _ _ _ _ _ (Memref.isWhole_whole _) _ (Memref.isWhole_whole _) (fun h => h0 ((cond0_iff t).mp h)) (iblk m c 0 t) (iblk m c 1 t) (iblk m c 2 t) (iblk m c 3 t) (scrAt m c (t.val - 1)) _ (fun _ => rfl) Set.univ _)
    rw [carry8_eq m c t _ (carryIn_next m c t h0), lamBlk_eq m c t _ (carryIn_next m c t h0), dgBlk_eq m c t]
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  refine triple_restated (body_at m c t) rfl .rfl fun _ => ?_
  unfold post
  rw [show (dats m 0 c).owesAt () t.succ = (dats m 0 c).owesAt () t.castSucc from rfl, after_0, after_1, after_2, after_3, after_4, after_5]
  exact .rfl

theorem leave (c : Dev nD) : (dats m 0 c).Φ (Fin.last cfg0.N) ⊢ Pipeline.ΦA spec0 c := by
  rw [launch_scratch]
  exact between_any m c cfg0.N

set_option backward.isDefEq.respectTransparency.types false in
/-- The launch, for any values, from any memory: it ends, the counters back at zero, the arrays as the data say. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := fun _ => .rfl) (hout := leave m)

/-! ## The two results, whole -/

theorem arr_L (c : Dev nD) : (dats m 0 c).arrAt 4 cfg0.N = outL (DY m c) (PR m c) (AA m c) := by
  refine (dats m 0 c).arrAt_eq_of_covers 4 _ (by decide +kernel) fun t _ y => ?_
  blk_simp
  rw [after_4]
  unfold blkL
  refine congrArg _ ?_
  blk_ext [idx0_4, emb]

theorem arr_G (c : Dev nD) : (dats m 0 c).arrAt 5 cfg0.N = outG (DY m c) (PR m c) (HL m c) := by
  refine (dats m 0 c).arrAt_eq_of_covers 5 _ (by decide +kernel) fun t _ y => ?_
  blk_simp
  rw [after_5]
  unfold blkG
  refine congrArg _ ?_
  blk_ext [idx0_5, emb]

/-- The run, in the words of a claim: the results are the closed forms, the arguments stay, the counters are zero. -/
theorem run_values : θ_run defs (onTc (τ := τ) (main (F := F))) ⟨m, fun _ => 0, ρ⟩ (fun r => (∀ c : Dev nD,
      r.2.mem ((c.tc : Thread nD τ).loc main_v0_0) = outL (DY m c) (PR m c) (AA m c)
      ∧ r.2.mem ((c.tc : Thread nD τ).loc main_v0_1) = outG (DY m c) (PR m c) (HL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
      have i0 := ((h.1 c).1 0).trans (((dats m 0 c).arrAt_in 0 rfl _).trans (dats_A m c 0))
      have i1 := ((h.1 c).1 1).trans (((dats m 0 c).arrAt_in 1 rfl _).trans (dats_A m c 1))
      have i2 := ((h.1 c).1 2).trans (((dats m 0 c).arrAt_in 2 rfl _).trans (dats_A m c 2))
      have i3 := ((h.1 c).1 3).trans (((dats m 0 c).arrAt_in 3 rfl _).trans (dats_A m c 3))
      exact ⟨((h.1 c).1 4).trans (arr_L m c), ((h.1 c).1 5).trans (arr_G m c), i0, i1, i2, i3⟩, h.2⟩) (run m ρ)

end Cert.LruBwd
end
-- ==== Proof.LruRef.lean ====
/-
  The reference's two results are the arrays the kernel leaves: its loop walks the rows from the last to the first,
  carrying the same value (`car`), and its derivative of the gelu is the same polynomial and hyperbolic tangent.
-/
module

public import proofs.«01_k».proof.Proof.LruRun
public import proofs.«01_k».proof.Proof.Gen.ReferenceIdeal.Run
public import Idealize.ShloMosaic.Lib.DynamicIndex
public import Idealize.ShloMosaic.Lib.WordCmp
public import Idealize.ShloMosaic.Lib.Quiescent

@[expose] public section

set_option maxRecDepth 16384

noncomputable section

namespace Cert.LruBwd.Ref

open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem

/-! ## The elementwise parts -/

/-- The cotangent of `h`, as the reference writes it. -/
def dhHost {F : FTy → Type} [FloatOps F] (Y : Vec F S4096x2048 .f32) (P : Vec F S4096x6144 .f32) : FVec F S4096x1024 .f32 :=
  have g : FVec F S4096x1024 .f32 := extractStridedSlice S4096x1024 ![0, 1024] P slices_S4096x6144_S4096x1024_0_1024
  mulf (extractStridedSlice S4096x1024 ![0, 0] Y slices_S4096x2048_S4096x1024_0_0)
    (mulf g (mulf (broadcastInDim S4096x1024 ![] bcast_S_S4096x1024 (constant S_ .f32 0x3F000000#32))
      (addf (broadcastInDim S4096x1024 ![] bcast_S_S4096x1024 (constant S_ .f32 0x3F800000#32))
        (Host.tanh (mulf (broadcastInDim S4096x1024 ![] bcast_S_S4096x1024 (constant S_ .f32 0x3F4C422A#32))
          (addf g (mulf (broadcastInDim S4096x1024 ![] bcast_S_S4096x1024 (constant S_ .f32 0x3D372713#32)) (mulf (mulf g g) g))))))))

theorem dh_at (Y : Vec Ideal S4096x2048 .f32) (P : Vec Ideal S4096x6144 .f32) (r : Fin 4096) (q : Fin 1024) :
    dhHost (F := Ideal) Y P (ix2 r q) = dhS (F := Ideal) (Y (ix2 r ⟨q.val, by omega⟩)) (P (ix2 r ⟨1024 + q.val, by omega⟩)) := by
  unfold dhS dhBlk Cert.KernelIdeal.Gen.k0_pay2 Cert.KernelIdeal.Gen.k0_pay19 Cert.KernelIdeal.Gen.k0_pay17 Cert.KernelIdeal.Gen.k0_pay16
  unfold dhHost
  pointwise!

theorem dg_at (V : Valuation τ sig (Elt Ideal)) (Y : Vec Ideal S4096x2048 .f32) (P : Vec Ideal S4096x6144 .f32) (H : Vec Ideal S4096x1024 .f32)
    (hY : V (Proc.devRef .tc main_arg0) = Y) (hP : V (Proc.devRef .tc main_arg1) = P) (hH : V (Proc.devRef .tc main_arg2) = H) (r : Fin 4096) (q : Fin 1024) :
    out_main_v60 V (ix2 r q) = dgS (F := Ideal) (Y (ix2 r ⟨q.val, by omega⟩)) (P (ix2 r ⟨1024 + q.val, by omega⟩)) (H (ix2 r q)) := by
  unfold dgS dgBlk Cert.KernelIdeal.Gen.k0_pay1 Cert.KernelIdeal.Gen.k0_pay15 Cert.KernelIdeal.Gen.k0_pay21 Cert.KernelIdeal.Gen.k0_pay22 Cert.KernelIdeal.Gen.k0_pay20 Cert.KernelIdeal.Gen.k0_pay18 Cert.KernelIdeal.Gen.k0_pay17 Cert.KernelIdeal.Gen.k0_pay16
  unfold out_main_v60
  rw [hY, hP, hH]
  pointwise
  rw [dif_pos (by
    intro k
    fin_cases k
    · exact ⟨Nat.zero_le _, Nat.mod_one _, by show (r.val - 0) / (0 + 1) < 4096; omega⟩
    · exact ⟨by show 1024 ≤ 1024 + q.val; omega, Nat.mod_one _, by show (1024 + q.val - 1024) / (0 + 1) < 1024; omega⟩)]
  simp only [mul_assoc]

/-! ## The loop -/

section Loop

variable (Y : Vec Ideal S4096x2048 .f32) (P : Vec Ideal S4096x6144 .f32) (A : Vec Ideal S4096x1024 .f32)

/-- After `n` trips: the carried value is that of the last `n` rows, and those rows of the result are written. -/
structure Inv (V : Valuation τ sig (Elt Ideal)) (n : ℕ) : Prop where
  u : V (Proc.devRef .tc main_v20_0) = dhHost (F := Ideal) Y P
  a : V (Proc.devRef .tc main_v20_1) = A
  j : V (Proc.devRef .tc main_v20_2) = constantI S_ 32 (BitVec.ofNat 32 n)
  c : ∀ q : Fin 1024, V (Proc.devRef .tc main_v20_3) (ix1 q) = car (F := Ideal) (aCol (F := Ideal) A q) (dCol (F := Ideal) Y P q) n
  o : ∀ (r : Fin 4096) (q : Fin 1024), 4096 - n ≤ r.val → V (Proc.devRef .tc main_v20_4) (ix2 r q) = outL (F := Ideal) Y P A (ix2 r q)

variable {Y P A} {V : Valuation τ sig (Elt Ideal)} {n : ℕ}

theorem row_word : ∀ n : ℕ, n < 4096 → (4096#32 - BitVec.ofNat 32 n - 1#32).toInt = ((4095 - n : ℕ) : ℤ) := by
  intro n hn
  have h : 4096#32 - BitVec.ofNat 32 n - 1#32 = BitVec.ofNat 32 (4095 - n) := by
    apply BitVec.eq_of_toNat_eq
    simp [BitVec.toNat_sub, BitVec.toNat_ofNat]
    omega
  rw [h, BitVec.toInt_eq_toNat_cond, BitVec.toNat_ofNat]
  omega

theorem row_start (h : Inv Y P A V n) (hn : n < 4096) (a : Fin 2) :
    (((![res_main_while0b_v62 V, constantI S_ 32 0#32] : Fin 2 → (⟨S_, .i32⟩ : BufTy).Contents (Elt Ideal))) a (Shape.Idx.first h_S_)).toInt
      = ((![4095 - n, 0] : Fin 2 → ℕ) a : ℤ) := by
  fin_cases a
  · show (res_main_while0b_v62 V (Shape.Idx.first h_S_)).toInt = _
    unfold res_main_while0b_v62
    rw [h.j]
    exact row_word n hn
  · rfl

theorem slices_row (hn : n < 4096) : S4096x1024.Slices ![4095 - n, 0] S1x1024 := by
  refine ⟨rfl, fun a => ?_⟩
  fin_cases a
  · show 4095 - n + 1 ≤ 4096; omega
  · show 0 + 1024 ≤ 1024; omega

/-- The trip reads row `4095 - n`. -/
theorem row_at (h : Inv Y P A V n) (hn : n < 4096) (X : Vec Ideal S4096x1024 .f32) (q : Fin 1024) :
    shapeCast S1024 (Host.dynamicSlice S1x1024 X (fun k => (((![res_main_while0b_v62 V, constantI S_ 32 0#32] : Fin 2 → (⟨S_, .i32⟩ : BufTy).Contents (Elt Ideal))) k (Shape.Idx.first h_S_)).toInt) sliceFits_S4096x1024_S1x1024) shapeCasts_S1x1024_S1024 (ix1 q)
      = X (ix2 ⟨4095 - n, by omega⟩ q) := by
  rw [Host.dynamicSlice_eq_extractStridedSlice S1x1024 X _ ![4095 - n, 0] _ (slices_row hn) (row_start h hn)]
  pointwise

theorem outL_row (Y : Vec Ideal S4096x2048 .f32) (P : Vec Ideal S4096x6144 .f32) (A : Vec Ideal S4096x1024 .f32) (n : ℕ) (hn : n < 4096) (q : Fin 1024) :
    outL (F := Ideal) Y P A (ix2 ⟨4095 - n, by omega⟩ q)
      = FloatOps.addf (F := Ideal) (φ := .f32) (dCol (F := Ideal) Y P q (4095 - n)) (car (F := Ideal) (aCol (F := Ideal) A q) (dCol (F := Ideal) Y P q) n) := by
  show FloatOps.addf (F := Ideal) (φ := .f32) (dCol (F := Ideal) Y P q (4095 - n)) (car (F := Ideal) (aCol (F := Ideal) A q) (dCol (F := Ideal) Y P q) (4095 - (4095 - n))) = _
  rw [show 4095 - (4095 - n) = n from by omega]

/-- The gradient of row `4095 - n`, before the decay. -/
theorem lam_at (h : Inv Y P A V n) (hn : n < 4096) (q : Fin 1024) :
    res_main_while0b_v65 V (ix1 q) = outL (F := Ideal) Y P A (ix2 ⟨4095 - n, by omega⟩ q) := by
  unfold res_main_while0b_v65
  refine (congrArg₂ (FloatOps.addf (F := Ideal) (φ := .f32)) (h.c q) ((row_at h hn _ q).trans ((congrFun h.u _).trans (dh_at Y P _ _)))).trans ?_
  have e : (⟨(4095 - n) % 4096, Nat.mod_lt _ (by decide)⟩ : Fin 4096) = ⟨4095 - n, by omega⟩ := Fin.ext (Nat.mod_eq_of_lt (by omega))
  rw [outL_row Y P A n hn q, ← e]
  exact add_comm (G := EReal) _ _

/-- The trip writes row `4095 - n`. -/
theorem upd_row (h : Inv Y P A V n) (hn : n < 4096) (X : Vec Ideal S4096x1024 .f32) (b : Vec Ideal S1024 .f32) (r : Fin 4096) (q : Fin 1024) :
    Host.dynamicUpdateSlice X (broadcastInDim S1x1024 ![1] bcast_S1024_S1x1024_1 b) (fun k => (((![res_main_while0b_v62 V, constantI S_ 32 0#32] : Fin 2 → (⟨S_, .i32⟩ : BufTy).Contents (Elt Ideal))) k (Shape.Idx.first h_S_)).toInt) updateFits_S4096x1024_S1x1024 (ix2 r q)
      = if r.val = 4095 - n then b (ix1 q) else X (ix2 r q) := by
  rw [WordCmp.dynamicUpdateSlice_eq_update X _ _ _ ![4095 - n, 0] (slices_row hn) (row_start h hn)]
  unfold updateSlice
  split
  · next hin =>
    have h0 : 4095 - n ≤ r.val ∧ r.val < 4095 - n + 1 := hin 0
    rw [if_pos (by omega)]
    pointwise
  · next hout =>
    rw [if_neg]
    intro e
    refine hout fun a => ?_
    fin_cases a
    · exact ⟨by show 4095 - n ≤ r.val; omega, by show r.val < 4095 - n + 1; omega⟩
    · exact ⟨Nat.zero_le _, by show q.val < 0 + 1024; omega⟩

theorem step_rows (V : Valuation τ sig (Elt Ideal)) : step_main_v20_4 V
    = Host.dynamicUpdateSlice (V (Proc.devRef .tc main_v20_4)) (broadcastInDim S1x1024 ![1] bcast_S1024_S1x1024_1 (res_main_while0b_v65 V)) (fun k => (((![res_main_while0b_v62 V, constantI S_ 32 0#32] : Fin 2 → (⟨S_, .i32⟩ : BufTy).Contents (Elt Ideal))) k (Shape.Idx.first h_S_)).toInt) updateFits_S4096x1024_S1x1024 := by
  delta step_main_v20_4
  exact id_eq _

theorem inv_step (h : Inv Y P A V n) (hn : n < 4096) : Inv Y P A (STEP V) (n + 1) where
  u := (STEP_main_v20_0 V).trans h.u
  a := (STEP_main_v20_1 V).trans h.a
  j := by
    rw [STEP_main_v20_2]
    unfold step_main_v20_2
    rw [h.j]
    funext i
    show BitVec.ofNat 32 n + 1#32 = BitVec.ofNat 32 (n + 1)
    simp only [BitVec.ofNat_add]
  c q := by
    rw [STEP_main_v20_3]
    unfold step_main_v20_3
    refine (congrArg₂ (FloatOps.mulf (F := Ideal) (φ := .f32)) ((row_at h hn _ q).trans (congrFun h.a _)) (lam_at h hn q)).trans ?_
    have e : (⟨(4095 - n) % 4096, Nat.mod_lt _ (by decide)⟩ : Fin 4096) = ⟨4095 - n, by omega⟩ := Fin.ext (Nat.mod_eq_of_lt (by omega))
    rw [outL_row Y P A n hn q, ← e]
    rfl
  o r q hr := by
    refine (congrFun ((STEP_main_v20_4 V).trans (step_rows V)) (ix2 r q)).trans ((upd_row h hn (V (Proc.devRef .tc main_v20_4)) (res_main_while0b_v65 V) r q).trans ?_)
    by_cases e : r.val = 4095 - n
    · have e' : r = ⟨4095 - n, by omega⟩ := Fin.ext e
      rw [if_pos e, e']
      exact lam_at h hn q
    · rw [if_neg e]
      exact h.o r q (by omega)

theorem inv_iter (V : Valuation τ sig (Elt Ideal)) (h : Inv Y P A V 0) : ∀ n, n ≤ 4096 → Inv Y P A (STEP^[n] V) n
  | 0, _ => h
  | n + 1, hn => by
    rw [Function.iterate_succ_apply']
    exact inv_step (inv_iter V h n (by omega)) (by omega)

end Loop

/-! ## The run -/

variable (m : (ℓ : Loc nD τ sig) → Buf (Elt Ideal) ℓ) (c : Dev nD)

abbrev Y0 : Vec Ideal S4096x2048 .f32 := m ((c.tc : Thread nD τ).loc main_arg0)
abbrev P0 : Vec Ideal S4096x6144 .f32 := m ((c.tc : Thread nD τ).loc main_arg1)
abbrev H0 : Vec Ideal S4096x1024 .f32 := m ((c.tc : Thread nD τ).loc main_arg2)
abbrev A0 : Vec Ideal S4096x1024 .f32 := m ((c.tc : Thread nD τ).loc main_arg3)

set_option maxRecDepth 65536 in
theorem entry : Inv (Y0 m c) (P0 m c) (A0 m c) (entryContents preI m c) 0 where
  u := by simp only [entryContents, afterL_cons, afterL_nil]; after_reads_simp; rfl
  a := by simp only [entryContents, afterL_cons, afterL_nil]; after_reads_simp; rfl
  j := by simp only [entryContents, afterL_cons, afterL_nil]; after_reads_simp; rfl
  c q := by simp only [entryContents, afterL_cons, afterL_nil]; after_reads_simp; rfl
  o r q hr := absurd r.isLt (by omega)

theorem values (ρ : Dev nD → PrngReg) :
    θ_run (defs (F := Ideal)) (onTc (τ := τ) (main (F := Ideal))) ⟨m, fun _ => 0, ρ⟩ fun r => ∀ c : Dev nD,
      r.2.mem ((c.tc : Thread nD τ).loc main_v20_4) = outL (F := Ideal) (Y0 m c) (P0 m c) (A0 m c)
      ∧ r.2.mem ((c.tc : Thread nD τ).loc main_v60) = outG (F := Ideal) (Y0 m c) (P0 m c) (H0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (Cert.ReferenceIdeal.Value.run (F := Ideal) m ρ)
  refine ⟨(h c).1.trans ?_, (h c).2.1.trans ?_, (h c).2.2⟩
  · funext i
    rw [← ix2_eta i]
    exact (inv_iter _ (entry m c) 4096 le_rfl).o _ _ (by omega)
  · funext i
    rw [← ix2_eta i]
    exact dg_at _ _ _ _ (iter_main_arg0 m c 4096) (iter_main_arg1 m c 4096) (iter_main_arg2 m c 4096) _ _

end Cert.LruBwd.Ref

end
-- ==== Proof.LruClaims.lean ====
/- The claims about the gradient of the linear recurrence: the frames and the equality of the two results. -/
module

public import proofs.«01_k».proof.Defs
public import proofs.«01_k».proof.Proof.Gen.Kernel
public import proofs.«01_k».proof.Proof.LruRef

@[expose] public section

set_option maxRecDepth 65536

noncomputable section

namespace Cert.LruBwd

open Idealize.ShloMosaic Idealize.ShloMosaic.TcCoe Idealize.SL.Sem

/-- The run, its two results left out. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2.2, h.2⟩) (run_values (F := F) m ρ)

/-- The idealization rewrote nothing: the two programs call one body. -/
theorem defs₀_eq {F : FTy → Type} [FloatOps F] : Cert.Kernel.defs₀ (F := F) = Cert.KernelIdeal.defs₀ (F := F) := by
  unfold Cert.Kernel.defs₀ Cert.KernelIdeal.defs₀
  refine congrArg _ ?_
  funext l a
  match l, a with
  | 0, (t, s) => rfl

theorem defs_eq {F : FTy → Type} [FloatOps F] : Cert.Kernel.defs (F := F) = Cert.KernelIdeal.defs (F := F) :=
  congrArg (Pipeline.defs (Cert.KernelIdeal.pcfgs (F := F))) defs₀_eq

/-- The kernel's frame at the floats themselves. -/
theorem frame_kernel : Cert.quiescent_Kernel := by
  intro m ρ _
  rw [defs_eq]
  exact frame (F := Bits) m ρ

/-- The idealized kernel's frame: the run, its two results left out. -/
theorem frame_ideal : Cert.quiescent_KernelIdeal := fun m ρ _ => frame (F := Ideal) m ρ

/-- The reference's frame; it declares no semaphore. -/
theorem frame_ref : Cert.quiescent_ReferenceIdeal := fun m ρ _ =>
  (θ_run Cert.ReferenceIdeal.defs _ _).mono (fun r h => ⟨fun c => (h c).2.2, sem_eq_zero_of_no_sems (by decide) r.2⟩)
    (Ref.values m ρ)

/-- Both programs leave `outL` and `outG` of the arguments. -/
theorem algebraic : Cert.algebraic_KernelIdeal_ReferenceIdeal := by
  intro m ρ m' ρ' _ hargs
  refine ⟨fun c => outL (F := Ideal) (DY m c) (PR m c) (AA m c), fun c => outG (F := Ideal) (DY m c) (PR m c) (HL m c),
    (θ_run _ _ _).mono (fun _ h => h.1) (run_values (F := Ideal) m ρ),
    (θ_run _ _ _).mono (fun _ h c => ?_) (Ref.values m' ρ')⟩
  obtain ⟨e0, e1, e2, e3⟩ := hargs c
  refine ⟨(h c).1.trans ?_, (h c).2.1.trans ?_, (h c).2.2⟩
  · exact congr (congr (congrArg _ e0) e1) e3
  · exact congr (congr (congrArg _ e0) e1) e2

end Cert.LruBwd

end
-- ==== Proof.DwIn.lean ====
/- Program 2: the gradient of the feed-forward network's gate and up weights, as one grid of block products.

   The grid has 2 rows of blocks by 4 columns of blocks by 4 steps along the shared index.
   The carried block starts at zero, every step adds one partial product of length 1024, and the last
   step writes the block out.  So a written block is the full product over 4096 indices in 4 pieces.  -/
module

public import proofs.«01_k».proof.Defs
public import proofs.«01_k».proof.Proof.Gen.Kernel2.Frame
public import proofs.«01_k».proof.Proof.Gen.Kernel2Ideal.Frame
public import proofs.«01_k».proof.Proof.Gen.Reference2Ideal.Read
public import Idealize.ShloMosaic.Lib.Pipeline.ValueKit
public import Idealize.ShloMosaic.Lib.Claim

@[expose] public section

set_option maxRecDepth 16384

noncomputable section

namespace Cert.DwIn

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val % 4, t.val / 16]
    ∧ win0_1.index t = ![t.val % 4, t.val / 4 % 4]
    ∧ win0_2.index t = ![t.val / 16, t.val / 4 % 4] :=
  (by decide +kernel : ∀ t : Fin grid0.N, _)

/-- One step adds the product of the two blocks it reads. -/
theorem step_at (a : FVec Ideal S1024x1024 .bf16) (b : FVec Ideal S1024x1408 .bf16)
    (acc : FVec Ideal S1024x1408 .f32) (j : S1024x1408.Idx) :
    k0_pay2 a b acc j = acc j + ∑ k : Fin 1024, a (ix2 k (j 0)) * b (ix2 k (j 1)) := by
  pointwise [k0_pay2]

/-- The carried block starts at zero. -/
theorem zero_at (j : S1024x1408.Idx) : k0_pay1 (F := Ideal) j = 0 := by
  pointwise [k0_pay1]

/-- The write changes the float format, which keeps the value. -/
theorem write_at (v : FVec Ideal S1024x1408 .f32) (j : S1024x1408.Idx) : (k0_pay3 (F := Ideal) v j : EReal) = v j := by
  pointwise [k0_pay3]

/-- The left block read at a grid point. -/
def blkA (t : Fin cfg0.N) : FVec Ideal S1024x1024 .bf16 := iblk m c 0 t

/-- The right block read at a grid point. -/
def blkB (t : Fin cfg0.N) : FVec Ideal S1024x1408 .bf16 := iblk m c 1 t

/-- What the reference computes of the arguments in memory. -/
def result : FVec Ideal S2048x5632 .bf16 :=
  Cert.Reference2Ideal.Read.val_main_v4 (F := Ideal) (m ((c : Thread nD τ).loc main_arg0)) (m ((c : Thread nD τ).loc main_arg1))

/-- At the last step of a run the carried block is the start plus every partial product of the run. -/
theorem acc_at (t : Fin cfg0.N) (hr : t.val % 4 = 4 - 1) (j : S1024x1408.Idx) : (outsAt0 m c t.val t.isLt).2 j
    = (k0_pay1 (F := Ideal)) j + ∑ s : Fin 4, ∑ k : Fin 1024, blkA m c ⟨4 * (t.val / 4) + s.val, Pipeline.run_point_lt_of_flush t hr s⟩ (ix2 k (j 0)) * blkB m c ⟨4 * (t.val / 4) + s.val, Pipeline.run_point_lt_of_flush t hr s⟩ (ix2 k (j 1)) :=
  Pipeline.eq_sum_fin_of_reset_step_apply_of_flush (fun n h => (outsAt0 m c n h).2) 4 (k0_pay1 (F := Ideal))
    (fun t j => ∑ k : Fin 1024, blkA m c t (ix2 k (j 0)) * blkB m c t (ix2 k (j 1)))
    (fun t h j => by
      rw [outsAt0_A m c t h (by omega)]
      frame_out
      rw [step_at]
      rfl)
    (fun t h j => by
      by_cases h1 : t.val % 4 = 3
      · rw [outsAt0_C m c t h h1]
        frame_out
        rw [(Memref.isWhole_whole _).read_unread, step_at]
        rfl
      · rw [outsAt0_B m c t h h1]
        frame_out
        rw [(Memref.isWhole_whole _).read_unread, step_at]
        rfl)
    t hr j

/-- The array the launch writes is the reference's. -/
theorem final : (dats m 0 c).arrAt 2 cfg0.N = result m c := by
  refine (dats m 0 c).arrAt_eq_of_covers 2 _ (by decide +kernel) fun t hf y => ?_
  have hr : t.val % 4 = 4 - 1 := (flush0_2 t).mp hf
  blk_simp
  have e := acc_at m c t hr y
  rw [outsAt0_C m c t (by omega) hr] at e
  rw [after0_2, outsAt0_C m c t (by omega) hr]
  frame_out at e
  frame_out
  rw [write_at, e, zero_at, zero_add]
  unfold blkA blkB result
  pointwise [Cert.Reference2Ideal.Read.val_main_v4, Cert.Reference2Ideal.Read.val_main_v3, Cert.Reference2Ideal.Read.val_main_v2, Cert.Reference2Ideal.Read.val_main_v1, Cert.Reference2Ideal.Read.val_main_v0]
  refine Fin.sum_mul_add_congr fun s k hl => ?_
  refine (mul_comm (G := EReal) _ _).trans ?_
  blk_point [iblk, V, idx ⟨_, Pipeline.run_point_lt_of_flush t hr s⟩, idx t]

/-- The kernel's ideal result is the reference's, for every input. -/
theorem algebraic : Cert.algebraic_Kernel2Ideal_Reference2Ideal := by
  pair_intro
  · run_from Cert.Kernel2Ideal.Gen.run_main m g
  · hlo_run
    exact (final m c).symm

/-- The kernel changes nothing but its result, over the machine's own floats. -/
theorem frame_kernel : Cert.quiescent_Kernel2 :=
  fun m ρ _ => Cert.Kernel2.Gen.frame m ρ

/-- The same over the extended reals. -/
theorem frame_ideal : Cert.quiescent_Kernel2Ideal :=
  fun m ρ _ => Cert.Kernel2Ideal.Gen.frame m ρ

/-- The reference changes nothing but its result. -/
theorem frame_ref : Cert.quiescent_Reference2Ideal := by
  intro m ρ _
  hlo_run
  · exact fun c => by simp
  · exact sem_eq_zero_of_no_sems (by decide) _

end Cert.DwIn

end
-- ==== Proof.DwDown.lean ====
/- Program 3: the gradient of the feed-forward network's down weight, as one grid of block products.

   The grid has 4 rows of blocks by 2 columns of blocks by 4 steps along the shared index.
   The carried block starts at zero, every step adds one partial product of length 1024, and the last
   step writes the block out.  So a written block is the full product over 4096 indices in 4 pieces.  -/
module

public import proofs.«01_k».proof.Defs
public import proofs.«01_k».proof.Proof.Gen.Kernel3.Frame
public import proofs.«01_k».proof.Proof.Gen.Kernel3Ideal.Frame
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.DwDown

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- One step adds the product of the two blocks it reads. -/
theorem step_at (a : FVec Ideal S1024x1408 .bf16) (b : FVec Ideal S1024x1024 .bf16)
    (acc : FVec Ideal S1408x1024 .f32) (j : S1408x1024.Idx) :
    k0_pay2 a b acc j = acc j + ∑ k : Fin 1024, a (ix2 k (j 0)) * b (ix2 k (j 1)) := by
  pointwise [k0_pay2]

/-- The carried block starts at zero. -/
theorem zero_at (j : S1408x1024.Idx) : k0_pay1 (F := Ideal) j = 0 := by
  pointwise [k0_pay1]

/-- The write changes the float format, which keeps the value. -/
theorem write_at (v : FVec Ideal S1408x1024 .f32) (j : S1408x1024.Idx) : (k0_pay3 (F := Ideal) v j : EReal) = v j := by
  pointwise [k0_pay3]

/-- The left block read at a grid point. -/
def blkA (t : Fin cfg0.N) : FVec Ideal S1024x1408 .bf16 := iblk m c 0 t

/-- The right block read at a grid point. -/
def blkB (t : Fin cfg0.N) : FVec Ideal S1024x1024 .bf16 := iblk m c 1 t

/-- What the reference computes of the arguments in memory. -/
def result : FVec Ideal S5632x2048 .bf16 :=
  Cert.Reference3Ideal.Read.val_main_v4 (F := Ideal) (m ((c : Thread nD τ).loc main_arg0)) (m ((c : Thread nD τ).loc main_arg1))

/-- At the last step of a run the carried block is the start plus every partial product of the run. -/
theorem acc_at (t : Fin cfg0.N) (hr : t.val % 4 = 4 - 1) (j : S1408x1024.Idx) : (outsAt0 m c t.val t.isLt).2 j
    = (k0_pay1 (F := Ideal)) j + ∑ s : Fin 4, ∑ k : Fin 1024, blkA m c ⟨4 * (t.val / 4) + s.val, Pipeline.run_point_lt_of_flush t hr s⟩ (ix2 k (j 0)) * blkB m c ⟨4 * (t.val / 4) + s.val, Pipeline.run_point_lt_of_flush t hr s⟩ (ix2 k (j 1)) :=
  Pipeline.eq_sum_fin_of_reset_step_apply_of_flush (fun n h => (outsAt0 m c n h).2) 4 (k0_pay1 (F := Ideal))
    (fun t j => ∑ k : Fin 1024, blkA m c t (ix2 k (j 0)) * blkB m c t (ix2 k (j 1)))
    (fun t h j => by
      rw [outsAt0_A m c t h (by omega)]
      frame_out
      rw [step_at]
      rfl)
    (fun t h j => by
      by_cases h1 : t.val % 4 = 3
      · rw [outsAt0_C m c t h h1]
        frame_out
        rw [(Memref.isWhole_whole _).read_unread, step_at]
        rfl
      · rw [outsAt0_B m c t h h1]
        frame_out
        rw [(Memref.isWhole_whole _).read_unread, step_at]
        rfl)
    t hr j

/-- The array the launch writes is the reference's. -/
theorem final : (dats m 0 c).arrAt 2 cfg0.N = result m c := by
  refine (dats m 0 c).arrAt_eq_of_covers 2 _ (by decide +kernel) fun t hf y => ?_
  have hr : t.val % 4 = 4 - 1 := (flush0_2 t).mp hf
  blk_simp
  have e := acc_at m c t hr y
  rw [outsAt0_C m c t (by omega) hr] at e
  rw [after0_2, outsAt0_C m c t (by omega) hr]
  frame_out at e
  frame_out
  rw [write_at, e, zero_at, zero_add]
  unfold blkA blkB result
  pointwise [Cert.Reference3Ideal.Read.val_main_v4, Cert.Reference3Ideal.Read.val_main_v3, Cert.Reference3Ideal.Read.val_main_v2, Cert.Reference3Ideal.Read.val_main_v1, Cert.Reference3Ideal.Read.val_main_v0]
  refine Fin.sum_mul_add_congr fun s k hl => ?_
  refine (mul_comm (G := EReal) _ _).trans ?_
  blk_point [iblk, V, idx ⟨_, Pipeline.run_point_lt_of_flush t hr s⟩, idx t]

/-- The kernel's ideal result is the reference's, for every input. -/
theorem algebraic : Cert.algebraic_Kernel3Ideal_Reference3Ideal := by
  pair_intro
  · run_from Cert.Kernel3Ideal.Gen.run_main m g
  · hlo_run
    exact (final m c).symm

/-- The kernel changes nothing but its result, over the machine's own floats. -/
theorem frame_kernel : Cert.quiescent_Kernel3 :=
  fun m ρ _ => Cert.Kernel3.Gen.frame m ρ

/-- The same over the extended reals. -/
theorem frame_ideal : Cert.quiescent_Kernel3Ideal :=
  fun m ρ _ => Cert.Kernel3Ideal.Gen.frame m ρ

/-- The reference changes nothing but its result. -/
theorem frame_ref : Cert.quiescent_Reference3Ideal := by
  intro m ρ _
  hlo_run
  · exact fun c => by simp
  · exact sem_eq_zero_of_no_sems (by decide) _

end Cert.DwDown

end
-- ==== Proof.FfnDh.lean ====
/- Program 4: the gradient of the feed-forward network's input, as one grid of block products.

   The grid has 4 rows of blocks by 1 columns of blocks by 11 steps along the shared index.
   The carried block starts at zero, every step adds one partial product of length 512, and the last
   step writes the block out.  So a written block is the full product over 5632 indices in 11 pieces.  -/
module

public import proofs.«01_k».proof.Defs
public import proofs.«01_k».proof.Proof.Gen.Kernel4.Frame
public import proofs.«01_k».proof.Proof.Gen.Kernel4Ideal.Frame
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.FfnDh

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 11, t.val % 11]
    ∧ win0_1.index t = ![0, t.val % 11]
    ∧ win0_2.index t = ![t.val / 11, t.val % 11]
    ∧ win0_3.index t = ![0, t.val % 11]
    ∧ win0_4.index t = ![t.val / 11, 0] :=
  (by decide +kernel : ∀ t : Fin grid0.N, _)

/-- One step adds the product of the two blocks it reads, and the product of the second two. -/
theorem step_at (a : FVec Ideal S1024x512 .bf16) (b : FVec Ideal S2048x512 .bf16) (a' : FVec Ideal S1024x512 .bf16) (b' : FVec Ideal S2048x512 .bf16)
    (acc : FVec Ideal S1024x2048 .f32) (j : S1024x2048.Idx) :
    k0_pay2 a b a' b' acc j = acc j + ((∑ k : Fin 512, a (ix2 (j 0) k) * b (ix2 (j 1) k)) + ∑ k : Fin 512, a' (ix2 (j 0) k) * b' (ix2 (j 1) k)) := by
  pointwise [k0_pay2]

/-- The carried block starts at zero. -/
theorem zero_at (j : S1024x2048.Idx) : k0_pay1 (F := Ideal) j = 0 := by
  pointwise [k0_pay1]

/-- The left block read at a grid point. -/
def blkA (t : Fin cfg0.N) : FVec Ideal S1024x512 .bf16 := iblk m c 0 t

/-- The right block read at a grid point. -/
def blkB (t : Fin cfg0.N) : FVec Ideal S2048x512 .bf16 := iblk m c 1 t

/-- The second left block read at a grid point. -/
def blkA' (t : Fin cfg0.N) : FVec Ideal S1024x512 .bf16 := iblk m c 2 t

/-- The second right block read at a grid point. -/
def blkB' (t : Fin cfg0.N) : FVec Ideal S2048x512 .bf16 := iblk m c 3 t

/-- What the reference computes of the arguments in memory. -/
def result : FVec Ideal S4096x2048 .f32 :=
  Cert.Reference4Ideal.Read.val_main_v6 (F := Ideal) (m ((c : Thread nD τ).loc main_arg0)) (m ((c : Thread nD τ).loc main_arg1)) (m ((c : Thread nD τ).loc main_arg2)) (m ((c : Thread nD τ).loc main_arg3))

/-- At the last step of a run the carried block is the start plus every partial product of the run. -/
theorem acc_at (t : Fin cfg0.N) (hr : t.val % 11 = 11 - 1) (j : S1024x2048.Idx) : (outsAt0 m c t.val t.isLt).2 j
    = (k0_pay1 (F := Ideal)) j + ∑ s : Fin 11, ((∑ k : Fin 512, blkA m c ⟨11 * (t.val / 11) + s.val, Pipeline.run_point_lt_of_flush t hr s⟩ (ix2 (j 0) k) * blkB m c ⟨11 * (t.val / 11) + s.val, Pipeline.run_point_lt_of_flush t hr s⟩ (ix2 (j 1) k))
        + ∑ k : Fin 512, blkA' m c ⟨11 * (t.val / 11) + s.val, Pipeline.run_point_lt_of_flush t hr s⟩ (ix2 (j 0) k) * blkB' m c ⟨11 * (t.val / 11) + s.val, Pipeline.run_point_lt_of_flush t hr s⟩ (ix2 (j 1) k)) :=
  Pipeline.eq_sum_fin_of_reset_step_apply_of_flush (fun n h => (outsAt0 m c n h).2) 11 (k0_pay1 (F := Ideal))
    (fun t j => ((∑ k : Fin 512, blkA m c t (ix2 (j 0) k) * blkB m c t (ix2 (j 1) k))
        + ∑ k : Fin 512, blkA' m c t (ix2 (j 0) k) * blkB' m c t (ix2 (j 1) k)))
    (fun t h j => by
      rw [outsAt0_A m c t h (by omega)]
      frame_out
      rw [step_at]
      rfl)
    (fun t h j => by
      by_cases h1 : t.val % 11 = 10
      · rw [outsAt0_C m c t h h1]
        frame_out
        rw [(Memref.isWhole_whole _).read_unread, step_at]
        rfl
      · rw [outsAt0_B m c t h h1]
        frame_out
        rw [(Memref.isWhole_whole _).read_unread, step_at]
        rfl)
    t hr j

/-- The array the launch writes is the reference's. -/
theorem final : (dats m 0 c).arrAt 4 cfg0.N = result m c := by
  refine (dats m 0 c).arrAt_eq_of_covers 4 _ (by decide +kernel) fun t hf y => ?_
  have hr : t.val % 11 = 11 - 1 := (flush0_4 t).mp hf
  blk_simp
  have e := acc_at m c t hr y
  rw [outsAt0_C m c t (by omega) hr] at e
  rw [after0_4, outsAt0_C m c t (by omega) hr]
  frame_out at e
  frame_out
  rw [e, zero_at, zero_add]
  rw [Finset.sum_add_distrib]
  unfold blkA blkB blkA' blkB' result
  pointwise [Cert.Reference4Ideal.Read.val_main_v6, Cert.Reference4Ideal.Read.val_main_v5, Cert.Reference4Ideal.Read.val_main_v4, Cert.Reference4Ideal.Read.val_main_v3, Cert.Reference4Ideal.Read.val_main_v2, Cert.Reference4Ideal.Read.val_main_v1, Cert.Reference4Ideal.Read.val_main_v0]
  rw [add_comm]
  refine congrArg₂ (· + ·) (Fin.sum_mul_add_congr fun s k hl => ?_) (Fin.sum_mul_add_congr fun s k hl => ?_)
  · blk_point [iblk, V, idx ⟨_, Pipeline.run_point_lt_of_flush t hr s⟩, idx t]
  · blk_point [iblk, V, idx ⟨_, Pipeline.run_point_lt_of_flush t hr s⟩, idx t]

/-- The kernel's ideal result is the reference's, for every input. -/
theorem algebraic : Cert.algebraic_Kernel4Ideal_Reference4Ideal := by
  pair_intro
  · run_from Cert.Kernel4Ideal.Gen.run_main m g
  · hlo_run
    exact (final m c).symm

/-- The kernel changes nothing but its result, over the machine's own floats. -/
theorem frame_kernel : Cert.quiescent_Kernel4 :=
  fun m ρ _ => Cert.Kernel4.Gen.frame m ρ

/-- The same over the extended reals. -/
theorem frame_ideal : Cert.quiescent_Kernel4Ideal :=
  fun m ρ _ => Cert.Kernel4Ideal.Gen.frame m ρ

/-- The reference changes nothing but its result. -/
theorem frame_ref : Cert.quiescent_Reference4Ideal := by
  intro m ρ _
  hlo_run
  · exact fun c => by simp
  · exact sem_eq_zero_of_no_sems (by decide) _

end Cert.FfnDh

end
-- ==== Proof.FfnAct.lean ====
/- Program 5: the two launches that differentiate the gated product `silu(h @ wg) * (h @ wu)`.

   The first launch computes both branches and their gated product; the second reads the branches back and turns the
   cotangent of the network's output into the cotangents of the two branches.  Each grid point of either writes its own
   block.  The value of the second launch is stated of whatever arrays it finds, and then used at what the first leaves.  -/
module

public import proofs.«01_k».proof.Defs
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Reference5Ideal.Run
public import Idealize.ShloMosaic.Lib.Pipeline.ValueKit
public import Idealize.ShloMosaic.Lib.Claim

@[expose] public section

set_option maxRecDepth 16384

noncomputable section

namespace Cert.FfnAct

open Cert.Kernel5Ideal Cert.Kernel5Ideal.Gen
open Idealize.ShloMosaic Idealize.ShloMosaic.TcCoe Idealize.SL.Sem

variable (V : (c : Dev nD) → (b : Ref sig .tc) → Buf (Elt Ideal) ((c : Thread nD τ).loc b)) (c : Dev nD)

/-- The block that every window of the first launch is on at a grid point. -/
theorem idx0 : ∀ t : Fin cfg0.N, win0_0.index t = ![t.val / 11, 0] ∧ win0_1.index t = ![0, t.val % 11]
    ∧ win0_2.index t = ![0, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

/-- The block that every window of the second launch is on at a grid point. -/
theorem idx1 : ∀ t : Fin cfg1.N, win1_0.index t = ![t.val / 4, 0] ∧ win1_1.index t = ![t.val % 4, 0]
    ∧ win1_2.index t = ![t.val / 4, t.val % 4] ∧ win1_3.index t = ![t.val / 4, t.val % 4]
    ∧ win1_4.index t = ![t.val / 4, t.val % 4] ∧ win1_5.index t = ![t.val / 4, t.val % 4] :=
  (by decide +kernel : ∀ t : Fin grid1.N, _)

/-- The product of the input with a weight. -/
def prod (h : FVec Ideal S4096x2048 .bf16) (w : FVec Ideal S2048x5632 .bf16) : FVec Ideal S4096x5632 .bf16 :=
  fun i => ∑ k : Fin 2048, h (ix2 (i 0) k) * w (ix2 k (i 1))

/-- The first launch leaves the gate, -/
theorem gate_final : (dat0 V c).arrAt 3 cfg0.N = prod (V c main_arg0) (V c main_arg1) := by
  refine (dat0 V c).arrAt_eq_of_covers 3 _ (by decide +kernel) fun t hf y => ?_
  blk_simp
  rw [after0_3]
  frame_out
  pointwise [k0_pay3, k0_pay1, prod]
  blk_point [iblk0, idx0 t]

/-- the linear branch, -/
theorem up_final : (dat0 V c).arrAt 4 cfg0.N = prod (V c main_arg0) (V c main_arg2) := by
  refine (dat0 V c).arrAt_eq_of_covers 4 _ (by decide +kernel) fun t hf y => ?_
  blk_simp
  rw [after0_4]
  frame_out
  pointwise [k0_pay4, k0_pay2, prod]
  blk_point [iblk0, idx0 t]

/-- The gated product of the two branches. -/
def gated (g u : FVec Ideal S4096x5632 .bf16) : FVec Ideal S4096x5632 .bf16 :=
  truncf .bf16 (mulf (mulf (extf .f32 g bitsLt_bf16_f32) (logistic (extf .f32 g bitsLt_bf16_f32))) (extf .f32 u bitsLt_bf16_f32)) bitsLt_bf16_f32

/-- and the gated product. -/
theorem act_final : (dat0 V c).arrAt 5 cfg0.N
    = gated (prod (V c main_arg0) (V c main_arg1)) (prod (V c main_arg0) (V c main_arg2)) := by
  refine (dat0 V c).arrAt_eq_of_covers 5 _ (by decide +kernel) fun t hf y => ?_
  blk_simp
  rw [after0_5]
  frame_out
  pointwise [k0_pay5, k0_pay1, k0_pay2, prod, gated]
  blk_point [iblk0, idx0 t]

/-- The cotangent of the gated product. -/
def dact (dx : FVec Ideal S4096x2048 .bf16) (wd : FVec Ideal S5632x2048 .bf16) : FVec Ideal S4096x5632 .f32 :=
  fun i => ∑ k : Fin 2048, dx (ix2 (i 0) k) * wd (ix2 (i 1) k)

/-- The cotangent of the gate from that of the gated product. -/
def dgate (da : FVec Ideal S4096x5632 .f32) (g u : FVec Ideal S4096x5632 .bf16) : FVec Ideal S4096x5632 .bf16 :=
  let g : FVec Ideal S4096x5632 .f32 := extf .f32 g bitsLt_bf16_f32
  let u : FVec Ideal S4096x5632 .f32 := extf .f32 u bitsLt_bf16_f32
  let one : FVec Ideal S4096x5632 .f32 := broadcast S4096x5632 (Scalar.ofBits .f32 0x3F800000#32)
  truncf .bf16 (addf (mulf (mulf da u) (logistic g)) (mulf (mulf g (mulf da u)) (mulf (logistic g) (subf one (logistic g))))) bitsLt_bf16_f32

/-- The cotangent of the linear branch. -/
def dup (da : FVec Ideal S4096x5632 .f32) (g : FVec Ideal S4096x5632 .bf16) : FVec Ideal S4096x5632 .bf16 :=
  let g : FVec Ideal S4096x5632 .f32 := extf .f32 g bitsLt_bf16_f32
  truncf .bf16 (mulf (mulf g (logistic g)) da) bitsLt_bf16_f32

/-- The second launch leaves the gate's cotangent -/
theorem dgate_final : (dat1 V c).arrAt 4 cfg1.N
    = dgate (dact (V c main_arg4) (V c main_arg3)) (V c main_v0_0) (V c main_v0_1) := by
  refine (dat1 V c).arrAt_eq_of_covers 4 _ (by decide +kernel) fun t hf y => ?_
  blk_simp
  rw [after1_4]
  frame_out
  pointwise [k1_pay4, k1_pay3, k1_pay2, k1_pay1, dgate, dact]
  blk_point [iblk1, idx1 t]

/-- and the linear branch's. -/
theorem dup_final : (dat1 V c).arrAt 5 cfg1.N = dup (dact (V c main_arg4) (V c main_arg3)) (V c main_v0_0) := by
  refine (dat1 V c).arrAt_eq_of_covers 5 _ (by decide +kernel) fun t hf y => ?_
  blk_simp
  rw [after1_5]
  frame_out
  pointwise [k1_pay5, k1_pay3, k1_pay2, k1_pay1, dup, dact]
  blk_point [iblk1, idx1 t]

section Ref
variable (h : FVec Ideal S4096x2048 .bf16) (wg wu : FVec Ideal S2048x5632 .bf16) (wd : FVec Ideal S5632x2048 .bf16)
  (dx : FVec Ideal S4096x2048 .bf16)

/-- The reference's gated product. -/
theorem act_ref : Cert.Reference5Ideal.Read.val_main_v16 (F := Ideal) h wg wu = gated (prod h wg) (prod h wu) := by
  funext i
  pointwise [Cert.Reference5Ideal.Read.val_main_v16, Cert.Reference5Ideal.Read.val_main_v15, Cert.Reference5Ideal.Read.val_main_v14,
    Cert.Reference5Ideal.Read.val_main_call2_v5, Cert.Reference5Ideal.Read.val_main_call2_v4, Cert.Reference5Ideal.Read.val_main_call2_v3,
    Cert.Reference5Ideal.Read.val_main_call2_v2, Cert.Reference5Ideal.Read.val_main_call2_v1, Cert.Reference5Ideal.Read.val_main_call2_v0,
    Cert.Reference5Ideal.Read.val_main_call2_cst, Cert.Reference5Ideal.Read.val_main_call2_cst_0,
    Cert.Reference5Ideal.Read.val_main_v6, Cert.Reference5Ideal.Read.val_main_v5, Cert.Reference5Ideal.Read.val_main_v0,
    Cert.Reference5Ideal.Read.val_main_v1, Cert.Reference5Ideal.Read.val_main_v2, gated, prod]
  rfl

/-- The reference's cotangent of the linear branch. -/
theorem dup_ref : Cert.Reference5Ideal.Read.val_main_v18 (F := Ideal) h wg wd dx = dup (dact dx wd) (prod h wg) := by
  funext i
  pointwise [Cert.Reference5Ideal.Read.val_main_v18, Cert.Reference5Ideal.Read.val_main_v11, Cert.Reference5Ideal.Read.val_main_v10,
    Cert.Reference5Ideal.Read.val_main_v7_0, Cert.Reference5Ideal.Read.val_main_v7_2,
    Cert.Reference5Ideal.Read.val_main_call0_v4, Cert.Reference5Ideal.Read.val_main_call0_v3,
    Cert.Reference5Ideal.Read.val_main_call0_v2, Cert.Reference5Ideal.Read.val_main_call0_v1, Cert.Reference5Ideal.Read.val_main_call0_v0,
    Cert.Reference5Ideal.Read.val_main_call0_cst, Cert.Reference5Ideal.Read.val_main_call0_cst_0,
    Cert.Reference5Ideal.Read.val_main_v5, Cert.Reference5Ideal.Read.val_main_v0, Cert.Reference5Ideal.Read.val_main_v4,
    Cert.Reference5Ideal.Read.val_main_v1, Cert.Reference5Ideal.Read.val_main_v3, dup, dact, prod]
  rfl

/-- The reference's cotangent of the gate. -/
theorem dgate_ref : Cert.Reference5Ideal.Read.val_main_v17 (F := Ideal) h wg wu wd dx = dgate (dact dx wd) (prod h wg) (prod h wu) := by
  funext i
  pointwise [Cert.Reference5Ideal.Read.val_main_v17, Cert.Reference5Ideal.Read.val_main_v13, Cert.Reference5Ideal.Read.val_main_v12, Cert.Reference5Ideal.Read.val_main_v10,
    Cert.Reference5Ideal.Read.val_main_call1_v0, Cert.Reference5Ideal.Read.val_main_call1_v1, Cert.Reference5Ideal.Read.val_main_call1_v2,
    Cert.Reference5Ideal.Read.val_main_v7_0, Cert.Reference5Ideal.Read.val_main_v7_1, Cert.Reference5Ideal.Read.val_main_v7_2,
    Cert.Reference5Ideal.Read.val_main_call0_v4, Cert.Reference5Ideal.Read.val_main_call0_v3, Cert.Reference5Ideal.Read.val_main_call0_v6, Cert.Reference5Ideal.Read.val_main_call0_v7,
    Cert.Reference5Ideal.Read.val_main_call0_v2, Cert.Reference5Ideal.Read.val_main_call0_v1, Cert.Reference5Ideal.Read.val_main_call0_v0,
    Cert.Reference5Ideal.Read.val_main_call0_cst, Cert.Reference5Ideal.Read.val_main_call0_cst_0, Cert.Reference5Ideal.Read.val_main_call0_cst_1,
    Cert.Reference5Ideal.Read.val_main_v5, Cert.Reference5Ideal.Read.val_main_v6, Cert.Reference5Ideal.Read.val_main_v0, Cert.Reference5Ideal.Read.val_main_v4,
    Cert.Reference5Ideal.Read.val_main_v1, Cert.Reference5Ideal.Read.val_main_v2, Cert.Reference5Ideal.Read.val_main_v3, dgate, dact, prod]
  rfl
end Ref

/-! ## The run -/

section Run
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each buffer at what the second launch leaves in it. -/
theorem run_buffers : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The gate as the second launch finds it. -/
theorem V1_gate : V1 m ρ c main_v0_0 = prod (m ((c : Thread nD τ).loc main_arg0)) (m ((c : Thread nD τ).loc main_arg1)) :=
  (W1_arr m ρ c 3).trans (gate_final (V0 m ρ) c)

/-- The linear branch as the second launch finds it. -/
theorem V1_up : V1 m ρ c main_v0_1 = prod (m ((c : Thread nD τ).loc main_arg0)) (m ((c : Thread nD τ).loc main_arg2)) :=
  (W1_arr m ρ c 4).trans (up_final (V0 m ρ) c)

/-- The gated product at the end. -/
theorem W2_act : W2 m ρ c (Proc.devRef .tc main_v0_2) = gated (prod (m ((c : Thread nD τ).loc main_arg0)) (m ((c : Thread nD τ).loc main_arg1)))
    (prod (m ((c : Thread nD τ).loc main_arg0)) (m ((c : Thread nD τ).loc main_arg2))) :=
  (W2_of_ne m ρ c main_v0_2 (by decide)).trans ((W1_arr m ρ c 5).trans (act_final (V0 m ρ) c))

/-- The gate's cotangent at the end. -/
theorem W2_dgate : W2 m ρ c (Proc.devRef .tc main_v1_0)
    = dgate (dact (m ((c : Thread nD τ).loc main_arg4)) (m ((c : Thread nD τ).loc main_arg3)))
      (prod (m ((c : Thread nD τ).loc main_arg0)) (m ((c : Thread nD τ).loc main_arg1)))
      (prod (m ((c : Thread nD τ).loc main_arg0)) (m ((c : Thread nD τ).loc main_arg2))) := by
  refine (W2_arr m ρ c 4).trans ((dgate_final (V1 m ρ) c).trans ?_)
  rw [V1_gate, V1_up]
  exact congrArg₂ (fun a b => dgate (dact a b) _ _) (W1_args m ρ c main_arg4 (by decide)) (W1_args m ρ c main_arg3 (by decide))

/-- The linear branch's cotangent at the end. -/
theorem W2_dup : W2 m ρ c (Proc.devRef .tc main_v1_1)
    = dup (dact (m ((c : Thread nD τ).loc main_arg4)) (m ((c : Thread nD τ).loc main_arg3)))
      (prod (m ((c : Thread nD τ).loc main_arg0)) (m ((c : Thread nD τ).loc main_arg1))) := by
  refine (W2_arr m ρ c 5).trans ((dup_final (V1 m ρ) c).trans ?_)
  rw [V1_gate]
  exact congrArg₂ (fun a b => dup (dact a b) _) (W1_args m ρ c main_arg4 (by decide)) (W1_args m ρ c main_arg3 (by decide))

end Run

/-- The kernel's ideal results are the reference's, for every input. -/
theorem algebraic : Cert.algebraic_Kernel5Ideal_Reference5Ideal := by
  intro m ρ m' ρ' _ hargs
  refine ⟨fun c => W2 m ρ c (Proc.devRef .tc main_v0_2), fun c => W2 m ρ c (Proc.devRef .tc main_v1_0),
    fun c => W2 m ρ c (Proc.devRef .tc main_v1_1),
    (θ_run _ _ _).mono (fun r h c => ⟨h c _ (mem_uc main_v0_2 (by decide)), h c _ (mem_uc main_v1_0 (by decide)),
      h c _ (mem_uc main_v1_1 (by decide)),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c)⟩) (run_buffers m ρ),
    (θ_run _ _ _).mono (fun r h c => ?_) (Cert.Reference5Ideal.Value.run (F := Ideal) m' ρ')⟩
  obtain ⟨e0, e1, e2, e3, e4⟩ := hargs c
  obtain ⟨h0, h1, h2, hr⟩ := h c
  refine ⟨h0.trans ?_, h1.trans ?_, h2.trans ?_, hr⟩
  · exact (act_ref _ _ _).trans ((congr (congr (congrArg (fun h wg wu => gated (prod h wg) (prod h wu)) e0) e1) e2).trans
      (W2_act c m ρ).symm)
  · exact (dgate_ref _ _ _ _ _).trans
      ((congr (congr (congr (congr (congrArg (fun h wg wu wd dx => dgate (dact dx wd) (prod h wg) (prod h wu)) e0) e1) e2) e3) e4).trans
        (W2_dgate c m ρ).symm)
  · exact (dup_ref _ _ _ _).trans
      ((congr (congr (congr (congrArg (fun h wg wd dx => dup (dact dx wd) (prod h wg)) e0) e1) e3) e4).trans (W2_dup c m ρ).symm)

/-- The kernel changes nothing but its results, over the machine's own floats. -/
theorem frame_kernel : Cert.quiescent_Kernel5 :=
  fun m ρ _ => Cert.Kernel5.Gen.frame m ρ

/-- The same over the extended reals. -/
theorem frame_ideal : Cert.quiescent_Kernel5Ideal :=
  fun m ρ _ => Cert.Kernel5Ideal.Gen.frame m ρ

/-- The reference changes nothing but its results. -/
theorem frame_ref : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

end Cert.FfnAct

end
-- ==== Proof.FfnOut.lean ====
/- Program 6: the feed-forward network's last product, added to the residual, as one grid of block products.

   The grid has 4 rows of blocks by 2 columns of blocks by 4 steps along the shared index.
   The carried block starts at zero, every step adds one partial product of length 1408, and the last
   step writes the block out.  So a written block is the full product over 5632 indices in 4 pieces.  -/
module

public import proofs.«01_k».proof.Defs
public import proofs.«01_k».proof.Proof.Gen.Kernel6.Frame
public import proofs.«01_k».proof.Proof.Gen.Kernel6Ideal.Frame
public import proofs.«01_k».proof.Proof.Gen.Reference6Ideal.Read
public import Idealize.ShloMosaic.Lib.Pipeline.ValueKit
public import Idealize.ShloMosaic.Lib.Claim

@[expose] public section

set_option maxRecDepth 16384

noncomputable section

namespace Cert.FfnOut

open Cert.Kernel6Ideal Cert.Kernel6Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 8, t.val % 4]
    ∧ win0_1.index t = ![t.val % 4, t.val / 4 % 2]
    ∧ win0_2.index t = ![0, t.val / 4 % 2]
    ∧ win0_3.index t = ![t.val / 8, t.val / 4 % 2]
    ∧ win0_4.index t = ![t.val / 8, t.val / 4 % 2] :=
  (by decide +kernel : ∀ t : Fin grid0.N, _)

/-- One step adds the product of the two blocks it reads. -/
theorem step_at (a : FVec Ideal S1024x1408 .bf16) (b : FVec Ideal S1408x1024 .bf16)
    (acc : FVec Ideal S1024x1024 .f32) (j : S1024x1024.Idx) :
    k0_pay2 a b acc j = acc j + ∑ k : Fin 1408, a (ix2 (j 0) k) * b (ix2 k (j 1)) := by
  pointwise [k0_pay2]

/-- The carried block starts at zero. -/
theorem zero_at (j : S1024x1024.Idx) : k0_pay1 (F := Ideal) j = 0 := by
  pointwise [k0_pay1]

/-- What is written is the product with the row and the residual added. -/
theorem write_at (v : FVec Ideal S1024x1024 .f32) (r : FVec Ideal S1x1024 .f32) (x : FVec Ideal S1024x1024 .f32) (j : S1024x1024.Idx) :
    k0_pay3 (F := Ideal) v r x j = v j + r (ix2 0 (j 1)) + x j := by
  pointwise [k0_pay3]

/-- The left block read at a grid point. -/
def blkA (t : Fin cfg0.N) : FVec Ideal S1024x1408 .bf16 := iblk m c 0 t

/-- The right block read at a grid point. -/
def blkB (t : Fin cfg0.N) : FVec Ideal S1408x1024 .bf16 := iblk m c 1 t

/-- The row block read at a grid point. -/
def blkR (t : Fin cfg0.N) : FVec Ideal S1x1024 .f32 := iblk m c 2 t

/-- The row added at the write is the zero row. -/
theorem row_at (t : Fin cfg0.N) (j : S1x1024.Idx) : blkR m c t j = 0 := by
  have h : ∀ i : S1x2048.Idx, V m c main_v0 i = (0 : EReal) := fun i => by
    entry_read
    pointwise
  exact h _

/-- What the reference computes of the arguments in memory. -/
def result : FVec Ideal S4096x2048 .f32 :=
  Cert.Reference6Ideal.Read.val_main_v3 (F := Ideal) (m ((c : Thread nD τ).loc main_arg0)) (m ((c : Thread nD τ).loc main_arg1)) (m ((c : Thread nD τ).loc main_arg2))

/-- At the last step of a run the carried block is the start plus every partial product of the run. -/
theorem acc_at (t : Fin cfg0.N) (hr : t.val % 4 = 4 - 1) (j : S1024x1024.Idx) : (outsAt0 m c t.val t.isLt).2 j
    = (k0_pay1 (F := Ideal)) j + ∑ s : Fin 4, ∑ k : Fin 1408, blkA m c ⟨4 * (t.val / 4) + s.val, Pipeline.run_point_lt_of_flush t hr s⟩ (ix2 (j 0) k) * blkB m c ⟨4 * (t.val / 4) + s.val, Pipeline.run_point_lt_of_flush t hr s⟩ (ix2 k (j 1)) :=
  Pipeline.eq_sum_fin_of_reset_step_apply_of_flush (fun n h => (outsAt0 m c n h).2) 4 (k0_pay1 (F := Ideal))
    (fun t j => ∑ k : Fin 1408, blkA m c t (ix2 (j 0) k) * blkB m c t (ix2 k (j 1)))
    (fun t h j => by
      rw [outsAt0_A m c t h (by omega)]
      frame_out
      rw [step_at]
      rfl)
    (fun t h j => by
      by_cases h1 : t.val % 4 = 3
      · rw [outsAt0_C m c t h h1]
        frame_out
        rw [(Memref.isWhole_whole _).read_unread, step_at]
        rfl
      · rw [outsAt0_B m c t h h1]
        frame_out
        rw [(Memref.isWhole_whole _).read_unread, step_at]
        rfl)
    t hr j

/-- The array the launch writes is the reference's. -/
theorem final : (dats m 0 c).arrAt 4 cfg0.N = result m c := by
  refine (dats m 0 c).arrAt_eq_of_covers 4 _ (by decide +kernel) fun t hf y => ?_
  have hr : t.val % 4 = 4 - 1 := (flush0_4 t).mp hf
  blk_simp
  have e := acc_at m c t hr y
  rw [outsAt0_C m c t (by omega) hr] at e
  rw [after0_4, outsAt0_C m c t (by omega) hr]
  frame_out at e
  frame_out
  rw [write_at, e, zero_at, zero_add]
  unfold blkA blkB result
  pointwise [Cert.Reference6Ideal.Read.val_main_v3, Cert.Reference6Ideal.Read.val_main_v2, Cert.Reference6Ideal.Read.val_main_v1, Cert.Reference6Ideal.Read.val_main_v0]
  have hz : iblk m c 2 t (ix2 0 (y 1)) = (0 : EReal) := row_at m c t (ix2 0 (y 1))
  rw [hz, add_zero]
  refine (add_comm (G := EReal) _ _).trans (congrArg₂ (fun x y : EReal => x + y) ?_ ?_)
  · blk_point [iblk, V, idx t]
  · refine Fin.sum_mul_add_congr fun s k hl => ?_
    blk_point [iblk, V, idx ⟨_, Pipeline.run_point_lt_of_flush t hr s⟩, idx t]

/-- The kernel's ideal result is the reference's, for every input. -/
theorem algebraic : Cert.algebraic_Kernel6Ideal_Reference6Ideal := by
  pair_intro
  · run_from Cert.Kernel6Ideal.Gen.run_main m g
  · hlo_run
    exact (final m c).symm

/-- The kernel changes nothing but its result, over the machine's own floats. -/
theorem frame_kernel : Cert.quiescent_Kernel6 :=
  fun m ρ _ => Cert.Kernel6.Gen.frame m ρ

/-- The same over the extended reals. -/
theorem frame_ideal : Cert.quiescent_Kernel6Ideal :=
  fun m ρ _ => Cert.Kernel6Ideal.Gen.frame m ρ

/-- The reference changes nothing but its result. -/
theorem frame_ref : Cert.quiescent_Reference6Ideal := by
  intro m ρ _
  hlo_run
  · exact fun c => by simp
  · exact sem_eq_zero_of_no_sems (by decide) _

end Cert.FfnOut

end
-- ==== Proof.MixDy.lean ====
/- Program 7: the gradient of the mixers' joint output, as one grid of block products.

   The grid has 4 rows of blocks by 4 columns of blocks by 1 steps along the shared index.
   There is one step for each block: the block is zeroed, the product over all 2048 indices is added, and
   the block is written out.  -/
module

public import proofs.«01_k».proof.Defs
public import proofs.«01_k».proof.Proof.Gen.Kernel7.Frame
public import proofs.«01_k».proof.Proof.Gen.Kernel7Ideal.Frame
public import proofs.«01_k».proof.Proof.Gen.Reference7Ideal.Read
public import Idealize.ShloMosaic.Lib.Pipeline.ValueKit
public import Idealize.ShloMosaic.Lib.Claim

@[expose] public section

set_option maxRecDepth 16384

noncomputable section

namespace Cert.MixDy

open Cert.Kernel7Ideal Cert.Kernel7Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 4, 0]
    ∧ win0_1.index t = ![t.val % 4, 0]
    ∧ win0_2.index t = ![t.val / 4, t.val % 4] :=
  (by decide +kernel : ∀ t : Fin grid0.N, _)

/-- One step adds the product of the two blocks it reads. -/
theorem step_at (a : FVec Ideal S1024x2048 .bf16) (b : FVec Ideal S512x2048 .bf16)
    (acc : FVec Ideal S1024x512 .f32) (j : S1024x512.Idx) :
    k0_pay2 a b acc j = acc j + ∑ k : Fin 2048, a (ix2 (j 0) k) * b (ix2 (j 1) k) := by
  pointwise [k0_pay2]

/-- The carried block starts at zero. -/
theorem zero_at (j : S1024x512.Idx) : k0_pay1 (F := Ideal) j = 0 := by
  pointwise [k0_pay1]

/-- The left block read at a grid point. -/
def blkA (t : Fin cfg0.N) : FVec Ideal S1024x2048 .bf16 := iblk m c 0 t

/-- The right block read at a grid point. -/
def blkB (t : Fin cfg0.N) : FVec Ideal S512x2048 .bf16 := iblk m c 1 t

/-- What the reference computes of the arguments in memory. -/
def result : FVec Ideal S4096x2048 .f32 :=
  Cert.Reference7Ideal.Read.val_main_v2 (F := Ideal) (m ((c : Thread nD τ).loc main_arg0)) (m ((c : Thread nD τ).loc main_arg1))

/-- The array the launch writes is the reference's. -/
theorem final : (dats m 0 c).arrAt 2 cfg0.N = result m c := by
  refine (dats m 0 c).arrAt_eq_of_covers 2 _ (by decide +kernel) fun t hf y => ?_
  blk_simp
  rw [after0_2]
  unfold outsAt0
  frame_out
  rw [step_at, zero_at, zero_add]
  unfold result
  pointwise [Cert.Reference7Ideal.Read.val_main_v2, Cert.Reference7Ideal.Read.val_main_v1, Cert.Reference7Ideal.Read.val_main_v0]
  blk_point [iblk, V, idx t]

/-- The kernel's ideal result is the reference's, for every input. -/
theorem algebraic : Cert.algebraic_Kernel7Ideal_Reference7Ideal := by
  pair_intro
  · run_from Cert.Kernel7Ideal.Gen.run_main m g
  · hlo_run
    exact (final m c).symm

/-- The kernel changes nothing but its result, over the machine's own floats. -/
theorem frame_kernel : Cert.quiescent_Kernel7 :=
  fun m ρ _ => Cert.Kernel7.Gen.frame m ρ

/-- The same over the extended reals. -/
theorem frame_ideal : Cert.quiescent_Kernel7Ideal :=
  fun m ρ _ => Cert.Kernel7Ideal.Gen.frame m ρ

/-- The reference changes nothing but its result. -/
theorem frame_ref : Cert.quiescent_Reference7Ideal := by
  intro m ρ _
  hlo_run
  · exact fun c => by simp
  · exact sem_eq_zero_of_no_sems (by decide) _

end Cert.MixDy

end
-- ==== Proof.DwOut.lean ====
/- Program 8: the gradient of a mixer's output weight, as one grid of block products.

   The grid has 2 rows of blocks by 2 columns of blocks by 4 steps along the shared index.
   The carried block starts at zero, every step adds one partial product of length 1024, and the last
   step writes the block out.  So a written block is the full product over 4096 indices in 4 pieces.  -/
module

public import proofs.«01_k».proof.Defs
public import proofs.«01_k».proof.Proof.Gen.Kernel8.Frame
public import proofs.«01_k».proof.Proof.Gen.Kernel8Ideal.Frame
public import proofs.«01_k».proof.Proof.Gen.Reference8Ideal.Read
public import Idealize.ShloMosaic.Lib.Pipeline.ValueKit
public import Idealize.ShloMosaic.Lib.Claim

@[expose] public section

set_option maxRecDepth 16384

noncomputable section

namespace Cert.DwOut

open Cert.Kernel8Ideal Cert.Kernel8Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val % 4, t.val / 8]
    ∧ win0_1.index t = ![t.val % 4, t.val / 4 % 2]
    ∧ win0_2.index t = ![t.val / 8, t.val / 4 % 2] :=
  (by decide +kernel : ∀ t : Fin grid0.N, _)

/-- One step adds the product of the two blocks it reads. -/
theorem step_at (a : FVec Ideal S1024x1024 .bf16) (b : FVec Ideal S1024x1024 .bf16)
    (acc : FVec Ideal S1024x1024 .f32) (j : S1024x1024.Idx) :
    k0_pay2 a b acc j = acc j + ∑ k : Fin 1024, a (ix2 k (j 0)) * b (ix2 k (j 1)) := by
  pointwise [k0_pay2]

/-- The carried block starts at zero. -/
theorem zero_at (j : S1024x1024.Idx) : k0_pay1 (F := Ideal) j = 0 := by
  pointwise [k0_pay1]

/-- The write changes the float format, which keeps the value. -/
theorem write_at (v : FVec Ideal S1024x1024 .f32) (j : S1024x1024.Idx) : (k0_pay3 (F := Ideal) v j : EReal) = v j := by
  pointwise [k0_pay3]

/-- The left block read at a grid point. -/
def blkA (t : Fin cfg0.N) : FVec Ideal S1024x1024 .bf16 := iblk m c 0 t

/-- The right block read at a grid point. -/
def blkB (t : Fin cfg0.N) : FVec Ideal S1024x1024 .bf16 := iblk m c 1 t

/-- What the reference computes of the arguments in memory. -/
def result : FVec Ideal S2048x2048 .bf16 :=
  Cert.Reference8Ideal.Read.val_main_v4 (F := Ideal) (m ((c : Thread nD τ).loc main_arg0)) (m ((c : Thread nD τ).loc main_arg1))

/-- At the last step of a run the carried block is the start plus every partial product of the run. -/
theorem acc_at (t : Fin cfg0.N) (hr : t.val % 4 = 4 - 1) (j : S1024x1024.Idx) : (outsAt0 m c t.val t.isLt).2 j
    = (k0_pay1 (F := Ideal)) j + ∑ s : Fin 4, ∑ k : Fin 1024, blkA m c ⟨4 * (t.val / 4) + s.val, Pipeline.run_point_lt_of_flush t hr s⟩ (ix2 k (j 0)) * blkB m c ⟨4 * (t.val / 4) + s.val, Pipeline.run_point_lt_of_flush t hr s⟩ (ix2 k (j 1)) :=
  Pipeline.eq_sum_fin_of_reset_step_apply_of_flush (fun n h => (outsAt0 m c n h).2) 4 (k0_pay1 (F := Ideal))
    (fun t j => ∑ k : Fin 1024, blkA m c t (ix2 k (j 0)) * blkB m c t (ix2 k (j 1)))
    (fun t h j => by
      rw [outsAt0_A m c t h (by omega)]
      frame_out
      rw [step_at]
      rfl)
    (fun t h j => by
      by_cases h1 : t.val % 4 = 3
      · rw [outsAt0_C m c t h h1]
        frame_out
        rw [(Memref.isWhole_whole _).read_unread, step_at]
        rfl
      · rw [outsAt0_B m c t h h1]
        frame_out
        rw [(Memref.isWhole_whole _).read_unread, step_at]
        rfl)
    t hr j

/-- The array the launch writes is the reference's. -/
theorem final : (dats m 0 c).arrAt 2 cfg0.N = result m c := by
  refine (dats m 0 c).arrAt_eq_of_covers 2 _ (by decide +kernel) fun t hf y => ?_
  have hr : t.val % 4 = 4 - 1 := (flush0_2 t).mp hf
  blk_simp
  have e := acc_at m c t hr y
  rw [outsAt0_C m c t (by omega) hr] at e
  rw [after0_2, outsAt0_C m c t (by omega) hr]
  frame_out at e
  frame_out
  rw [write_at, e, zero_at, zero_add]
  unfold blkA blkB result
  pointwise [Cert.Reference8Ideal.Read.val_main_v4, Cert.Reference8Ideal.Read.val_main_v3, Cert.Reference8Ideal.Read.val_main_v2, Cert.Reference8Ideal.Read.val_main_v1, Cert.Reference8Ideal.Read.val_main_v0]
  refine Fin.sum_mul_add_congr fun s k hl => ?_
  refine (mul_comm (G := EReal) _ _).trans ?_
  blk_point [iblk, V, idx ⟨_, Pipeline.run_point_lt_of_flush t hr s⟩, idx t]

/-- The kernel's ideal result is the reference's, for every input. -/
theorem algebraic : Cert.algebraic_Kernel8Ideal_Reference8Ideal := by
  pair_intro
  · run_from Cert.Kernel8Ideal.Gen.run_main m g
  · hlo_run
    exact (final m c).symm

/-- The kernel changes nothing but its result, over the machine's own floats. -/
theorem frame_kernel : Cert.quiescent_Kernel8 :=
  fun m ρ _ => Cert.Kernel8.Gen.frame m ρ

/-- The same over the extended reals. -/
theorem frame_ideal : Cert.quiescent_Kernel8Ideal :=
  fun m ρ _ => Cert.Kernel8Ideal.Gen.frame m ρ

/-- The reference changes nothing but its result. -/
theorem frame_ref : Cert.quiescent_Reference8Ideal := by
  intro m ρ _
  hlo_run
  · exact fun c => by simp
  · exact sem_eq_zero_of_no_sems (by decide) _

end Cert.DwOut

end
-- ==== Proof.DwEvIn.lean ====
/- Program 9: the gradient of an even layer's input weight, as one grid of block products.

   The grid has 2 rows of blocks by 4 columns of blocks by 8 steps along the shared index.
   The carried block starts at zero, every step adds one partial product of length 512, and the last
   step writes the block out.  So a written block is the full product over 4096 indices in 8 pieces.  -/
module

public import proofs.«01_k».proof.Defs
public import proofs.«01_k».proof.Proof.Gen.Kernel9.Frame
public import proofs.«01_k».proof.Proof.Gen.Kernel9Ideal.Frame
public import proofs.«01_k».proof.Proof.Gen.Reference9Ideal.Read
public import Idealize.ShloMosaic.Lib.Pipeline.ValueKit
public import Idealize.ShloMosaic.Lib.Claim

@[expose] public section

set_option maxRecDepth 16384

noncomputable section

namespace Cert.DwEvIn

open Cert.Kernel9Ideal Cert.Kernel9Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val % 8, t.val / 32]
    ∧ win0_1.index t = ![t.val % 8, t.val / 8 % 4]
    ∧ win0_2.index t = ![t.val / 32, t.val / 8 % 4] :=
  (by decide +kernel : ∀ t : Fin grid0.N, _)

/-- One step adds the product of the two blocks it reads. -/
theorem step_at (a : FVec Ideal S512x1024 .bf16) (b : FVec Ideal S512x1536 .bf16)
    (acc : FVec Ideal S1024x1536 .f32) (j : S1024x1536.Idx) :
    k0_pay2 a b acc j = acc j + ∑ k : Fin 512, a (ix2 k (j 0)) * b (ix2 k (j 1)) := by
  pointwise [k0_pay2]

/-- The carried block starts at zero. -/
theorem zero_at (j : S1024x1536.Idx) : k0_pay1 (F := Ideal) j = 0 := by
  pointwise [k0_pay1]

/-- The write changes the float format, which keeps the value. -/
theorem write_at (v : FVec Ideal S1024x1536 .f32) (j : S1024x1536.Idx) : (k0_pay3 (F := Ideal) v j : EReal) = v j := by
  pointwise [k0_pay3]

/-- The left block read at a grid point. -/
def blkA (t : Fin cfg0.N) : FVec Ideal S512x1024 .bf16 := iblk m c 0 t

/-- The right block read at a grid point. -/
def blkB (t : Fin cfg0.N) : FVec Ideal S512x1536 .bf16 := iblk m c 1 t

/-- What the reference computes of the arguments in memory. -/
def result : FVec Ideal S2048x6144 .bf16 :=
  Cert.Reference9Ideal.Read.val_main_v4 (F := Ideal) (m ((c : Thread nD τ).loc main_arg0)) (m ((c : Thread nD τ).loc main_arg1))

/-- At the last step of a run the carried block is the start plus every partial product of the run. -/
theorem acc_at (t : Fin cfg0.N) (hr : t.val % 8 = 8 - 1) (j : S1024x1536.Idx) : (outsAt0 m c t.val t.isLt).2 j
    = (k0_pay1 (F := Ideal)) j + ∑ s : Fin 8, ∑ k : Fin 512, blkA m c ⟨8 * (t.val / 8) + s.val, Pipeline.run_point_lt_of_flush t hr s⟩ (ix2 k (j 0)) * blkB m c ⟨8 * (t.val / 8) + s.val, Pipeline.run_point_lt_of_flush t hr s⟩ (ix2 k (j 1)) :=
  Pipeline.eq_sum_fin_of_reset_step_apply_of_flush (fun n h => (outsAt0 m c n h).2) 8 (k0_pay1 (F := Ideal))
    (fun t j => ∑ k : Fin 512, blkA m c t (ix2 k (j 0)) * blkB m c t (ix2 k (j 1)))
    (fun t h j => by
      rw [outsAt0_A m c t h (by omega)]
      frame_out
      rw [step_at]
      rfl)
    (fun t h j => by
      by_cases h1 : t.val % 8 = 7
      · rw [outsAt0_C m c t h h1]
        frame_out
        rw [(Memref.isWhole_whole _).read_unread, step_at]
        rfl
      · rw [outsAt0_B m c t h h1]
        frame_out
        rw [(Memref.isWhole_whole _).read_unread, step_at]
        rfl)
    t hr j

/-- The array the launch writes is the reference's. -/
theorem final : (dats m 0 c).arrAt 2 cfg0.N = result m c := by
  refine (dats m 0 c).arrAt_eq_of_covers 2 _ (by decide +kernel) fun t hf y => ?_
  have hr : t.val % 8 = 8 - 1 := (flush0_2 t).mp hf
  blk_simp
  have e := acc_at m c t hr y
  rw [outsAt0_C m c t (by omega) hr] at e
  rw [after0_2, outsAt0_C m c t (by omega) hr]
  frame_out at e
  frame_out
  rw [write_at, e, zero_at, zero_add]
  unfold blkA blkB result
  pointwise [Cert.Reference9Ideal.Read.val_main_v4, Cert.Reference9Ideal.Read.val_main_v3, Cert.Reference9Ideal.Read.val_main_v2, Cert.Reference9Ideal.Read.val_main_v1, Cert.Reference9Ideal.Read.val_main_v0]
  refine Fin.sum_mul_add_congr fun s k hl => ?_
  refine (mul_comm (G := EReal) _ _).trans ?_
  blk_point [iblk, V, idx ⟨_, Pipeline.run_point_lt_of_flush t hr s⟩, idx t]

/-- The kernel's ideal result is the reference's, for every input. -/
theorem algebraic : Cert.algebraic_Kernel9Ideal_Reference9Ideal := by
  pair_intro
  · run_from Cert.Kernel9Ideal.Gen.run_main m g
  · hlo_run
    exact (final m c).symm

/-- The kernel changes nothing but its result, over the machine's own floats. -/
theorem frame_kernel : Cert.quiescent_Kernel9 :=
  fun m ρ _ => Cert.Kernel9.Gen.frame m ρ

/-- The same over the extended reals. -/
theorem frame_ideal : Cert.quiescent_Kernel9Ideal :=
  fun m ρ _ => Cert.Kernel9Ideal.Gen.frame m ρ

/-- The reference changes nothing but its result. -/
theorem frame_ref : Cert.quiescent_Reference9Ideal := by
  intro m ρ _
  hlo_run
  · exact fun c => by simp
  · exact sem_eq_zero_of_no_sems (by decide) _

end Cert.DwEvIn

end
-- ==== Proof.DwOdIn.lean ====
/- Program 10: the gradient of an odd layer's input weight, as one grid of block products.

   The grid has 2 rows of blocks by 4 columns of blocks by 8 steps along the shared index.
   The carried block starts at zero, every step adds one partial product of length 512, and the last
   step writes the block out.  So a written block is the full product over 4096 indices in 8 pieces.  -/
module

public import proofs.«01_k».proof.Defs
public import proofs.«01_k».proof.Proof.Gen.Kernel10.Frame
public import proofs.«01_k».proof.Proof.Gen.Kernel10Ideal.Frame
public import proofs.«01_k».proof.Proof.Gen.Reference10Ideal.Read
public import Idealize.ShloMosaic.Lib.Pipeline.ValueKit
public import Idealize.ShloMosaic.Lib.Claim

@[expose] public section

set_option maxRecDepth 16384

noncomputable section

namespace Cert.DwOdIn

open Cert.Kernel10Ideal Cert.Kernel10Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val % 8, t.val / 32]
    ∧ win0_1.index t = ![t.val % 8, t.val / 8 % 4]
    ∧ win0_2.index t = ![t.val / 32, t.val / 8 % 4] :=
  (by decide +kernel : ∀ t : Fin grid0.N, _)

/-- One step adds the product of the two blocks it reads. -/
theorem step_at (a : FVec Ideal S512x1024 .bf16) (b : FVec Ideal S512x1280 .bf16)
    (acc : FVec Ideal S1024x1280 .f32) (j : S1024x1280.Idx) :
    k0_pay2 a b acc j = acc j + ∑ k : Fin 512, a (ix2 k (j 0)) * b (ix2 k (j 1)) := by
  pointwise [k0_pay2]

/-- The carried block starts at zero. -/
theorem zero_at (j : S1024x1280.Idx) : k0_pay1 (F := Ideal) j = 0 := by
  pointwise [k0_pay1]

/-- The write changes the float format, which keeps the value. -/
theorem write_at (v : FVec Ideal S1024x1280 .f32) (j : S1024x1280.Idx) : (k0_pay3 (F := Ideal) v j : EReal) = v j := by
  pointwise [k0_pay3]

/-- The left block read at a grid point. -/
def blkA (t : Fin cfg0.N) : FVec Ideal S512x1024 .bf16 := iblk m c 0 t

/-- The right block read at a grid point. -/
def blkB (t : Fin cfg0.N) : FVec Ideal S512x1280 .bf16 := iblk m c 1 t

/-- What the reference computes of the arguments in memory. -/
def result : FVec Ideal S2048x5120 .bf16 :=
  Cert.Reference10Ideal.Read.val_main_v4 (F := Ideal) (m ((c : Thread nD τ).loc main_arg0)) (m ((c : Thread nD τ).loc main_arg1))

/-- At the last step of a run the carried block is the start plus every partial product of the run. -/
theorem acc_at (t : Fin cfg0.N) (hr : t.val % 8 = 8 - 1) (j : S1024x1280.Idx) : (outsAt0 m c t.val t.isLt).2 j
    = (k0_pay1 (F := Ideal)) j + ∑ s : Fin 8, ∑ k : Fin 512, blkA m c ⟨8 * (t.val / 8) + s.val, Pipeline.run_point_lt_of_flush t hr s⟩ (ix2 k (j 0)) * blkB m c ⟨8 * (t.val / 8) + s.val, Pipeline.run_point_lt_of_flush t hr s⟩ (ix2 k (j 1)) :=
  Pipeline.eq_sum_fin_of_reset_step_apply_of_flush (fun n h => (outsAt0 m c n h).2) 8 (k0_pay1 (F := Ideal))
    (fun t j => ∑ k : Fin 512, blkA m c t (ix2 k (j 0)) * blkB m c t (ix2 k (j 1)))
    (fun t h j => by
      rw [outsAt0_A m c t h (by omega)]
      frame_out
      rw [step_at]
      rfl)
    (fun t h j => by
      by_cases h1 : t.val % 8 = 7
      · rw [outsAt0_C m c t h h1]
        frame_out
        rw [(Memref.isWhole_whole _).read_unread, step_at]
        rfl
      · rw [outsAt0_B m c t h h1]
        frame_out
        rw [(Memref.isWhole_whole _).read_unread, step_at]
        rfl)
    t hr j

/-- The array the launch writes is the reference's. -/
theorem final : (dats m 0 c).arrAt 2 cfg0.N = result m c := by
  refine (dats m 0 c).arrAt_eq_of_covers 2 _ (by decide +kernel) fun t hf y => ?_
  have hr : t.val % 8 = 8 - 1 := (flush0_2 t).mp hf
  blk_simp
  have e := acc_at m c t hr y
  rw [outsAt0_C m c t (by omega) hr] at e
  rw [after0_2, outsAt0_C m c t (by omega) hr]
  frame_out at e
  frame_out
  rw [write_at, e, zero_at, zero_add]
  unfold blkA blkB result
  pointwise [Cert.Reference10Ideal.Read.val_main_v4, Cert.Reference10Ideal.Read.val_main_v3, Cert.Reference10Ideal.Read.val_main_v2, Cert.Reference10Ideal.Read.val_main_v1, Cert.Reference10Ideal.Read.val_main_v0]
  refine Fin.sum_mul_add_congr fun s k hl => ?_
  refine (mul_comm (G := EReal) _ _).trans ?_
  blk_point [iblk, V, idx ⟨_, Pipeline.run_point_lt_of_flush t hr s⟩, idx t]

/-- The kernel's ideal result is the reference's, for every input. -/
theorem algebraic : Cert.algebraic_Kernel10Ideal_Reference10Ideal := by
  pair_intro
  · run_from Cert.Kernel10Ideal.Gen.run_main m g
  · hlo_run
    exact (final m c).symm

/-- The kernel changes nothing but its result, over the machine's own floats. -/
theorem frame_kernel : Cert.quiescent_Kernel10 :=
  fun m ρ _ => Cert.Kernel10.Gen.frame m ρ

/-- The same over the extended reals. -/
theorem frame_ideal : Cert.quiescent_Kernel10Ideal :=
  fun m ρ _ => Cert.Kernel10Ideal.Gen.frame m ρ

/-- The reference changes nothing but its result. -/
theorem frame_ref : Cert.quiescent_Reference10Ideal := by
  intro m ρ _
  hlo_run
  · exact fun c => by simp
  · exact sem_eq_zero_of_no_sems (by decide) _

end Cert.DwOdIn

end
-- ==== Proof.DhEvIn.lean ====
/- Program 11: the gradient of an even layer's normed input, as one grid of block products.

   The grid has 4 rows of blocks by 4 columns of blocks by 3 steps along the shared index.
   The carried block starts at zero, every step adds one partial product of length 2048, and the last
   step writes the block out.  So a written block is the full product over 6144 indices in 3 pieces.  -/
module

public import proofs.«01_k».proof.Defs
public import proofs.«01_k».proof.Proof.Gen.Kernel11.Frame
public import proofs.«01_k».proof.Proof.Gen.Kernel11Ideal.Frame
public import proofs.«01_k».proof.Proof.Gen.Reference11Ideal.Read
public import Idealize.ShloMosaic.Lib.Pipeline.ValueKit
public import Idealize.ShloMosaic.Lib.Claim

@[expose] public section

set_option maxRecDepth 16384

noncomputable section

namespace Cert.DhEvIn

open Cert.Kernel11Ideal Cert.Kernel11Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 12, t.val % 3]
    ∧ win0_1.index t = ![t.val / 3 % 4, t.val % 3]
    ∧ win0_2.index t = ![t.val / 12, t.val / 3 % 4] :=
  (by decide +kernel : ∀ t : Fin grid0.N, _)

/-- One step adds the product of the two blocks it reads. -/
theorem step_at (a : FVec Ideal S1024x2048 .bf16) (b : FVec Ideal S512x2048 .bf16)
    (acc : FVec Ideal S1024x512 .f32) (j : S1024x512.Idx) :
    k0_pay2 a b acc j = acc j + ∑ k : Fin 2048, a (ix2 (j 0) k) * b (ix2 (j 1) k) := by
  pointwise [k0_pay2]

/-- The carried block starts at zero. -/
theorem zero_at (j : S1024x512.Idx) : k0_pay1 (F := Ideal) j = 0 := by
  pointwise [k0_pay1]

/-- The left block read at a grid point. -/
def blkA (t : Fin cfg0.N) : FVec Ideal S1024x2048 .bf16 := iblk m c 0 t

/-- The right block read at a grid point. -/
def blkB (t : Fin cfg0.N) : FVec Ideal S512x2048 .bf16 := iblk m c 1 t

/-- What the reference computes of the arguments in memory. -/
def result : FVec Ideal S4096x2048 .f32 :=
  Cert.Reference11Ideal.Read.val_main_v2 (F := Ideal) (m ((c : Thread nD τ).loc main_arg0)) (m ((c : Thread nD τ).loc main_arg1))

/-- At the last step of a run the carried block is the start plus every partial product of the run. -/
theorem acc_at (t : Fin cfg0.N) (hr : t.val % 3 = 3 - 1) (j : S1024x512.Idx) : (outsAt0 m c t.val t.isLt).2 j
    = (k0_pay1 (F := Ideal)) j + ∑ s : Fin 3, ∑ k : Fin 2048, blkA m c ⟨3 * (t.val / 3) + s.val, Pipeline.run_point_lt_of_flush t hr s⟩ (ix2 (j 0) k) * blkB m c ⟨3 * (t.val / 3) + s.val, Pipeline.run_point_lt_of_flush t hr s⟩ (ix2 (j 1) k) :=
  Pipeline.eq_sum_fin_of_reset_step_apply_of_flush (fun n h => (outsAt0 m c n h).2) 3 (k0_pay1 (F := Ideal))
    (fun t j => ∑ k : Fin 2048, blkA m c t (ix2 (j 0) k) * blkB m c t (ix2 (j 1) k))
    (fun t h j => by
      rw [outsAt0_A m c t h (by omega)]
      frame_out
      rw [step_at]
      rfl)
    (fun t h j => by
      by_cases h1 : t.val % 3 = 2
      · rw [outsAt0_C m c t h h1]
        frame_out
        rw [(Memref.isWhole_whole _).read_unread, step_at]
        rfl
      · rw [outsAt0_B m c t h h1]
        frame_out
        rw [(Memref.isWhole_whole _).read_unread, step_at]
        rfl)
    t hr j

/-- The array the launch writes is the reference's. -/
theorem final : (dats m 0 c).arrAt 2 cfg0.N = result m c := by
  refine (dats m 0 c).arrAt_eq_of_covers 2 _ (by decide +kernel) fun t hf y => ?_
  have hr : t.val % 3 = 3 - 1 := (flush0_2 t).mp hf
  blk_simp
  have e := acc_at m c t hr y
  rw [outsAt0_C m c t (by omega) hr] at e
  rw [after0_2, outsAt0_C m c t (by omega) hr]
  frame_out at e
  frame_out
  rw [e, zero_at, zero_add]
  unfold blkA blkB result
  pointwise [Cert.Reference11Ideal.Read.val_main_v2, Cert.Reference11Ideal.Read.val_main_v1, Cert.Reference11Ideal.Read.val_main_v0]
  refine Fin.sum_mul_add_congr fun s k hl => ?_
  blk_point [iblk, V, idx ⟨_, Pipeline.run_point_lt_of_flush t hr s⟩, idx t]

/-- The kernel's ideal result is the reference's, for every input. -/
theorem algebraic : Cert.algebraic_Kernel11Ideal_Reference11Ideal := by
  pair_intro
  · run_from Cert.Kernel11Ideal.Gen.run_main m g
  · hlo_run
    exact (final m c).symm

/-- The kernel changes nothing but its result, over the machine's own floats. -/
theorem frame_kernel : Cert.quiescent_Kernel11 :=
  fun m ρ _ => Cert.Kernel11.Gen.frame m ρ

/-- The same over the extended reals. -/
theorem frame_ideal : Cert.quiescent_Kernel11Ideal :=
  fun m ρ _ => Cert.Kernel11Ideal.Gen.frame m ρ

/-- The reference changes nothing but its result. -/
theorem frame_ref : Cert.quiescent_Reference11Ideal := by
  intro m ρ _
  hlo_run
  · exact fun c => by simp
  · exact sem_eq_zero_of_no_sems (by decide) _

end Cert.DhEvIn

end
-- ==== Proof.DhOdIn.lean ====
/- Program 12: the gradient of an odd layer's normed input, as one grid of block products.

   The grid has 4 rows of blocks by 4 columns of blocks by 4 steps along the shared index.
   The carried block starts at zero, every step adds one partial product of length 1280, and the last
   step writes the block out.  So a written block is the full product over 5120 indices in 4 pieces.  -/
module

public import proofs.«01_k».proof.Defs
public import proofs.«01_k».proof.Proof.Gen.Kernel12.Frame
public import proofs.«01_k».proof.Proof.Gen.Kernel12Ideal.Frame
public import proofs.«01_k».proof.Proof.Gen.Reference12Ideal.Read
public import Idealize.ShloMosaic.Lib.Pipeline.ValueKit
public import Idealize.ShloMosaic.Lib.Claim

@[expose] public section

set_option maxRecDepth 16384

noncomputable section

namespace Cert.DhOdIn

open Cert.Kernel12Ideal Cert.Kernel12Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 16, t.val % 4]
    ∧ win0_1.index t = ![t.val / 4 % 4, t.val % 4]
    ∧ win0_2.index t = ![t.val / 16, t.val / 4 % 4] :=
  (by decide +kernel : ∀ t : Fin grid0.N, _)

/-- One step adds the product of the two blocks it reads. -/
theorem step_at (a : FVec Ideal S1024x1280 .bf16) (b : FVec Ideal S512x1280 .bf16)
    (acc : FVec Ideal S1024x512 .f32) (j : S1024x512.Idx) :
    k0_pay2 a b acc j = acc j + ∑ k : Fin 1280, a (ix2 (j 0) k) * b (ix2 (j 1) k) := by
  pointwise [k0_pay2]

/-- The carried block starts at zero. -/
theorem zero_at (j : S1024x512.Idx) : k0_pay1 (F := Ideal) j = 0 := by
  pointwise [k0_pay1]

/-- The left block read at a grid point. -/
def blkA (t : Fin cfg0.N) : FVec Ideal S1024x1280 .bf16 := iblk m c 0 t

/-- The right block read at a grid point. -/
def blkB (t : Fin cfg0.N) : FVec Ideal S512x1280 .bf16 := iblk m c 1 t

/-- What the reference computes of the arguments in memory. -/
def result : FVec Ideal S4096x2048 .f32 :=
  Cert.Reference12Ideal.Read.val_main_v2 (F := Ideal) (m ((c : Thread nD τ).loc main_arg0)) (m ((c : Thread nD τ).loc main_arg1))

/-- At the last step of a run the carried block is the start plus every partial product of the run. -/
theorem acc_at (t : Fin cfg0.N) (hr : t.val % 4 = 4 - 1) (j : S1024x512.Idx) : (outsAt0 m c t.val t.isLt).2 j
    = (k0_pay1 (F := Ideal)) j + ∑ s : Fin 4, ∑ k : Fin 1280, blkA m c ⟨4 * (t.val / 4) + s.val, Pipeline.run_point_lt_of_flush t hr s⟩ (ix2 (j 0) k) * blkB m c ⟨4 * (t.val / 4) + s.val, Pipeline.run_point_lt_of_flush t hr s⟩ (ix2 (j 1) k) :=
  Pipeline.eq_sum_fin_of_reset_step_apply_of_flush (fun n h => (outsAt0 m c n h).2) 4 (k0_pay1 (F := Ideal))
    (fun t j => ∑ k : Fin 1280, blkA m c t (ix2 (j 0) k) * blkB m c t (ix2 (j 1) k))
    (fun t h j => by
      rw [outsAt0_A m c t h (by omega)]
      frame_out
      rw [step_at]
      rfl)
    (fun t h j => by
      by_cases h1 : t.val % 4 = 3
      · rw [outsAt0_C m c t h h1]
        frame_out
        rw [(Memref.isWhole_whole _).read_unread, step_at]
        rfl
      · rw [outsAt0_B m c t h h1]
        frame_out
        rw [(Memref.isWhole_whole _).read_unread, step_at]
        rfl)
    t hr j

/-- The array the launch writes is the reference's. -/
theorem final : (dats m 0 c).arrAt 2 cfg0.N = result m c := by
  refine (dats m 0 c).arrAt_eq_of_covers 2 _ (by decide +kernel) fun t hf y => ?_
  have hr : t.val % 4 = 4 - 1 := (flush0_2 t).mp hf
  blk_simp
  have e := acc_at m c t hr y
  rw [outsAt0_C m c t (by omega) hr] at e
  rw [after0_2, outsAt0_C m c t (by omega) hr]
  frame_out at e
  frame_out
  rw [e, zero_at, zero_add]
  unfold blkA blkB result
  pointwise [Cert.Reference12Ideal.Read.val_main_v2, Cert.Reference12Ideal.Read.val_main_v1, Cert.Reference12Ideal.Read.val_main_v0]
  refine Fin.sum_mul_add_congr fun s k hl => ?_
  blk_point [iblk, V, idx ⟨_, Pipeline.run_point_lt_of_flush t hr s⟩, idx t]

/-- The kernel's ideal result is the reference's, for every input. -/
theorem algebraic : Cert.algebraic_Kernel12Ideal_Reference12Ideal := by
  pair_intro
  · run_from Cert.Kernel12Ideal.Gen.run_main m g
  · hlo_run
    exact (final m c).symm

/-- The kernel changes nothing but its result, over the machine's own floats. -/
theorem frame_kernel : Cert.quiescent_Kernel12 :=
  fun m ρ _ => Cert.Kernel12.Gen.frame m ρ

/-- The same over the extended reals. -/
theorem frame_ideal : Cert.quiescent_Kernel12Ideal :=
  fun m ρ _ => Cert.Kernel12Ideal.Gen.frame m ρ

/-- The reference changes nothing but its result. -/
theorem frame_ref : Cert.quiescent_Reference12Ideal := by
  intro m ρ _
  hlo_run
  · exact fun c => by simp
  · exact sem_eq_zero_of_no_sems (by decide) _

end Cert.DhOdIn

end
-- ==== Proof.EvIn.lean ====
/- Program 13: an even layer's input product with its bias, as one grid of block products.

   The grid has 4 rows of blocks by 12 columns of blocks by 1 steps along the shared index.
   There is one step for each block: the block is zeroed, the product over all 2048 indices is added, and
   the block is written out.  -/
module

public import proofs.«01_k».proof.Defs
public import proofs.«01_k».proof.Proof.Gen.Kernel13.Frame
public import proofs.«01_k».proof.Proof.Gen.Kernel13Ideal.Frame
public import proofs.«01_k».proof.Proof.Gen.Reference13Ideal.Read
public import Idealize.ShloMosaic.Lib.Pipeline.ValueKit
public import Idealize.ShloMosaic.Lib.Claim

@[expose] public section

set_option maxRecDepth 16384

noncomputable section

namespace Cert.EvIn

open Cert.Kernel13Ideal Cert.Kernel13Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 12, 0]
    ∧ win0_1.index t = ![0, t.val % 12]
    ∧ win0_2.index t = ![0, t.val % 12]
    ∧ win0_3.index t = ![t.val / 12, t.val % 12] :=
  (by decide +kernel : ∀ t : Fin grid0.N, _)

/-- One step adds the product of the two blocks it reads. -/
theorem step_at (a : FVec Ideal S1024x2048 .bf16) (b : FVec Ideal S2048x512 .bf16)
    (acc : FVec Ideal S1024x512 .f32) (j : S1024x512.Idx) :
    k0_pay2 a b acc j = acc j + ∑ k : Fin 2048, a (ix2 (j 0) k) * b (ix2 k (j 1)) := by
  pointwise [k0_pay2]

/-- The carried block starts at zero. -/
theorem zero_at (j : S1024x512.Idx) : k0_pay1 (F := Ideal) j = 0 := by
  pointwise [k0_pay1]

/-- What is written is the product with the row added. -/
theorem write_at (v : FVec Ideal S1024x512 .f32) (r : FVec Ideal S1x512 .f32) (j : S1024x512.Idx) :
    k0_pay3 (F := Ideal) v r j = v j + r (ix2 0 (j 1)) := by
  pointwise [k0_pay3]

/-- The left block read at a grid point. -/
def blkA (t : Fin cfg0.N) : FVec Ideal S1024x2048 .bf16 := iblk m c 0 t

/-- The right block read at a grid point. -/
def blkB (t : Fin cfg0.N) : FVec Ideal S2048x512 .bf16 := iblk m c 1 t

/-- What the reference computes of the arguments in memory. -/
def result : FVec Ideal S4096x6144 .f32 :=
  Cert.Reference13Ideal.Read.val_main_v5 (F := Ideal) (m ((c : Thread nD τ).loc main_arg0)) (m ((c : Thread nD τ).loc main_arg1)) (m ((c : Thread nD τ).loc main_arg2))

/-- The array the launch writes is the reference's. -/
theorem final : (dats m 0 c).arrAt 3 cfg0.N = result m c := by
  refine (dats m 0 c).arrAt_eq_of_covers 3 _ (by decide +kernel) fun t hf y => ?_
  blk_simp
  rw [after0_3]
  unfold outsAt0
  frame_out
  rw [write_at, step_at, zero_at, zero_add]
  unfold result
  pointwise [Cert.Reference13Ideal.Read.val_main_v5, Cert.Reference13Ideal.Read.val_main_v4, Cert.Reference13Ideal.Read.val_main_v3, Cert.Reference13Ideal.Read.val_main_v2, Cert.Reference13Ideal.Read.val_main_v1, Cert.Reference13Ideal.Read.val_main_v0]
  blk_point [iblk, V, idx t]

/-- The kernel's ideal result is the reference's, for every input. -/
theorem algebraic : Cert.algebraic_Kernel13Ideal_Reference13Ideal := by
  pair_intro
  · run_from Cert.Kernel13Ideal.Gen.run_main m g
  · hlo_run
    exact (final m c).symm

/-- The kernel changes nothing but its result, over the machine's own floats. -/
theorem frame_kernel : Cert.quiescent_Kernel13 :=
  fun m ρ _ => Cert.Kernel13.Gen.frame m ρ

/-- The same over the extended reals. -/
theorem frame_ideal : Cert.quiescent_Kernel13Ideal :=
  fun m ρ _ => Cert.Kernel13Ideal.Gen.frame m ρ

/-- The reference changes nothing but its result. -/
theorem frame_ref : Cert.quiescent_Reference13Ideal := by
  intro m ρ _
  hlo_run
  · exact fun c => by simp
  · exact sem_eq_zero_of_no_sems (by decide) _

end Cert.EvIn

end
-- ==== Proof.OdIn.lean ====
/- Program 14: an odd layer's input product with its bias, as one grid of block products.

   The grid has 4 rows of blocks by 10 columns of blocks by 1 steps along the shared index.
   There is one step for each block: the block is zeroed, the product over all 2048 indices is added, and
   the block is written out.  -/
module

public import proofs.«01_k».proof.Defs
public import proofs.«01_k».proof.Proof.Gen.Kernel14.Frame
public import proofs.«01_k».proof.Proof.Gen.Kernel14Ideal.Frame
public import proofs.«01_k».proof.Proof.Gen.Reference14Ideal.Read
public import Idealize.ShloMosaic.Lib.Pipeline.ValueKit
public import Idealize.ShloMosaic.Lib.Claim

@[expose] public section

set_option maxRecDepth 16384

noncomputable section

namespace Cert.OdIn

open Cert.Kernel14Ideal Cert.Kernel14Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 10, 0]
    ∧ win0_1.index t = ![0, t.val % 10]
    ∧ win0_2.index t = ![0, t.val % 10]
    ∧ win0_3.index t = ![t.val / 10, t.val % 10] :=
  (by decide +kernel : ∀ t : Fin grid0.N, _)

/-- One step adds the product of the two blocks it reads. -/
theorem step_at (a : FVec Ideal S1024x2048 .bf16) (b : FVec Ideal S2048x512 .bf16)
    (acc : FVec Ideal S1024x512 .f32) (j : S1024x512.Idx) :
    k0_pay2 a b acc j = acc j + ∑ k : Fin 2048, a (ix2 (j 0) k) * b (ix2 k (j 1)) := by
  pointwise [k0_pay2]

/-- The carried block starts at zero. -/
theorem zero_at (j : S1024x512.Idx) : k0_pay1 (F := Ideal) j = 0 := by
  pointwise [k0_pay1]

/-- What is written is the product with the row added. -/
theorem write_at (v : FVec Ideal S1024x512 .f32) (r : FVec Ideal S1x512 .f32) (j : S1024x512.Idx) :
    k0_pay3 (F := Ideal) v r j = v j + r (ix2 0 (j 1)) := by
  pointwise [k0_pay3]

/-- The left block read at a grid point. -/
def blkA (t : Fin cfg0.N) : FVec Ideal S1024x2048 .bf16 := iblk m c 0 t

/-- The right block read at a grid point. -/
def blkB (t : Fin cfg0.N) : FVec Ideal S2048x512 .bf16 := iblk m c 1 t

/-- What the reference computes of the arguments in memory. -/
def result : FVec Ideal S4096x5120 .f32 :=
  Cert.Reference14Ideal.Read.val_main_v5 (F := Ideal) (m ((c : Thread nD τ).loc main_arg0)) (m ((c : Thread nD τ).loc main_arg1)) (m ((c : Thread nD τ).loc main_arg2))

/-- The array the launch writes is the reference's. -/
theorem final : (dats m 0 c).arrAt 3 cfg0.N = result m c := by
  refine (dats m 0 c).arrAt_eq_of_covers 3 _ (by decide +kernel) fun t hf y => ?_
  blk_simp
  rw [after0_3]
  unfold outsAt0
  frame_out
  rw [write_at, step_at, zero_at, zero_add]
  unfold result
  pointwise [Cert.Reference14Ideal.Read.val_main_v5, Cert.Reference14Ideal.Read.val_main_v4, Cert.Reference14Ideal.Read.val_main_v3, Cert.Reference14Ideal.Read.val_main_v2, Cert.Reference14Ideal.Read.val_main_v1, Cert.Reference14Ideal.Read.val_main_v0]
  blk_point [iblk, V, idx t]

/-- The kernel's ideal result is the reference's, for every input. -/
theorem algebraic : Cert.algebraic_Kernel14Ideal_Reference14Ideal := by
  pair_intro
  · run_from Cert.Kernel14Ideal.Gen.run_main m g
  · hlo_run
    exact (final m c).symm

/-- The kernel changes nothing but its result, over the machine's own floats. -/
theorem frame_kernel : Cert.quiescent_Kernel14 :=
  fun m ρ _ => Cert.Kernel14.Gen.frame m ρ

/-- The same over the extended reals. -/
theorem frame_ideal : Cert.quiescent_Kernel14Ideal :=
  fun m ρ _ => Cert.Kernel14Ideal.Gen.frame m ρ

/-- The reference changes nothing but its result. -/
theorem frame_ref : Cert.quiescent_Reference14Ideal := by
  intro m ρ _
  hlo_run
  · exact fun c => by simp
  · exact sem_eq_zero_of_no_sems (by decide) _

end Cert.OdIn

end
-- ==== Proof.MixOut.lean ====
/- Program 15: the mixers' output product, added to the residual, as one grid of block products.

   The grid has 4 rows of blocks by 4 columns of blocks by 1 steps along the shared index.
   There is one step for each block: the block is zeroed, the product over all 2048 indices is added, and
   the block is written out.  -/
module

public import proofs.«01_k».proof.Defs
public import proofs.«01_k».proof.Proof.Gen.Kernel15.Frame
public import proofs.«01_k».proof.Proof.Gen.Kernel15Ideal.Frame
public import proofs.«01_k».proof.Proof.Gen.Reference15Ideal.Read
public import Idealize.ShloMosaic.Lib.Pipeline.ValueKit
public import Idealize.ShloMosaic.Lib.Claim

@[expose] public section

set_option maxRecDepth 16384

noncomputable section

namespace Cert.MixOut

open Cert.Kernel15Ideal Cert.Kernel15Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 4, 0]
    ∧ win0_1.index t = ![0, t.val % 4]
    ∧ win0_2.index t = ![0, t.val % 4]
    ∧ win0_3.index t = ![t.val / 4, t.val % 4]
    ∧ win0_4.index t = ![t.val / 4, t.val % 4] :=
  (by decide +kernel : ∀ t : Fin grid0.N, _)

/-- One step adds the product of the two blocks it reads. -/
theorem step_at (a : FVec Ideal S1024x2048 .bf16) (b : FVec Ideal S2048x512 .bf16)
    (acc : FVec Ideal S1024x512 .f32) (j : S1024x512.Idx) :
    k0_pay2 a b acc j = acc j + ∑ k : Fin 2048, a (ix2 (j 0) k) * b (ix2 k (j 1)) := by
  pointwise [k0_pay2]

/-- The carried block starts at zero. -/
theorem zero_at (j : S1024x512.Idx) : k0_pay1 (F := Ideal) j = 0 := by
  pointwise [k0_pay1]

/-- What is written is the product with the row and the residual added. -/
theorem write_at (v : FVec Ideal S1024x512 .f32) (r : FVec Ideal S1x512 .f32) (x : FVec Ideal S1024x512 .f32) (j : S1024x512.Idx) :
    k0_pay3 (F := Ideal) v r x j = v j + r (ix2 0 (j 1)) + x j := by
  pointwise [k0_pay3]

/-- The left block read at a grid point. -/
def blkA (t : Fin cfg0.N) : FVec Ideal S1024x2048 .bf16 := iblk m c 0 t

/-- The right block read at a grid point. -/
def blkB (t : Fin cfg0.N) : FVec Ideal S2048x512 .bf16 := iblk m c 1 t

/-- The row block read at a grid point. -/
def blkR (t : Fin cfg0.N) : FVec Ideal S1x512 .f32 := iblk m c 2 t

/-- The row added at the write is the zero row. -/
theorem row_at (t : Fin cfg0.N) (j : S1x512.Idx) : blkR m c t j = 0 := by
  have h : ∀ i : S1x2048.Idx, V m c main_v0 i = (0 : EReal) := fun i => by
    entry_read
    pointwise
  exact h _

/-- What the reference computes of the arguments in memory. -/
def result : FVec Ideal S4096x2048 .f32 :=
  Cert.Reference15Ideal.Read.val_main_v3 (F := Ideal) (m ((c : Thread nD τ).loc main_arg0)) (m ((c : Thread nD τ).loc main_arg1)) (m ((c : Thread nD τ).loc main_arg2))

/-- The array the launch writes is the reference's. -/
theorem final : (dats m 0 c).arrAt 4 cfg0.N = result m c := by
  refine (dats m 0 c).arrAt_eq_of_covers 4 _ (by decide +kernel) fun t hf y => ?_
  blk_simp
  rw [after0_4]
  unfold outsAt0
  frame_out
  rw [write_at, step_at, zero_at, zero_add]
  unfold result
  pointwise [Cert.Reference15Ideal.Read.val_main_v3, Cert.Reference15Ideal.Read.val_main_v2, Cert.Reference15Ideal.Read.val_main_v1, Cert.Reference15Ideal.Read.val_main_v0]
  have hz : iblk m c 2 t (ix2 0 (y 1)) = (0 : EReal) := row_at m c t (ix2 0 (y 1))
  rw [hz, add_zero]
  refine (add_comm (G := EReal) _ _).trans (congrArg₂ (fun x y : EReal => x + y) ?_ ?_)
  · blk_point [iblk, V, idx t]
  · blk_point [iblk, V, idx t]

/-- The kernel's ideal result is the reference's, for every input. -/
theorem algebraic : Cert.algebraic_Kernel15Ideal_Reference15Ideal := by
  pair_intro
  · run_from Cert.Kernel15Ideal.Gen.run_main m g
  · hlo_run
    exact (final m c).symm

/-- The kernel changes nothing but its result, over the machine's own floats. -/
theorem frame_kernel : Cert.quiescent_Kernel15 :=
  fun m ρ _ => Cert.Kernel15.Gen.frame m ρ

/-- The same over the extended reals. -/
theorem frame_ideal : Cert.quiescent_Kernel15Ideal :=
  fun m ρ _ => Cert.Kernel15Ideal.Gen.frame m ρ

/-- The reference changes nothing but its result. -/
theorem frame_ref : Cert.quiescent_Reference15Ideal := by
  intro m ρ _
  hlo_run
  · exact fun c => by simp
  · exact sem_eq_zero_of_no_sems (by decide) _

end Cert.MixOut

end
-- ==== Proof.LruDx.lean ====
/- Program 16: the gradient of the convolution before the recurrence in its input, block of rows by block of rows. -/
module

public import proofs.«01_k».proof.Defs
public import proofs.«01_k».proof.Proof.Gen.Kernel16.Frame
public import proofs.«01_k».proof.Proof.Gen.Kernel16Ideal.Frame
public import proofs.«01_k».proof.Proof.Gen.Reference16Ideal.Read
public import Idealize.ShloMosaic.Lib.Pipeline.ValueKit
public import Idealize.ShloMosaic.Lib.Claim

@[expose] public section

set_option maxRecDepth 16384

noncomputable section

namespace Cert.LruDx

open Cert.Kernel16Ideal Cert.Kernel16Ideal.Gen
open Idealize.ShloMosaic Idealize.ShloMosaic.TcCoe Idealize.SL.Sem

variable (m : (ℓ : Loc nD τ sig) → Buf (Elt Ideal) ℓ) (c : Dev nD)

/-- The block that every window is on at a grid point: the rows of the second window are the next block's. -/
theorem idx : ∀ t : Fin cfg0.N, win0_0.index t = ![t.val % 8, t.val / 8]
    ∧ win0_1.index t = ![min (t.val % 8 + 1) 7, t.val / 8]
    ∧ win0_2.index t = ![0, t.val / 8]
    ∧ win0_3.index t = ![t.val % 8, t.val / 8] :=
  (by decide +kernel : ∀ t : Fin grid0.N, _)

/-- The second grid coordinate is the number of the block of rows. -/
theorem row_block : ∀ t : Fin cfg0.N, (grid0.coords t 1 : ℕ) = t.val % 8 :=
  (by decide +kernel : ∀ t : Fin grid0.N, _)

/-- An entry of the cotangent, zero past the last row. -/
def rowAt (X : FVec Ideal S4096x1024 .f32) (n : ℕ) (q : Fin 1024) : EReal :=
  if h : n < 4096 then X (ix2 ⟨n, h⟩ q) else 0

/-- The block moved up by `d` rows: what falls out of it comes from the next block, and is zero past the last. -/
def up (i : grid0.Coords) (a b : FVec Ideal S512x512 .f32) (j : S512x512.Idx) (d : ℕ) : EReal :=
  if 512 ≤ (j 0 : ℕ) + d then (if (i 1 : ℕ) < 7 then b (ix2 ⟨((j 0 : ℕ) + d) % 512, Nat.mod_lt _ (by decide)⟩ (j 1)) else 0)
  else a (ix2 ⟨((j 0 : ℕ) + d) % 512, Nat.mod_lt _ (by decide)⟩ (j 1))

/-- A choice on the order of two small words is a choice on the numbers. -/
theorem select_sge (p q : ℕ) (hp : p < 2 ^ 31) (hq : q < 2 ^ 31) (x y : EReal) :
    Scalar.select (IntOp.cmpi .sge (BitVec.ofNat 32 p) (BitVec.ofNat 32 q)) x y = if q ≤ p then x else y := by
  rw [WordCmp.cmpi_sge_ofNat hp hq]
  by_cases h : q ≤ p <;> simp [Scalar.select, h]

/-- The same for the strict order. -/
theorem select_slt (p q : ℕ) (hp : p < 2 ^ 31) (hq : q < 2 ^ 31) (x y : EReal) :
    Scalar.select (Scalar.cmpi .slt (BitVec.ofNat 32 p) (BitVec.ofNat 32 q)) x y = if p < q then x else y := by
  refine (congrArg (fun s => Scalar.select s x y) (WordCmp.cmpi_slt_ofNat hp hq)).trans ?_
  by_cases h : p < q <;> simp [Scalar.select, h]

/-- Two rotated blocks, joined at the row where the next block begins, are the block moved up. -/
theorem rot_at (i : grid0.Coords) (a b : FVec Ideal S512x512 .f32) (j : S512x512.Idx) (d s : ℕ) (hs : s + d = 512) (h) (h') :
    Scalar.select (IntOp.cmpi .sge (BitVec.ofNat 32 (j 0 : ℕ)) (BitVec.ofNat 32 s))
      (Scalar.select (Scalar.cmpi .slt (BitVec.ofNat 32 (i 1 : ℕ)) 7#32)
        (b (ix2 ⟨((j 0 : ℕ) + 512 - s) % 512, h⟩ (j 1))) 0)
      (a (ix2 ⟨((j 0 : ℕ) + 512 - s) % 512, h'⟩ (j 1))) = up i a b j d := by
  have h0 : (j 0 : ℕ) < 512 := (j 0).isLt
  have h1 : (i 1 : ℕ) < 8 := (i 1).isLt
  rw [select_sge _ _ (by omega) (by omega), select_slt _ _ (by omega) (by omega)]
  have e : ((j 0 : ℕ) + 512 - s) % 512 = ((j 0 : ℕ) + d) % 512 := by congr 1; omega
  unfold up
  simp only [e]
  exact if_congr (by omega) rfl rfl

/-- Moving by no rows. -/
theorem up_zero (i : grid0.Coords) (a b : FVec Ideal S512x512 .f32) (j : S512x512.Idx) : a j = up i a b j 0 := by
  have h0 : (j 0 : ℕ) < 512 := (j 0).isLt
  unfold up
  rw [if_neg (by omega)]
  have e : (⟨((j 0 : ℕ) + 0) % 512, Nat.mod_lt _ (by decide)⟩ : Fin 512) = j 0 :=
    Fin.ext (show ((j 0 : ℕ) + 0) % 512 = (j 0 : ℕ) by omega)
  rw [e]
  exact congrArg a (ValueIdx.eq_ix2 j)

/-- The block the kernel writes, of the three blocks it reads. -/
abbrev blockOut (i : grid0.Coords) (a b : FVec Ideal S512x512 .f32) (w : FVec Ideal S4x512 .f32) : FVec Ideal S512x512 .bf16 :=
  k0_pay1 (F := Ideal) (k0_pay2 i a b w) (k0_pay3 a w)

/-- One block of the result: each tap times the block moved up by as many rows as the tap is from the last. -/
theorem pay_at (i : grid0.Coords) (a b : FVec Ideal S512x512 .f32) (w : FVec Ideal S4x512 .f32) (j : S512x512.Idx) :
    blockOut i a b w j = w (ix2 0 (j 1)) * up i a b j 3
      + w (ix2 1 (j 1)) * up i a b j 2
      + w (ix2 2 (j 1)) * up i a b j 1
      + w (ix2 3 (j 1)) * up i a b j 0 := by
  pointwise [blockOut, k0_pay1, k0_pay2, k0_pay3]
  exact congrArg₂ (· + ·) (congrArg₂ (· + ·) (congrArg₂ (· + ·) (congrArg (w (ix2 0 (j 1)) * ·) (rot_at i a b j 3 509 (by norm_num) _ _))
    (congrArg (w (ix2 1 (j 1)) * ·) (rot_at i a b j 2 510 (by norm_num) _ _)))
    (congrArg (w (ix2 2 (j 1)) * ·) (rot_at i a b j 1 511 (by norm_num) _ _)))
    (congrArg (w (ix2 3 (j 1)) * ·) (up_zero i a b j))

/-- A tap of the transposed convolution. -/
theorem tap_at (x0 : FVec Ideal S4096x1024 .f32) (v : EReal) (n k d : ℕ) (q : Fin 1024) (hk : k + d = 3) :
    (if h₀ : k ≤ 3 + n ∧ 3 + n - k < 4096 then v * x0 (ix2 ⟨3 + n - k, h₀.2⟩ q) else 0) = v * rowAt x0 (n + d) q := by
  have e : 3 + n - k = n + d := by omega
  unfold rowAt
  simp only [e]
  by_cases h₁ : n + d < 4096
  · rw [dif_pos ⟨by omega, h₁⟩, dif_pos h₁]
  · rw [dif_neg (fun h₂ => h₁ h₂.2), dif_neg h₁, mul_zero]

/-- The first tap. -/
theorem tap_first (x0 : FVec Ideal S4096x1024 .f32) (v : EReal) (n : ℕ) (q : Fin 1024) :
    (if h₀ : 3 + n < 4096 then v * x0 (ix2 ⟨3 + n, h₀⟩ q) else 0) = v * rowAt x0 (n + 3) q := by
  unfold rowAt
  simp only [Nat.add_comm 3 n]
  by_cases h₁ : n + 3 < 4096
  · rw [dif_pos h₁, dif_pos h₁]
  · rw [dif_neg h₁, dif_neg h₁, mul_zero]

/-- The last tap. -/
theorem row_zero (x0 : FVec Ideal S4096x1024 .f32) (j : S4096x1024.Idx) : x0 j = rowAt x0 ((j 0 : ℕ) + 0) (j 1) := by
  unfold rowAt
  rw [dif_pos (show (j 0 : ℕ) + 0 < 4096 from (j 0).isLt)]
  exact congrArg x0 (ValueIdx.eq_ix2 j)

/-- The reference at an entry. -/
theorem ref_at (x0 : FVec Ideal S4096x1024 .f32) (x1 : FVec Ideal S4x1024 .f32) (j : S4096x1024.Idx) :
    Cert.Reference16Ideal.Read.val_main_v32 (F := Ideal) x0 x1 j = x1 (ix2 3 (j 1)) * rowAt x0 ((j 0 : ℕ) + 0) (j 1)
      + x1 (ix2 2 (j 1)) * rowAt x0 ((j 0 : ℕ) + 1) (j 1)
      + x1 (ix2 1 (j 1)) * rowAt x0 ((j 0 : ℕ) + 2) (j 1)
      + x1 (ix2 0 (j 1)) * rowAt x0 ((j 0 : ℕ) + 3) (j 1) := by
  pointwise [Cert.Reference16Ideal.Read.val_main_cst, Cert.Reference16Ideal.Read.val_main_v0, Cert.Reference16Ideal.Read.val_main_v1, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_cst_0, Cert.Reference16Ideal.Read.val_main_v17, Cert.Reference16Ideal.Read.val_main_v18, Cert.Reference16Ideal.Read.val_main_v19, Cert.Reference16Ideal.Read.val_main_cst_1, Cert.Reference16Ideal.Read.val_main_v20, Cert.Reference16Ideal.Read.val_main_v21, Cert.Reference16Ideal.Read.val_main_v22, Cert.Reference16Ideal.Read.val_main_v23, Cert.Reference16Ideal.Read.val_main_cst_2, Cert.Reference16Ideal.Read.val_main_v24, Cert.Reference16Ideal.Read.val_main_v25, Cert.Reference16Ideal.Read.val_main_v26, Cert.Reference16Ideal.Read.val_main_v27, Cert.Reference16Ideal.Read.val_main_cst_3, Cert.Reference16Ideal.Read.val_main_v28, Cert.Reference16Ideal.Read.val_main_v29, Cert.Reference16Ideal.Read.val_main_v30, Cert.Reference16Ideal.Read.val_main_v31, Cert.Reference16Ideal.Read.val_main_v32]
  exact congrArg₂ (· + ·) (congrArg₂ (· + ·) (congrArg₂ (· + ·) (congrArg (x1 (ix2 3 (j 1)) * ·) (row_zero x0 j))
    (tap_at x0 _ _ 2 1 _ (by norm_num)))
    (tap_at x0 _ _ 1 2 _ (by norm_num)))
    (tap_first x0 _ _ _)

/-- A moved block of the cotangent is the cotangent, moved. -/
theorem up_block (t : Fin cfg0.N) (y : S512x512.Idx) (j : S4096x1024.Idx) (hj0 : (j 0 : ℕ) = t.val % 8 * 512 + y 0)
    (hj1 : (j 1 : ℕ) = t.val / 8 * 512 + y 1) (d : ℕ) (hd : d < 4) :
    up (grid0.coords t) (iblk m c 0 t) (iblk m c 1 t) y d = rowAt (m ((c : Thread nD τ).loc main_arg0)) ((j 0 : ℕ) + d) (j 1) := by
  have h0 : (y 0 : ℕ) < 512 := (y 0).isLt
  have ht : t.val % 8 < 8 := Nat.mod_lt _ (by decide)
  unfold up rowAt
  rw [row_block t]
  by_cases hu : 512 ≤ (y 0 : ℕ) + d
  · rw [if_pos hu]
    by_cases hn : t.val % 8 < 7
    · rw [if_pos hn, dif_pos (by omega)]
      blk_point [iblk, V, idx t]
    · rw [if_neg hn, dif_neg (by omega)]
  · rw [if_neg hu, dif_pos (by omega)]
    blk_point [iblk, V, idx t]

/-- A row of taps read at a grid point. -/
theorem w_block (t : Fin cfg0.N) (y : S512x512.Idx) (j : S4096x1024.Idx)
    (hj1 : (j 1 : ℕ) = t.val / 8 * 512 + y 1) (k : Fin 4) :
    (show FVec Ideal S4x512 .f32 from iblk m c 2 t) (ix2 k (y 1)) = (m ((c : Thread nD τ).loc main_arg1)) (ix2 k (j 1)) := by
  blk_point [iblk, V, idx t]

/-- What the reference computes of the arguments in memory. -/
def result : FVec Ideal S4096x1024 .bf16 :=
  Cert.Reference16Ideal.Read.val_main_v32 (F := Ideal) (m ((c : Thread nD τ).loc main_arg0)) (m ((c : Thread nD τ).loc main_arg1))

/-- One entry of a block is the reference's. -/
theorem point (t : Fin cfg0.N) (y : S512x512.Idx) (j : S4096x1024.Idx) (hj0 : (j 0 : ℕ) = t.val % 8 * 512 + y 0)
    (hj1 : (j 1 : ℕ) = t.val / 8 * 512 + y 1) :
    blockOut (grid0.coords t) (iblk m c 0 t) (iblk m c 1 t) (iblk m c 2 t) y = result m c j := by
  refine (pay_at _ _ _ _ _).trans (Eq.trans ?_ (ref_at _ _ _).symm)
  rw [up_block m c t y j hj0 hj1 3 (by norm_num)]
  rw [up_block m c t y j hj0 hj1 2 (by norm_num)]
  rw [up_block m c t y j hj0 hj1 1 (by norm_num)]
  rw [up_block m c t y j hj0 hj1 0 (by norm_num)]
  have hw := w_block m c t y j hj1
  rw [show (iblk m c 2 t : FVec Ideal S4x512 .f32) (ix2 0 (y 1)) = _ from hw 0]
  rw [show (iblk m c 2 t : FVec Ideal S4x512 .f32) (ix2 1 (y 1)) = _ from hw 1]
  rw [show (iblk m c 2 t : FVec Ideal S4x512 .f32) (ix2 2 (y 1)) = _ from hw 2]
  rw [show (iblk m c 2 t : FVec Ideal S4x512 .f32) (ix2 3 (y 1)) = _ from hw 3]
  ac_rfl

/-- The array the launch writes is the reference's. -/
theorem final : (dats m 0 c).arrAt 3 cfg0.N = result m c := by
  refine (dats m 0 c).arrAt_eq_of_covers 3 _ (by decide +kernel) fun t hf y => ?_
  blk_simp
  rw [after0_3]
  frame_out
  refine point m c t y _ ?_ ?_
  all_goals (blk_simp [idx t] <;> try omega)

/-- The kernel's ideal result is the reference's, for every input. -/
theorem algebraic : Cert.algebraic_Kernel16Ideal_Reference16Ideal := by
  pair_intro
  · run_from Cert.Kernel16Ideal.Gen.run_main m g
  · hlo_run
    exact (final m c).symm

/-- The kernel changes nothing but its results, over the machine's own floats. -/
theorem frame_kernel : Cert.quiescent_Kernel16 :=
  fun m ρ _ => Cert.Kernel16.Gen.frame m ρ

/-- The same over the extended reals. -/
theorem frame_ideal : Cert.quiescent_Kernel16Ideal :=
  fun m ρ _ => Cert.Kernel16Ideal.Gen.frame m ρ

/-- The reference changes nothing but its results. -/
theorem frame_ref : Cert.quiescent_Reference16Ideal := by
  intro m ρ _
  hlo_run
  · exact fun c => by simp
  · exact sem_eq_zero_of_no_sems (by decide) _

end Cert.LruDx

end
-- ==== Proof.ScDx.lean ====
/- Program 17: the gradient of the short convolution in its input, block of rows by block of rows. -/
module

public import proofs.«01_k».proof.Defs
public import proofs.«01_k».proof.Proof.Gen.Kernel17.Frame
public import proofs.«01_k».proof.Proof.Gen.Kernel17Ideal.Frame
public import proofs.«01_k».proof.Proof.Gen.Reference17Ideal.Read
public import Idealize.ShloMosaic.Lib.Pipeline.ValueKit
public import Idealize.ShloMosaic.Lib.Claim

@[expose] public section

set_option maxRecDepth 16384

noncomputable section

namespace Cert.ScDx

open Cert.Kernel17Ideal Cert.Kernel17Ideal.Gen
open Idealize.ShloMosaic Idealize.ShloMosaic.TcCoe Idealize.SL.Sem

variable (m : (ℓ : Loc nD τ sig) → Buf (Elt Ideal) ℓ) (c : Dev nD)

/-- The block that every window is on at a grid point: the rows of the second window are the next block's. -/
theorem idx : ∀ t : Fin cfg0.N, win0_0.index t = ![t.val % 8, t.val / 8]
    ∧ win0_1.index t = ![min (t.val % 8 + 1) 7, t.val / 8]
    ∧ win0_2.index t = ![0, t.val / 8]
    ∧ win0_3.index t = ![t.val % 8, t.val / 8] :=
  (by decide +kernel : ∀ t : Fin grid0.N, _)

/-- The second grid coordinate is the number of the block of rows. -/
theorem row_block : ∀ t : Fin cfg0.N, (grid0.coords t 1 : ℕ) = t.val % 8 :=
  (by decide +kernel : ∀ t : Fin grid0.N, _)

/-- An entry of the cotangent, zero past the last row. -/
def rowAt (X : FVec Ideal S4096x1024 .f32) (n : ℕ) (q : Fin 1024) : EReal :=
  if h : n < 4096 then X (ix2 ⟨n, h⟩ q) else 0

/-- The block moved up by `d` rows: what falls out of it comes from the next block, and is zero past the last. -/
def up (i : grid0.Coords) (a b : FVec Ideal S512x512 .f32) (j : S512x512.Idx) (d : ℕ) : EReal :=
  if 512 ≤ (j 0 : ℕ) + d then (if (i 1 : ℕ) < 7 then b (ix2 ⟨((j 0 : ℕ) + d) % 512, Nat.mod_lt _ (by decide)⟩ (j 1)) else 0)
  else a (ix2 ⟨((j 0 : ℕ) + d) % 512, Nat.mod_lt _ (by decide)⟩ (j 1))

/-- A choice on the order of two small words is a choice on the numbers. -/
theorem select_sge (p q : ℕ) (hp : p < 2 ^ 31) (hq : q < 2 ^ 31) (x y : EReal) :
    Scalar.select (IntOp.cmpi .sge (BitVec.ofNat 32 p) (BitVec.ofNat 32 q)) x y = if q ≤ p then x else y := by
  rw [WordCmp.cmpi_sge_ofNat hp hq]
  by_cases h : q ≤ p <;> simp [Scalar.select, h]

/-- The same for the strict order. -/
theorem select_slt (p q : ℕ) (hp : p < 2 ^ 31) (hq : q < 2 ^ 31) (x y : EReal) :
    Scalar.select (Scalar.cmpi .slt (BitVec.ofNat 32 p) (BitVec.ofNat 32 q)) x y = if p < q then x else y := by
  refine (congrArg (fun s => Scalar.select s x y) (WordCmp.cmpi_slt_ofNat hp hq)).trans ?_
  by_cases h : p < q <;> simp [Scalar.select, h]

/-- Two rotated blocks, joined at the row where the next block begins, are the block moved up. -/
theorem rot_at (i : grid0.Coords) (a b : FVec Ideal S512x512 .f32) (j : S512x512.Idx) (d s : ℕ) (hs : s + d = 512) (h) (h') :
    Scalar.select (IntOp.cmpi .sge (BitVec.ofNat 32 (j 0 : ℕ)) (BitVec.ofNat 32 s))
      (Scalar.select (Scalar.cmpi .slt (BitVec.ofNat 32 (i 1 : ℕ)) 7#32)
        (b (ix2 ⟨((j 0 : ℕ) + 512 - s) % 512, h⟩ (j 1))) 0)
      (a (ix2 ⟨((j 0 : ℕ) + 512 - s) % 512, h'⟩ (j 1))) = up i a b j d := by
  have h0 : (j 0 : ℕ) < 512 := (j 0).isLt
  have h1 : (i 1 : ℕ) < 8 := (i 1).isLt
  rw [select_sge _ _ (by omega) (by omega), select_slt _ _ (by omega) (by omega)]
  have e : ((j 0 : ℕ) + 512 - s) % 512 = ((j 0 : ℕ) + d) % 512 := by congr 1; omega
  unfold up
  simp only [e]
  exact if_congr (by omega) rfl rfl

/-- Moving by no rows. -/
theorem up_zero (i : grid0.Coords) (a b : FVec Ideal S512x512 .f32) (j : S512x512.Idx) : a j = up i a b j 0 := by
  have h0 : (j 0 : ℕ) < 512 := (j 0).isLt
  unfold up
  rw [if_neg (by omega)]
  have e : (⟨((j 0 : ℕ) + 0) % 512, Nat.mod_lt _ (by decide)⟩ : Fin 512) = j 0 :=
    Fin.ext (show ((j 0 : ℕ) + 0) % 512 = (j 0 : ℕ) by omega)
  rw [e]
  exact congrArg a (ValueIdx.eq_ix2 j)

/-- The block the kernel writes, of the three blocks it reads. -/
abbrev blockOut (i : grid0.Coords) (a b : FVec Ideal S512x512 .f32) (w : FVec Ideal S3x512 .f32) : FVec Ideal S512x512 .f32 :=
  k0_pay1 (F := Ideal) i a b w

/-- One block of the result: each tap times the block moved up by as many rows as the tap is from the last. -/
theorem pay_at (i : grid0.Coords) (a b : FVec Ideal S512x512 .f32) (w : FVec Ideal S3x512 .f32) (j : S512x512.Idx) :
    blockOut i a b w j = w (ix2 0 (j 1)) * up i a b j 2
      + w (ix2 1 (j 1)) * up i a b j 1
      + w (ix2 2 (j 1)) * up i a b j 0 := by
  pointwise [blockOut, k0_pay1]
  exact congrArg₂ (· + ·) (congrArg₂ (· + ·) (congrArg (w (ix2 0 (j 1)) * ·) (rot_at i a b j 2 510 (by norm_num) _ _))
    (congrArg (w (ix2 1 (j 1)) * ·) (rot_at i a b j 1 511 (by norm_num) _ _)))
    (congrArg (w (ix2 2 (j 1)) * ·) (up_zero i a b j))

/-- A tap of the transposed convolution. -/
theorem tap_at (x0 : FVec Ideal S4096x1024 .f32) (v : EReal) (n k d : ℕ) (q : Fin 1024) (hk : k + d = 2) :
    (if h₀ : k ≤ 2 + n ∧ 2 + n - k < 4096 then v * x0 (ix2 ⟨2 + n - k, h₀.2⟩ q) else 0) = v * rowAt x0 (n + d) q := by
  have e : 2 + n - k = n + d := by omega
  unfold rowAt
  simp only [e]
  by_cases h₁ : n + d < 4096
  · rw [dif_pos ⟨by omega, h₁⟩, dif_pos h₁]
  · rw [dif_neg (fun h₂ => h₁ h₂.2), dif_neg h₁, mul_zero]

/-- The first tap. -/
theorem tap_first (x0 : FVec Ideal S4096x1024 .f32) (v : EReal) (n : ℕ) (q : Fin 1024) :
    (if h₀ : 2 + n < 4096 then v * x0 (ix2 ⟨2 + n, h₀⟩ q) else 0) = v * rowAt x0 (n + 2) q := by
  unfold rowAt
  simp only [Nat.add_comm 2 n]
  by_cases h₁ : n + 2 < 4096
  · rw [dif_pos h₁, dif_pos h₁]
  · rw [dif_neg h₁, dif_neg h₁, mul_zero]

/-- The last tap. -/
theorem row_zero (x0 : FVec Ideal S4096x1024 .f32) (j : S4096x1024.Idx) : x0 j = rowAt x0 ((j 0 : ℕ) + 0) (j 1) := by
  unfold rowAt
  rw [dif_pos (show (j 0 : ℕ) + 0 < 4096 from (j 0).isLt)]
  exact congrArg x0 (ValueIdx.eq_ix2 j)

/-- The reference at an entry. -/
theorem ref_at (x0 : FVec Ideal S4096x1024 .f32) (x1 : FVec Ideal S3x1024 .f32) (j : S4096x1024.Idx) :
    Cert.Reference17Ideal.Read.val_main_v24 (F := Ideal) x0 x1 j = x1 (ix2 2 (j 1)) * rowAt x0 ((j 0 : ℕ) + 0) (j 1)
      + x1 (ix2 1 (j 1)) * rowAt x0 ((j 0 : ℕ) + 1) (j 1)
      + x1 (ix2 0 (j 1)) * rowAt x0 ((j 0 : ℕ) + 2) (j 1) := by
  pointwise [Cert.Reference17Ideal.Read.val_main_cst, Cert.Reference17Ideal.Read.val_main_v0, Cert.Reference17Ideal.Read.val_main_v1, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10, Cert.Reference17Ideal.Read.val_main_v11, Cert.Reference17Ideal.Read.val_main_v12, Cert.Reference17Ideal.Read.val_main_v13, Cert.Reference17Ideal.Read.val_main_cst_0, Cert.Reference17Ideal.Read.val_main_v14, Cert.Reference17Ideal.Read.val_main_v15, Cert.Reference17Ideal.Read.val_main_v16, Cert.Reference17Ideal.Read.val_main_cst_1, Cert.Reference17Ideal.Read.val_main_v17, Cert.Reference17Ideal.Read.val_main_v18, Cert.Reference17Ideal.Read.val_main_v19, Cert.Reference17Ideal.Read.val_main_v20, Cert.Reference17Ideal.Read.val_main_cst_2, Cert.Reference17Ideal.Read.val_main_v21, Cert.Reference17Ideal.Read.val_main_v22, Cert.Reference17Ideal.Read.val_main_v23, Cert.Reference17Ideal.Read.val_main_v24]
  exact congrArg₂ (· + ·) (congrArg₂ (· + ·) (congrArg (x1 (ix2 2 (j 1)) * ·) (row_zero x0 j))
    (tap_at x0 _ _ 1 1 _ (by norm_num)))
    (tap_first x0 _ _ _)

/-- A moved block of the cotangent is the cotangent, moved. -/
theorem up_block (t : Fin cfg0.N) (y : S512x512.Idx) (j : S4096x1024.Idx) (hj0 : (j 0 : ℕ) = t.val % 8 * 512 + y 0)
    (hj1 : (j 1 : ℕ) = t.val / 8 * 512 + y 1) (d : ℕ) (hd : d < 3) :
    up (grid0.coords t) (iblk m c 0 t) (iblk m c 1 t) y d = rowAt (m ((c : Thread nD τ).loc main_arg0)) ((j 0 : ℕ) + d) (j 1) := by
  have h0 : (y 0 : ℕ) < 512 := (y 0).isLt
  have ht : t.val % 8 < 8 := Nat.mod_lt _ (by decide)
  unfold up rowAt
  rw [row_block t]
  by_cases hu : 512 ≤ (y 0 : ℕ) + d
  · rw [if_pos hu]
    by_cases hn : t.val % 8 < 7
    · rw [if_pos hn, dif_pos (by omega)]
      blk_point [iblk, V, idx t]
    · rw [if_neg hn, dif_neg (by omega)]
  · rw [if_neg hu, dif_pos (by omega)]
    blk_point [iblk, V, idx t]

/-- A row of taps read at a grid point. -/
theorem w_block (t : Fin cfg0.N) (y : S512x512.Idx) (j : S4096x1024.Idx)
    (hj1 : (j 1 : ℕ) = t.val / 8 * 512 + y 1) (k : Fin 3) :
    (show FVec Ideal S3x512 .f32 from iblk m c 2 t) (ix2 k (y 1)) = (m ((c : Thread nD τ).loc main_arg1)) (ix2 k (j 1)) := by
  blk_point [iblk, V, idx t]

/-- What the reference computes of the arguments in memory. -/
def result : FVec Ideal S4096x1024 .f32 :=
  Cert.Reference17Ideal.Read.val_main_v24 (F := Ideal) (m ((c : Thread nD τ).loc main_arg0)) (m ((c : Thread nD τ).loc main_arg1))

/-- One entry of a block is the reference's. -/
theorem point (t : Fin cfg0.N) (y : S512x512.Idx) (j : S4096x1024.Idx) (hj0 : (j 0 : ℕ) = t.val % 8 * 512 + y 0)
    (hj1 : (j 1 : ℕ) = t.val / 8 * 512 + y 1) :
    blockOut (grid0.coords t) (iblk m c 0 t) (iblk m c 1 t) (iblk m c 2 t) y = result m c j := by
  refine (pay_at _ _ _ _ _).trans (Eq.trans ?_ (ref_at _ _ _).symm)
  rw [up_block m c t y j hj0 hj1 2 (by norm_num)]
  rw [up_block m c t y j hj0 hj1 1 (by norm_num)]
  rw [up_block m c t y j hj0 hj1 0 (by norm_num)]
  have hw := w_block m c t y j hj1
  rw [show (iblk m c 2 t : FVec Ideal S3x512 .f32) (ix2 0 (y 1)) = _ from hw 0]
  rw [show (iblk m c 2 t : FVec Ideal S3x512 .f32) (ix2 1 (y 1)) = _ from hw 1]
  rw [show (iblk m c 2 t : FVec Ideal S3x512 .f32) (ix2 2 (y 1)) = _ from hw 2]
  ac_rfl

/-- The array the launch writes is the reference's. -/
theorem final : (dats m 0 c).arrAt 3 cfg0.N = result m c := by
  refine (dats m 0 c).arrAt_eq_of_covers 3 _ (by decide +kernel) fun t hf y => ?_
  blk_simp
  rw [after0_3]
  frame_out
  refine point m c t y _ ?_ ?_
  all_goals (blk_simp [idx t] <;> try omega)

/-- The kernel's ideal result is the reference's, for every input. -/
theorem algebraic : Cert.algebraic_Kernel17Ideal_Reference17Ideal := by
  pair_intro
  · run_from Cert.Kernel17Ideal.Gen.run_main m g
  · hlo_run
    exact (final m c).symm

/-- The kernel changes nothing but its results, over the machine's own floats. -/
theorem frame_kernel : Cert.quiescent_Kernel17 :=
  fun m ρ _ => Cert.Kernel17.Gen.frame m ρ

/-- The same over the extended reals. -/
theorem frame_ideal : Cert.quiescent_Kernel17Ideal :=
  fun m ρ _ => Cert.Kernel17Ideal.Gen.frame m ρ

/-- The reference changes nothing but its results. -/
theorem frame_ref : Cert.quiescent_Reference17Ideal := by
  intro m ρ _
  hlo_run
  · exact fun c => by simp
  · exact sem_eq_zero_of_no_sems (by decide) _

end Cert.ScDx

end
-- ==== Proof.CfDx.lean ====
/- Program 18: the gradient of the 31-tap convolution in its input, block of rows by block of rows. -/
module

public import proofs.«01_k».proof.Defs
public import proofs.«01_k».proof.Proof.Gen.Kernel18.Frame
public import proofs.«01_k».proof.Proof.Gen.Kernel18Ideal.Frame
public import proofs.«01_k».proof.Proof.Gen.Reference18Ideal.Read
public import Idealize.ShloMosaic.Lib.Pipeline.ValueKit
public import Idealize.ShloMosaic.Lib.Claim

@[expose] public section

set_option maxRecDepth 16384

noncomputable section

namespace Cert.CfDx

open Cert.Kernel18Ideal Cert.Kernel18Ideal.Gen
open Idealize.ShloMosaic Idealize.ShloMosaic.TcCoe Idealize.SL.Sem

variable (m : (ℓ : Loc nD τ sig) → Buf (Elt Ideal) ℓ) (c : Dev nD)

/-- The block that every window is on at a grid point: the rows of the second window are the next block's. -/
theorem idx : ∀ t : Fin cfg0.N, win0_0.index t = ![t.val % 16, t.val / 16]
    ∧ win0_1.index t = ![min (t.val % 16 + 1) 15, t.val / 16]
    ∧ win0_2.index t = ![0, t.val / 16]
    ∧ win0_3.index t = ![t.val % 16, t.val / 16] :=
  (by decide +kernel : ∀ t : Fin grid0.N, _)

/-- The second grid coordinate is the number of the block of rows. -/
theorem row_block : ∀ t : Fin cfg0.N, (grid0.coords t 1 : ℕ) = t.val % 16 :=
  (by decide +kernel : ∀ t : Fin grid0.N, _)

/-- An entry of the cotangent, zero past the last row. -/
def rowAt (X : FVec Ideal S4096x1024 .f32) (n : ℕ) (q : Fin 1024) : EReal :=
  if h : n < 4096 then X (ix2 ⟨n, h⟩ q) else 0

/-- The block moved up by `d` rows: what falls out of it comes from the next block, and is zero past the last. -/
def up (i : grid0.Coords) (a b : FVec Ideal S256x256 .f32) (j : S256x256.Idx) (d : ℕ) : EReal :=
  if 256 ≤ (j 0 : ℕ) + d then (if (i 1 : ℕ) < 15 then b (ix2 ⟨((j 0 : ℕ) + d) % 256, Nat.mod_lt _ (by decide)⟩ (j 1)) else 0)
  else a (ix2 ⟨((j 0 : ℕ) + d) % 256, Nat.mod_lt _ (by decide)⟩ (j 1))

/-- A choice on the order of two small words is a choice on the numbers. -/
theorem select_sge (p q : ℕ) (hp : p < 2 ^ 31) (hq : q < 2 ^ 31) (x y : EReal) :
    Scalar.select (IntOp.cmpi .sge (BitVec.ofNat 32 p) (BitVec.ofNat 32 q)) x y = if q ≤ p then x else y := by
  rw [WordCmp.cmpi_sge_ofNat hp hq]
  by_cases h : q ≤ p <;> simp [Scalar.select, h]

/-- The same for the strict order. -/
theorem select_slt (p q : ℕ) (hp : p < 2 ^ 31) (hq : q < 2 ^ 31) (x y : EReal) :
    Scalar.select (Scalar.cmpi .slt (BitVec.ofNat 32 p) (BitVec.ofNat 32 q)) x y = if p < q then x else y := by
  refine (congrArg (fun s => Scalar.select s x y) (WordCmp.cmpi_slt_ofNat hp hq)).trans ?_
  by_cases h : p < q <;> simp [Scalar.select, h]

/-- Two rotated blocks, joined at the row where the next block begins, are the block moved up. -/
theorem rot_at (i : grid0.Coords) (a b : FVec Ideal S256x256 .f32) (j : S256x256.Idx) (d s : ℕ) (hs : s + d = 256) (h) (h') :
    Scalar.select (IntOp.cmpi .sge (BitVec.ofNat 32 (j 0 : ℕ)) (BitVec.ofNat 32 s))
      (Scalar.select (Scalar.cmpi .slt (BitVec.ofNat 32 (i 1 : ℕ)) 15#32)
        (b (ix2 ⟨((j 0 : ℕ) + 256 - s) % 256, h⟩ (j 1))) 0)
      (a (ix2 ⟨((j 0 : ℕ) + 256 - s) % 256, h'⟩ (j 1))) = up i a b j d := by
  have h0 : (j 0 : ℕ) < 256 := (j 0).isLt
  have h1 : (i 1 : ℕ) < 16 := (i 1).isLt
  rw [select_sge _ _ (by omega) (by omega), select_slt _ _ (by omega) (by omega)]
  have e : ((j 0 : ℕ) + 256 - s) % 256 = ((j 0 : ℕ) + d) % 256 := by congr 1; omega
  unfold up
  simp only [e]
  exact if_congr (by omega) rfl rfl

/-- Moving by no rows. -/
theorem up_zero (i : grid0.Coords) (a b : FVec Ideal S256x256 .f32) (j : S256x256.Idx) : a j = up i a b j 0 := by
  have h0 : (j 0 : ℕ) < 256 := (j 0).isLt
  unfold up
  rw [if_neg (by omega)]
  have e : (⟨((j 0 : ℕ) + 0) % 256, Nat.mod_lt _ (by decide)⟩ : Fin 256) = j 0 :=
    Fin.ext (show ((j 0 : ℕ) + 0) % 256 = (j 0 : ℕ) by omega)
  rw [e]
  exact congrArg a (ValueIdx.eq_ix2 j)

/-- The block the kernel writes, of the three blocks it reads. -/
abbrev blockOut (i : grid0.Coords) (a b : FVec Ideal S256x256 .f32) (w : FVec Ideal S31x256 .f32) : FVec Ideal S256x256 .f32 :=
  k0_pay20 (F := Ideal) a (k0_pay1 i b) w (k0_pay17 a (k0_pay1 i b) w (k0_pay12 a (k0_pay1 i b) w (k0_pay10 a (k0_pay1 i b) w (k0_pay7 a (k0_pay1 i b) w (k0_pay4 a (k0_pay1 i b) w (k0_pay2 i a b w) (k0_pay3 w) (iota .tc S256x256 32 [0] iota_S256x256_d0_w32) 229#32) (k0_pay5 a (k0_pay1 i b)) (k0_pay6 w)) (k0_pay8 w) k0_pay9 238#32) (k0_pay11 w)) (k0_pay13 w) k0_pay14 (k0_pay15 (k0_pay1 i b)) (k0_pay16 a)) (k0_pay18 w) (iota .tc S256x256 32 [0] iota_S256x256_d0_w32) k0_pay19

/-- One block of the result: each tap times the block moved up by as many rows as the tap is from the last. -/
theorem pay_at (i : grid0.Coords) (a b : FVec Ideal S256x256 .f32) (w : FVec Ideal S31x256 .f32) (j : S256x256.Idx) :
    blockOut i a b w j = w (ix2 0 (j 1)) * up i a b j 30
      + w (ix2 1 (j 1)) * up i a b j 29
      + w (ix2 2 (j 1)) * up i a b j 28
      + w (ix2 3 (j 1)) * up i a b j 27
      + w (ix2 4 (j 1)) * up i a b j 26
      + w (ix2 5 (j 1)) * up i a b j 25
      + w (ix2 6 (j 1)) * up i a b j 24
      + w (ix2 7 (j 1)) * up i a b j 23
      + w (ix2 8 (j 1)) * up i a b j 22
      + w (ix2 9 (j 1)) * up i a b j 21
      + w (ix2 10 (j 1)) * up i a b j 20
      + w (ix2 11 (j 1)) * up i a b j 19
      + w (ix2 12 (j 1)) * up i a b j 18
      + w (ix2 13 (j 1)) * up i a b j 17
      + w (ix2 14 (j 1)) * up i a b j 16
      + w (ix2 15 (j 1)) * up i a b j 15
      + w (ix2 16 (j 1)) * up i a b j 14
      + w (ix2 17 (j 1)) * up i a b j 13
      + w (ix2 18 (j 1)) * up i a b j 12
      + w (ix2 19 (j 1)) * up i a b j 11
      + w (ix2 20 (j 1)) * up i a b j 10
      + w (ix2 21 (j 1)) * up i a b j 9
      + w (ix2 22 (j 1)) * up i a b j 8
      + w (ix2 23 (j 1)) * up i a b j 7
      + w (ix2 24 (j 1)) * up i a b j 6
      + w (ix2 25 (j 1)) * up i a b j 5
      + w (ix2 26 (j 1)) * up i a b j 4
      + w (ix2 27 (j 1)) * up i a b j 3
      + w (ix2 28 (j 1)) * up i a b j 2
      + w (ix2 29 (j 1)) * up i a b j 1
      + w (ix2 30 (j 1)) * up i a b j 0 := by
  pointwise [blockOut, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg (w (ix2 0 (j 1)) * ·) (rot_at i a b j 30 226 (by norm_num) _ _))
    (congrArg (w (ix2 1 (j 1)) * ·) (rot_at i a b j 29 227 (by norm_num) _ _)))
    (congrArg (w (ix2 2 (j 1)) * ·) (rot_at i a b j 28 228 (by norm_num) _ _)))
    (congrArg (w (ix2 3 (j 1)) * ·) (rot_at i a b j 27 229 (by norm_num) _ _)))
    (congrArg (w (ix2 4 (j 1)) * ·) (rot_at i a b j 26 230 (by norm_num) _ _)))
    (congrArg (w (ix2 5 (j 1)) * ·) (rot_at i a b j 25 231 (by norm_num) _ _)))
    (congrArg (w (ix2 6 (j 1)) * ·) (rot_at i a b j 24 232 (by norm_num) _ _)))
    (congrArg (w (ix2 7 (j 1)) * ·) (rot_at i a b j 23 233 (by norm_num) _ _)))
    (congrArg (w (ix2 8 (j 1)) * ·) (rot_at i a b j 22 234 (by norm_num) _ _)))
    (congrArg (w (ix2 9 (j 1)) * ·) (rot_at i a b j 21 235 (by norm_num) _ _)))
    (congrArg (w (ix2 10 (j 1)) * ·) (rot_at i a b j 20 236 (by norm_num) _ _)))
    (congrArg (w (ix2 11 (j 1)) * ·) (rot_at i a b j 19 237 (by norm_num) _ _)))
    (congrArg (w (ix2 12 (j 1)) * ·) (rot_at i a b j 18 238 (by norm_num) _ _)))
    (congrArg (w (ix2 13 (j 1)) * ·) (rot_at i a b j 17 239 (by norm_num) _ _)))
    (congrArg (w (ix2 14 (j 1)) * ·) (rot_at i a b j 16 240 (by norm_num) _ _)))
    (congrArg (w (ix2 15 (j 1)) * ·) (rot_at i a b j 15 241 (by norm_num) _ _)))
    (congrArg (w (ix2 16 (j 1)) * ·) (rot_at i a b j 14 242 (by norm_num) _ _)))
    (congrArg (w (ix2 17 (j 1)) * ·) (rot_at i a b j 13 243 (by norm_num) _ _)))
    (congrArg (w (ix2 18 (j 1)) * ·) (rot_at i a b j 12 244 (by norm_num) _ _)))
    (congrArg (w (ix2 19 (j 1)) * ·) (rot_at i a b j 11 245 (by norm_num) _ _)))
    (congrArg (w (ix2 20 (j 1)) * ·) (rot_at i a b j 10 246 (by norm_num) _ _)))
    (congrArg (w (ix2 21 (j 1)) * ·) (rot_at i a b j 9 247 (by norm_num) _ _)))
    (congrArg (w (ix2 22 (j 1)) * ·) (rot_at i a b j 8 248 (by norm_num) _ _)))
    (congrArg (w (ix2 23 (j 1)) * ·) (rot_at i a b j 7 249 (by norm_num) _ _)))
    (congrArg (w (ix2 24 (j 1)) * ·) (rot_at i a b j 6 250 (by norm_num) _ _)))
    (congrArg (w (ix2 25 (j 1)) * ·) (rot_at i a b j 5 251 (by norm_num) _ _)))
    (congrArg (w (ix2 26 (j 1)) * ·) (rot_at i a b j 4 252 (by norm_num) _ _)))
    (congrArg (w (ix2 27 (j 1)) * ·) (rot_at i a b j 3 253 (by norm_num) _ _)))
    (congrArg (w (ix2 28 (j 1)) * ·) (rot_at i a b j 2 254 (by norm_num) _ _)))
    (congrArg (w (ix2 29 (j 1)) * ·) (rot_at i a b j 1 255 (by norm_num) _ _)))
    (congrArg (w (ix2 30 (j 1)) * ·) (up_zero i a b j))

/-- A tap of the transposed convolution. -/
theorem tap_at (x0 : FVec Ideal S4096x1024 .f32) (v : EReal) (n k d : ℕ) (q : Fin 1024) (hk : k + d = 30) :
    (if h₀ : k ≤ 30 + n ∧ 30 + n - k < 4096 then v * x0 (ix2 ⟨30 + n - k, h₀.2⟩ q) else 0) = v * rowAt x0 (n + d) q := by
  have e : 30 + n - k = n + d := by omega
  unfold rowAt
  simp only [e]
  by_cases h₁ : n + d < 4096
  · rw [dif_pos ⟨by omega, h₁⟩, dif_pos h₁]
  · rw [dif_neg (fun h₂ => h₁ h₂.2), dif_neg h₁, mul_zero]

/-- The first tap. -/
theorem tap_first (x0 : FVec Ideal S4096x1024 .f32) (v : EReal) (n : ℕ) (q : Fin 1024) :
    (if h₀ : 30 + n < 4096 then v * x0 (ix2 ⟨30 + n, h₀⟩ q) else 0) = v * rowAt x0 (n + 30) q := by
  unfold rowAt
  simp only [Nat.add_comm 30 n]
  by_cases h₁ : n + 30 < 4096
  · rw [dif_pos h₁, dif_pos h₁]
  · rw [dif_neg h₁, dif_neg h₁, mul_zero]

/-- The last tap. -/
theorem row_zero (x0 : FVec Ideal S4096x1024 .f32) (j : S4096x1024.Idx) : x0 j = rowAt x0 ((j 0 : ℕ) + 0) (j 1) := by
  unfold rowAt
  rw [dif_pos (show (j 0 : ℕ) + 0 < 4096 from (j 0).isLt)]
  exact congrArg x0 (ValueIdx.eq_ix2 j)

/-- The reference at an entry. -/
theorem ref_at (x0 : FVec Ideal S4096x1024 .f32) (x1 : FVec Ideal S31x1024 .f32) (j : S4096x1024.Idx) :
    Cert.Reference18Ideal.Read.val_main_v220 (F := Ideal) x0 x1 j = x1 (ix2 30 (j 1)) * rowAt x0 ((j 0 : ℕ) + 0) (j 1)
      + x1 (ix2 29 (j 1)) * rowAt x0 ((j 0 : ℕ) + 1) (j 1)
      + x1 (ix2 28 (j 1)) * rowAt x0 ((j 0 : ℕ) + 2) (j 1)
      + x1 (ix2 27 (j 1)) * rowAt x0 ((j 0 : ℕ) + 3) (j 1)
      + x1 (ix2 26 (j 1)) * rowAt x0 ((j 0 : ℕ) + 4) (j 1)
      + x1 (ix2 25 (j 1)) * rowAt x0 ((j 0 : ℕ) + 5) (j 1)
      + x1 (ix2 24 (j 1)) * rowAt x0 ((j 0 : ℕ) + 6) (j 1)
      + x1 (ix2 23 (j 1)) * rowAt x0 ((j 0 : ℕ) + 7) (j 1)
      + x1 (ix2 22 (j 1)) * rowAt x0 ((j 0 : ℕ) + 8) (j 1)
      + x1 (ix2 21 (j 1)) * rowAt x0 ((j 0 : ℕ) + 9) (j 1)
      + x1 (ix2 20 (j 1)) * rowAt x0 ((j 0 : ℕ) + 10) (j 1)
      + x1 (ix2 19 (j 1)) * rowAt x0 ((j 0 : ℕ) + 11) (j 1)
      + x1 (ix2 18 (j 1)) * rowAt x0 ((j 0 : ℕ) + 12) (j 1)
      + x1 (ix2 17 (j 1)) * rowAt x0 ((j 0 : ℕ) + 13) (j 1)
      + x1 (ix2 16 (j 1)) * rowAt x0 ((j 0 : ℕ) + 14) (j 1)
      + x1 (ix2 15 (j 1)) * rowAt x0 ((j 0 : ℕ) + 15) (j 1)
      + x1 (ix2 14 (j 1)) * rowAt x0 ((j 0 : ℕ) + 16) (j 1)
      + x1 (ix2 13 (j 1)) * rowAt x0 ((j 0 : ℕ) + 17) (j 1)
      + x1 (ix2 12 (j 1)) * rowAt x0 ((j 0 : ℕ) + 18) (j 1)
      + x1 (ix2 11 (j 1)) * rowAt x0 ((j 0 : ℕ) + 19) (j 1)
      + x1 (ix2 10 (j 1)) * rowAt x0 ((j 0 : ℕ) + 20) (j 1)
      + x1 (ix2 9 (j 1)) * rowAt x0 ((j 0 : ℕ) + 21) (j 1)
      + x1 (ix2 8 (j 1)) * rowAt x0 ((j 0 : ℕ) + 22) (j 1)
      + x1 (ix2 7 (j 1)) * rowAt x0 ((j 0 : ℕ) + 23) (j 1)
      + x1 (ix2 6 (j 1)) * rowAt x0 ((j 0 : ℕ) + 24) (j 1)
      + x1 (ix2 5 (j 1)) * rowAt x0 ((j 0 : ℕ) + 25) (j 1)
      + x1 (ix2 4 (j 1)) * rowAt x0 ((j 0 : ℕ) + 26) (j 1)
      + x1 (ix2 3 (j 1)) * rowAt x0 ((j 0 : ℕ) + 27) (j 1)
      + x1 (ix2 2 (j 1)) * rowAt x0 ((j 0 : ℕ) + 28) (j 1)
      + x1 (ix2 1 (j 1)) * rowAt x0 ((j 0 : ℕ) + 29) (j 1)
      + x1 (ix2 0 (j 1)) * rowAt x0 ((j 0 : ℕ) + 30) (j 1) := by
  pointwise [Cert.Reference18Ideal.Read.val_main_cst, Cert.Reference18Ideal.Read.val_main_v0, Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_v13, Cert.Reference18Ideal.Read.val_main_v14, Cert.Reference18Ideal.Read.val_main_v15, Cert.Reference18Ideal.Read.val_main_v16, Cert.Reference18Ideal.Read.val_main_v17, Cert.Reference18Ideal.Read.val_main_v18, Cert.Reference18Ideal.Read.val_main_v19, Cert.Reference18Ideal.Read.val_main_v20, Cert.Reference18Ideal.Read.val_main_v21, Cert.Reference18Ideal.Read.val_main_v22, Cert.Reference18Ideal.Read.val_main_v23, Cert.Reference18Ideal.Read.val_main_v24, Cert.Reference18Ideal.Read.val_main_v25, Cert.Reference18Ideal.Read.val_main_v26, Cert.Reference18Ideal.Read.val_main_v27, Cert.Reference18Ideal.Read.val_main_v28, Cert.Reference18Ideal.Read.val_main_v29, Cert.Reference18Ideal.Read.val_main_v30, Cert.Reference18Ideal.Read.val_main_v31, Cert.Reference18Ideal.Read.val_main_v32, Cert.Reference18Ideal.Read.val_main_v33, Cert.Reference18Ideal.Read.val_main_v34, Cert.Reference18Ideal.Read.val_main_v35, Cert.Reference18Ideal.Read.val_main_v36, Cert.Reference18Ideal.Read.val_main_v37, Cert.Reference18Ideal.Read.val_main_v38, Cert.Reference18Ideal.Read.val_main_v39, Cert.Reference18Ideal.Read.val_main_v40, Cert.Reference18Ideal.Read.val_main_v41, Cert.Reference18Ideal.Read.val_main_v42, Cert.Reference18Ideal.Read.val_main_v43, Cert.Reference18Ideal.Read.val_main_v44, Cert.Reference18Ideal.Read.val_main_v45, Cert.Reference18Ideal.Read.val_main_v46, Cert.Reference18Ideal.Read.val_main_v47, Cert.Reference18Ideal.Read.val_main_v48, Cert.Reference18Ideal.Read.val_main_v49, Cert.Reference18Ideal.Read.val_main_v50, Cert.Reference18Ideal.Read.val_main_v51, Cert.Reference18Ideal.Read.val_main_v52, Cert.Reference18Ideal.Read.val_main_v53, Cert.Reference18Ideal.Read.val_main_v54, Cert.Reference18Ideal.Read.val_main_v55, Cert.Reference18Ideal.Read.val_main_v56, Cert.Reference18Ideal.Read.val_main_v57, Cert.Reference18Ideal.Read.val_main_v58, Cert.Reference18Ideal.Read.val_main_v59, Cert.Reference18Ideal.Read.val_main_v60, Cert.Reference18Ideal.Read.val_main_v61, Cert.Reference18Ideal.Read.val_main_v62, Cert.Reference18Ideal.Read.val_main_v63, Cert.Reference18Ideal.Read.val_main_v64, Cert.Reference18Ideal.Read.val_main_v65, Cert.Reference18Ideal.Read.val_main_v66, Cert.Reference18Ideal.Read.val_main_v67, Cert.Reference18Ideal.Read.val_main_v68, Cert.Reference18Ideal.Read.val_main_v69, Cert.Reference18Ideal.Read.val_main_v70, Cert.Reference18Ideal.Read.val_main_v71, Cert.Reference18Ideal.Read.val_main_v72, Cert.Reference18Ideal.Read.val_main_v73, Cert.Reference18Ideal.Read.val_main_v74, Cert.Reference18Ideal.Read.val_main_v75, Cert.Reference18Ideal.Read.val_main_v76, Cert.Reference18Ideal.Read.val_main_v77, Cert.Reference18Ideal.Read.val_main_v78, Cert.Reference18Ideal.Read.val_main_v79, Cert.Reference18Ideal.Read.val_main_v80, Cert.Reference18Ideal.Read.val_main_v81, Cert.Reference18Ideal.Read.val_main_v82, Cert.Reference18Ideal.Read.val_main_v83, Cert.Reference18Ideal.Read.val_main_v84, Cert.Reference18Ideal.Read.val_main_v85, Cert.Reference18Ideal.Read.val_main_v86, Cert.Reference18Ideal.Read.val_main_v87, Cert.Reference18Ideal.Read.val_main_v88, Cert.Reference18Ideal.Read.val_main_v89, Cert.Reference18Ideal.Read.val_main_v90, Cert.Reference18Ideal.Read.val_main_v91, Cert.Reference18Ideal.Read.val_main_v92, Cert.Reference18Ideal.Read.val_main_v93, Cert.Reference18Ideal.Read.val_main_v94, Cert.Reference18Ideal.Read.val_main_v95, Cert.Reference18Ideal.Read.val_main_v96, Cert.Reference18Ideal.Read.val_main_v97, Cert.Reference18Ideal.Read.val_main_cst_0, Cert.Reference18Ideal.Read.val_main_v98, Cert.Reference18Ideal.Read.val_main_v99, Cert.Reference18Ideal.Read.val_main_v100, Cert.Reference18Ideal.Read.val_main_cst_1, Cert.Reference18Ideal.Read.val_main_v101, Cert.Reference18Ideal.Read.val_main_v102, Cert.Reference18Ideal.Read.val_main_v103, Cert.Reference18Ideal.Read.val_main_v104, Cert.Reference18Ideal.Read.val_main_cst_2, Cert.Reference18Ideal.Read.val_main_v105, Cert.Reference18Ideal.Read.val_main_v106, Cert.Reference18Ideal.Read.val_main_v107, Cert.Reference18Ideal.Read.val_main_v108, Cert.Reference18Ideal.Read.val_main_cst_3, Cert.Reference18Ideal.Read.val_main_v109, Cert.Reference18Ideal.Read.val_main_v110, Cert.Reference18Ideal.Read.val_main_v111, Cert.Reference18Ideal.Read.val_main_v112, Cert.Reference18Ideal.Read.val_main_cst_4, Cert.Reference18Ideal.Read.val_main_v113, Cert.Reference18Ideal.Read.val_main_v114, Cert.Reference18Ideal.Read.val_main_v115, Cert.Reference18Ideal.Read.val_main_v116, Cert.Reference18Ideal.Read.val_main_cst_5, Cert.Reference18Ideal.Read.val_main_v117, Cert.Reference18Ideal.Read.val_main_v118, Cert.Reference18Ideal.Read.val_main_v119, Cert.Reference18Ideal.Read.val_main_v120, Cert.Reference18Ideal.Read.val_main_cst_6, Cert.Reference18Ideal.Read.val_main_v121, Cert.Reference18Ideal.Read.val_main_v122, Cert.Reference18Ideal.Read.val_main_v123, Cert.Reference18Ideal.Read.val_main_v124, Cert.Reference18Ideal.Read.val_main_cst_7, Cert.Reference18Ideal.Read.val_main_v125, Cert.Reference18Ideal.Read.val_main_v126, Cert.Reference18Ideal.Read.val_main_v127, Cert.Reference18Ideal.Read.val_main_v128, Cert.Reference18Ideal.Read.val_main_cst_8, Cert.Reference18Ideal.Read.val_main_v129, Cert.Reference18Ideal.Read.val_main_v130, Cert.Reference18Ideal.Read.val_main_v131, Cert.Reference18Ideal.Read.val_main_v132, Cert.Reference18Ideal.Read.val_main_cst_9, Cert.Reference18Ideal.Read.val_main_v133, Cert.Reference18Ideal.Read.val_main_v134, Cert.Reference18Ideal.Read.val_main_v135, Cert.Reference18Ideal.Read.val_main_v136, Cert.Reference18Ideal.Read.val_main_cst_10, Cert.Reference18Ideal.Read.val_main_v137, Cert.Reference18Ideal.Read.val_main_v138, Cert.Reference18Ideal.Read.val_main_v139, Cert.Reference18Ideal.Read.val_main_v140, Cert.Reference18Ideal.Read.val_main_cst_11, Cert.Reference18Ideal.Read.val_main_v141, Cert.Reference18Ideal.Read.val_main_v142, Cert.Reference18Ideal.Read.val_main_v143, Cert.Reference18Ideal.Read.val_main_v144, Cert.Reference18Ideal.Read.val_main_cst_12, Cert.Reference18Ideal.Read.val_main_v145, Cert.Reference18Ideal.Read.val_main_v146, Cert.Reference18Ideal.Read.val_main_v147, Cert.Reference18Ideal.Read.val_main_v148, Cert.Reference18Ideal.Read.val_main_cst_13, Cert.Reference18Ideal.Read.val_main_v149, Cert.Reference18Ideal.Read.val_main_v150, Cert.Reference18Ideal.Read.val_main_v151, Cert.Reference18Ideal.Read.val_main_v152, Cert.Reference18Ideal.Read.val_main_cst_14, Cert.Reference18Ideal.Read.val_main_v153, Cert.Reference18Ideal.Read.val_main_v154, Cert.Reference18Ideal.Read.val_main_v155, Cert.Reference18Ideal.Read.val_main_v156, Cert.Reference18Ideal.Read.val_main_cst_15, Cert.Reference18Ideal.Read.val_main_v157, Cert.Reference18Ideal.Read.val_main_v158, Cert.Reference18Ideal.Read.val_main_v159, Cert.Reference18Ideal.Read.val_main_v160, Cert.Reference18Ideal.Read.val_main_cst_16, Cert.Reference18Ideal.Read.val_main_v161, Cert.Reference18Ideal.Read.val_main_v162, Cert.Reference18Ideal.Read.val_main_v163, Cert.Reference18Ideal.Read.val_main_v164, Cert.Reference18Ideal.Read.val_main_cst_17, Cert.Reference18Ideal.Read.val_main_v165, Cert.Reference18Ideal.Read.val_main_v166, Cert.Reference18Ideal.Read.val_main_v167, Cert.Reference18Ideal.Read.val_main_v168, Cert.Reference18Ideal.Read.val_main_cst_18, Cert.Reference18Ideal.Read.val_main_v169, Cert.Reference18Ideal.Read.val_main_v170, Cert.Reference18Ideal.Read.val_main_v171, Cert.Reference18Ideal.Read.val_main_v172, Cert.Reference18Ideal.Read.val_main_cst_19, Cert.Reference18Ideal.Read.val_main_v173, Cert.Reference18Ideal.Read.val_main_v174, Cert.Reference18Ideal.Read.val_main_v175, Cert.Reference18Ideal.Read.val_main_v176, Cert.Reference18Ideal.Read.val_main_cst_20, Cert.Reference18Ideal.Read.val_main_v177, Cert.Reference18Ideal.Read.val_main_v178, Cert.Reference18Ideal.Read.val_main_v179, Cert.Reference18Ideal.Read.val_main_v180, Cert.Reference18Ideal.Read.val_main_cst_21, Cert.Reference18Ideal.Read.val_main_v181, Cert.Reference18Ideal.Read.val_main_v182, Cert.Reference18Ideal.Read.val_main_v183, Cert.Reference18Ideal.Read.val_main_v184, Cert.Reference18Ideal.Read.val_main_cst_22, Cert.Reference18Ideal.Read.val_main_v185, Cert.Reference18Ideal.Read.val_main_v186, Cert.Reference18Ideal.Read.val_main_v187, Cert.Reference18Ideal.Read.val_main_v188, Cert.Reference18Ideal.Read.val_main_cst_23, Cert.Reference18Ideal.Read.val_main_v189, Cert.Reference18Ideal.Read.val_main_v190, Cert.Reference18Ideal.Read.val_main_v191, Cert.Reference18Ideal.Read.val_main_v192, Cert.Reference18Ideal.Read.val_main_cst_24, Cert.Reference18Ideal.Read.val_main_v193, Cert.Reference18Ideal.Read.val_main_v194, Cert.Reference18Ideal.Read.val_main_v195, Cert.Reference18Ideal.Read.val_main_v196, Cert.Reference18Ideal.Read.val_main_cst_25, Cert.Reference18Ideal.Read.val_main_v197, Cert.Reference18Ideal.Read.val_main_v198, Cert.Reference18Ideal.Read.val_main_v199, Cert.Reference18Ideal.Read.val_main_v200, Cert.Reference18Ideal.Read.val_main_cst_26, Cert.Reference18Ideal.Read.val_main_v201, Cert.Reference18Ideal.Read.val_main_v202, Cert.Reference18Ideal.Read.val_main_v203, Cert.Reference18Ideal.Read.val_main_v204, Cert.Reference18Ideal.Read.val_main_cst_27, Cert.Reference18Ideal.Read.val_main_v205, Cert.Reference18Ideal.Read.val_main_v206, Cert.Reference18Ideal.Read.val_main_v207, Cert.Reference18Ideal.Read.val_main_v208, Cert.Reference18Ideal.Read.val_main_cst_28, Cert.Reference18Ideal.Read.val_main_v209, Cert.Reference18Ideal.Read.val_main_v210, Cert.Reference18Ideal.Read.val_main_v211, Cert.Reference18Ideal.Read.val_main_v212, Cert.Reference18Ideal.Read.val_main_cst_29, Cert.Reference18Ideal.Read.val_main_v213, Cert.Reference18Ideal.Read.val_main_v214, Cert.Reference18Ideal.Read.val_main_v215, Cert.Reference18Ideal.Read.val_main_v216, Cert.Reference18Ideal.Read.val_main_cst_30, Cert.Reference18Ideal.Read.val_main_v217, Cert.Reference18Ideal.Read.val_main_v218, Cert.Reference18Ideal.Read.val_main_v219, Cert.Reference18Ideal.Read.val_main_v220]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg (x1 (ix2 30 (j 1)) * ·) (row_zero x0 j))
    (tap_at x0 _ _ 29 1 _ (by norm_num)))
    (tap_at x0 _ _ 28 2 _ (by norm_num)))
    (tap_at x0 _ _ 27 3 _ (by norm_num)))
    (tap_at x0 _ _ 26 4 _ (by norm_num)))
    (tap_at x0 _ _ 25 5 _ (by norm_num)))
    (tap_at x0 _ _ 24 6 _ (by norm_num)))
    (tap_at x0 _ _ 23 7 _ (by norm_num)))
    (tap_at x0 _ _ 22 8 _ (by norm_num)))
    (tap_at x0 _ _ 21 9 _ (by norm_num)))
    (tap_at x0 _ _ 20 10 _ (by norm_num)))
    (tap_at x0 _ _ 19 11 _ (by norm_num)))
    (tap_at x0 _ _ 18 12 _ (by norm_num)))
    (tap_at x0 _ _ 17 13 _ (by norm_num)))
    (tap_at x0 _ _ 16 14 _ (by norm_num)))
    (tap_at x0 _ _ 15 15 _ (by norm_num)))
    (tap_at x0 _ _ 14 16 _ (by norm_num)))
    (tap_at x0 _ _ 13 17 _ (by norm_num)))
    (tap_at x0 _ _ 12 18 _ (by norm_num)))
    (tap_at x0 _ _ 11 19 _ (by norm_num)))
    (tap_at x0 _ _ 10 20 _ (by norm_num)))
    (tap_at x0 _ _ 9 21 _ (by norm_num)))
    (tap_at x0 _ _ 8 22 _ (by norm_num)))
    (tap_at x0 _ _ 7 23 _ (by norm_num)))
    (tap_at x0 _ _ 6 24 _ (by norm_num)))
    (tap_at x0 _ _ 5 25 _ (by norm_num)))
    (tap_at x0 _ _ 4 26 _ (by norm_num)))
    (tap_at x0 _ _ 3 27 _ (by norm_num)))
    (tap_at x0 _ _ 2 28 _ (by norm_num)))
    (tap_at x0 _ _ 1 29 _ (by norm_num)))
    (tap_first x0 _ _ _)

/-- A moved block of the cotangent is the cotangent, moved. -/
theorem up_block (t : Fin cfg0.N) (y : S256x256.Idx) (j : S4096x1024.Idx) (hj0 : (j 0 : ℕ) = t.val % 16 * 256 + y 0)
    (hj1 : (j 1 : ℕ) = t.val / 16 * 256 + y 1) (d : ℕ) (hd : d < 31) :
    up (grid0.coords t) (iblk m c 0 t) (iblk m c 1 t) y d = rowAt (m ((c : Thread nD τ).loc main_arg0)) ((j 0 : ℕ) + d) (j 1) := by
  have h0 : (y 0 : ℕ) < 256 := (y 0).isLt
  have ht : t.val % 16 < 16 := Nat.mod_lt _ (by decide)
  unfold up rowAt
  rw [row_block t]
  by_cases hu : 256 ≤ (y 0 : ℕ) + d
  · rw [if_pos hu]
    by_cases hn : t.val % 16 < 15
    · rw [if_pos hn, dif_pos (by omega)]
      blk_point [iblk, V, idx t]
    · rw [if_neg hn, dif_neg (by omega)]
  · rw [if_neg hu, dif_pos (by omega)]
    blk_point [iblk, V, idx t]

/-- A row of taps read at a grid point. -/
theorem w_block (t : Fin cfg0.N) (y : S256x256.Idx) (j : S4096x1024.Idx)
    (hj1 : (j 1 : ℕ) = t.val / 16 * 256 + y 1) (k : Fin 31) :
    (show FVec Ideal S31x256 .f32 from iblk m c 2 t) (ix2 k (y 1)) = (m ((c : Thread nD τ).loc main_arg1)) (ix2 k (j 1)) := by
  blk_point [iblk, V, idx t]

/-- What the reference computes of the arguments in memory. -/
def result : FVec Ideal S4096x1024 .f32 :=
  Cert.Reference18Ideal.Read.val_main_v220 (F := Ideal) (m ((c : Thread nD τ).loc main_arg0)) (m ((c : Thread nD τ).loc main_arg1))

/-- One entry of a block is the reference's. -/
theorem point (t : Fin cfg0.N) (y : S256x256.Idx) (j : S4096x1024.Idx) (hj0 : (j 0 : ℕ) = t.val % 16 * 256 + y 0)
    (hj1 : (j 1 : ℕ) = t.val / 16 * 256 + y 1) :
    blockOut (grid0.coords t) (iblk m c 0 t) (iblk m c 1 t) (iblk m c 2 t) y = result m c j := by
  refine (pay_at _ _ _ _ _).trans (Eq.trans ?_ (ref_at _ _ _).symm)
  rw [up_block m c t y j hj0 hj1 30 (by norm_num)]
  rw [up_block m c t y j hj0 hj1 29 (by norm_num)]
  rw [up_block m c t y j hj0 hj1 28 (by norm_num)]
  rw [up_block m c t y j hj0 hj1 27 (by norm_num)]
  rw [up_block m c t y j hj0 hj1 26 (by norm_num)]
  rw [up_block m c t y j hj0 hj1 25 (by norm_num)]
  rw [up_block m c t y j hj0 hj1 24 (by norm_num)]
  rw [up_block m c t y j hj0 hj1 23 (by norm_num)]
  rw [up_block m c t y j hj0 hj1 22 (by norm_num)]
  rw [up_block m c t y j hj0 hj1 21 (by norm_num)]
  rw [up_block m c t y j hj0 hj1 20 (by norm_num)]
  rw [up_block m c t y j hj0 hj1 19 (by norm_num)]
  rw [up_block m c t y j hj0 hj1 18 (by norm_num)]
  rw [up_block m c t y j hj0 hj1 17 (by norm_num)]
  rw [up_block m c t y j hj0 hj1 16 (by norm_num)]
  rw [up_block m c t y j hj0 hj1 15 (by norm_num)]
  rw [up_block m c t y j hj0 hj1 14 (by norm_num)]
  rw [up_block m c t y j hj0 hj1 13 (by norm_num)]
  rw [up_block m c t y j hj0 hj1 12 (by norm_num)]
  rw [up_block m c t y j hj0 hj1 11 (by norm_num)]
  rw [up_block m c t y j hj0 hj1 10 (by norm_num)]
  rw [up_block m c t y j hj0 hj1 9 (by norm_num)]
  rw [up_block m c t y j hj0 hj1 8 (by norm_num)]
  rw [up_block m c t y j hj0 hj1 7 (by norm_num)]
  rw [up_block m c t y j hj0 hj1 6 (by norm_num)]
  rw [up_block m c t y j hj0 hj1 5 (by norm_num)]
  rw [up_block m c t y j hj0 hj1 4 (by norm_num)]
  rw [up_block m c t y j hj0 hj1 3 (by norm_num)]
  rw [up_block m c t y j hj0 hj1 2 (by norm_num)]
  rw [up_block m c t y j hj0 hj1 1 (by norm_num)]
  rw [up_block m c t y j hj0 hj1 0 (by norm_num)]
  have hw := w_block m c t y j hj1
  rw [show (iblk m c 2 t : FVec Ideal S31x256 .f32) (ix2 0 (y 1)) = _ from hw 0]
  rw [show (iblk m c 2 t : FVec Ideal S31x256 .f32) (ix2 1 (y 1)) = _ from hw 1]
  rw [show (iblk m c 2 t : FVec Ideal S31x256 .f32) (ix2 2 (y 1)) = _ from hw 2]
  rw [show (iblk m c 2 t : FVec Ideal S31x256 .f32) (ix2 3 (y 1)) = _ from hw 3]
  rw [show (iblk m c 2 t : FVec Ideal S31x256 .f32) (ix2 4 (y 1)) = _ from hw 4]
  rw [show (iblk m c 2 t : FVec Ideal S31x256 .f32) (ix2 5 (y 1)) = _ from hw 5]
  rw [show (iblk m c 2 t : FVec Ideal S31x256 .f32) (ix2 6 (y 1)) = _ from hw 6]
  rw [show (iblk m c 2 t : FVec Ideal S31x256 .f32) (ix2 7 (y 1)) = _ from hw 7]
  rw [show (iblk m c 2 t : FVec Ideal S31x256 .f32) (ix2 8 (y 1)) = _ from hw 8]
  rw [show (iblk m c 2 t : FVec Ideal S31x256 .f32) (ix2 9 (y 1)) = _ from hw 9]
  rw [show (iblk m c 2 t : FVec Ideal S31x256 .f32) (ix2 10 (y 1)) = _ from hw 10]
  rw [show (iblk m c 2 t : FVec Ideal S31x256 .f32) (ix2 11 (y 1)) = _ from hw 11]
  rw [show (iblk m c 2 t : FVec Ideal S31x256 .f32) (ix2 12 (y 1)) = _ from hw 12]
  rw [show (iblk m c 2 t : FVec Ideal S31x256 .f32) (ix2 13 (y 1)) = _ from hw 13]
  rw [show (iblk m c 2 t : FVec Ideal S31x256 .f32) (ix2 14 (y 1)) = _ from hw 14]
  rw [show (iblk m c 2 t : FVec Ideal S31x256 .f32) (ix2 15 (y 1)) = _ from hw 15]
  rw [show (iblk m c 2 t : FVec Ideal S31x256 .f32) (ix2 16 (y 1)) = _ from hw 16]
  rw [show (iblk m c 2 t : FVec Ideal S31x256 .f32) (ix2 17 (y 1)) = _ from hw 17]
  rw [show (iblk m c 2 t : FVec Ideal S31x256 .f32) (ix2 18 (y 1)) = _ from hw 18]
  rw [show (iblk m c 2 t : FVec Ideal S31x256 .f32) (ix2 19 (y 1)) = _ from hw 19]
  rw [show (iblk m c 2 t : FVec Ideal S31x256 .f32) (ix2 20 (y 1)) = _ from hw 20]
  rw [show (iblk m c 2 t : FVec Ideal S31x256 .f32) (ix2 21 (y 1)) = _ from hw 21]
  rw [show (iblk m c 2 t : FVec Ideal S31x256 .f32) (ix2 22 (y 1)) = _ from hw 22]
  rw [show (iblk m c 2 t : FVec Ideal S31x256 .f32) (ix2 23 (y 1)) = _ from hw 23]
  rw [show (iblk m c 2 t : FVec Ideal S31x256 .f32) (ix2 24 (y 1)) = _ from hw 24]
  rw [show (iblk m c 2 t : FVec Ideal S31x256 .f32) (ix2 25 (y 1)) = _ from hw 25]
  rw [show (iblk m c 2 t : FVec Ideal S31x256 .f32) (ix2 26 (y 1)) = _ from hw 26]
  rw [show (iblk m c 2 t : FVec Ideal S31x256 .f32) (ix2 27 (y 1)) = _ from hw 27]
  rw [show (iblk m c 2 t : FVec Ideal S31x256 .f32) (ix2 28 (y 1)) = _ from hw 28]
  rw [show (iblk m c 2 t : FVec Ideal S31x256 .f32) (ix2 29 (y 1)) = _ from hw 29]
  rw [show (iblk m c 2 t : FVec Ideal S31x256 .f32) (ix2 30 (y 1)) = _ from hw 30]
  ac_rfl

/-- The next block, zero where there is none, as the frame names it. -/
theorem next_eq (i : grid0.Coords) (a b : FVec Ideal S256x256 .f32) (w : FVec Ideal S31x256 .f32) :
    k0_pay21 (F := Ideal) i a b w = k0_pay1 i b := by
  unfold k0_pay21
  frame_out

/-- What the frame says a grid point leaves is the block the kernel writes. -/
theorem out_eq (i : grid0.Coords) (a b : FVec Ideal S256x256 .f32) (w : FVec Ideal S31x256 .f32) :
    out0_3 (F := Ideal) i a b w = blockOut i a b w := by
  frame_out
  rw [next_eq]

set_option maxHeartbeats 4000000 in
/-- The array the launch writes is the reference's. -/
theorem final : (dats m 0 c).arrAt 3 cfg0.N = result m c := by
  refine (dats m 0 c).arrAt_eq_of_covers 3 _ (by decide +kernel) fun t hf y => ?_
  blk_simp
  rw [after0_3]
  rw [out_eq]
  refine point m c t y _ ?_ ?_
  all_goals (blk_simp [idx t] <;> try omega)

set_option maxHeartbeats 4000000 in
/-- The kernel's ideal result is the reference's, for every input. -/
theorem algebraic : Cert.algebraic_Kernel18Ideal_Reference18Ideal := by
  pair_intro
  · run_from Cert.Kernel18Ideal.Gen.run_main m g
  · hlo_run
    exact (final m c).symm

/-- The kernel changes nothing but its results, over the machine's own floats. -/
theorem frame_kernel : Cert.quiescent_Kernel18 :=
  fun m ρ _ => Cert.Kernel18.Gen.frame m ρ

/-- The same over the extended reals. -/
theorem frame_ideal : Cert.quiescent_Kernel18Ideal :=
  fun m ρ _ => Cert.Kernel18Ideal.Gen.frame m ρ

/-- The reference changes nothing but its results. -/
theorem frame_ref : Cert.quiescent_Reference18Ideal := by
  intro m ρ _
  hlo_run
  · exact fun c => by simp
  · exact sem_eq_zero_of_no_sems (by decide) _

end Cert.CfDx

end
-- ==== Proof.Pieces.lean ====
/- Stores of rows over a fill of the whole block: the fill is not seen. -/
module

public import Idealize.ShloMosaic.Lib.Pipeline.ValueKit
public import Idealize.ShloMosaic.Lib.Pipeline.ReadBack

@[expose] public section

namespace Cert.Pieces

open Idealize.ShloMosaic

variable {Val : EltTy → Type} {s : Shape} {e : EltTy}

/-- Where the later stores cover an index, the earlier ones are not seen there. -/
theorem canon_drop [∀ e, Nonempty (Val e)] (L' : List (View.Piece Val s e)) (y : s.Idx) :
    ∀ L : List (View.Piece Val s e), (∃ p ∈ L, y ∈ p.1.set) → View.canon (L ++ L') y = View.canon L y
  | [], h => by
    obtain ⟨p, hp, _⟩ := h
    exact absurd hp List.not_mem_nil
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · have h' : ∃ q ∈ L, y ∈ q.1.set := by
        obtain ⟨q, hq, hy⟩ := h
        rcases List.mem_cons.mp hq with rfl | hq
        · exact absurd hy hm
        · exact ⟨q, hq, hy⟩
      rw [List.cons_append, View.canon_cons_of_not_mem p _ hm, View.canon_cons_of_not_mem p L hm]
      exact canon_drop L' y L h'

end Cert.Pieces
-- ==== Proof.LruDw.lean ====
/- The gradient of the recurrent block's convolution: its taps and its bias. -/
module

public import proofs.«01_k».proof.Defs
public import proofs.«01_k».proof.Proof.Gen.Kernel19.Frame
public import proofs.«01_k».proof.Proof.Gen.Kernel19Ideal.Frame
public import proofs.«01_k».proof.Proof.Gen.Reference19Ideal.Read
public import Idealize.ShloMosaic.Lib.Pipeline.ValueKit
public import Idealize.ShloMosaic.Lib.Claim
public import proofs.«01_k».proof.Proof.Pieces

@[expose] public section

set_option maxRecDepth 16384

noncomputable section

namespace Cert.LruDw

open Cert.Kernel19Ideal Cert.Kernel19Ideal.Gen
open Idealize.ShloMosaic Idealize.ShloMosaic.TcCoe Idealize.SL.Sem

variable (m : (ℓ : Loc nD τ sig) → Buf (Elt Ideal) ℓ) (c : Dev nD)

/-- The block that every window is on at a grid point: the rows of the third window are the block before's. -/
theorem idx : ∀ t : Fin cfg0.N, win0_0.index t = ![t.val % 8, t.val / 8]
    ∧ win0_1.index t = ![t.val % 8, t.val / 8]
    ∧ win0_2.index t = ![t.val % 8 - 1, t.val / 8]
    ∧ win0_3.index t = ![0, t.val / 8]
    ∧ win0_4.index t = ![0, t.val / 8] :=
  (by decide +kernel : ∀ t : Fin grid0.N, _)

/-- The second grid coordinate is the number of the block of rows. -/
theorem row_block : ∀ t : Fin cfg0.N, (grid0.coords t 1 : ℕ) = t.val % 8 :=
  (by decide +kernel : ∀ t : Fin grid0.N, _)

/-- A row of the input `d` rows earlier, zero before the first. -/
def rowBefore (X : FVec Ideal S4096x6144 .f32) (n d : ℕ) (q : Fin 6144) : EReal :=
  if h : d ≤ n ∧ n - d < 4096 then X (ix2 ⟨n - d, h.2⟩ q) else 0

/-- The block moved down by `d` rows: what enters comes from the block before, and is zero before the first. -/
def down (i : grid0.Coords) (a b : FVec Ideal S512x512 .f32) (r : Fin 512) (q : Fin 512) (d : ℕ) : EReal :=
  if (r : ℕ) < d then (if 0 < (i 1 : ℕ) then b (ix2 ⟨((r : ℕ) + 512 - d) % 512, Nat.mod_lt _ (by decide)⟩ q) else 0)
  else a (ix2 ⟨((r : ℕ) + 512 - d) % 512, Nat.mod_lt _ (by decide)⟩ q)

/-- What one grid point adds to the gradient of a tap: the cotangent's block times the moved block, summed over its rows. -/
def term (i : grid0.Coords) (g a b : FVec Ideal S512x512 .f32) (j : S4x512.Idx) : EReal :=
  ∑ r : Fin 512, g (ix2 r (j 1)) * down i a b r (j 1) (3 - (j 0 : ℕ))

/-- A choice on the order of two small words is a choice on the numbers. -/
theorem select_slt (p q : ℕ) (hp : p < 2 ^ 31) (hq : q < 2 ^ 31) (x y : EReal) :
    Scalar.select (IntOp.cmpi .slt (BitVec.ofNat 32 p) (BitVec.ofNat 32 q)) x y = if p < q then x else y := by
  rw [WordCmp.cmpi_slt_ofNat hp hq]
  by_cases h : p < q <;> simp [Scalar.select, h]

/-- The same for the order the other way round. -/
theorem select_sgt (p q : ℕ) (hp : p < 2 ^ 31) (hq : q < 2 ^ 31) (x y : EReal) :
    Scalar.select (Scalar.cmpi .sgt (BitVec.ofNat 32 p) (BitVec.ofNat 32 q)) x y = if q < p then x else y := by
  refine (congrArg (fun s => Scalar.select s x y) (WordCmp.cmpi_sgt_ofNat hp hq)).trans ?_
  by_cases h : q < p <;> simp [Scalar.select, h]

/-- Two rotated blocks, joined at the row where the block before ends, are the block moved down. -/
theorem rot_at (i : grid0.Coords) (a b : FVec Ideal S512x512 .f32) (r : Fin 512) (q : Fin 512) (d : ℕ) (hd : d < 512) (h) (h') :
    Scalar.select (IntOp.cmpi .slt (BitVec.ofNat 32 (r : ℕ)) (BitVec.ofNat 32 d))
      (Scalar.select (Scalar.cmpi .sgt (BitVec.ofNat 32 (i 1 : ℕ)) 0#32)
        (b (ix2 ⟨((r : ℕ) + 512 - d) % 512, h⟩ q)) 0)
      (a (ix2 ⟨((r : ℕ) + 512 - d) % 512, h'⟩ q)) = down i a b r q d := by
  have h0 := r.isLt
  have h1 : (i 1 : ℕ) < 8 := (i 1).isLt
  rw [select_slt _ _ (by omega) (by omega), select_sgt _ _ (by omega) (by omega)]
  rfl

/-- Moving by no rows. -/
theorem down_zero (i : grid0.Coords) (a b : FVec Ideal S512x512 .f32) (r : Fin 512) (q : Fin 512) : a (ix2 r q) = down i a b r q 0 := by
  have h0 := r.isLt
  unfold down
  rw [if_neg (by omega)]
  have e : (⟨((r : ℕ) + 512 - 0) % 512, Nat.mod_lt _ (by decide)⟩ : Fin 512) = r :=
    Fin.ext (show ((r : ℕ) + 512 - 0) % 512 = (r : ℕ) by omega)
  rw [e]

/-- Tap 0: the row it had plus what this point adds. -/
theorem tap0 (i : grid0.Coords) (g a b : FVec Ideal S512x512 .f32) (v : FVec Ideal S1x512 .f32) (x : S1x512.Idx) (j : S4x512.Idx)
    (h0 : (j 0 : ℕ) = 0 + (x 0 : ℕ)) (h1 : (j 1 : ℕ) = x 1) :
    k0_pay8 (F := Ideal) i g a b v x = v x + term i g a b j := by
  have hx : (x 0 : ℕ) < 1 := (x 0).isLt
  have e1 : x 1 = j 1 := Fin.ext h1.symm
  have e0 : 3 - (j 0 : ℕ) = 3 := by omega
  unfold term
  rw [e0, ← e1]
  pointwise [k0_pay8, k0_pay7]
  exact congrArg (v x + ·) (Finset.sum_congr rfl fun r _ => congrArg (g (ix2 r (x 1)) * ·) (rot_at i a b r (x 1) 3 (by norm_num) _ _))

/-- Tap 1: the row it had plus what this point adds. -/
theorem tap1 (i : grid0.Coords) (g a b : FVec Ideal S512x512 .f32) (v : FVec Ideal S1x512 .f32) (x : S1x512.Idx) (j : S4x512.Idx)
    (h0 : (j 0 : ℕ) = 1 + (x 0 : ℕ)) (h1 : (j 1 : ℕ) = x 1) :
    k0_pay1 (F := Ideal) (k0_pay9 i g a b) v x = v x + term i g a b j := by
  have hx : (x 0 : ℕ) < 1 := (x 0).isLt
  have e1 : x 1 = j 1 := Fin.ext h1.symm
  have e0 : 3 - (j 0 : ℕ) = 2 := by omega
  unfold term
  rw [e0, ← e1]
  pointwise [k0_pay1, k0_pay9, k0_pay7]
  exact congrArg (v x + ·) (Finset.sum_congr rfl fun r _ => congrArg (g (ix2 r (x 1)) * ·) (rot_at i a b r (x 1) 2 (by norm_num) _ _))

/-- Tap 2: the row it had plus what this point adds. -/
theorem tap2 (i : grid0.Coords) (g a b : FVec Ideal S512x512 .f32) (v : FVec Ideal S1x512 .f32) (x : S1x512.Idx) (j : S4x512.Idx)
    (h0 : (j 0 : ℕ) = 2 + (x 0 : ℕ)) (h1 : (j 1 : ℕ) = x 1) :
    k0_pay2 (F := Ideal) g a (k0_pay7 i b) v x = v x + term i g a b j := by
  have hx : (x 0 : ℕ) < 1 := (x 0).isLt
  have e1 : x 1 = j 1 := Fin.ext h1.symm
  have e0 : 3 - (j 0 : ℕ) = 1 := by omega
  unfold term
  rw [e0, ← e1]
  pointwise [k0_pay2, k0_pay7]
  exact congrArg (v x + ·) (Finset.sum_congr rfl fun r _ => congrArg (g (ix2 r (x 1)) * ·) (rot_at i a b r (x 1) 1 (by norm_num) _ _))

/-- Tap 3: the row it had plus what this point adds. -/
theorem tap3 (i : grid0.Coords) (g a b : FVec Ideal S512x512 .f32) (v : FVec Ideal S1x512 .f32) (x : S1x512.Idx) (j : S4x512.Idx)
    (h0 : (j 0 : ℕ) = 3 + (x 0 : ℕ)) (h1 : (j 1 : ℕ) = x 1) :
    k0_pay3 (F := Ideal) g a v x = v x + term i g a b j := by
  have hx : (x 0 : ℕ) < 1 := (x 0).isLt
  have e1 : x 1 = j 1 := Fin.ext h1.symm
  have e0 : 3 - (j 0 : ℕ) = 0 := by omega
  unfold term
  rw [e0, ← e1]
  pointwise [k0_pay3]
  exact congrArg (v x + ·) (Finset.sum_congr rfl fun r _ => congrArg (g (ix2 r (x 1)) * ·) (down_zero i a b r (x 1)))

/-- The block starts at zero. -/
theorem zero_at (x : S4x512.Idx) : k0_pay5 (F := Ideal) x = 0 := by
  pointwise [k0_pay5]

/-- A grid point that continues a column adds its term to what the point before left. -/
theorem step (t : Fin cfg0.N) (h : ¬t.val % 8 = 0) (j : S4x512.Idx) : (outsAt0 m c t.val t.isLt).1 j
    = (outsAt0 m c (t.val - 1) (Nat.lt_of_le_of_lt (Nat.sub_le _ _) t.isLt)).1 j
      + term (grid0.coords t) (iblk m c 0 t) (iblk m c 1 t) (iblk m c 2 t) j := by
  rw [outsAt0_B m c t h]
  frame_out
  generalize outsAt0 m c (t.val - 1) _ = p
  have ld (k : ℕ) (inb) (x : S1x512.Idx) (h0 : (j 0 : ℕ) = k + (x 0 : ℕ)) (h1 : (j 1 : ℕ) = x 1) :
      View.ld p.1 (Rect.unit ![k, 0] ![1, 512] inb) x = p.1 j :=
    View.ld_unit_apply_of p.1 _ _ inb x j fun a => by
      fin_cases a
      · exact h0
      · exact h1.trans (Nat.zero_add _).symm
  canon_tiles x h
  · exact (tap3 (grid0.coords t) _ _ (iblk m c 2 t) _ x j h0 h1).trans (congrArg (· + _) (ld 3 _ x h0 h1))
  · exact (tap2 (grid0.coords t) _ _ (iblk m c 2 t) _ x j h0 h1).trans (congrArg (· + _) (ld 2 _ x h0 h1))
  · exact (tap1 (grid0.coords t) _ _ (iblk m c 2 t) _ x j h0 h1).trans (congrArg (· + _) (ld 1 _ x h0 h1))
  · exact (tap0 (grid0.coords t) _ _ (iblk m c 2 t) _ x j (by omega) h1).trans (congrArg (· + _) (ld 0 _ x (by omega) h1))

/-- The first grid point of a column starts at zero and adds its term. -/
theorem start (t : Fin cfg0.N) (h : t.val % 8 = 0) (j : S4x512.Idx) : (outsAt0 m c t.val t.isLt).1 j
    = 0 + term (grid0.coords t) (iblk m c 0 t) (iblk m c 1 t) (iblk m c 2 t) j := by
  rw [outsAt0_A m c t h]
  frame_out
  simp (discharger := decide) only [↓View.readCov_skip, ↓View.readCov_fill]
  refine (Pieces.canon_drop [_] j [_, _, _, _] (View.cover_of_tiledL (s := S4x512) _ ![1, 512] (by rfl) j)).trans ?_
  canon_tiles x h
  · exact (tap3 (grid0.coords t) _ _ (iblk m c 2 t) _ x j h0 h1).trans (congrArg (· + _) (zero_at _))
  · exact (tap2 (grid0.coords t) _ _ (iblk m c 2 t) _ x j h0 h1).trans (congrArg (· + _) (zero_at _))
  · exact (tap1 (grid0.coords t) _ _ (iblk m c 2 t) _ x j h0 h1).trans (congrArg (· + _) (zero_at _))
  · exact (tap0 (grid0.coords t) _ _ (iblk m c 2 t) _ x j (by omega) h1).trans (congrArg (· + _) (zero_at _))

/-- A moved block of the input is the input, moved. -/
theorem down_block (t : Fin cfg0.N) (r : Fin 512) (q : Fin 512) (n : Fin 4096) (p : Fin 6144) (hn : (n : ℕ) = t.val % 8 * 512 + r)
    (hp : (p : ℕ) = t.val / 8 * 512 + q) (d : ℕ) (hd : d < 4) :
    down (grid0.coords t) (iblk m c 1 t) (iblk m c 2 t) r q d = rowBefore (m ((c : Thread nD τ).loc main_arg1)) n d p := by
  have h0 := r.isLt
  have h1 := n.isLt
  have ht : t.val % 8 < 8 := Nat.mod_lt _ (by decide)
  unfold down rowBefore
  rw [row_block t]
  by_cases hu : (r : ℕ) < d
  · rw [if_pos hu]
    by_cases hz : 0 < t.val % 8
    · rw [if_pos hz, dif_pos ⟨by omega, by omega⟩]
      blk_point [iblk, V, idx t]
    · rw [if_neg hz, dif_neg (by omega)]
  · rw [if_neg hu, dif_pos ⟨by omega, by omega⟩]
    blk_point [iblk, V, idx t]

/-- The gradient of the tap that looks `d` rows back: the cotangent times the moved input, summed over all rows. -/
def tapSum (x0 : FVec Ideal S4096x1024 .f32) (x1 : FVec Ideal S4096x6144 .f32) (d : ℕ) (q : Fin 1024) (p : Fin 6144) : EReal :=
  ∑ n : Fin 4096, x0 (ix2 n q) * rowBefore x1 n d p

/-- A tap between the first and the last, as the transposed reference sums it. -/
theorem row_mid (x0 : FVec Ideal S4096x1024 .f32) (x1 : FVec Ideal S4096x6144 .f32) (q : Fin 1024) (p : Fin 6144) (k d n : ℕ) (hk : k + d = 3)
    (h : ∀ x : Fin 4096, ¬k + (x : ℕ) < 3 → k + (x : ℕ) - 3 < 4096) :
    (if _h : k ≤ n ∧ n - k < 1 then ∑ _x : Fin 1, ∑ x : Fin 4096, x0 (ix2 x q) *
      (if h₀ : k + (x : ℕ) < 3 then 0 else x1 (ix2 ⟨k + (x : ℕ) - 3, h x h₀⟩ p)) else 0)
      = if n = k then tapSum x0 x1 (3 - n) q p else 0 := by
  by_cases e : n = k
  · rw [if_pos e, dif_pos ⟨by omega, by omega⟩, Fin.sum_univ_one]
    have hd : 3 - n = d := by omega
    rw [hd]
    refine Finset.sum_congr rfl fun x _ => congrArg (x0 (ix2 x q) * ·) ?_
    have hx := x.isLt
    unfold rowBefore
    by_cases h₁ : k + (x : ℕ) < 3
    · rw [dif_pos h₁, dif_neg (by omega)]
    · rw [dif_neg h₁, dif_pos ⟨by omega, by omega⟩]
      have e₁ : k + (x : ℕ) - 3 = (x : ℕ) - d := by omega
      simp only [e₁]
  · rw [if_neg e, dif_neg (by omega)]

/-- The last tap. -/
theorem row_last (x0 : FVec Ideal S4096x1024 .f32) (x1 : FVec Ideal S4096x6144 .f32) (q : Fin 1024) (p : Fin 6144) (n : ℕ) :
    (if _h : 3 ≤ n ∧ n - 3 < 1 then ∑ _x : Fin 1, ∑ x : Fin 4096, x0 (ix2 x q) * x1 (ix2 x p) else 0)
      = if n = 3 then tapSum x0 x1 (3 - n) q p else 0 := by
  by_cases e : n = 3
  · rw [if_pos e, dif_pos ⟨by omega, by omega⟩, Fin.sum_univ_one, e]
    refine Finset.sum_congr rfl fun x _ => congrArg (x0 (ix2 x q) * ·) ?_
    unfold rowBefore
    rw [dif_pos ⟨Nat.zero_le _, x.isLt⟩]
    rfl
  · rw [if_neg e, dif_neg (by omega)]

/-- The first tap: the rows before the first are summed apart, and are zero. -/
theorem row_first (x0 : FVec Ideal S4096x1024 .f32) (x1 : FVec Ideal S4096x6144 .f32) (q : Fin 1024) (p : Fin 6144) (n : ℕ) (h : ∀ x : Fin 3, (x : ℕ) < 4096)
    (h' : ∀ x : Fin 4093, 3 + (x : ℕ) < 4096) (h'' : ∀ x : Fin 4093, (x : ℕ) < 4096) :
    (if _h : n < 1 then ∑ _x : Fin 1, (∑ x : Fin 3, x0 (ix2 ⟨(x : ℕ), h x⟩ q) * 0
      + ∑ x : Fin 4093, x0 (ix2 ⟨3 + (x : ℕ), h' x⟩ q) * x1 (ix2 ⟨(x : ℕ), h'' x⟩ p)) else 0)
      = if n = 0 then tapSum x0 x1 (3 - n) q p else 0 := by
  by_cases e : n = 0
  · rw [if_pos e, dif_pos (by omega), Fin.sum_univ_one, e]
    unfold tapSum
    refine Eq.trans ?_ (Fin.sum_univ_add (a := 3) (b := 4093) (fun x : Fin (3 + 4093) => x0 (ix2 x q) * rowBefore x1 x 3 p)).symm
    refine congrArg₂ (· + ·) (Finset.sum_congr rfl fun x _ => ?_) (Finset.sum_congr rfl fun x _ => ?_)
    · have hx := x.isLt
      refine congrArg (x0 (ix2 ⟨(x : ℕ), h x⟩ q) * ·) ?_
      unfold rowBefore
      split
      · next hc =>
        rw [Fin.val_castAdd] at hc
        omega
      · rfl
    · have hx := x.isLt
      refine congrArg (x0 (ix2 ⟨3 + (x : ℕ), h' x⟩ q) * ·) ?_
      unfold rowBefore
      refine Eq.trans ?_ (dif_pos (show 3 ≤ 3 + (x : ℕ) ∧ 3 + (x : ℕ) - 3 < 4096 by omega)).symm
      have e₁ : 3 + (x : ℕ) - 3 = (x : ℕ) := by omega
      exact congrArg (fun n => x1 (ix2 n p)) (Fin.ext e₁.symm)
  · rw [if_neg e, dif_neg (by omega)]

/-- The reference at an entry. -/
theorem ref_at (x0 : FVec Ideal S4096x1024 .f32) (x1 : FVec Ideal S4096x6144 .f32) (j : S4x1024.Idx) :
    Cert.Reference19Ideal.Read.val_main_v37 (F := Ideal) x0 x1 j = tapSum x0 x1 (3 - (j 0 : ℕ)) (j 1) ⟨(j 1 : ℕ), Nat.lt_of_lt_of_le (j 1).isLt (by decide)⟩ := by
  have h0 : (j 0 : ℕ) < 4 := (j 0).isLt
  pointwise [Cert.Reference19Ideal.Read.val_main_v0, Cert.Reference19Ideal.Read.val_main_cst, Cert.Reference19Ideal.Read.val_main_v1, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_cst_0, Cert.Reference19Ideal.Read.val_main_v8, Cert.Reference19Ideal.Read.val_main_v9, Cert.Reference19Ideal.Read.val_main_cst_1, Cert.Reference19Ideal.Read.val_main_v10, Cert.Reference19Ideal.Read.val_main_v11, Cert.Reference19Ideal.Read.val_main_cst_2, Cert.Reference19Ideal.Read.val_main_v12, Cert.Reference19Ideal.Read.val_main_v13, Cert.Reference19Ideal.Read.val_main_cst_3, Cert.Reference19Ideal.Read.val_main_v14, Cert.Reference19Ideal.Read.val_main_v15, Cert.Reference19Ideal.Read.val_main_cst_4, Cert.Reference19Ideal.Read.val_main_v16, Cert.Reference19Ideal.Read.val_main_v17, Cert.Reference19Ideal.Read.val_main_cst_5, Cert.Reference19Ideal.Read.val_main_v18, Cert.Reference19Ideal.Read.val_main_v19, Cert.Reference19Ideal.Read.val_main_cst_6, Cert.Reference19Ideal.Read.val_main_v20, Cert.Reference19Ideal.Read.val_main_v21, Cert.Reference19Ideal.Read.val_main_cst_7, Cert.Reference19Ideal.Read.val_main_v22, Cert.Reference19Ideal.Read.val_main_v23, Cert.Reference19Ideal.Read.val_main_v24, Cert.Reference19Ideal.Read.val_main_cst_8, Cert.Reference19Ideal.Read.val_main_v25, Cert.Reference19Ideal.Read.val_main_v26, Cert.Reference19Ideal.Read.val_main_cst_9, Cert.Reference19Ideal.Read.val_main_v27, Cert.Reference19Ideal.Read.val_main_v28, Cert.Reference19Ideal.Read.val_main_cst_10, Cert.Reference19Ideal.Read.val_main_v29, Cert.Reference19Ideal.Read.val_main_v30, Cert.Reference19Ideal.Read.val_main_v31, Cert.Reference19Ideal.Read.val_main_cst_11, Cert.Reference19Ideal.Read.val_main_v32, Cert.Reference19Ideal.Read.val_main_v33, Cert.Reference19Ideal.Read.val_main_cst_12, Cert.Reference19Ideal.Read.val_main_v34, Cert.Reference19Ideal.Read.val_main_v35, Cert.Reference19Ideal.Read.val_main_cst_13, Cert.Reference19Ideal.Read.val_main_v36, Cert.Reference19Ideal.Read.val_main_v37]
  refine (congrArg₂ (· + ·) (congrArg₂ (· + ·) (congrArg₂ (· + ·) (row_last x0 x1 (j 1) ⟨(j 1 : ℕ), Nat.lt_of_lt_of_le (j 1).isLt (by decide)⟩ (j 0))
    (row_mid x0 x1 (j 1) ⟨(j 1 : ℕ), Nat.lt_of_lt_of_le (j 1).isLt (by decide)⟩ 2 1 (j 0) (by norm_num) _))
    (row_mid x0 x1 (j 1) ⟨(j 1 : ℕ), Nat.lt_of_lt_of_le (j 1).isLt (by decide)⟩ 1 2 (j 0) (by norm_num) _))
    (row_first x0 x1 (j 1) ⟨(j 1 : ℕ), Nat.lt_of_lt_of_le (j 1).isLt (by decide)⟩ (j 0) _ _ _)).trans ?_
  generalize tapSum x0 x1 _ _ _ = v
  generalize (j 0 : ℕ) = n at h0
  interval_cases n <;> simp

/-- The taps' gradient, as the reference computes it of the arguments in memory. -/
def result : FVec Ideal S4x1024 .f32 :=
  Cert.Reference19Ideal.Read.val_main_v37 (F := Ideal) (m ((c : Thread nD τ).loc main_arg0)) (m ((c : Thread nD τ).loc main_arg1))

/-- The array the launch writes is the reference's. -/
theorem final : (dats m 0 c).arrAt 3 cfg0.N = result m c := by
  refine (dats m 0 c).arrAt_eq_of_covers 3 _ (by decide +kernel) fun t hf y => ?_
  have hr : t.val % 8 = 8 - 1 := (flush0_3 t).mp hf
  blk_simp
  rw [after0_3]
  refine (Pipeline.eq_sum_fin_of_reset_step_apply_of_flush (fun n h => (outsAt0 m c n h).1) 8 (fun _ => 0)
    (fun t j => term (grid0.coords t) (iblk m c 0 t) (iblk m c 1 t) (iblk m c 2 t) j)
    (start m c) (step m c) t hr y).trans ?_
  refine Eq.trans ?_ (ref_at _ _ _).symm
  rw [zero_add]
  unfold tapSum term
  have hy0 : (y 0 : ℕ) < 4 := (y 0).isLt
  have ht : t.val < 16 := lt_of_lt_of_eq t.isLt (show cfg0.N = 16 from N_0)
  refine Fin.sum_mul_add_congr fun s k hl => ?_
  have hs := s.isLt
  have hk := k.isLt
  have ev : (8 * (t.val / 8) + s.val) % 8 = s.val := by omega
  have ed : (8 * (t.val / 8) + s.val) / 8 = t.val / 8 := by omega
  have e0 : ((win0_3.blk t).view.emb y 0 : ℕ) = (y 0 : ℕ) := by blk_simp [idx t] <;> omega
  have e1 : ((win0_3.blk t).view.emb y 1 : ℕ) = t.val / 8 * 512 + (y 1 : ℕ) := by blk_simp [idx t] <;> omega
  refine congrArg₂ (· * ·) ?_ ?_
  · blk_point [iblk, V, idx t, idx ⟨_, Pipeline.run_point_lt_of_flush t hr s⟩]
  · rw [e0]
    refine down_block m c ⟨_, Pipeline.run_point_lt_of_flush t hr s⟩ k (y 1) _ _ ?_ ?_ _ (by omega)
    · exact congrArg (· * 512 + (k : ℕ)) ev.symm
    · exact e1.trans (congrArg (· * 512 + (y 1 : ℕ)) ed.symm)

/-- What one grid point adds to the bias: the cotangent's block summed over its rows. -/
def biasTerm (g : FVec Ideal S512x512 .f32) (j : S1x512.Idx) : EReal :=
  ∑ r : Fin 512, g (ix2 r (j 1))

/-- The bias block after a point. -/
theorem bias_add (g : FVec Ideal S512x512 .f32) (v : FVec Ideal S1x512 .f32) (j : S1x512.Idx) :
    k0_pay4 (F := Ideal) g v j = v j + biasTerm g j := by
  unfold biasTerm
  pointwise [k0_pay4]

/-- The bias block starts at zero. -/
theorem bias_zero_at (x : S1x512.Idx) : k0_pay6 (F := Ideal) x = 0 := by
  pointwise [k0_pay6]

/-- A grid point that continues a column adds its term to the bias. -/
theorem bias_step (t : Fin cfg0.N) (h : ¬t.val % 8 = 0) (j : S1x512.Idx) : (outsAt0 m c t.val t.isLt).2 j
    = (outsAt0 m c (t.val - 1) (Nat.lt_of_le_of_lt (Nat.sub_le _ _) t.isLt)).2 j + biasTerm (iblk m c 0 t) j := by
  rw [outsAt0_B m c t h]
  frame_out
  exact bias_add _ _ j

/-- The first grid point of a column starts the bias at zero. -/
theorem bias_start (t : Fin cfg0.N) (h : t.val % 8 = 0) (j : S1x512.Idx) : (outsAt0 m c t.val t.isLt).2 j
    = 0 + biasTerm (iblk m c 0 t) j := by
  rw [outsAt0_A m c t h]
  frame_out
  exact (bias_add _ _ j).trans (congrArg (· + _) (bias_zero_at j))

/-- The bias's gradient, as the reference computes it of the arguments in memory. -/
def biasResult : FVec Ideal S1024 .f32 :=
  Cert.Reference19Ideal.Read.val_main_v10 (F := Ideal) (m ((c : Thread nD τ).loc main_arg0))

/-- The row the launch writes is the reference's bias gradient. -/
theorem bias_final : (dats m 0 c).arrAt 4 cfg0.N = fun j : S1x1024.Idx => biasResult m c (ix1 (j 1)) := by
  refine (dats m 0 c).arrAt_eq_of_covers 4 _ (by decide +kernel) fun t hf y => ?_
  have hr : t.val % 8 = 8 - 1 := (flush0_4 t).mp hf
  blk_simp
  rw [after0_4]
  refine (Pipeline.eq_sum_fin_of_reset_step_apply_of_flush (fun n h => (outsAt0 m c n h).2) 8 (fun _ => 0)
    (fun t j => biasTerm (iblk m c 0 t) j) (bias_start m c) (bias_step m c) t hr y).trans ?_
  rw [zero_add]
  unfold biasTerm biasResult
  pointwise [Cert.Reference19Ideal.Read.val_main_cst_0, Cert.Reference19Ideal.Read.val_main_v8, Cert.Reference19Ideal.Read.val_main_v9, Cert.Reference19Ideal.Read.val_main_cst_1, Cert.Reference19Ideal.Read.val_main_v10]
  refine Eq.trans ?_ (Fin.sum_univ_one _).symm
  refine Fin.sum_mul_add_congr fun s k hl => ?_
  blk_ext [iblk, V, idx t, idx ⟨_, Pipeline.run_point_lt_of_flush t hr s⟩]

/-- A row read as a vector. -/
theorem row_vector (B : FVec Ideal S1024 .f32) :
    shapeCast S1024 (fun j : S1x1024.Idx => B (ix1 (j 1))) shapeCasts_S1x1024_S1024 = B := by
  funext j
  pointwise []

/-- The host reads the row the launch wrote as a vector. -/
theorem bias_tail : Pipeline.afterTail₀ cfgs (dats m) 0 (V0 m) [hostOps1] c main_v1 = biasResult m c := by
  have hB := bias_final m c
  generalize biasResult m c = B at hB
  unfold Pipeline.afterTail₀
  simp only [List.flatten_cons, List.flatten_nil, List.append_nil]
  after_results
  erw [(dats m 0 c).withArrays_arrAt sharedIn0 (V0 m c) (fun _ => rfl) 4]
  rw [hB]
  exact row_vector B

/-- The kernel's ideal results are the reference's, for every input. -/
theorem algebraic : Cert.algebraic_Kernel19Ideal_Reference19Ideal := by
  pair_intro
  · run_from Cert.Kernel19Ideal.Gen.run_main m g
  · hlo_run
    · exact (final m c).symm
    · exact (bias_tail m c).symm

/-- The kernel changes nothing but its results, over the machine's own floats. -/
theorem frame_kernel : Cert.quiescent_Kernel19 :=
  fun m ρ _ => Cert.Kernel19.Gen.frame m ρ

/-- The same over the extended reals. -/
theorem frame_ideal : Cert.quiescent_Kernel19Ideal :=
  fun m ρ _ => Cert.Kernel19Ideal.Gen.frame m ρ

/-- The reference changes nothing but its results. -/
theorem frame_ref : Cert.quiescent_Reference19Ideal := by
  intro m ρ _
  hlo_run
  · exact fun c => by simp
  · exact sem_eq_zero_of_no_sems (by decide) _

end Cert.LruDw

end
-- ==== Proof.ScDw.lean ====
/- The gradient of the gated short convolution's taps. -/
module

public import proofs.«01_k».proof.Defs
public import proofs.«01_k».proof.Proof.Gen.Kernel20.Frame
public import proofs.«01_k».proof.Proof.Gen.Kernel20Ideal.Frame
public import proofs.«01_k».proof.Proof.Gen.Reference20Ideal.Read
public import Idealize.ShloMosaic.Lib.Pipeline.ValueKit
public import Idealize.ShloMosaic.Lib.Claim
public import proofs.«01_k».proof.Proof.Pieces

@[expose] public section

set_option maxRecDepth 16384

noncomputable section

namespace Cert.ScDw

open Cert.Kernel20Ideal Cert.Kernel20Ideal.Gen
open Idealize.ShloMosaic Idealize.ShloMosaic.TcCoe Idealize.SL.Sem

variable (m : (ℓ : Loc nD τ sig) → Buf (Elt Ideal) ℓ) (c : Dev nD)

/-- The block that every window is on at a grid point: the rows of the third window are the block before's. -/
theorem idx : ∀ t : Fin cfg0.N, win0_0.index t = ![t.val % 8, t.val / 8]
    ∧ win0_1.index t = ![t.val % 8, t.val / 8]
    ∧ win0_2.index t = ![t.val % 8 - 1, t.val / 8]
    ∧ win0_3.index t = ![0, t.val / 8]
    ∧ win0_4.index t = ![0, t.val / 8] :=
  (by decide +kernel : ∀ t : Fin grid0.N, _)

/-- The second grid coordinate is the number of the block of rows. -/
theorem row_block : ∀ t : Fin cfg0.N, (grid0.coords t 1 : ℕ) = t.val % 8 :=
  (by decide +kernel : ∀ t : Fin grid0.N, _)

/-- A row of the input `d` rows earlier, zero before the first. -/
def rowBefore (X : FVec Ideal S4096x1024 .f32) (n d : ℕ) (q : Fin 1024) : EReal :=
  if h : d ≤ n ∧ n - d < 4096 then X (ix2 ⟨n - d, h.2⟩ q) else 0

/-- The block moved down by `d` rows: what enters comes from the block before, and is zero before the first. -/
def down (i : grid0.Coords) (a b : FVec Ideal S512x512 .f32) (r : Fin 512) (q : Fin 512) (d : ℕ) : EReal :=
  if (r : ℕ) < d then (if 0 < (i 1 : ℕ) then b (ix2 ⟨((r : ℕ) + 512 - d) % 512, Nat.mod_lt _ (by decide)⟩ q) else 0)
  else a (ix2 ⟨((r : ℕ) + 512 - d) % 512, Nat.mod_lt _ (by decide)⟩ q)

/-- What one grid point adds to the gradient of a tap: the cotangent's block times the moved block, summed over its rows. -/
def term (i : grid0.Coords) (g a b : FVec Ideal S512x512 .f32) (j : S3x512.Idx) : EReal :=
  ∑ r : Fin 512, g (ix2 r (j 1)) * down i a b r (j 1) (2 - (j 0 : ℕ))

/-- A choice on the order of two small words is a choice on the numbers. -/
theorem select_slt (p q : ℕ) (hp : p < 2 ^ 31) (hq : q < 2 ^ 31) (x y : EReal) :
    Scalar.select (IntOp.cmpi .slt (BitVec.ofNat 32 p) (BitVec.ofNat 32 q)) x y = if p < q then x else y := by
  rw [WordCmp.cmpi_slt_ofNat hp hq]
  by_cases h : p < q <;> simp [Scalar.select, h]

/-- The same for the order the other way round. -/
theorem select_sgt (p q : ℕ) (hp : p < 2 ^ 31) (hq : q < 2 ^ 31) (x y : EReal) :
    Scalar.select (Scalar.cmpi .sgt (BitVec.ofNat 32 p) (BitVec.ofNat 32 q)) x y = if q < p then x else y := by
  refine (congrArg (fun s => Scalar.select s x y) (WordCmp.cmpi_sgt_ofNat hp hq)).trans ?_
  by_cases h : q < p <;> simp [Scalar.select, h]

/-- Two rotated blocks, joined at the row where the block before ends, are the block moved down. -/
theorem rot_at (i : grid0.Coords) (a b : FVec Ideal S512x512 .f32) (r : Fin 512) (q : Fin 512) (d : ℕ) (hd : d < 512) (h) (h') :
    Scalar.select (IntOp.cmpi .slt (BitVec.ofNat 32 (r : ℕ)) (BitVec.ofNat 32 d))
      (Scalar.select (Scalar.cmpi .sgt (BitVec.ofNat 32 (i 1 : ℕ)) 0#32)
        (b (ix2 ⟨((r : ℕ) + 512 - d) % 512, h⟩ q)) 0)
      (a (ix2 ⟨((r : ℕ) + 512 - d) % 512, h'⟩ q)) = down i a b r q d := by
  have h0 := r.isLt
  have h1 : (i 1 : ℕ) < 8 := (i 1).isLt
  rw [select_slt _ _ (by omega) (by omega), select_sgt _ _ (by omega) (by omega)]
  rfl

/-- Moving by no rows. -/
theorem down_zero (i : grid0.Coords) (a b : FVec Ideal S512x512 .f32) (r : Fin 512) (q : Fin 512) : a (ix2 r q) = down i a b r q 0 := by
  have h0 := r.isLt
  unfold down
  rw [if_neg (by omega)]
  have e : (⟨((r : ℕ) + 512 - 0) % 512, Nat.mod_lt _ (by decide)⟩ : Fin 512) = r :=
    Fin.ext (show ((r : ℕ) + 512 - 0) % 512 = (r : ℕ) by omega)
  rw [e]

/-- Tap 0: the row it had plus what this point adds. -/
theorem tap0 (i : grid0.Coords) (g a b : FVec Ideal S512x512 .f32) (v : FVec Ideal S1x512 .f32) (x : S1x512.Idx) (j : S3x512.Idx)
    (h0 : (j 0 : ℕ) = 0 + (x 0 : ℕ)) (h1 : (j 1 : ℕ) = x 1) :
    k0_pay7 (F := Ideal) i g a b v x = v x + term i g a b j := by
  have hx : (x 0 : ℕ) < 1 := (x 0).isLt
  have e1 : x 1 = j 1 := Fin.ext h1.symm
  have e0 : 2 - (j 0 : ℕ) = 2 := by omega
  unfold term
  rw [e0, ← e1]
  pointwise [k0_pay7, k0_pay6]
  exact congrArg (v x + ·) (Finset.sum_congr rfl fun r _ => congrArg (g (ix2 r (x 1)) * ·) (rot_at i a b r (x 1) 2 (by norm_num) _ _))

/-- Tap 1: the row it had plus what this point adds. -/
theorem tap1 (i : grid0.Coords) (g a b : FVec Ideal S512x512 .f32) (v : FVec Ideal S1x512 .f32) (x : S1x512.Idx) (j : S3x512.Idx)
    (h0 : (j 0 : ℕ) = 1 + (x 0 : ℕ)) (h1 : (j 1 : ℕ) = x 1) :
    k0_pay1 (F := Ideal) (k0_pay8 i g a b) v x = v x + term i g a b j := by
  have hx : (x 0 : ℕ) < 1 := (x 0).isLt
  have e1 : x 1 = j 1 := Fin.ext h1.symm
  have e0 : 2 - (j 0 : ℕ) = 1 := by omega
  unfold term
  rw [e0, ← e1]
  pointwise [k0_pay1, k0_pay8, k0_pay6]
  exact congrArg (v x + ·) (Finset.sum_congr rfl fun r _ => congrArg (g (ix2 r (x 1)) * ·) (rot_at i a b r (x 1) 1 (by norm_num) _ _))

/-- Tap 2: the row it had plus what this point adds. -/
theorem tap2 (i : grid0.Coords) (g a b : FVec Ideal S512x512 .f32) (v : FVec Ideal S1x512 .f32) (x : S1x512.Idx) (j : S3x512.Idx)
    (h0 : (j 0 : ℕ) = 2 + (x 0 : ℕ)) (h1 : (j 1 : ℕ) = x 1) :
    k0_pay2 (F := Ideal) g a v x = v x + term i g a b j := by
  have hx : (x 0 : ℕ) < 1 := (x 0).isLt
  have e1 : x 1 = j 1 := Fin.ext h1.symm
  have e0 : 2 - (j 0 : ℕ) = 0 := by omega
  unfold term
  rw [e0, ← e1]
  pointwise [k0_pay2]
  exact congrArg (v x + ·) (Finset.sum_congr rfl fun r _ => congrArg (g (ix2 r (x 1)) * ·) (down_zero i a b r (x 1)))

/-- The block starts at zero. -/
theorem zero_at (x : S3x512.Idx) : k0_pay4 (F := Ideal) x = 0 := by
  pointwise [k0_pay4]

/-- A grid point that continues a column adds its term to what the point before left. -/
theorem step (t : Fin cfg0.N) (h : ¬t.val % 8 = 0) (j : S3x512.Idx) : (outsAt0 m c t.val t.isLt).1 j
    = (outsAt0 m c (t.val - 1) (Nat.lt_of_le_of_lt (Nat.sub_le _ _) t.isLt)).1 j
      + term (grid0.coords t) (iblk m c 0 t) (iblk m c 1 t) (iblk m c 2 t) j := by
  rw [outsAt0_B m c t h]
  frame_out
  generalize outsAt0 m c (t.val - 1) _ = p
  have ld (k : ℕ) (inb) (x : S1x512.Idx) (h0 : (j 0 : ℕ) = k + (x 0 : ℕ)) (h1 : (j 1 : ℕ) = x 1) :
      View.ld p.1 (Rect.unit ![k, 0] ![1, 512] inb) x = p.1 j :=
    View.ld_unit_apply_of p.1 _ _ inb x j fun a => by
      fin_cases a
      · exact h0
      · exact h1.trans (Nat.zero_add _).symm
  canon_tiles x h
  · exact (tap2 (grid0.coords t) _ _ (iblk m c 2 t) _ x j h0 h1).trans (congrArg (· + _) (ld 2 _ x h0 h1))
  · exact (tap1 (grid0.coords t) _ _ (iblk m c 2 t) _ x j h0 h1).trans (congrArg (· + _) (ld 1 _ x h0 h1))
  · exact (tap0 (grid0.coords t) _ _ (iblk m c 2 t) _ x j (by omega) h1).trans (congrArg (· + _) (ld 0 _ x (by omega) h1))

/-- The first grid point of a column starts at zero and adds its term. -/
theorem start (t : Fin cfg0.N) (h : t.val % 8 = 0) (j : S3x512.Idx) : (outsAt0 m c t.val t.isLt).1 j
    = 0 + term (grid0.coords t) (iblk m c 0 t) (iblk m c 1 t) (iblk m c 2 t) j := by
  rw [outsAt0_A m c t h]
  frame_out
  simp (discharger := decide) only [↓View.readCov_skip, ↓View.readCov_fill]
  refine (Pieces.canon_drop [_] j [_, _, _] (View.cover_of_tiledL (s := S3x512) _ ![1, 512] (by rfl) j)).trans ?_
  canon_tiles x h
  · exact (tap2 (grid0.coords t) _ _ (iblk m c 2 t) _ x j h0 h1).trans (congrArg (· + _) (zero_at _))
  · exact (tap1 (grid0.coords t) _ _ (iblk m c 2 t) _ x j h0 h1).trans (congrArg (· + _) (zero_at _))
  · exact (tap0 (grid0.coords t) _ _ (iblk m c 2 t) _ x j (by omega) h1).trans (congrArg (· + _) (zero_at _))

/-- A moved block of the input is the input, moved. -/
theorem down_block (t : Fin cfg0.N) (r : Fin 512) (q : Fin 512) (n : Fin 4096) (p : Fin 1024) (hn : (n : ℕ) = t.val % 8 * 512 + r)
    (hp : (p : ℕ) = t.val / 8 * 512 + q) (d : ℕ) (hd : d < 3) :
    down (grid0.coords t) (iblk m c 1 t) (iblk m c 2 t) r q d = rowBefore (m ((c : Thread nD τ).loc main_arg1)) n d p := by
  have h0 := r.isLt
  have h1 := n.isLt
  have ht : t.val % 8 < 8 := Nat.mod_lt _ (by decide)
  unfold down rowBefore
  rw [row_block t]
  by_cases hu : (r : ℕ) < d
  · rw [if_pos hu]
    by_cases hz : 0 < t.val % 8
    · rw [if_pos hz, dif_pos ⟨by omega, by omega⟩]
      blk_point [iblk, V, idx t]
    · rw [if_neg hz, dif_neg (by omega)]
  · rw [if_neg hu, dif_pos ⟨by omega, by omega⟩]
    blk_point [iblk, V, idx t]

/-- The gradient of the tap that looks `d` rows back: the cotangent times the moved input, summed over all rows. -/
def tapSum (x0 : FVec Ideal S4096x1024 .f32) (x1 : FVec Ideal S4096x1024 .f32) (d : ℕ) (q : Fin 1024) (p : Fin 1024) : EReal :=
  ∑ n : Fin 4096, x0 (ix2 n q) * rowBefore x1 n d p

/-- A tap between the first and the last, as the transposed reference sums it. -/
theorem row_mid (x0 : FVec Ideal S4096x1024 .f32) (x1 : FVec Ideal S4096x1024 .f32) (q : Fin 1024) (p : Fin 1024) (k d n : ℕ) (hk : k + d = 2)
    (h : ∀ x : Fin 4096, ¬k + (x : ℕ) < 2 → k + (x : ℕ) - 2 < 4096) :
    (if _h : k ≤ n ∧ n - k < 1 then ∑ _x : Fin 1, ∑ x : Fin 4096, x0 (ix2 x q) *
      (if h₀ : k + (x : ℕ) < 2 then 0 else x1 (ix2 ⟨k + (x : ℕ) - 2, h x h₀⟩ p)) else 0)
      = if n = k then tapSum x0 x1 (2 - n) q p else 0 := by
  by_cases e : n = k
  · rw [if_pos e, dif_pos ⟨by omega, by omega⟩, Fin.sum_univ_one]
    have hd : 2 - n = d := by omega
    rw [hd]
    refine Finset.sum_congr rfl fun x _ => congrArg (x0 (ix2 x q) * ·) ?_
    have hx := x.isLt
    unfold rowBefore
    by_cases h₁ : k + (x : ℕ) < 2
    · rw [dif_pos h₁, dif_neg (by omega)]
    · rw [dif_neg h₁, dif_pos ⟨by omega, by omega⟩]
      have e₁ : k + (x : ℕ) - 2 = (x : ℕ) - d := by omega
      simp only [e₁]
  · rw [if_neg e, dif_neg (by omega)]

/-- The last tap. -/
theorem row_last (x0 : FVec Ideal S4096x1024 .f32) (x1 : FVec Ideal S4096x1024 .f32) (q : Fin 1024) (p : Fin 1024) (n : ℕ) :
    (if _h : 2 ≤ n ∧ n - 2 < 1 then ∑ _x : Fin 1, ∑ x : Fin 4096, x0 (ix2 x q) * x1 (ix2 x p) else 0)
      = if n = 2 then tapSum x0 x1 (2 - n) q p else 0 := by
  by_cases e : n = 2
  · rw [if_pos e, dif_pos ⟨by omega, by omega⟩, Fin.sum_univ_one, e]
    refine Finset.sum_congr rfl fun x _ => congrArg (x0 (ix2 x q) * ·) ?_
    unfold rowBefore
    rw [dif_pos ⟨Nat.zero_le _, x.isLt⟩]
    rfl
  · rw [if_neg e, dif_neg (by omega)]

/-- The first tap: the rows before the first are summed apart, and are zero. -/
theorem row_first (x0 : FVec Ideal S4096x1024 .f32) (x1 : FVec Ideal S4096x1024 .f32) (q : Fin 1024) (p : Fin 1024) (n : ℕ) (h : ∀ x : Fin 2, (x : ℕ) < 4096)
    (h' : ∀ x : Fin 4094, 2 + (x : ℕ) < 4096) (h'' : ∀ x : Fin 4094, (x : ℕ) < 4096) :
    (if _h : n < 1 then ∑ _x : Fin 1, (∑ x : Fin 2, x0 (ix2 ⟨(x : ℕ), h x⟩ q) * 0
      + ∑ x : Fin 4094, x0 (ix2 ⟨2 + (x : ℕ), h' x⟩ q) * x1 (ix2 ⟨(x : ℕ), h'' x⟩ p)) else 0)
      = if n = 0 then tapSum x0 x1 (2 - n) q p else 0 := by
  by_cases e : n = 0
  · rw [if_pos e, dif_pos (by omega), Fin.sum_univ_one, e]
    unfold tapSum
    refine Eq.trans ?_ (Fin.sum_univ_add (a := 2) (b := 4094) (fun x : Fin (2 + 4094) => x0 (ix2 x q) * rowBefore x1 x 2 p)).symm
    refine congrArg₂ (· + ·) (Finset.sum_congr rfl fun x _ => ?_) (Finset.sum_congr rfl fun x _ => ?_)
    · have hx := x.isLt
      refine congrArg (x0 (ix2 ⟨(x : ℕ), h x⟩ q) * ·) ?_
      unfold rowBefore
      split
      · next hc =>
        rw [Fin.val_castAdd] at hc
        omega
      · rfl
    · have hx := x.isLt
      refine congrArg (x0 (ix2 ⟨2 + (x : ℕ), h' x⟩ q) * ·) ?_
      unfold rowBefore
      refine Eq.trans ?_ (dif_pos (show 2 ≤ 2 + (x : ℕ) ∧ 2 + (x : ℕ) - 2 < 4096 by omega)).symm
      have e₁ : 2 + (x : ℕ) - 2 = (x : ℕ) := by omega
      exact congrArg (fun n => x1 (ix2 n p)) (Fin.ext e₁.symm)
  · rw [if_neg e, dif_neg (by omega)]

/-- The reference at an entry. -/
theorem ref_at (x0 : FVec Ideal S4096x1024 .f32) (x1 : FVec Ideal S4096x1024 .f32) (j : S3x1024.Idx) :
    Cert.Reference20Ideal.Read.val_main_v28 (F := Ideal) x0 x1 j = tapSum x0 x1 (2 - (j 0 : ℕ)) (j 1) (j 1) := by
  have h0 : (j 0 : ℕ) < 3 := (j 0).isLt
  pointwise [Cert.Reference20Ideal.Read.val_main_cst, Cert.Reference20Ideal.Read.val_main_v0, Cert.Reference20Ideal.Read.val_main_v1, Cert.Reference20Ideal.Read.val_main_v2, Cert.Reference20Ideal.Read.val_main_v3, Cert.Reference20Ideal.Read.val_main_v4, Cert.Reference20Ideal.Read.val_main_v5, Cert.Reference20Ideal.Read.val_main_cst_0, Cert.Reference20Ideal.Read.val_main_v6, Cert.Reference20Ideal.Read.val_main_v7, Cert.Reference20Ideal.Read.val_main_cst_1, Cert.Reference20Ideal.Read.val_main_v8, Cert.Reference20Ideal.Read.val_main_v9, Cert.Reference20Ideal.Read.val_main_cst_2, Cert.Reference20Ideal.Read.val_main_v10, Cert.Reference20Ideal.Read.val_main_v11, Cert.Reference20Ideal.Read.val_main_cst_3, Cert.Reference20Ideal.Read.val_main_v12, Cert.Reference20Ideal.Read.val_main_v13, Cert.Reference20Ideal.Read.val_main_cst_4, Cert.Reference20Ideal.Read.val_main_v14, Cert.Reference20Ideal.Read.val_main_v15, Cert.Reference20Ideal.Read.val_main_cst_5, Cert.Reference20Ideal.Read.val_main_v16, Cert.Reference20Ideal.Read.val_main_v17, Cert.Reference20Ideal.Read.val_main_cst_6, Cert.Reference20Ideal.Read.val_main_v18, Cert.Reference20Ideal.Read.val_main_v19, Cert.Reference20Ideal.Read.val_main_cst_7, Cert.Reference20Ideal.Read.val_main_v20, Cert.Reference20Ideal.Read.val_main_v21, Cert.Reference20Ideal.Read.val_main_v22, Cert.Reference20Ideal.Read.val_main_cst_8, Cert.Reference20Ideal.Read.val_main_v23, Cert.Reference20Ideal.Read.val_main_v24, Cert.Reference20Ideal.Read.val_main_cst_9, Cert.Reference20Ideal.Read.val_main_v25, Cert.Reference20Ideal.Read.val_main_v26, Cert.Reference20Ideal.Read.val_main_cst_10, Cert.Reference20Ideal.Read.val_main_v27, Cert.Reference20Ideal.Read.val_main_v28]
  refine (congrArg₂ (· + ·) (congrArg₂ (· + ·) (row_last x0 x1 (j 1) (j 1) (j 0))
    (row_mid x0 x1 (j 1) (j 1) 1 1 (j 0) (by norm_num) _))
    (row_first x0 x1 (j 1) (j 1) (j 0) _ _ _)).trans ?_
  generalize tapSum x0 x1 _ _ _ = v
  generalize (j 0 : ℕ) = n at h0
  interval_cases n <;> simp

/-- The taps' gradient, as the reference computes it of the arguments in memory. -/
def result : FVec Ideal S3x1024 .f32 :=
  Cert.Reference20Ideal.Read.val_main_v28 (F := Ideal) (m ((c : Thread nD τ).loc main_arg0)) (m ((c : Thread nD τ).loc main_arg1))

/-- The array the launch writes is the reference's. -/
theorem final : (dats m 0 c).arrAt 3 cfg0.N = result m c := by
  refine (dats m 0 c).arrAt_eq_of_covers 3 _ (by decide +kernel) fun t hf y => ?_
  have hr : t.val % 8 = 8 - 1 := (flush0_3 t).mp hf
  blk_simp
  rw [after0_3]
  refine (Pipeline.eq_sum_fin_of_reset_step_apply_of_flush (fun n h => (outsAt0 m c n h).1) 8 (fun _ => 0)
    (fun t j => term (grid0.coords t) (iblk m c 0 t) (iblk m c 1 t) (iblk m c 2 t) j)
    (start m c) (step m c) t hr y).trans ?_
  refine Eq.trans ?_ (ref_at _ _ _).symm
  rw [zero_add]
  unfold tapSum term
  have hy0 : (y 0 : ℕ) < 3 := (y 0).isLt
  have ht : t.val < 16 := lt_of_lt_of_eq t.isLt (show cfg0.N = 16 from N_0)
  refine Fin.sum_mul_add_congr fun s k hl => ?_
  have hs := s.isLt
  have hk := k.isLt
  have ev : (8 * (t.val / 8) + s.val) % 8 = s.val := by omega
  have ed : (8 * (t.val / 8) + s.val) / 8 = t.val / 8 := by omega
  have e0 : ((win0_3.blk t).view.emb y 0 : ℕ) = (y 0 : ℕ) := by blk_simp [idx t] <;> omega
  have e1 : ((win0_3.blk t).view.emb y 1 : ℕ) = t.val / 8 * 512 + (y 1 : ℕ) := by blk_simp [idx t] <;> omega
  refine congrArg₂ (· * ·) ?_ ?_
  · blk_point [iblk, V, idx t, idx ⟨_, Pipeline.run_point_lt_of_flush t hr s⟩]
  · rw [e0]
    refine down_block m c ⟨_, Pipeline.run_point_lt_of_flush t hr s⟩ k (y 1) _ _ ?_ ?_ _ (by omega)
    · exact congrArg (· * 512 + (k : ℕ)) ev.symm
    · exact e1.trans (congrArg (· * 512 + (y 1 : ℕ)) ed.symm)

/-- The kernel's ideal results are the reference's, for every input. -/
theorem algebraic : Cert.algebraic_Kernel20Ideal_Reference20Ideal := by
  pair_intro
  · run_from Cert.Kernel20Ideal.Gen.run_main m g
  · hlo_run
    exact (final m c).symm

/-- The kernel changes nothing but its results, over the machine's own floats. -/
theorem frame_kernel : Cert.quiescent_Kernel20 :=
  fun m ρ _ => Cert.Kernel20.Gen.frame m ρ

/-- The same over the extended reals. -/
theorem frame_ideal : Cert.quiescent_Kernel20Ideal :=
  fun m ρ _ => Cert.Kernel20Ideal.Gen.frame m ρ

/-- The reference changes nothing but its results. -/
theorem frame_ref : Cert.quiescent_Reference20Ideal := by
  intro m ρ _
  hlo_run
  · exact fun c => by simp
  · exact sem_eq_zero_of_no_sems (by decide) _

end Cert.ScDw

end
-- ==== Proof.CfDw.lean ====
/- The gradient of the Conformer convolution: its taps and its bias. -/
module

public import proofs.«01_k».proof.Defs
public import proofs.«01_k».proof.Proof.Gen.Kernel21.Frame
public import proofs.«01_k».proof.Proof.Gen.Kernel21Ideal.Frame
public import proofs.«01_k».proof.Proof.Gen.Reference21Ideal.Read
public import Idealize.ShloMosaic.Lib.Pipeline.ValueKit
public import Idealize.ShloMosaic.Lib.Claim
public import proofs.«01_k».proof.Proof.Pieces

@[expose] public section

set_option maxRecDepth 16384

noncomputable section

namespace Cert.CfDw

open Cert.Kernel21Ideal Cert.Kernel21Ideal.Gen
open Idealize.ShloMosaic Idealize.ShloMosaic.TcCoe Idealize.SL.Sem

variable (m : (ℓ : Loc nD τ sig) → Buf (Elt Ideal) ℓ) (c : Dev nD)

/-- The block that every window is on at a grid point: the rows of the third window are the block before's. -/
theorem idx : ∀ t : Fin cfg0.N, win0_0.index t = ![t.val % 16, t.val / 16]
    ∧ win0_1.index t = ![t.val % 16, t.val / 16]
    ∧ win0_2.index t = ![t.val % 16 - 1, t.val / 16]
    ∧ win0_3.index t = ![0, t.val / 16]
    ∧ win0_4.index t = ![0, t.val / 16] :=
  (by decide +kernel : ∀ t : Fin grid0.N, _)

/-- The second grid coordinate is the number of the block of rows. -/
theorem row_block : ∀ t : Fin cfg0.N, (grid0.coords t 1 : ℕ) = t.val % 16 :=
  (by decide +kernel : ∀ t : Fin grid0.N, _)

/-- A row of the input `d` rows earlier, zero before the first. -/
def rowBefore (X : FVec Ideal S4096x1024 .f32) (n d : ℕ) (q : Fin 1024) : EReal :=
  if h : d ≤ n ∧ n - d < 4096 then X (ix2 ⟨n - d, h.2⟩ q) else 0

/-- The block moved down by `d` rows: what enters comes from the block before, and is zero before the first. -/
def down (i : grid0.Coords) (a b : FVec Ideal S256x256 .f32) (r : Fin 256) (q : Fin 256) (d : ℕ) : EReal :=
  if (r : ℕ) < d then (if 0 < (i 1 : ℕ) then b (ix2 ⟨((r : ℕ) + 256 - d) % 256, Nat.mod_lt _ (by decide)⟩ q) else 0)
  else a (ix2 ⟨((r : ℕ) + 256 - d) % 256, Nat.mod_lt _ (by decide)⟩ q)

/-- What one grid point adds to the gradient of a tap: the cotangent's block times the moved block, summed over its rows. -/
def term (i : grid0.Coords) (g a b : FVec Ideal S256x256 .f32) (j : S31x256.Idx) : EReal :=
  ∑ r : Fin 256, g (ix2 r (j 1)) * down i a b r (j 1) (30 - (j 0 : ℕ))

/-- A choice on the order of two small words is a choice on the numbers. -/
theorem select_slt (p q : ℕ) (hp : p < 2 ^ 31) (hq : q < 2 ^ 31) (x y : EReal) :
    Scalar.select (IntOp.cmpi .slt (BitVec.ofNat 32 p) (BitVec.ofNat 32 q)) x y = if p < q then x else y := by
  rw [WordCmp.cmpi_slt_ofNat hp hq]
  by_cases h : p < q <;> simp [Scalar.select, h]

/-- The same for the order the other way round. -/
theorem select_sgt (p q : ℕ) (hp : p < 2 ^ 31) (hq : q < 2 ^ 31) (x y : EReal) :
    Scalar.select (Scalar.cmpi .sgt (BitVec.ofNat 32 p) (BitVec.ofNat 32 q)) x y = if q < p then x else y := by
  refine (congrArg (fun s => Scalar.select s x y) (WordCmp.cmpi_sgt_ofNat hp hq)).trans ?_
  by_cases h : q < p <;> simp [Scalar.select, h]

/-- Two rotated blocks, joined at the row where the block before ends, are the block moved down. -/
theorem rot_at (i : grid0.Coords) (a b : FVec Ideal S256x256 .f32) (r : Fin 256) (q : Fin 256) (d : ℕ) (hd : d < 256) (h) (h') :
    Scalar.select (IntOp.cmpi .slt (BitVec.ofNat 32 (r : ℕ)) (BitVec.ofNat 32 d))
      (Scalar.select (Scalar.cmpi .sgt (BitVec.ofNat 32 (i 1 : ℕ)) 0#32)
        (b (ix2 ⟨((r : ℕ) + 256 - d) % 256, h⟩ q)) 0)
      (a (ix2 ⟨((r : ℕ) + 256 - d) % 256, h'⟩ q)) = down i a b r q d := by
  have h0 := r.isLt
  have h1 : (i 1 : ℕ) < 16 := (i 1).isLt
  rw [select_slt _ _ (by omega) (by omega), select_sgt _ _ (by omega) (by omega)]
  rfl

/-- Moving by no rows. -/
theorem down_zero (i : grid0.Coords) (a b : FVec Ideal S256x256 .f32) (r : Fin 256) (q : Fin 256) : a (ix2 r q) = down i a b r q 0 := by
  have h0 := r.isLt
  unfold down
  rw [if_neg (by omega)]
  have e : (⟨((r : ℕ) + 256 - 0) % 256, Nat.mod_lt _ (by decide)⟩ : Fin 256) = r :=
    Fin.ext (show ((r : ℕ) + 256 - 0) % 256 = (r : ℕ) by omega)
  rw [e]

/-- Tap 0: the row it had plus what this point adds. -/
theorem tap0 (i : grid0.Coords) (g a b : FVec Ideal S256x256 .f32) (v : FVec Ideal S1x256 .f32) (x : S1x256.Idx) (j : S31x256.Idx)
    (h0 : (j 0 : ℕ) = 0 + (x 0 : ℕ)) (h1 : (j 1 : ℕ) = x 1) :
    k0_pay7 (F := Ideal) i g a b v x = v x + term i g a b j := by
  have hx : (x 0 : ℕ) < 1 := (x 0).isLt
  have e1 : x 1 = j 1 := Fin.ext h1.symm
  have e0 : 30 - (j 0 : ℕ) = 30 := by omega
  unfold term
  rw [e0, ← e1]
  pointwise [k0_pay7, k0_pay6]
  exact congrArg (v x + ·) (Finset.sum_congr rfl fun r _ => congrArg (g (ix2 r (x 1)) * ·) (rot_at i a b r (x 1) 30 (by norm_num) _ _))

/-- Tap 1: the row it had plus what this point adds. -/
theorem tap1 (i : grid0.Coords) (g a b : FVec Ideal S256x256 .f32) (v : FVec Ideal S1x256 .f32) (x : S1x256.Idx) (j : S31x256.Idx)
    (h0 : (j 0 : ℕ) = 1 + (x 0 : ℕ)) (h1 : (j 1 : ℕ) = x 1) :
    k0_pay9 (F := Ideal) (k0_pay8 i g a b) v x = v x + term i g a b j := by
  have hx : (x 0 : ℕ) < 1 := (x 0).isLt
  have e1 : x 1 = j 1 := Fin.ext h1.symm
  have e0 : 30 - (j 0 : ℕ) = 29 := by omega
  unfold term
  rw [e0, ← e1]
  pointwise [k0_pay9, k0_pay8, k0_pay6]
  exact congrArg (v x + ·) (Finset.sum_congr rfl fun r _ => congrArg (g (ix2 r (x 1)) * ·) (rot_at i a b r (x 1) 29 (by norm_num) _ _))

/-- Tap 2: the row it had plus what this point adds. -/
theorem tap2 (i : grid0.Coords) (g a b : FVec Ideal S256x256 .f32) (v : FVec Ideal S1x256 .f32) (x : S1x256.Idx) (j : S31x256.Idx)
    (h0 : (j 0 : ℕ) = 2 + (x 0 : ℕ)) (h1 : (j 1 : ℕ) = x 1) :
    k0_pay10 (F := Ideal) g a (k0_pay6 i b) v x = v x + term i g a b j := by
  have hx : (x 0 : ℕ) < 1 := (x 0).isLt
  have e1 : x 1 = j 1 := Fin.ext h1.symm
  have e0 : 30 - (j 0 : ℕ) = 28 := by omega
  unfold term
  rw [e0, ← e1]
  pointwise [k0_pay10, k0_pay6]
  exact congrArg (v x + ·) (Finset.sum_congr rfl fun r _ => congrArg (g (ix2 r (x 1)) * ·) (rot_at i a b r (x 1) 28 (by norm_num) _ _))

/-- Tap 3: the row it had plus what this point adds. -/
theorem tap3 (i : grid0.Coords) (g a b : FVec Ideal S256x256 .f32) (v : FVec Ideal S1x256 .f32) (x : S1x256.Idx) (j : S31x256.Idx)
    (h0 : (j 0 : ℕ) = 3 + (x 0 : ℕ)) (h1 : (j 1 : ℕ) = x 1) :
    k0_pay11 (F := Ideal) g a (k0_pay6 i b) v x = v x + term i g a b j := by
  have hx : (x 0 : ℕ) < 1 := (x 0).isLt
  have e1 : x 1 = j 1 := Fin.ext h1.symm
  have e0 : 30 - (j 0 : ℕ) = 27 := by omega
  unfold term
  rw [e0, ← e1]
  pointwise [k0_pay11, k0_pay6]
  exact congrArg (v x + ·) (Finset.sum_congr rfl fun r _ => congrArg (g (ix2 r (x 1)) * ·) (rot_at i a b r (x 1) 27 (by norm_num) _ _))

/-- Tap 4: the row it had plus what this point adds. -/
theorem tap4 (i : grid0.Coords) (g a b : FVec Ideal S256x256 .f32) (v : FVec Ideal S1x256 .f32) (x : S1x256.Idx) (j : S31x256.Idx)
    (h0 : (j 0 : ℕ) = 4 + (x 0 : ℕ)) (h1 : (j 1 : ℕ) = x 1) :
    k0_pay13 (F := Ideal) (k0_pay12 g a (k0_pay6 i b)) v x = v x + term i g a b j := by
  have hx : (x 0 : ℕ) < 1 := (x 0).isLt
  have e1 : x 1 = j 1 := Fin.ext h1.symm
  have e0 : 30 - (j 0 : ℕ) = 26 := by omega
  unfold term
  rw [e0, ← e1]
  pointwise [k0_pay13, k0_pay12, k0_pay6]
  exact congrArg (v x + ·) (Finset.sum_congr rfl fun r _ => congrArg (g (ix2 r (x 1)) * ·) (rot_at i a b r (x 1) 26 (by norm_num) _ _))

/-- Tap 5: the row it had plus what this point adds. -/
theorem tap5 (i : grid0.Coords) (g a b : FVec Ideal S256x256 .f32) (v : FVec Ideal S1x256 .f32) (x : S1x256.Idx) (j : S31x256.Idx)
    (h0 : (j 0 : ℕ) = 5 + (x 0 : ℕ)) (h1 : (j 1 : ℕ) = x 1) :
    k0_pay14 (F := Ideal) g a (k0_pay6 i b) v x = v x + term i g a b j := by
  have hx : (x 0 : ℕ) < 1 := (x 0).isLt
  have e1 : x 1 = j 1 := Fin.ext h1.symm
  have e0 : 30 - (j 0 : ℕ) = 25 := by omega
  unfold term
  rw [e0, ← e1]
  pointwise [k0_pay14, k0_pay6]
  exact congrArg (v x + ·) (Finset.sum_congr rfl fun r _ => congrArg (g (ix2 r (x 1)) * ·) (rot_at i a b r (x 1) 25 (by norm_num) _ _))

/-- Tap 6: the row it had plus what this point adds. -/
theorem tap6 (i : grid0.Coords) (g a b : FVec Ideal S256x256 .f32) (v : FVec Ideal S1x256 .f32) (x : S1x256.Idx) (j : S31x256.Idx)
    (h0 : (j 0 : ℕ) = 6 + (x 0 : ℕ)) (h1 : (j 1 : ℕ) = x 1) :
    k0_pay15 (F := Ideal) g a (k0_pay6 i b) v x = v x + term i g a b j := by
  have hx : (x 0 : ℕ) < 1 := (x 0).isLt
  have e1 : x 1 = j 1 := Fin.ext h1.symm
  have e0 : 30 - (j 0 : ℕ) = 24 := by omega
  unfold term
  rw [e0, ← e1]
  pointwise [k0_pay15, k0_pay6]
  exact congrArg (v x + ·) (Finset.sum_congr rfl fun r _ => congrArg (g (ix2 r (x 1)) * ·) (rot_at i a b r (x 1) 24 (by norm_num) _ _))

/-- Tap 7: the row it had plus what this point adds. -/
theorem tap7 (i : grid0.Coords) (g a b : FVec Ideal S256x256 .f32) (v : FVec Ideal S1x256 .f32) (x : S1x256.Idx) (j : S31x256.Idx)
    (h0 : (j 0 : ℕ) = 7 + (x 0 : ℕ)) (h1 : (j 1 : ℕ) = x 1) :
    k0_pay17 (F := Ideal) g a (k0_pay6 i b) k0_pay16 v x = v x + term i g a b j := by
  have hx : (x 0 : ℕ) < 1 := (x 0).isLt
  have e1 : x 1 = j 1 := Fin.ext h1.symm
  have e0 : 30 - (j 0 : ℕ) = 23 := by omega
  unfold term
  rw [e0, ← e1]
  pointwise [k0_pay17, k0_pay6, k0_pay16]
  exact congrArg (v x + ·) (Finset.sum_congr rfl fun r _ => congrArg (g (ix2 r (x 1)) * ·) (rot_at i a b r (x 1) 23 (by norm_num) _ _))

/-- Tap 8: the row it had plus what this point adds. -/
theorem tap8 (i : grid0.Coords) (g a b : FVec Ideal S256x256 .f32) (v : FVec Ideal S1x256 .f32) (x : S1x256.Idx) (j : S31x256.Idx)
    (h0 : (j 0 : ℕ) = 8 + (x 0 : ℕ)) (h1 : (j 1 : ℕ) = x 1) :
    k0_pay18 (F := Ideal) g a (k0_pay6 i b) v x = v x + term i g a b j := by
  have hx : (x 0 : ℕ) < 1 := (x 0).isLt
  have e1 : x 1 = j 1 := Fin.ext h1.symm
  have e0 : 30 - (j 0 : ℕ) = 22 := by omega
  unfold term
  rw [e0, ← e1]
  pointwise [k0_pay18, k0_pay6]
  exact congrArg (v x + ·) (Finset.sum_congr rfl fun r _ => congrArg (g (ix2 r (x 1)) * ·) (rot_at i a b r (x 1) 22 (by norm_num) _ _))

/-- Tap 9: the row it had plus what this point adds. -/
theorem tap9 (i : grid0.Coords) (g a b : FVec Ideal S256x256 .f32) (v : FVec Ideal S1x256 .f32) (x : S1x256.Idx) (j : S31x256.Idx)
    (h0 : (j 0 : ℕ) = 9 + (x 0 : ℕ)) (h1 : (j 1 : ℕ) = x 1) :
    k0_pay19 (F := Ideal) g a (k0_pay6 i b) v x = v x + term i g a b j := by
  have hx : (x 0 : ℕ) < 1 := (x 0).isLt
  have e1 : x 1 = j 1 := Fin.ext h1.symm
  have e0 : 30 - (j 0 : ℕ) = 21 := by omega
  unfold term
  rw [e0, ← e1]
  pointwise [k0_pay19, k0_pay6]
  exact congrArg (v x + ·) (Finset.sum_congr rfl fun r _ => congrArg (g (ix2 r (x 1)) * ·) (rot_at i a b r (x 1) 21 (by norm_num) _ _))

/-- Tap 10: the row it had plus what this point adds. -/
theorem tap10 (i : grid0.Coords) (g a b : FVec Ideal S256x256 .f32) (v : FVec Ideal S1x256 .f32) (x : S1x256.Idx) (j : S31x256.Idx)
    (h0 : (j 0 : ℕ) = 10 + (x 0 : ℕ)) (h1 : (j 1 : ℕ) = x 1) :
    k0_pay20 (F := Ideal) g a (k0_pay6 i b) v x = v x + term i g a b j := by
  have hx : (x 0 : ℕ) < 1 := (x 0).isLt
  have e1 : x 1 = j 1 := Fin.ext h1.symm
  have e0 : 30 - (j 0 : ℕ) = 20 := by omega
  unfold term
  rw [e0, ← e1]
  pointwise [k0_pay20, k0_pay6]
  exact congrArg (v x + ·) (Finset.sum_congr rfl fun r _ => congrArg (g (ix2 r (x 1)) * ·) (rot_at i a b r (x 1) 20 (by norm_num) _ _))

/-- Tap 11: the row it had plus what this point adds. -/
theorem tap11 (i : grid0.Coords) (g a b : FVec Ideal S256x256 .f32) (v : FVec Ideal S1x256 .f32) (x : S1x256.Idx) (j : S31x256.Idx)
    (h0 : (j 0 : ℕ) = 11 + (x 0 : ℕ)) (h1 : (j 1 : ℕ) = x 1) :
    k0_pay21 (F := Ideal) g a (k0_pay6 i b) v x = v x + term i g a b j := by
  have hx : (x 0 : ℕ) < 1 := (x 0).isLt
  have e1 : x 1 = j 1 := Fin.ext h1.symm
  have e0 : 30 - (j 0 : ℕ) = 19 := by omega
  unfold term
  rw [e0, ← e1]
  pointwise [k0_pay21, k0_pay6]
  exact congrArg (v x + ·) (Finset.sum_congr rfl fun r _ => congrArg (g (ix2 r (x 1)) * ·) (rot_at i a b r (x 1) 19 (by norm_num) _ _))

/-- Tap 12: the row it had plus what this point adds. -/
theorem tap12 (i : grid0.Coords) (g a b : FVec Ideal S256x256 .f32) (v : FVec Ideal S1x256 .f32) (x : S1x256.Idx) (j : S31x256.Idx)
    (h0 : (j 0 : ℕ) = 12 + (x 0 : ℕ)) (h1 : (j 1 : ℕ) = x 1) :
    k0_pay23 (F := Ideal) (k0_pay22 g a (k0_pay6 i b)) v x = v x + term i g a b j := by
  have hx : (x 0 : ℕ) < 1 := (x 0).isLt
  have e1 : x 1 = j 1 := Fin.ext h1.symm
  have e0 : 30 - (j 0 : ℕ) = 18 := by omega
  unfold term
  rw [e0, ← e1]
  pointwise [k0_pay23, k0_pay22, k0_pay6]
  exact congrArg (v x + ·) (Finset.sum_congr rfl fun r _ => congrArg (g (ix2 r (x 1)) * ·) (rot_at i a b r (x 1) 18 (by norm_num) _ _))

/-- Tap 13: the row it had plus what this point adds. -/
theorem tap13 (i : grid0.Coords) (g a b : FVec Ideal S256x256 .f32) (v : FVec Ideal S1x256 .f32) (x : S1x256.Idx) (j : S31x256.Idx)
    (h0 : (j 0 : ℕ) = 13 + (x 0 : ℕ)) (h1 : (j 1 : ℕ) = x 1) :
    k0_pay24 (F := Ideal) g a (k0_pay6 i b) v x = v x + term i g a b j := by
  have hx : (x 0 : ℕ) < 1 := (x 0).isLt
  have e1 : x 1 = j 1 := Fin.ext h1.symm
  have e0 : 30 - (j 0 : ℕ) = 17 := by omega
  unfold term
  rw [e0, ← e1]
  pointwise [k0_pay24, k0_pay6]
  exact congrArg (v x + ·) (Finset.sum_congr rfl fun r _ => congrArg (g (ix2 r (x 1)) * ·) (rot_at i a b r (x 1) 17 (by norm_num) _ _))

/-- Tap 14: the row it had plus what this point adds. -/
theorem tap14 (i : grid0.Coords) (g a b : FVec Ideal S256x256 .f32) (v : FVec Ideal S1x256 .f32) (x : S1x256.Idx) (j : S31x256.Idx)
    (h0 : (j 0 : ℕ) = 14 + (x 0 : ℕ)) (h1 : (j 1 : ℕ) = x 1) :
    k0_pay25 (F := Ideal) g a (k0_pay6 i b) v x = v x + term i g a b j := by
  have hx : (x 0 : ℕ) < 1 := (x 0).isLt
  have e1 : x 1 = j 1 := Fin.ext h1.symm
  have e0 : 30 - (j 0 : ℕ) = 16 := by omega
  unfold term
  rw [e0, ← e1]
  pointwise [k0_pay25, k0_pay6]
  exact congrArg (v x + ·) (Finset.sum_congr rfl fun r _ => congrArg (g (ix2 r (x 1)) * ·) (rot_at i a b r (x 1) 16 (by norm_num) _ _))

/-- Tap 15: the row it had plus what this point adds. -/
theorem tap15 (i : grid0.Coords) (g a b : FVec Ideal S256x256 .f32) (v : FVec Ideal S1x256 .f32) (x : S1x256.Idx) (j : S31x256.Idx)
    (h0 : (j 0 : ℕ) = 15 + (x 0 : ℕ)) (h1 : (j 1 : ℕ) = x 1) :
    k0_pay29 (F := Ideal) g k0_pay26 (k0_pay27 (k0_pay6 i b)) (k0_pay28 a) v x = v x + term i g a b j := by
  have hx : (x 0 : ℕ) < 1 := (x 0).isLt
  have e1 : x 1 = j 1 := Fin.ext h1.symm
  have e0 : 30 - (j 0 : ℕ) = 15 := by omega
  unfold term
  rw [e0, ← e1]
  pointwise [k0_pay29, k0_pay26, k0_pay27, k0_pay6, k0_pay28]
  exact congrArg (v x + ·) (Finset.sum_congr rfl fun r _ => congrArg (g (ix2 r (x 1)) * ·) (rot_at i a b r (x 1) 15 (by norm_num) _ _))

/-- Tap 16: the row it had plus what this point adds. -/
theorem tap16 (i : grid0.Coords) (g a b : FVec Ideal S256x256 .f32) (v : FVec Ideal S1x256 .f32) (x : S1x256.Idx) (j : S31x256.Idx)
    (h0 : (j 0 : ℕ) = 16 + (x 0 : ℕ)) (h1 : (j 1 : ℕ) = x 1) :
    k0_pay30 (F := Ideal) g a (k0_pay6 i b) v x = v x + term i g a b j := by
  have hx : (x 0 : ℕ) < 1 := (x 0).isLt
  have e1 : x 1 = j 1 := Fin.ext h1.symm
  have e0 : 30 - (j 0 : ℕ) = 14 := by omega
  unfold term
  rw [e0, ← e1]
  pointwise [k0_pay30, k0_pay6]
  exact congrArg (v x + ·) (Finset.sum_congr rfl fun r _ => congrArg (g (ix2 r (x 1)) * ·) (rot_at i a b r (x 1) 14 (by norm_num) _ _))

/-- Tap 17: the row it had plus what this point adds. -/
theorem tap17 (i : grid0.Coords) (g a b : FVec Ideal S256x256 .f32) (v : FVec Ideal S1x256 .f32) (x : S1x256.Idx) (j : S31x256.Idx)
    (h0 : (j 0 : ℕ) = 17 + (x 0 : ℕ)) (h1 : (j 1 : ℕ) = x 1) :
    k0_pay31 (F := Ideal) g a (k0_pay6 i b) v x = v x + term i g a b j := by
  have hx : (x 0 : ℕ) < 1 := (x 0).isLt
  have e1 : x 1 = j 1 := Fin.ext h1.symm
  have e0 : 30 - (j 0 : ℕ) = 13 := by omega
  unfold term
  rw [e0, ← e1]
  pointwise [k0_pay31, k0_pay6]
  exact congrArg (v x + ·) (Finset.sum_congr rfl fun r _ => congrArg (g (ix2 r (x 1)) * ·) (rot_at i a b r (x 1) 13 (by norm_num) _ _))

/-- Tap 18: the row it had plus what this point adds. -/
theorem tap18 (i : grid0.Coords) (g a b : FVec Ideal S256x256 .f32) (v : FVec Ideal S1x256 .f32) (x : S1x256.Idx) (j : S31x256.Idx)
    (h0 : (j 0 : ℕ) = 18 + (x 0 : ℕ)) (h1 : (j 1 : ℕ) = x 1) :
    k0_pay32 (F := Ideal) g a (k0_pay6 i b) (iota Kind.tc S256x256 32 [0] iota_S256x256_d0_w32) (12#32) v x = v x + term i g a b j := by
  have hx : (x 0 : ℕ) < 1 := (x 0).isLt
  have e1 : x 1 = j 1 := Fin.ext h1.symm
  have e0 : 30 - (j 0 : ℕ) = 12 := by omega
  unfold term
  rw [e0, ← e1]
  pointwise [k0_pay32, k0_pay6]
  exact congrArg (v x + ·) (Finset.sum_congr rfl fun r _ => congrArg (g (ix2 r (x 1)) * ·) (rot_at i a b r (x 1) 12 (by norm_num) _ _))

/-- Tap 19: the row it had plus what this point adds. -/
theorem tap19 (i : grid0.Coords) (g a b : FVec Ideal S256x256 .f32) (v : FVec Ideal S1x256 .f32) (x : S1x256.Idx) (j : S31x256.Idx)
    (h0 : (j 0 : ℕ) = 19 + (x 0 : ℕ)) (h1 : (j 1 : ℕ) = x 1) :
    k0_pay33 (F := Ideal) g a (k0_pay6 i b) v x = v x + term i g a b j := by
  have hx : (x 0 : ℕ) < 1 := (x 0).isLt
  have e1 : x 1 = j 1 := Fin.ext h1.symm
  have e0 : 30 - (j 0 : ℕ) = 11 := by omega
  unfold term
  rw [e0, ← e1]
  pointwise [k0_pay33, k0_pay6]
  exact congrArg (v x + ·) (Finset.sum_congr rfl fun r _ => congrArg (g (ix2 r (x 1)) * ·) (rot_at i a b r (x 1) 11 (by norm_num) _ _))

/-- Tap 20: the row it had plus what this point adds. -/
theorem tap20 (i : grid0.Coords) (g a b : FVec Ideal S256x256 .f32) (v : FVec Ideal S1x256 .f32) (x : S1x256.Idx) (j : S31x256.Idx)
    (h0 : (j 0 : ℕ) = 20 + (x 0 : ℕ)) (h1 : (j 1 : ℕ) = x 1) :
    k0_pay34 (F := Ideal) g a (k0_pay6 i b) v x = v x + term i g a b j := by
  have hx : (x 0 : ℕ) < 1 := (x 0).isLt
  have e1 : x 1 = j 1 := Fin.ext h1.symm
  have e0 : 30 - (j 0 : ℕ) = 10 := by omega
  unfold term
  rw [e0, ← e1]
  pointwise [k0_pay34, k0_pay6]
  exact congrArg (v x + ·) (Finset.sum_congr rfl fun r _ => congrArg (g (ix2 r (x 1)) * ·) (rot_at i a b r (x 1) 10 (by norm_num) _ _))

/-- Tap 21: the row it had plus what this point adds. -/
theorem tap21 (i : grid0.Coords) (g a b : FVec Ideal S256x256 .f32) (v : FVec Ideal S1x256 .f32) (x : S1x256.Idx) (j : S31x256.Idx)
    (h0 : (j 0 : ℕ) = 21 + (x 0 : ℕ)) (h1 : (j 1 : ℕ) = x 1) :
    k0_pay35 (F := Ideal) g a (k0_pay6 i b) v x = v x + term i g a b j := by
  have hx : (x 0 : ℕ) < 1 := (x 0).isLt
  have e1 : x 1 = j 1 := Fin.ext h1.symm
  have e0 : 30 - (j 0 : ℕ) = 9 := by omega
  unfold term
  rw [e0, ← e1]
  pointwise [k0_pay35, k0_pay6]
  exact congrArg (v x + ·) (Finset.sum_congr rfl fun r _ => congrArg (g (ix2 r (x 1)) * ·) (rot_at i a b r (x 1) 9 (by norm_num) _ _))

/-- Tap 22: the row it had plus what this point adds. -/
theorem tap22 (i : grid0.Coords) (g a b : FVec Ideal S256x256 .f32) (v : FVec Ideal S1x256 .f32) (x : S1x256.Idx) (j : S31x256.Idx)
    (h0 : (j 0 : ℕ) = 22 + (x 0 : ℕ)) (h1 : (j 1 : ℕ) = x 1) :
    k0_pay36 (F := Ideal) g a (k0_pay6 i b) v x = v x + term i g a b j := by
  have hx : (x 0 : ℕ) < 1 := (x 0).isLt
  have e1 : x 1 = j 1 := Fin.ext h1.symm
  have e0 : 30 - (j 0 : ℕ) = 8 := by omega
  unfold term
  rw [e0, ← e1]
  pointwise [k0_pay36, k0_pay6]
  exact congrArg (v x + ·) (Finset.sum_congr rfl fun r _ => congrArg (g (ix2 r (x 1)) * ·) (rot_at i a b r (x 1) 8 (by norm_num) _ _))

/-- Tap 23: the row it had plus what this point adds. -/
theorem tap23 (i : grid0.Coords) (g a b : FVec Ideal S256x256 .f32) (v : FVec Ideal S1x256 .f32) (x : S1x256.Idx) (j : S31x256.Idx)
    (h0 : (j 0 : ℕ) = 23 + (x 0 : ℕ)) (h1 : (j 1 : ℕ) = x 1) :
    k0_pay38 (F := Ideal) (k0_pay37 g a (k0_pay6 i b)) v x = v x + term i g a b j := by
  have hx : (x 0 : ℕ) < 1 := (x 0).isLt
  have e1 : x 1 = j 1 := Fin.ext h1.symm
  have e0 : 30 - (j 0 : ℕ) = 7 := by omega
  unfold term
  rw [e0, ← e1]
  pointwise [k0_pay38, k0_pay37, k0_pay6]
  exact congrArg (v x + ·) (Finset.sum_congr rfl fun r _ => congrArg (g (ix2 r (x 1)) * ·) (rot_at i a b r (x 1) 7 (by norm_num) _ _))

/-- Tap 24: the row it had plus what this point adds. -/
theorem tap24 (i : grid0.Coords) (g a b : FVec Ideal S256x256 .f32) (v : FVec Ideal S1x256 .f32) (x : S1x256.Idx) (j : S31x256.Idx)
    (h0 : (j 0 : ℕ) = 24 + (x 0 : ℕ)) (h1 : (j 1 : ℕ) = x 1) :
    k0_pay39 (F := Ideal) g a (k0_pay6 i b) v x = v x + term i g a b j := by
  have hx : (x 0 : ℕ) < 1 := (x 0).isLt
  have e1 : x 1 = j 1 := Fin.ext h1.symm
  have e0 : 30 - (j 0 : ℕ) = 6 := by omega
  unfold term
  rw [e0, ← e1]
  pointwise [k0_pay39, k0_pay6]
  exact congrArg (v x + ·) (Finset.sum_congr rfl fun r _ => congrArg (g (ix2 r (x 1)) * ·) (rot_at i a b r (x 1) 6 (by norm_num) _ _))

/-- Tap 25: the row it had plus what this point adds. -/
theorem tap25 (i : grid0.Coords) (g a b : FVec Ideal S256x256 .f32) (v : FVec Ideal S1x256 .f32) (x : S1x256.Idx) (j : S31x256.Idx)
    (h0 : (j 0 : ℕ) = 25 + (x 0 : ℕ)) (h1 : (j 1 : ℕ) = x 1) :
    k0_pay40 (F := Ideal) g a (k0_pay6 i b) v x = v x + term i g a b j := by
  have hx : (x 0 : ℕ) < 1 := (x 0).isLt
  have e1 : x 1 = j 1 := Fin.ext h1.symm
  have e0 : 30 - (j 0 : ℕ) = 5 := by omega
  unfold term
  rw [e0, ← e1]
  pointwise [k0_pay40, k0_pay6]
  exact congrArg (v x + ·) (Finset.sum_congr rfl fun r _ => congrArg (g (ix2 r (x 1)) * ·) (rot_at i a b r (x 1) 5 (by norm_num) _ _))

/-- Tap 26: the row it had plus what this point adds. -/
theorem tap26 (i : grid0.Coords) (g a b : FVec Ideal S256x256 .f32) (v : FVec Ideal S1x256 .f32) (x : S1x256.Idx) (j : S31x256.Idx)
    (h0 : (j 0 : ℕ) = 26 + (x 0 : ℕ)) (h1 : (j 1 : ℕ) = x 1) :
    k0_pay43 (F := Ideal) g a k0_pay41 (k0_pay42 (k0_pay6 i b)) v x = v x + term i g a b j := by
  have hx : (x 0 : ℕ) < 1 := (x 0).isLt
  have e1 : x 1 = j 1 := Fin.ext h1.symm
  have e0 : 30 - (j 0 : ℕ) = 4 := by omega
  unfold term
  rw [e0, ← e1]
  pointwise [k0_pay43, k0_pay41, k0_pay42, k0_pay6]
  exact congrArg (v x + ·) (Finset.sum_congr rfl fun r _ => congrArg (g (ix2 r (x 1)) * ·) (rot_at i a b r (x 1) 4 (by norm_num) _ _))

/-- Tap 27: the row it had plus what this point adds. -/
theorem tap27 (i : grid0.Coords) (g a b : FVec Ideal S256x256 .f32) (v : FVec Ideal S1x256 .f32) (x : S1x256.Idx) (j : S31x256.Idx)
    (h0 : (j 0 : ℕ) = 27 + (x 0 : ℕ)) (h1 : (j 1 : ℕ) = x 1) :
    k0_pay44 (F := Ideal) g a (k0_pay6 i b) v x = v x + term i g a b j := by
  have hx : (x 0 : ℕ) < 1 := (x 0).isLt
  have e1 : x 1 = j 1 := Fin.ext h1.symm
  have e0 : 30 - (j 0 : ℕ) = 3 := by omega
  unfold term
  rw [e0, ← e1]
  pointwise [k0_pay44, k0_pay6]
  exact congrArg (v x + ·) (Finset.sum_congr rfl fun r _ => congrArg (g (ix2 r (x 1)) * ·) (rot_at i a b r (x 1) 3 (by norm_num) _ _))

/-- Tap 28: the row it had plus what this point adds. -/
theorem tap28 (i : grid0.Coords) (g a b : FVec Ideal S256x256 .f32) (v : FVec Ideal S1x256 .f32) (x : S1x256.Idx) (j : S31x256.Idx)
    (h0 : (j 0 : ℕ) = 28 + (x 0 : ℕ)) (h1 : (j 1 : ℕ) = x 1) :
    k0_pay45 (F := Ideal) g a (k0_pay6 i b) v x = v x + term i g a b j := by
  have hx : (x 0 : ℕ) < 1 := (x 0).isLt
  have e1 : x 1 = j 1 := Fin.ext h1.symm
  have e0 : 30 - (j 0 : ℕ) = 2 := by omega
  unfold term
  rw [e0, ← e1]
  pointwise [k0_pay45, k0_pay6]
  exact congrArg (v x + ·) (Finset.sum_congr rfl fun r _ => congrArg (g (ix2 r (x 1)) * ·) (rot_at i a b r (x 1) 2 (by norm_num) _ _))

/-- Tap 29: the row it had plus what this point adds. -/
theorem tap29 (i : grid0.Coords) (g a b : FVec Ideal S256x256 .f32) (v : FVec Ideal S1x256 .f32) (x : S1x256.Idx) (j : S31x256.Idx)
    (h0 : (j 0 : ℕ) = 29 + (x 0 : ℕ)) (h1 : (j 1 : ℕ) = x 1) :
    k0_pay1 (F := Ideal) g a (k0_pay6 i b) v x = v x + term i g a b j := by
  have hx : (x 0 : ℕ) < 1 := (x 0).isLt
  have e1 : x 1 = j 1 := Fin.ext h1.symm
  have e0 : 30 - (j 0 : ℕ) = 1 := by omega
  unfold term
  rw [e0, ← e1]
  pointwise [k0_pay1, k0_pay6]
  exact congrArg (v x + ·) (Finset.sum_congr rfl fun r _ => congrArg (g (ix2 r (x 1)) * ·) (rot_at i a b r (x 1) 1 (by norm_num) _ _))

/-- Tap 30: the row it had plus what this point adds. -/
theorem tap30 (i : grid0.Coords) (g a b : FVec Ideal S256x256 .f32) (v : FVec Ideal S1x256 .f32) (x : S1x256.Idx) (j : S31x256.Idx)
    (h0 : (j 0 : ℕ) = 30 + (x 0 : ℕ)) (h1 : (j 1 : ℕ) = x 1) :
    k0_pay2 (F := Ideal) g a v x = v x + term i g a b j := by
  have hx : (x 0 : ℕ) < 1 := (x 0).isLt
  have e1 : x 1 = j 1 := Fin.ext h1.symm
  have e0 : 30 - (j 0 : ℕ) = 0 := by omega
  unfold term
  rw [e0, ← e1]
  pointwise [k0_pay2]
  exact congrArg (v x + ·) (Finset.sum_congr rfl fun r _ => congrArg (g (ix2 r (x 1)) * ·) (down_zero i a b r (x 1)))

/-- The block starts at zero. -/
theorem zero_at (x : S31x256.Idx) : k0_pay4 (F := Ideal) x = 0 := by
  pointwise [k0_pay4]

/-- A grid point that continues a column adds its term to what the point before left. -/
theorem step (t : Fin cfg0.N) (h : ¬t.val % 16 = 0) (j : S31x256.Idx) : (outsAt0 m c t.val t.isLt).1 j
    = (outsAt0 m c (t.val - 1) (Nat.lt_of_le_of_lt (Nat.sub_le _ _) t.isLt)).1 j
      + term (grid0.coords t) (iblk m c 0 t) (iblk m c 1 t) (iblk m c 2 t) j := by
  rw [outsAt0_B m c t h]
  frame_out
  generalize outsAt0 m c (t.val - 1) _ = p
  have ld (k : ℕ) (inb) (x : S1x256.Idx) (h0 : (j 0 : ℕ) = k + (x 0 : ℕ)) (h1 : (j 1 : ℕ) = x 1) :
      View.ld p.1 (Rect.unit ![k, 0] ![1, 256] inb) x = p.1 j :=
    View.ld_unit_apply_of p.1 _ _ inb x j fun a => by
      fin_cases a
      · exact h0
      · exact h1.trans (Nat.zero_add _).symm
  canon_tiles x h
  · exact (tap30 (grid0.coords t) _ _ (iblk m c 2 t) _ x j h0 h1).trans (congrArg (· + _) (ld 30 _ x h0 h1))
  · exact (tap29 (grid0.coords t) _ _ (iblk m c 2 t) _ x j h0 h1).trans (congrArg (· + _) (ld 29 _ x h0 h1))
  · exact (tap28 (grid0.coords t) _ _ (iblk m c 2 t) _ x j h0 h1).trans (congrArg (· + _) (ld 28 _ x h0 h1))
  · exact (tap27 (grid0.coords t) _ _ (iblk m c 2 t) _ x j h0 h1).trans (congrArg (· + _) (ld 27 _ x h0 h1))
  · exact (tap26 (grid0.coords t) _ _ (iblk m c 2 t) _ x j h0 h1).trans (congrArg (· + _) (ld 26 _ x h0 h1))
  · exact (tap25 (grid0.coords t) _ _ (iblk m c 2 t) _ x j h0 h1).trans (congrArg (· + _) (ld 25 _ x h0 h1))
  · exact (tap24 (grid0.coords t) _ _ (iblk m c 2 t) _ x j h0 h1).trans (congrArg (· + _) (ld 24 _ x h0 h1))
  · exact (tap23 (grid0.coords t) _ _ (iblk m c 2 t) _ x j h0 h1).trans (congrArg (· + _) (ld 23 _ x h0 h1))
  · exact (tap22 (grid0.coords t) _ _ (iblk m c 2 t) _ x j h0 h1).trans (congrArg (· + _) (ld 22 _ x h0 h1))
  · exact (tap21 (grid0.coords t) _ _ (iblk m c 2 t) _ x j h0 h1).trans (congrArg (· + _) (ld 21 _ x h0 h1))
  · exact (tap20 (grid0.coords t) _ _ (iblk m c 2 t) _ x j h0 h1).trans (congrArg (· + _) (ld 20 _ x h0 h1))
  · exact (tap19 (grid0.coords t) _ _ (iblk m c 2 t) _ x j h0 h1).trans (congrArg (· + _) (ld 19 _ x h0 h1))
  · exact (tap18 (grid0.coords t) _ _ (iblk m c 2 t) _ x j h0 h1).trans (congrArg (· + _) (ld 18 _ x h0 h1))
  · exact (tap17 (grid0.coords t) _ _ (iblk m c 2 t) _ x j h0 h1).trans (congrArg (· + _) (ld 17 _ x h0 h1))
  · exact (tap16 (grid0.coords t) _ _ (iblk m c 2 t) _ x j h0 h1).trans (congrArg (· + _) (ld 16 _ x h0 h1))
  · exact (tap15 (grid0.coords t) _ _ (iblk m c 2 t) _ x j h0 h1).trans (congrArg (· + _) (ld 15 _ x h0 h1))
  · exact (tap14 (grid0.coords t) _ _ (iblk m c 2 t) _ x j h0 h1).trans (congrArg (· + _) (ld 14 _ x h0 h1))
  · exact (tap13 (grid0.coords t) _ _ (iblk m c 2 t) _ x j h0 h1).trans (congrArg (· + _) (ld 13 _ x h0 h1))
  · exact (tap12 (grid0.coords t) _ _ (iblk m c 2 t) _ x j h0 h1).trans (congrArg (· + _) (ld 12 _ x h0 h1))
  · exact (tap11 (grid0.coords t) _ _ (iblk m c 2 t) _ x j h0 h1).trans (congrArg (· + _) (ld 11 _ x h0 h1))
  · exact (tap10 (grid0.coords t) _ _ (iblk m c 2 t) _ x j h0 h1).trans (congrArg (· + _) (ld 10 _ x h0 h1))
  · exact (tap9 (grid0.coords t) _ _ (iblk m c 2 t) _ x j h0 h1).trans (congrArg (· + _) (ld 9 _ x h0 h1))
  · exact (tap8 (grid0.coords t) _ _ (iblk m c 2 t) _ x j h0 h1).trans (congrArg (· + _) (ld 8 _ x h0 h1))
  · exact (tap7 (grid0.coords t) _ _ (iblk m c 2 t) _ x j h0 h1).trans (congrArg (· + _) (ld 7 _ x h0 h1))
  · exact (tap6 (grid0.coords t) _ _ (iblk m c 2 t) _ x j h0 h1).trans (congrArg (· + _) (ld 6 _ x h0 h1))
  · exact (tap5 (grid0.coords t) _ _ (iblk m c 2 t) _ x j h0 h1).trans (congrArg (· + _) (ld 5 _ x h0 h1))
  · exact (tap4 (grid0.coords t) _ _ (iblk m c 2 t) _ x j h0 h1).trans (congrArg (· + _) (ld 4 _ x h0 h1))
  · exact (tap3 (grid0.coords t) _ _ (iblk m c 2 t) _ x j h0 h1).trans (congrArg (· + _) (ld 3 _ x h0 h1))
  · exact (tap2 (grid0.coords t) _ _ (iblk m c 2 t) _ x j h0 h1).trans (congrArg (· + _) (ld 2 _ x h0 h1))
  · exact (tap1 (grid0.coords t) _ _ (iblk m c 2 t) _ x j h0 h1).trans (congrArg (· + _) (ld 1 _ x h0 h1))
  · exact (tap0 (grid0.coords t) _ _ (iblk m c 2 t) _ x j (by omega) h1).trans (congrArg (· + _) (ld 0 _ x (by omega) h1))

/-- The first grid point of a column starts at zero and adds its term. -/
theorem start (t : Fin cfg0.N) (h : t.val % 16 = 0) (j : S31x256.Idx) : (outsAt0 m c t.val t.isLt).1 j
    = 0 + term (grid0.coords t) (iblk m c 0 t) (iblk m c 1 t) (iblk m c 2 t) j := by
  rw [outsAt0_A m c t h]
  frame_out
  simp (discharger := decide) only [↓View.readCov_skip, ↓View.readCov_fill]
  refine (Pieces.canon_drop [_] j [_, _, _, _, _, _, _, _, _, _, _, _, _, _, _, _, _, _, _, _, _, _, _, _, _, _, _, _, _, _, _] (View.cover_of_tiledL (s := S31x256) _ ![1, 256] (by rfl) j)).trans ?_
  canon_tiles x h
  · exact (tap30 (grid0.coords t) _ _ (iblk m c 2 t) _ x j h0 h1).trans (congrArg (· + _) (zero_at _))
  · exact (tap29 (grid0.coords t) _ _ (iblk m c 2 t) _ x j h0 h1).trans (congrArg (· + _) (zero_at _))
  · exact (tap28 (grid0.coords t) _ _ (iblk m c 2 t) _ x j h0 h1).trans (congrArg (· + _) (zero_at _))
  · exact (tap27 (grid0.coords t) _ _ (iblk m c 2 t) _ x j h0 h1).trans (congrArg (· + _) (zero_at _))
  · exact (tap26 (grid0.coords t) _ _ (iblk m c 2 t) _ x j h0 h1).trans (congrArg (· + _) (zero_at _))
  · exact (tap25 (grid0.coords t) _ _ (iblk m c 2 t) _ x j h0 h1).trans (congrArg (· + _) (zero_at _))
  · exact (tap24 (grid0.coords t) _ _ (iblk m c 2 t) _ x j h0 h1).trans (congrArg (· + _) (zero_at _))
  · exact (tap23 (grid0.coords t) _ _ (iblk m c 2 t) _ x j h0 h1).trans (congrArg (· + _) (zero_at _))
  · exact (tap22 (grid0.coords t) _ _ (iblk m c 2 t) _ x j h0 h1).trans (congrArg (· + _) (zero_at _))
  · exact (tap21 (grid0.coords t) _ _ (iblk m c 2 t) _ x j h0 h1).trans (congrArg (· + _) (zero_at _))
  · exact (tap20 (grid0.coords t) _ _ (iblk m c 2 t) _ x j h0 h1).trans (congrArg (· + _) (zero_at _))
  · exact (tap19 (grid0.coords t) _ _ (iblk m c 2 t) _ x j h0 h1).trans (congrArg (· + _) (zero_at _))
  · exact (tap18 (grid0.coords t) _ _ (iblk m c 2 t) _ x j h0 h1).trans (congrArg (· + _) (zero_at _))
  · exact (tap17 (grid0.coords t) _ _ (iblk m c 2 t) _ x j h0 h1).trans (congrArg (· + _) (zero_at _))
  · exact (tap16 (grid0.coords t) _ _ (iblk m c 2 t) _ x j h0 h1).trans (congrArg (· + _) (zero_at _))
  · exact (tap15 (grid0.coords t) _ _ (iblk m c 2 t) _ x j h0 h1).trans (congrArg (· + _) (zero_at _))
  · exact (tap14 (grid0.coords t) _ _ (iblk m c 2 t) _ x j h0 h1).trans (congrArg (· + _) (zero_at _))
  · exact (tap13 (grid0.coords t) _ _ (iblk m c 2 t) _ x j h0 h1).trans (congrArg (· + _) (zero_at _))
  · exact (tap12 (grid0.coords t) _ _ (iblk m c 2 t) _ x j h0 h1).trans (congrArg (· + _) (zero_at _))
  · exact (tap11 (grid0.coords t) _ _ (iblk m c 2 t) _ x j h0 h1).trans (congrArg (· + _) (zero_at _))
  · exact (tap10 (grid0.coords t) _ _ (iblk m c 2 t) _ x j h0 h1).trans (congrArg (· + _) (zero_at _))
  · exact (tap9 (grid0.coords t) _ _ (iblk m c 2 t) _ x j h0 h1).trans (congrArg (· + _) (zero_at _))
  · exact (tap8 (grid0.coords t) _ _ (iblk m c 2 t) _ x j h0 h1).trans (congrArg (· + _) (zero_at _))
  · exact (tap7 (grid0.coords t) _ _ (iblk m c 2 t) _ x j h0 h1).trans (congrArg (· + _) (zero_at _))
  · exact (tap6 (grid0.coords t) _ _ (iblk m c 2 t) _ x j h0 h1).trans (congrArg (· + _) (zero_at _))
  · exact (tap5 (grid0.coords t) _ _ (iblk m c 2 t) _ x j h0 h1).trans (congrArg (· + _) (zero_at _))
  · exact (tap4 (grid0.coords t) _ _ (iblk m c 2 t) _ x j h0 h1).trans (congrArg (· + _) (zero_at _))
  · exact (tap3 (grid0.coords t) _ _ (iblk m c 2 t) _ x j h0 h1).trans (congrArg (· + _) (zero_at _))
  · exact (tap2 (grid0.coords t) _ _ (iblk m c 2 t) _ x j h0 h1).trans (congrArg (· + _) (zero_at _))
  · exact (tap1 (grid0.coords t) _ _ (iblk m c 2 t) _ x j h0 h1).trans (congrArg (· + _) (zero_at _))
  · exact (tap0 (grid0.coords t) _ _ (iblk m c 2 t) _ x j (by omega) h1).trans (congrArg (· + _) (zero_at _))

/-- A moved block of the input is the input, moved. -/
theorem down_block (t : Fin cfg0.N) (r : Fin 256) (q : Fin 256) (n : Fin 4096) (p : Fin 1024) (hn : (n : ℕ) = t.val % 16 * 256 + r)
    (hp : (p : ℕ) = t.val / 16 * 256 + q) (d : ℕ) (hd : d < 31) :
    down (grid0.coords t) (iblk m c 1 t) (iblk m c 2 t) r q d = rowBefore (m ((c : Thread nD τ).loc main_arg1)) n d p := by
  have h0 := r.isLt
  have h1 := n.isLt
  have ht : t.val % 16 < 16 := Nat.mod_lt _ (by decide)
  unfold down rowBefore
  rw [row_block t]
  by_cases hu : (r : ℕ) < d
  · rw [if_pos hu]
    by_cases hz : 0 < t.val % 16
    · rw [if_pos hz, dif_pos ⟨by omega, by omega⟩]
      blk_point [iblk, V, idx t]
    · rw [if_neg hz, dif_neg (by omega)]
  · rw [if_neg hu, dif_pos ⟨by omega, by omega⟩]
    blk_point [iblk, V, idx t]

/-- The gradient of the tap that looks `d` rows back: the cotangent times the moved input, summed over all rows. -/
def tapSum (x0 : FVec Ideal S4096x1024 .f32) (x1 : FVec Ideal S4096x1024 .f32) (d : ℕ) (q : Fin 1024) (p : Fin 1024) : EReal :=
  ∑ n : Fin 4096, x0 (ix2 n q) * rowBefore x1 n d p

/-- A tap between the first and the last, as the transposed reference sums it. -/
theorem row_mid (x0 : FVec Ideal S4096x1024 .f32) (x1 : FVec Ideal S4096x1024 .f32) (q : Fin 1024) (p : Fin 1024) (k d n : ℕ) (hk : k + d = 30)
    (h : ∀ x : Fin 4096, ¬k + (x : ℕ) < 30 → k + (x : ℕ) - 30 < 4096) :
    (if _h : k ≤ n ∧ n - k < 1 then ∑ _x : Fin 1, ∑ x : Fin 4096, x0 (ix2 x q) *
      (if h₀ : k + (x : ℕ) < 30 then 0 else x1 (ix2 ⟨k + (x : ℕ) - 30, h x h₀⟩ p)) else 0)
      = if n = k then tapSum x0 x1 (30 - n) q p else 0 := by
  by_cases e : n = k
  · rw [if_pos e, dif_pos ⟨by omega, by omega⟩, Fin.sum_univ_one]
    have hd : 30 - n = d := by omega
    rw [hd]
    refine Finset.sum_congr rfl fun x _ => congrArg (x0 (ix2 x q) * ·) ?_
    have hx := x.isLt
    unfold rowBefore
    by_cases h₁ : k + (x : ℕ) < 30
    · rw [dif_pos h₁, dif_neg (by omega)]
    · rw [dif_neg h₁, dif_pos ⟨by omega, by omega⟩]
      have e₁ : k + (x : ℕ) - 30 = (x : ℕ) - d := by omega
      simp only [e₁]
  · rw [if_neg e, dif_neg (by omega)]

/-- The last tap. -/
theorem row_last (x0 : FVec Ideal S4096x1024 .f32) (x1 : FVec Ideal S4096x1024 .f32) (q : Fin 1024) (p : Fin 1024) (n : ℕ) :
    (if _h : 30 ≤ n ∧ n - 30 < 1 then ∑ _x : Fin 1, ∑ x : Fin 4096, x0 (ix2 x q) * x1 (ix2 x p) else 0)
      = if n = 30 then tapSum x0 x1 (30 - n) q p else 0 := by
  by_cases e : n = 30
  · rw [if_pos e, dif_pos ⟨by omega, by omega⟩, Fin.sum_univ_one, e]
    refine Finset.sum_congr rfl fun x _ => congrArg (x0 (ix2 x q) * ·) ?_
    unfold rowBefore
    rw [dif_pos ⟨Nat.zero_le _, x.isLt⟩]
    rfl
  · rw [if_neg e, dif_neg (by omega)]

/-- The first tap: the rows before the first are summed apart, and are zero. -/
theorem row_first (x0 : FVec Ideal S4096x1024 .f32) (x1 : FVec Ideal S4096x1024 .f32) (q : Fin 1024) (p : Fin 1024) (n : ℕ) (h : ∀ x : Fin 30, (x : ℕ) < 4096)
    (h' : ∀ x : Fin 4066, 30 + (x : ℕ) < 4096) (h'' : ∀ x : Fin 4066, (x : ℕ) < 4096) :
    (if _h : n < 1 then ∑ _x : Fin 1, (∑ x : Fin 30, x0 (ix2 ⟨(x : ℕ), h x⟩ q) * 0
      + ∑ x : Fin 4066, x0 (ix2 ⟨30 + (x : ℕ), h' x⟩ q) * x1 (ix2 ⟨(x : ℕ), h'' x⟩ p)) else 0)
      = if n = 0 then tapSum x0 x1 (30 - n) q p else 0 := by
  by_cases e : n = 0
  · rw [if_pos e, dif_pos (by omega), Fin.sum_univ_one, e]
    unfold tapSum
    refine Eq.trans ?_ (Fin.sum_univ_add (a := 30) (b := 4066) (fun x : Fin (30 + 4066) => x0 (ix2 x q) * rowBefore x1 x 30 p)).symm
    refine congrArg₂ (· + ·) (Finset.sum_congr rfl fun x _ => ?_) (Finset.sum_congr rfl fun x _ => ?_)
    · have hx := x.isLt
      refine congrArg (x0 (ix2 ⟨(x : ℕ), h x⟩ q) * ·) ?_
      unfold rowBefore
      split
      · next hc =>
        rw [Fin.val_castAdd] at hc
        omega
      · rfl
    · have hx := x.isLt
      refine congrArg (x0 (ix2 ⟨30 + (x : ℕ), h' x⟩ q) * ·) ?_
      unfold rowBefore
      refine Eq.trans ?_ (dif_pos (show 30 ≤ 30 + (x : ℕ) ∧ 30 + (x : ℕ) - 30 < 4096 by omega)).symm
      have e₁ : 30 + (x : ℕ) - 30 = (x : ℕ) := by omega
      exact congrArg (fun n => x1 (ix2 n p)) (Fin.ext e₁.symm)
  · rw [if_neg e, dif_neg (by omega)]

set_option maxHeartbeats 4000000 in
/-- The reference at an entry. -/
theorem ref_at (x0 : FVec Ideal S4096x1024 .f32) (x1 : FVec Ideal S4096x1024 .f32) (j : S31x1024.Idx) :
    Cert.Reference21Ideal.Read.val_main_v252 (F := Ideal) x0 x1 j = tapSum x0 x1 (30 - (j 0 : ℕ)) (j 1) (j 1) := by
  have h0 : (j 0 : ℕ) < 31 := (j 0).isLt
  pointwise [Cert.Reference21Ideal.Read.val_main_cst, Cert.Reference21Ideal.Read.val_main_v0, Cert.Reference21Ideal.Read.val_main_v1, Cert.Reference21Ideal.Read.val_main_v2, Cert.Reference21Ideal.Read.val_main_v3, Cert.Reference21Ideal.Read.val_main_v4, Cert.Reference21Ideal.Read.val_main_v5, Cert.Reference21Ideal.Read.val_main_v6, Cert.Reference21Ideal.Read.val_main_v7, Cert.Reference21Ideal.Read.val_main_v8, Cert.Reference21Ideal.Read.val_main_v9, Cert.Reference21Ideal.Read.val_main_v10, Cert.Reference21Ideal.Read.val_main_v11, Cert.Reference21Ideal.Read.val_main_v12, Cert.Reference21Ideal.Read.val_main_v13, Cert.Reference21Ideal.Read.val_main_v14, Cert.Reference21Ideal.Read.val_main_v15, Cert.Reference21Ideal.Read.val_main_v16, Cert.Reference21Ideal.Read.val_main_v17, Cert.Reference21Ideal.Read.val_main_v18, Cert.Reference21Ideal.Read.val_main_v19, Cert.Reference21Ideal.Read.val_main_v20, Cert.Reference21Ideal.Read.val_main_v21, Cert.Reference21Ideal.Read.val_main_v22, Cert.Reference21Ideal.Read.val_main_v23, Cert.Reference21Ideal.Read.val_main_v24, Cert.Reference21Ideal.Read.val_main_v25, Cert.Reference21Ideal.Read.val_main_v26, Cert.Reference21Ideal.Read.val_main_v27, Cert.Reference21Ideal.Read.val_main_v28, Cert.Reference21Ideal.Read.val_main_v29, Cert.Reference21Ideal.Read.val_main_v30, Cert.Reference21Ideal.Read.val_main_v31, Cert.Reference21Ideal.Read.val_main_v32, Cert.Reference21Ideal.Read.val_main_v33, Cert.Reference21Ideal.Read.val_main_cst_0, Cert.Reference21Ideal.Read.val_main_v34, Cert.Reference21Ideal.Read.val_main_v35, Cert.Reference21Ideal.Read.val_main_cst_1, Cert.Reference21Ideal.Read.val_main_v36, Cert.Reference21Ideal.Read.val_main_v37, Cert.Reference21Ideal.Read.val_main_cst_2, Cert.Reference21Ideal.Read.val_main_v38, Cert.Reference21Ideal.Read.val_main_v39, Cert.Reference21Ideal.Read.val_main_cst_3, Cert.Reference21Ideal.Read.val_main_v40, Cert.Reference21Ideal.Read.val_main_v41, Cert.Reference21Ideal.Read.val_main_cst_4, Cert.Reference21Ideal.Read.val_main_v42, Cert.Reference21Ideal.Read.val_main_v43, Cert.Reference21Ideal.Read.val_main_cst_5, Cert.Reference21Ideal.Read.val_main_v44, Cert.Reference21Ideal.Read.val_main_v45, Cert.Reference21Ideal.Read.val_main_cst_6, Cert.Reference21Ideal.Read.val_main_v46, Cert.Reference21Ideal.Read.val_main_v47, Cert.Reference21Ideal.Read.val_main_cst_7, Cert.Reference21Ideal.Read.val_main_v48, Cert.Reference21Ideal.Read.val_main_v49, Cert.Reference21Ideal.Read.val_main_v50, Cert.Reference21Ideal.Read.val_main_cst_8, Cert.Reference21Ideal.Read.val_main_v51, Cert.Reference21Ideal.Read.val_main_v52, Cert.Reference21Ideal.Read.val_main_cst_9, Cert.Reference21Ideal.Read.val_main_v53, Cert.Reference21Ideal.Read.val_main_v54, Cert.Reference21Ideal.Read.val_main_cst_10, Cert.Reference21Ideal.Read.val_main_v55, Cert.Reference21Ideal.Read.val_main_v56, Cert.Reference21Ideal.Read.val_main_v57, Cert.Reference21Ideal.Read.val_main_cst_11, Cert.Reference21Ideal.Read.val_main_v58, Cert.Reference21Ideal.Read.val_main_v59, Cert.Reference21Ideal.Read.val_main_cst_12, Cert.Reference21Ideal.Read.val_main_v60, Cert.Reference21Ideal.Read.val_main_v61, Cert.Reference21Ideal.Read.val_main_cst_13, Cert.Reference21Ideal.Read.val_main_v62, Cert.Reference21Ideal.Read.val_main_v63, Cert.Reference21Ideal.Read.val_main_v64, Cert.Reference21Ideal.Read.val_main_cst_14, Cert.Reference21Ideal.Read.val_main_v65, Cert.Reference21Ideal.Read.val_main_v66, Cert.Reference21Ideal.Read.val_main_cst_15, Cert.Reference21Ideal.Read.val_main_v67, Cert.Reference21Ideal.Read.val_main_v68, Cert.Reference21Ideal.Read.val_main_cst_16, Cert.Reference21Ideal.Read.val_main_v69, Cert.Reference21Ideal.Read.val_main_v70, Cert.Reference21Ideal.Read.val_main_v71, Cert.Reference21Ideal.Read.val_main_cst_17, Cert.Reference21Ideal.Read.val_main_v72, Cert.Reference21Ideal.Read.val_main_v73, Cert.Reference21Ideal.Read.val_main_cst_18, Cert.Reference21Ideal.Read.val_main_v74, Cert.Reference21Ideal.Read.val_main_v75, Cert.Reference21Ideal.Read.val_main_cst_19, Cert.Reference21Ideal.Read.val_main_v76, Cert.Reference21Ideal.Read.val_main_v77, Cert.Reference21Ideal.Read.val_main_v78, Cert.Reference21Ideal.Read.val_main_cst_20, Cert.Reference21Ideal.Read.val_main_v79, Cert.Reference21Ideal.Read.val_main_v80, Cert.Reference21Ideal.Read.val_main_cst_21, Cert.Reference21Ideal.Read.val_main_v81, Cert.Reference21Ideal.Read.val_main_v82, Cert.Reference21Ideal.Read.val_main_cst_22, Cert.Reference21Ideal.Read.val_main_v83, Cert.Reference21Ideal.Read.val_main_v84, Cert.Reference21Ideal.Read.val_main_v85, Cert.Reference21Ideal.Read.val_main_cst_23, Cert.Reference21Ideal.Read.val_main_v86, Cert.Reference21Ideal.Read.val_main_v87, Cert.Reference21Ideal.Read.val_main_cst_24, Cert.Reference21Ideal.Read.val_main_v88, Cert.Reference21Ideal.Read.val_main_v89, Cert.Reference21Ideal.Read.val_main_cst_25, Cert.Reference21Ideal.Read.val_main_v90, Cert.Reference21Ideal.Read.val_main_v91, Cert.Reference21Ideal.Read.val_main_v92, Cert.Reference21Ideal.Read.val_main_cst_26, Cert.Reference21Ideal.Read.val_main_v93, Cert.Reference21Ideal.Read.val_main_v94, Cert.Reference21Ideal.Read.val_main_cst_27, Cert.Reference21Ideal.Read.val_main_v95, Cert.Reference21Ideal.Read.val_main_v96, Cert.Reference21Ideal.Read.val_main_cst_28, Cert.Reference21Ideal.Read.val_main_v97, Cert.Reference21Ideal.Read.val_main_v98, Cert.Reference21Ideal.Read.val_main_v99, Cert.Reference21Ideal.Read.val_main_cst_29, Cert.Reference21Ideal.Read.val_main_v100, Cert.Reference21Ideal.Read.val_main_v101, Cert.Reference21Ideal.Read.val_main_cst_30, Cert.Reference21Ideal.Read.val_main_v102, Cert.Reference21Ideal.Read.val_main_v103, Cert.Reference21Ideal.Read.val_main_cst_31, Cert.Reference21Ideal.Read.val_main_v104, Cert.Reference21Ideal.Read.val_main_v105, Cert.Reference21Ideal.Read.val_main_v106, Cert.Reference21Ideal.Read.val_main_cst_32, Cert.Reference21Ideal.Read.val_main_v107, Cert.Reference21Ideal.Read.val_main_v108, Cert.Reference21Ideal.Read.val_main_cst_33, Cert.Reference21Ideal.Read.val_main_v109, Cert.Reference21Ideal.Read.val_main_v110, Cert.Reference21Ideal.Read.val_main_cst_34, Cert.Reference21Ideal.Read.val_main_v111, Cert.Reference21Ideal.Read.val_main_v112, Cert.Reference21Ideal.Read.val_main_v113, Cert.Reference21Ideal.Read.val_main_cst_35, Cert.Reference21Ideal.Read.val_main_v114, Cert.Reference21Ideal.Read.val_main_v115, Cert.Reference21Ideal.Read.val_main_cst_36, Cert.Reference21Ideal.Read.val_main_v116, Cert.Reference21Ideal.Read.val_main_v117, Cert.Reference21Ideal.Read.val_main_cst_37, Cert.Reference21Ideal.Read.val_main_v118, Cert.Reference21Ideal.Read.val_main_v119, Cert.Reference21Ideal.Read.val_main_v120, Cert.Reference21Ideal.Read.val_main_cst_38, Cert.Reference21Ideal.Read.val_main_v121, Cert.Reference21Ideal.Read.val_main_v122, Cert.Reference21Ideal.Read.val_main_cst_39, Cert.Reference21Ideal.Read.val_main_v123, Cert.Reference21Ideal.Read.val_main_v124, Cert.Reference21Ideal.Read.val_main_cst_40, Cert.Reference21Ideal.Read.val_main_v125, Cert.Reference21Ideal.Read.val_main_v126, Cert.Reference21Ideal.Read.val_main_v127, Cert.Reference21Ideal.Read.val_main_cst_41, Cert.Reference21Ideal.Read.val_main_v128, Cert.Reference21Ideal.Read.val_main_v129, Cert.Reference21Ideal.Read.val_main_cst_42, Cert.Reference21Ideal.Read.val_main_v130, Cert.Reference21Ideal.Read.val_main_v131, Cert.Reference21Ideal.Read.val_main_cst_43, Cert.Reference21Ideal.Read.val_main_v132, Cert.Reference21Ideal.Read.val_main_v133, Cert.Reference21Ideal.Read.val_main_v134, Cert.Reference21Ideal.Read.val_main_cst_44, Cert.Reference21Ideal.Read.val_main_v135, Cert.Reference21Ideal.Read.val_main_v136, Cert.Reference21Ideal.Read.val_main_cst_45, Cert.Reference21Ideal.Read.val_main_v137, Cert.Reference21Ideal.Read.val_main_v138, Cert.Reference21Ideal.Read.val_main_cst_46, Cert.Reference21Ideal.Read.val_main_v139, Cert.Reference21Ideal.Read.val_main_v140, Cert.Reference21Ideal.Read.val_main_v141, Cert.Reference21Ideal.Read.val_main_cst_47, Cert.Reference21Ideal.Read.val_main_v142, Cert.Reference21Ideal.Read.val_main_v143, Cert.Reference21Ideal.Read.val_main_cst_48, Cert.Reference21Ideal.Read.val_main_v144, Cert.Reference21Ideal.Read.val_main_v145, Cert.Reference21Ideal.Read.val_main_cst_49, Cert.Reference21Ideal.Read.val_main_v146, Cert.Reference21Ideal.Read.val_main_v147, Cert.Reference21Ideal.Read.val_main_v148, Cert.Reference21Ideal.Read.val_main_cst_50, Cert.Reference21Ideal.Read.val_main_v149, Cert.Reference21Ideal.Read.val_main_v150, Cert.Reference21Ideal.Read.val_main_cst_51, Cert.Reference21Ideal.Read.val_main_v151, Cert.Reference21Ideal.Read.val_main_v152, Cert.Reference21Ideal.Read.val_main_cst_52, Cert.Reference21Ideal.Read.val_main_v153, Cert.Reference21Ideal.Read.val_main_v154, Cert.Reference21Ideal.Read.val_main_v155, Cert.Reference21Ideal.Read.val_main_cst_53, Cert.Reference21Ideal.Read.val_main_v156, Cert.Reference21Ideal.Read.val_main_v157, Cert.Reference21Ideal.Read.val_main_cst_54, Cert.Reference21Ideal.Read.val_main_v158, Cert.Reference21Ideal.Read.val_main_v159, Cert.Reference21Ideal.Read.val_main_cst_55, Cert.Reference21Ideal.Read.val_main_v160, Cert.Reference21Ideal.Read.val_main_v161, Cert.Reference21Ideal.Read.val_main_v162, Cert.Reference21Ideal.Read.val_main_cst_56, Cert.Reference21Ideal.Read.val_main_v163, Cert.Reference21Ideal.Read.val_main_v164, Cert.Reference21Ideal.Read.val_main_cst_57, Cert.Reference21Ideal.Read.val_main_v165, Cert.Reference21Ideal.Read.val_main_v166, Cert.Reference21Ideal.Read.val_main_cst_58, Cert.Reference21Ideal.Read.val_main_v167, Cert.Reference21Ideal.Read.val_main_v168, Cert.Reference21Ideal.Read.val_main_v169, Cert.Reference21Ideal.Read.val_main_cst_59, Cert.Reference21Ideal.Read.val_main_v170, Cert.Reference21Ideal.Read.val_main_v171, Cert.Reference21Ideal.Read.val_main_cst_60, Cert.Reference21Ideal.Read.val_main_v172, Cert.Reference21Ideal.Read.val_main_v173, Cert.Reference21Ideal.Read.val_main_cst_61, Cert.Reference21Ideal.Read.val_main_v174, Cert.Reference21Ideal.Read.val_main_v175, Cert.Reference21Ideal.Read.val_main_v176, Cert.Reference21Ideal.Read.val_main_cst_62, Cert.Reference21Ideal.Read.val_main_v177, Cert.Reference21Ideal.Read.val_main_v178, Cert.Reference21Ideal.Read.val_main_cst_63, Cert.Reference21Ideal.Read.val_main_v179, Cert.Reference21Ideal.Read.val_main_v180, Cert.Reference21Ideal.Read.val_main_cst_64, Cert.Reference21Ideal.Read.val_main_v181, Cert.Reference21Ideal.Read.val_main_v182, Cert.Reference21Ideal.Read.val_main_v183, Cert.Reference21Ideal.Read.val_main_cst_65, Cert.Reference21Ideal.Read.val_main_v184, Cert.Reference21Ideal.Read.val_main_v185, Cert.Reference21Ideal.Read.val_main_cst_66, Cert.Reference21Ideal.Read.val_main_v186, Cert.Reference21Ideal.Read.val_main_v187, Cert.Reference21Ideal.Read.val_main_cst_67, Cert.Reference21Ideal.Read.val_main_v188, Cert.Reference21Ideal.Read.val_main_v189, Cert.Reference21Ideal.Read.val_main_v190, Cert.Reference21Ideal.Read.val_main_cst_68, Cert.Reference21Ideal.Read.val_main_v191, Cert.Reference21Ideal.Read.val_main_v192, Cert.Reference21Ideal.Read.val_main_cst_69, Cert.Reference21Ideal.Read.val_main_v193, Cert.Reference21Ideal.Read.val_main_v194, Cert.Reference21Ideal.Read.val_main_cst_70, Cert.Reference21Ideal.Read.val_main_v195, Cert.Reference21Ideal.Read.val_main_v196, Cert.Reference21Ideal.Read.val_main_v197, Cert.Reference21Ideal.Read.val_main_cst_71, Cert.Reference21Ideal.Read.val_main_v198, Cert.Reference21Ideal.Read.val_main_v199, Cert.Reference21Ideal.Read.val_main_cst_72, Cert.Reference21Ideal.Read.val_main_v200, Cert.Reference21Ideal.Read.val_main_v201, Cert.Reference21Ideal.Read.val_main_cst_73, Cert.Reference21Ideal.Read.val_main_v202, Cert.Reference21Ideal.Read.val_main_v203, Cert.Reference21Ideal.Read.val_main_v204, Cert.Reference21Ideal.Read.val_main_cst_74, Cert.Reference21Ideal.Read.val_main_v205, Cert.Reference21Ideal.Read.val_main_v206, Cert.Reference21Ideal.Read.val_main_cst_75, Cert.Reference21Ideal.Read.val_main_v207, Cert.Reference21Ideal.Read.val_main_v208, Cert.Reference21Ideal.Read.val_main_cst_76, Cert.Reference21Ideal.Read.val_main_v209, Cert.Reference21Ideal.Read.val_main_v210, Cert.Reference21Ideal.Read.val_main_v211, Cert.Reference21Ideal.Read.val_main_cst_77, Cert.Reference21Ideal.Read.val_main_v212, Cert.Reference21Ideal.Read.val_main_v213, Cert.Reference21Ideal.Read.val_main_cst_78, Cert.Reference21Ideal.Read.val_main_v214, Cert.Reference21Ideal.Read.val_main_v215, Cert.Reference21Ideal.Read.val_main_cst_79, Cert.Reference21Ideal.Read.val_main_v216, Cert.Reference21Ideal.Read.val_main_v217, Cert.Reference21Ideal.Read.val_main_v218, Cert.Reference21Ideal.Read.val_main_cst_80, Cert.Reference21Ideal.Read.val_main_v219, Cert.Reference21Ideal.Read.val_main_v220, Cert.Reference21Ideal.Read.val_main_cst_81, Cert.Reference21Ideal.Read.val_main_v221, Cert.Reference21Ideal.Read.val_main_v222, Cert.Reference21Ideal.Read.val_main_cst_82, Cert.Reference21Ideal.Read.val_main_v223, Cert.Reference21Ideal.Read.val_main_v224, Cert.Reference21Ideal.Read.val_main_v225, Cert.Reference21Ideal.Read.val_main_cst_83, Cert.Reference21Ideal.Read.val_main_v226, Cert.Reference21Ideal.Read.val_main_v227, Cert.Reference21Ideal.Read.val_main_cst_84, Cert.Reference21Ideal.Read.val_main_v228, Cert.Reference21Ideal.Read.val_main_v229, Cert.Reference21Ideal.Read.val_main_cst_85, Cert.Reference21Ideal.Read.val_main_v230, Cert.Reference21Ideal.Read.val_main_v231, Cert.Reference21Ideal.Read.val_main_v232, Cert.Reference21Ideal.Read.val_main_cst_86, Cert.Reference21Ideal.Read.val_main_v233, Cert.Reference21Ideal.Read.val_main_v234, Cert.Reference21Ideal.Read.val_main_cst_87, Cert.Reference21Ideal.Read.val_main_v235, Cert.Reference21Ideal.Read.val_main_v236, Cert.Reference21Ideal.Read.val_main_cst_88, Cert.Reference21Ideal.Read.val_main_v237, Cert.Reference21Ideal.Read.val_main_v238, Cert.Reference21Ideal.Read.val_main_v239, Cert.Reference21Ideal.Read.val_main_cst_89, Cert.Reference21Ideal.Read.val_main_v240, Cert.Reference21Ideal.Read.val_main_v241, Cert.Reference21Ideal.Read.val_main_cst_90, Cert.Reference21Ideal.Read.val_main_v242, Cert.Reference21Ideal.Read.val_main_v243, Cert.Reference21Ideal.Read.val_main_cst_91, Cert.Reference21Ideal.Read.val_main_v244, Cert.Reference21Ideal.Read.val_main_v245, Cert.Reference21Ideal.Read.val_main_v246, Cert.Reference21Ideal.Read.val_main_cst_92, Cert.Reference21Ideal.Read.val_main_v247, Cert.Reference21Ideal.Read.val_main_v248, Cert.Reference21Ideal.Read.val_main_cst_93, Cert.Reference21Ideal.Read.val_main_v249, Cert.Reference21Ideal.Read.val_main_v250, Cert.Reference21Ideal.Read.val_main_cst_94, Cert.Reference21Ideal.Read.val_main_v251, Cert.Reference21Ideal.Read.val_main_v252]
  refine (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (row_last x0 x1 (j 1) (j 1) (j 0))
    (row_mid x0 x1 (j 1) (j 1) 29 1 (j 0) (by norm_num) _))
    (row_mid x0 x1 (j 1) (j 1) 28 2 (j 0) (by norm_num) _))
    (row_mid x0 x1 (j 1) (j 1) 27 3 (j 0) (by norm_num) _))
    (row_mid x0 x1 (j 1) (j 1) 26 4 (j 0) (by norm_num) _))
    (row_mid x0 x1 (j 1) (j 1) 25 5 (j 0) (by norm_num) _))
    (row_mid x0 x1 (j 1) (j 1) 24 6 (j 0) (by norm_num) _))
    (row_mid x0 x1 (j 1) (j 1) 23 7 (j 0) (by norm_num) _))
    (row_mid x0 x1 (j 1) (j 1) 22 8 (j 0) (by norm_num) _))
    (row_mid x0 x1 (j 1) (j 1) 21 9 (j 0) (by norm_num) _))
    (row_mid x0 x1 (j 1) (j 1) 20 10 (j 0) (by norm_num) _))
    (row_mid x0 x1 (j 1) (j 1) 19 11 (j 0) (by norm_num) _))
    (row_mid x0 x1 (j 1) (j 1) 18 12 (j 0) (by norm_num) _))
    (row_mid x0 x1 (j 1) (j 1) 17 13 (j 0) (by norm_num) _))
    (row_mid x0 x1 (j 1) (j 1) 16 14 (j 0) (by norm_num) _))
    (row_mid x0 x1 (j 1) (j 1) 15 15 (j 0) (by norm_num) _))
    (row_mid x0 x1 (j 1) (j 1) 14 16 (j 0) (by norm_num) _))
    (row_mid x0 x1 (j 1) (j 1) 13 17 (j 0) (by norm_num) _))
    (row_mid x0 x1 (j 1) (j 1) 12 18 (j 0) (by norm_num) _))
    (row_mid x0 x1 (j 1) (j 1) 11 19 (j 0) (by norm_num) _))
    (row_mid x0 x1 (j 1) (j 1) 10 20 (j 0) (by norm_num) _))
    (row_mid x0 x1 (j 1) (j 1) 9 21 (j 0) (by norm_num) _))
    (row_mid x0 x1 (j 1) (j 1) 8 22 (j 0) (by norm_num) _))
    (row_mid x0 x1 (j 1) (j 1) 7 23 (j 0) (by norm_num) _))
    (row_mid x0 x1 (j 1) (j 1) 6 24 (j 0) (by norm_num) _))
    (row_mid x0 x1 (j 1) (j 1) 5 25 (j 0) (by norm_num) _))
    (row_mid x0 x1 (j 1) (j 1) 4 26 (j 0) (by norm_num) _))
    (row_mid x0 x1 (j 1) (j 1) 3 27 (j 0) (by norm_num) _))
    (row_mid x0 x1 (j 1) (j 1) 2 28 (j 0) (by norm_num) _))
    (row_mid x0 x1 (j 1) (j 1) 1 29 (j 0) (by norm_num) _))
    (row_first x0 x1 (j 1) (j 1) (j 0) _ _ _)).trans ?_
  generalize tapSum x0 x1 _ _ _ = v
  generalize (j 0 : ℕ) = n at h0
  interval_cases n <;> simp

/-- The taps' gradient, as the reference computes it of the arguments in memory. -/
def result : FVec Ideal S31x1024 .f32 :=
  Cert.Reference21Ideal.Read.val_main_v252 (F := Ideal) (m ((c : Thread nD τ).loc main_arg0)) (m ((c : Thread nD τ).loc main_arg1))

/-- The array the launch writes is the reference's. -/
theorem final : (dats m 0 c).arrAt 3 cfg0.N = result m c := by
  refine (dats m 0 c).arrAt_eq_of_covers 3 _ (by decide +kernel) fun t hf y => ?_
  have hr : t.val % 16 = 16 - 1 := (flush0_3 t).mp hf
  blk_simp
  rw [after0_3]
  refine (Pipeline.eq_sum_fin_of_reset_step_apply_of_flush (fun n h => (outsAt0 m c n h).1) 16 (fun _ => 0)
    (fun t j => term (grid0.coords t) (iblk m c 0 t) (iblk m c 1 t) (iblk m c 2 t) j)
    (start m c) (step m c) t hr y).trans ?_
  refine Eq.trans ?_ (ref_at _ _ _).symm
  rw [zero_add]
  unfold tapSum term
  have hy0 : (y 0 : ℕ) < 31 := (y 0).isLt
  have ht : t.val < 64 := lt_of_lt_of_eq t.isLt (show cfg0.N = 64 from N_0)
  refine Fin.sum_mul_add_congr fun s k hl => ?_
  have hs := s.isLt
  have hk := k.isLt
  have ev : (16 * (t.val / 16) + s.val) % 16 = s.val := by omega
  have ed : (16 * (t.val / 16) + s.val) / 16 = t.val / 16 := by omega
  have e0 : ((win0_3.blk t).view.emb y 0 : ℕ) = (y 0 : ℕ) := by blk_simp [idx t] <;> omega
  have e1 : ((win0_3.blk t).view.emb y 1 : ℕ) = t.val / 16 * 256 + (y 1 : ℕ) := by blk_simp [idx t] <;> omega
  refine congrArg₂ (· * ·) ?_ ?_
  · blk_point [iblk, V, idx t, idx ⟨_, Pipeline.run_point_lt_of_flush t hr s⟩]
  · rw [e0]
    refine down_block m c ⟨_, Pipeline.run_point_lt_of_flush t hr s⟩ k (y 1) _ _ ?_ ?_ _ (by omega)
    · exact congrArg (· * 256 + (k : ℕ)) ev.symm
    · exact e1.trans (congrArg (· * 256 + (y 1 : ℕ)) ed.symm)

/-- What one grid point adds to the bias: the cotangent's block summed over its rows. -/
def biasTerm (g : FVec Ideal S256x256 .f32) (j : S1x256.Idx) : EReal :=
  ∑ r : Fin 256, g (ix2 r (j 1))

/-- The bias block after a point. -/
theorem bias_add (g : FVec Ideal S256x256 .f32) (v : FVec Ideal S1x256 .f32) (j : S1x256.Idx) :
    k0_pay3 (F := Ideal) g v j = v j + biasTerm g j := by
  unfold biasTerm
  pointwise [k0_pay3]

/-- The bias block starts at zero. -/
theorem bias_zero_at (x : S1x256.Idx) : k0_pay5 (F := Ideal) x = 0 := by
  pointwise [k0_pay5]

/-- A grid point that continues a column adds its term to the bias. -/
theorem bias_step (t : Fin cfg0.N) (h : ¬t.val % 16 = 0) (j : S1x256.Idx) : (outsAt0 m c t.val t.isLt).2 j
    = (outsAt0 m c (t.val - 1) (Nat.lt_of_le_of_lt (Nat.sub_le _ _) t.isLt)).2 j + biasTerm (iblk m c 0 t) j := by
  rw [outsAt0_B m c t h]
  frame_out
  exact bias_add _ _ j

/-- The first grid point of a column starts the bias at zero. -/
theorem bias_start (t : Fin cfg0.N) (h : t.val % 16 = 0) (j : S1x256.Idx) : (outsAt0 m c t.val t.isLt).2 j
    = 0 + biasTerm (iblk m c 0 t) j := by
  rw [outsAt0_A m c t h]
  frame_out
  exact (bias_add _ _ j).trans (congrArg (· + _) (bias_zero_at j))

/-- The bias's gradient, as the reference computes it of the arguments in memory. -/
def biasResult : FVec Ideal S1024 .f32 :=
  Cert.Reference21Ideal.Read.val_main_v36 (F := Ideal) (m ((c : Thread nD τ).loc main_arg0))

/-- The row the launch writes is the reference's bias gradient. -/
theorem bias_final : (dats m 0 c).arrAt 4 cfg0.N = fun j : S1x1024.Idx => biasResult m c (ix1 (j 1)) := by
  refine (dats m 0 c).arrAt_eq_of_covers 4 _ (by decide +kernel) fun t hf y => ?_
  have hr : t.val % 16 = 16 - 1 := (flush0_4 t).mp hf
  blk_simp
  rw [after0_4]
  refine (Pipeline.eq_sum_fin_of_reset_step_apply_of_flush (fun n h => (outsAt0 m c n h).2) 16 (fun _ => 0)
    (fun t j => biasTerm (iblk m c 0 t) j) (bias_start m c) (bias_step m c) t hr y).trans ?_
  rw [zero_add]
  unfold biasTerm biasResult
  pointwise [Cert.Reference21Ideal.Read.val_main_cst_0, Cert.Reference21Ideal.Read.val_main_v34, Cert.Reference21Ideal.Read.val_main_v35, Cert.Reference21Ideal.Read.val_main_cst_1, Cert.Reference21Ideal.Read.val_main_v36]
  refine Eq.trans ?_ (Fin.sum_univ_one _).symm
  refine Fin.sum_mul_add_congr fun s k hl => ?_
  blk_ext [iblk, V, idx t, idx ⟨_, Pipeline.run_point_lt_of_flush t hr s⟩]

/-- A row read as a vector. -/
theorem row_vector (B : FVec Ideal S1024 .f32) :
    shapeCast S1024 (fun j : S1x1024.Idx => B (ix1 (j 1))) shapeCasts_S1x1024_S1024 = B := by
  funext j
  pointwise []

/-- The host reads the row the launch wrote as a vector. -/
theorem bias_tail : Pipeline.afterTail₀ cfgs (dats m) 0 (V0 m) [hostOps1] c main_v1 = biasResult m c := by
  have hB := bias_final m c
  generalize biasResult m c = B at hB
  unfold Pipeline.afterTail₀
  simp only [List.flatten_cons, List.flatten_nil, List.append_nil]
  after_results
  erw [(dats m 0 c).withArrays_arrAt sharedIn0 (V0 m c) (fun _ => rfl) 4]
  rw [hB]
  exact row_vector B

set_option maxHeartbeats 4000000 in
/-- The kernel's ideal results are the reference's, for every input. -/
theorem algebraic : Cert.algebraic_Kernel21Ideal_Reference21Ideal := by
  pair_intro
  · run_from Cert.Kernel21Ideal.Gen.run_main m g
  · hlo_run
    · exact (final m c).symm
    · exact (bias_tail m c).symm

/-- The kernel changes nothing but its results, over the machine's own floats. -/
theorem frame_kernel : Cert.quiescent_Kernel21 :=
  fun m ρ _ => Cert.Kernel21.Gen.frame m ρ

/-- The same over the extended reals. -/
theorem frame_ideal : Cert.quiescent_Kernel21Ideal :=
  fun m ρ _ => Cert.Kernel21Ideal.Gen.frame m ρ

/-- The reference changes nothing but its results. -/
theorem frame_ref : Cert.quiescent_Reference21Ideal := by
  intro m ρ _
  hlo_run
  · exact fun c => by simp
  · exact sem_eq_zero_of_no_sems (by decide) _

end Cert.CfDw

end
-- ==== Proof.ScGateOut.lean ====
/- Program 22: the derivative of the product of a gate with the short convolution, block by block. -/
module

public import proofs.«01_k».proof.Defs
public import proofs.«01_k».proof.Proof.Gen.Kernel22.Frame
public import proofs.«01_k».proof.Proof.Gen.Kernel22Ideal.Frame
public import proofs.«01_k».proof.Proof.Gen.Reference22Ideal.Read
public import Idealize.ShloMosaic.Lib.Pipeline.ValueKit
public import Idealize.ShloMosaic.Lib.Claim

@[expose] public section

set_option maxRecDepth 16384

noncomputable section

namespace Cert.ScGateOut

open Cert.Kernel22Ideal Cert.Kernel22Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 2, t.val % 2]
    ∧ win0_1.index t = ![t.val / 2, t.val % 2]
    ∧ win0_2.index t = ![t.val / 2, t.val % 2]
    ∧ win0_3.index t = ![t.val / 2, t.val % 2]
    ∧ win0_4.index t = ![t.val / 2, t.val % 2] :=
  (by decide +kernel : ∀ t : Fin grid0.N, _)

/-- The gate's gradient, as the reference computes it of the arguments in memory. -/
def result0 : FVec Ideal S4096x1024 .bf16 :=
  Cert.Reference22Ideal.Read.val_main_v5 (F := Ideal) (m ((c : Thread nD τ).loc main_arg0)) (m ((c : Thread nD τ).loc main_arg1))

/-- The launch writes it. -/
theorem final0 : (dats m 0 c).arrAt 3 cfg0.N = result0 m c := by
  refine (dats m 0 c).arrAt_eq_of_covers 3 _ (by decide +kernel) fun t hf y => ?_
  blk_simp
  rw [after0_3]
  frame_out
  unfold result0
  pointwise [k0_pay2, Cert.Reference22Ideal.Read.val_main_v0, Cert.Reference22Ideal.Read.val_main_v1, Cert.Reference22Ideal.Read.val_main_v2, Cert.Reference22Ideal.Read.val_main_v3, Cert.Reference22Ideal.Read.val_main_v4, Cert.Reference22Ideal.Read.val_main_v5]
  blk_point [iblk, V, idx t]

/-- The convolution's cotangent, as the reference computes it of the arguments in memory. -/
def result1 : FVec Ideal S4096x1024 .f32 :=
  Cert.Reference22Ideal.Read.val_main_v3 (F := Ideal) (m ((c : Thread nD τ).loc main_arg0)) (m ((c : Thread nD τ).loc main_arg2))

/-- The launch writes it. -/
theorem final1 : (dats m 0 c).arrAt 4 cfg0.N = result1 m c := by
  refine (dats m 0 c).arrAt_eq_of_covers 4 _ (by decide +kernel) fun t hf y => ?_
  blk_simp
  rw [after0_4]
  frame_out
  unfold result1
  pointwise [k0_pay1, Cert.Reference22Ideal.Read.val_main_v0, Cert.Reference22Ideal.Read.val_main_v1, Cert.Reference22Ideal.Read.val_main_v2, Cert.Reference22Ideal.Read.val_main_v3, Cert.Reference22Ideal.Read.val_main_v4, Cert.Reference22Ideal.Read.val_main_v5]
  refine (mul_comm (G := EReal) _ _).trans ?_
  blk_point [iblk, V, idx t]

/-- The kernel's ideal results are the reference's, for every input. -/
theorem algebraic : Cert.algebraic_Kernel22Ideal_Reference22Ideal := by
  pair_intro
  · run_from Cert.Kernel22Ideal.Gen.run_main m g
  · hlo_run
    · exact (final0 m c).symm
    · exact (final1 m c).symm

/-- The kernel changes nothing but its results, over the machine's own floats. -/
theorem frame_kernel : Cert.quiescent_Kernel22 :=
  fun m ρ _ => Cert.Kernel22.Gen.frame m ρ

/-- The same over the extended reals. -/
theorem frame_ideal : Cert.quiescent_Kernel22Ideal :=
  fun m ρ _ => Cert.Kernel22Ideal.Gen.frame m ρ

/-- The reference changes nothing but its results. -/
theorem frame_ref : Cert.quiescent_Reference22Ideal := by
  intro m ρ _
  hlo_run
  · exact fun c => by simp
  · exact sem_eq_zero_of_no_sems (by decide) _

end Cert.ScGateOut

end
-- ==== Proof.ScGateIn.lean ====
/- Program 23: the derivative of the product the short convolution reads, block by block. -/
module

public import proofs.«01_k».proof.Defs
public import proofs.«01_k».proof.Proof.Gen.Kernel23.Frame
public import proofs.«01_k».proof.Proof.Gen.Kernel23Ideal.Frame
public import proofs.«01_k».proof.Proof.Gen.Reference23Ideal.Read
public import Idealize.ShloMosaic.Lib.Pipeline.ValueKit
public import Idealize.ShloMosaic.Lib.Claim

@[expose] public section

set_option maxRecDepth 16384

noncomputable section

namespace Cert.ScGateIn

open Cert.Kernel23Ideal Cert.Kernel23Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 2, t.val % 2]
    ∧ win0_1.index t = ![t.val / 2, t.val % 2 + 2]
    ∧ win0_2.index t = ![t.val / 2, t.val % 2 + 4]
    ∧ win0_3.index t = ![t.val / 2, t.val % 2]
    ∧ win0_4.index t = ![t.val / 2, t.val % 2] :=
  (by decide +kernel : ∀ t : Fin grid0.N, _)

/-- The first factor's gradient, as the reference computes it of the arguments in memory. -/
def result0 : FVec Ideal S4096x1024 .bf16 :=
  Cert.Reference23Ideal.Read.val_main_v5 (F := Ideal) (m ((c : Thread nD τ).loc main_arg0)) (m ((c : Thread nD τ).loc main_arg1))

/-- The launch writes it. -/
theorem final0 : (dats m 0 c).arrAt 3 cfg0.N = result0 m c := by
  refine (dats m 0 c).arrAt_eq_of_covers 3 _ (by decide +kernel) fun t hf y => ?_
  blk_simp
  rw [after0_3]
  frame_out
  unfold result0
  pointwise [k0_pay1, Cert.Reference23Ideal.Read.val_main_v0, Cert.Reference23Ideal.Read.val_main_v1, Cert.Reference23Ideal.Read.val_main_v2, Cert.Reference23Ideal.Read.val_main_v3, Cert.Reference23Ideal.Read.val_main_v4, Cert.Reference23Ideal.Read.val_main_v5, Cert.Reference23Ideal.Read.val_main_v6]
  blk_point [iblk, V, idx t]

/-- The second factor's gradient, as the reference computes it of the arguments in memory. -/
def result1 : FVec Ideal S4096x1024 .bf16 :=
  Cert.Reference23Ideal.Read.val_main_v6 (F := Ideal) (m ((c : Thread nD τ).loc main_arg0)) (m ((c : Thread nD τ).loc main_arg1))

/-- The launch writes it. -/
theorem final1 : (dats m 0 c).arrAt 4 cfg0.N = result1 m c := by
  refine (dats m 0 c).arrAt_eq_of_covers 4 _ (by decide +kernel) fun t hf y => ?_
  blk_simp
  rw [after0_4]
  frame_out
  unfold result1
  pointwise [k0_pay2, Cert.Reference23Ideal.Read.val_main_v0, Cert.Reference23Ideal.Read.val_main_v1, Cert.Reference23Ideal.Read.val_main_v2, Cert.Reference23Ideal.Read.val_main_v3, Cert.Reference23Ideal.Read.val_main_v4, Cert.Reference23Ideal.Read.val_main_v5, Cert.Reference23Ideal.Read.val_main_v6]
  refine (mul_comm (G := EReal) _ _).trans ?_
  blk_point [iblk, V, idx t]

/-- The kernel's ideal results are the reference's, for every input. -/
theorem algebraic : Cert.algebraic_Kernel23Ideal_Reference23Ideal := by
  pair_intro
  · run_from Cert.Kernel23Ideal.Gen.run_main m g
  · hlo_run
    · exact (final0 m c).symm
    · exact (final1 m c).symm

/-- The kernel changes nothing but its results, over the machine's own floats. -/
theorem frame_kernel : Cert.quiescent_Kernel23 :=
  fun m ρ _ => Cert.Kernel23.Gen.frame m ρ

/-- The same over the extended reals. -/
theorem frame_ideal : Cert.quiescent_Kernel23Ideal :=
  fun m ρ _ => Cert.Kernel23Ideal.Gen.frame m ρ

/-- The reference changes nothing but its results. -/
theorem frame_ref : Cert.quiescent_Reference23Ideal := by
  intro m ρ _
  hlo_run
  · exact fun c => by simp
  · exact sem_eq_zero_of_no_sems (by decide) _

end Cert.ScGateIn

end
-- ==== Proof.GluGrad.lean ====
/- Program 24: the derivative of the gated linear unit, block by block. -/
module

public import proofs.«01_k».proof.Defs
public import proofs.«01_k».proof.Proof.Gen.Kernel24.Frame
public import proofs.«01_k».proof.Proof.Gen.Kernel24Ideal.Frame
public import proofs.«01_k».proof.Proof.Gen.Reference24Ideal.Read
public import Idealize.ShloMosaic.Lib.Pipeline.ValueKit
public import Idealize.ShloMosaic.Lib.Claim

@[expose] public section

set_option maxRecDepth 16384

noncomputable section

namespace Cert.GluGrad

open Cert.Kernel24Ideal Cert.Kernel24Ideal.Gen
open Idealize.ShloMosaic Idealize.ShloMosaic.TcCoe Idealize.SL.Sem

variable (m : (ℓ : Loc nD τ sig) → Buf (Elt Ideal) ℓ) (c : Dev nD)

/-- The logistic function. -/
theorem logistic_eq (x : EReal) : Ideal.logistic x = Ideal.div 1 (1 + Ideal.exp (-x)) := rfl

/-- The block that every window is on at a grid point. -/
theorem idx : ∀ t : Fin cfg0.N, win0_0.index t = ![t.val / 2, t.val % 2]
    ∧ win0_1.index t = ![t.val / 2, t.val % 2 + 6]
    ∧ win0_2.index t = ![t.val / 2, t.val % 2 + 8]
    ∧ win0_3.index t = ![t.val / 2, t.val % 2]
    ∧ win0_4.index t = ![t.val / 2, t.val % 2] :=
  (by decide +kernel : ∀ t : Fin grid0.N, _)

/-- The linear half's gradient, as the reference computes it of the arguments in memory. -/
def result0 : FVec Ideal S4096x1024 .bf16 :=
  Cert.Reference24Ideal.Read.val_main_v15 (F := Ideal) (m ((c : Thread nD τ).loc main_arg0)) (m ((c : Thread nD τ).loc main_arg1))

/-- The launch writes it. -/
theorem final0 : (dats m 0 c).arrAt 3 cfg0.N = result0 m c := by
  refine (dats m 0 c).arrAt_eq_of_covers 3 _ (by decide +kernel) fun t hf y => ?_
  blk_simp
  rw [after0_3]
  frame_out
  unfold result0
  pointwise [k0_pay1, k0_pay2, logistic_eq, Cert.Reference24Ideal.Read.val_main_v0, Cert.Reference24Ideal.Read.val_main_v1, Cert.Reference24Ideal.Read.val_main_v2, Cert.Reference24Ideal.Read.val_main_v3, Cert.Reference24Ideal.Read.val_main_cst, Cert.Reference24Ideal.Read.val_main_v4, Cert.Reference24Ideal.Read.val_main_v5, Cert.Reference24Ideal.Read.val_main_cst_0, Cert.Reference24Ideal.Read.val_main_v6, Cert.Reference24Ideal.Read.val_main_v7, Cert.Reference24Ideal.Read.val_main_cst_1, Cert.Reference24Ideal.Read.val_main_v8, Cert.Reference24Ideal.Read.val_main_v9, Cert.Reference24Ideal.Read.val_main_v10, Cert.Reference24Ideal.Read.val_main_v11, Cert.Reference24Ideal.Read.val_main_v12, Cert.Reference24Ideal.Read.val_main_v13, Cert.Reference24Ideal.Read.val_main_v14, Cert.Reference24Ideal.Read.val_main_v15, Cert.Reference24Ideal.Read.val_main_v16]
  blk_point [iblk, V, idx t]

/-- The gate half's gradient, as the reference computes it of the arguments in memory. -/
def result1 : FVec Ideal S4096x1024 .bf16 :=
  Cert.Reference24Ideal.Read.val_main_v16 (F := Ideal) (m ((c : Thread nD τ).loc main_arg0)) (m ((c : Thread nD τ).loc main_arg1))

/-- The launch writes it. -/
theorem final1 : (dats m 0 c).arrAt 4 cfg0.N = result1 m c := by
  refine (dats m 0 c).arrAt_eq_of_covers 4 _ (by decide +kernel) fun t hf y => ?_
  blk_simp
  rw [after0_4]
  frame_out
  unfold result1
  pointwise [k0_pay1, k0_pay3, logistic_eq, Cert.Reference24Ideal.Read.val_main_v0, Cert.Reference24Ideal.Read.val_main_v1, Cert.Reference24Ideal.Read.val_main_v2, Cert.Reference24Ideal.Read.val_main_v3, Cert.Reference24Ideal.Read.val_main_cst, Cert.Reference24Ideal.Read.val_main_v4, Cert.Reference24Ideal.Read.val_main_v5, Cert.Reference24Ideal.Read.val_main_cst_0, Cert.Reference24Ideal.Read.val_main_v6, Cert.Reference24Ideal.Read.val_main_v7, Cert.Reference24Ideal.Read.val_main_cst_1, Cert.Reference24Ideal.Read.val_main_v8, Cert.Reference24Ideal.Read.val_main_v9, Cert.Reference24Ideal.Read.val_main_v10, Cert.Reference24Ideal.Read.val_main_v11, Cert.Reference24Ideal.Read.val_main_v12, Cert.Reference24Ideal.Read.val_main_v13, Cert.Reference24Ideal.Read.val_main_v14, Cert.Reference24Ideal.Read.val_main_v15, Cert.Reference24Ideal.Read.val_main_v16]
  blk_point [iblk, V, idx t]

/-- The kernel's ideal results are the reference's, for every input. -/
theorem algebraic : Cert.algebraic_Kernel24Ideal_Reference24Ideal := by
  pair_intro
  · run_from Cert.Kernel24Ideal.Gen.run_main m g
  · hlo_run
    · exact (final0 m c).symm
    · exact (final1 m c).symm

/-- The kernel changes nothing but its results, over the machine's own floats. -/
theorem frame_kernel : Cert.quiescent_Kernel24 :=
  fun m ρ _ => Cert.Kernel24.Gen.frame m ρ

/-- The same over the extended reals. -/
theorem frame_ideal : Cert.quiescent_Kernel24Ideal :=
  fun m ρ _ => Cert.Kernel24Ideal.Gen.frame m ρ

/-- The reference changes nothing but its results. -/
theorem frame_ref : Cert.quiescent_Reference24Ideal := by
  intro m ρ _
  hlo_run
  · exact fun c => by simp
  · exact sem_eq_zero_of_no_sems (by decide) _

end Cert.GluGrad

end
-- ==== Proof.CfLnGrad.lean ====
/- The gradient of the layer norm and its SiLU. -/
module

public import proofs.«01_k».proof.Defs
public import proofs.«01_k».proof.Proof.Gen.Kernel25.Frame
public import proofs.«01_k».proof.Proof.Gen.Kernel25Ideal.Frame
public import proofs.«01_k».proof.Proof.Gen.Reference25Ideal.Read
public import Idealize.ShloMosaic.Lib.Pipeline.ValueKit
public import Idealize.ShloMosaic.Lib.Claim

@[expose] public section

set_option maxRecDepth 16384

noncomputable section

namespace Cert.CfLnGrad

open Cert.Kernel25Ideal Cert.Kernel25Ideal.Gen
open Idealize.ShloMosaic Idealize.ShloMosaic.TcCoe Idealize.SL.Sem

variable (m : (ℓ : Loc nD τ sig) → Buf (Elt Ideal) ℓ) (c : Dev nD)

section Row

variable (x : FVec Ideal S256x1024 .f32) (X : FVec Ideal S4096x1024 .f32) (y : FVec Ideal S256x1024 .f32) (Y : FVec Ideal S4096x2048 .f32)
  (g b : FVec Ideal S1x1024 .f32) (G B : FVec Ideal S1024 .f32) (r : Fin 256) (n : Fin 4096)
  (hx : ∀ q : Fin 1024, x (ix2 r q) = X (ix2 n q))
  (hy : ∀ (q : Fin 1024) (h : 1024 + (q : ℕ) < 2048), y (ix2 r q) = Y (ix2 n ⟨1024 + (q : ℕ), h⟩))
  (hg : ∀ (u : Fin 1) (q : Fin 1024), g (ix2 u q) = G (ix1 q))
  (hb : ∀ (u : Fin 1) (q : Fin 1024), b (ix2 u q) = B (ix1 q))

include hx in
theorem mean (q : Fin 1024) : k0_pay4 (F := Ideal) x (ix2 r q) = Cert.Reference25Ideal.Read.val_main_v5 (F := Ideal) X (ix2 n q) := by
  pointwise [k0_pay4, Cert.Reference25Ideal.Read.val_main_v5, Cert.Reference25Ideal.Read.val_main_v4, Cert.Reference25Ideal.Read.val_main_v3, Cert.Reference25Ideal.Read.val_main_v2, Cert.Reference25Ideal.Read.val_main_cst_0, Cert.Reference25Ideal.Read.val_main_v1, Cert.Reference25Ideal.Read.val_main_v0, Cert.Reference25Ideal.Read.val_main_cst]
  simp only [hx]

include hx in
theorem var (u : Fin 1) : k0_pay5 (F := Ideal) x (ix2 r u) = Cert.Reference25Ideal.Read.val_main_v12 (F := Ideal) X (ix2 n u) := by
  pointwise [k0_pay5, Cert.Reference25Ideal.Read.val_main_v12, Cert.Reference25Ideal.Read.val_main_v11, Cert.Reference25Ideal.Read.val_main_cst_3, Cert.Reference25Ideal.Read.val_main_v10, Cert.Reference25Ideal.Read.val_main_v9, Cert.Reference25Ideal.Read.val_main_cst_2, Cert.Reference25Ideal.Read.val_main_v8, Cert.Reference25Ideal.Read.val_main_v7, Cert.Reference25Ideal.Read.val_main_cst_1, Cert.Reference25Ideal.Read.val_main_v6]
  simp only [mean x X r n hx]

include hx in
theorem root (u : Fin 1) : k0_pay6 (F := Ideal) x (ix2 r u) = Cert.Reference25Ideal.Read.val_main_v13 (F := Ideal) X (ix2 n u) := by
  pointwise [k0_pay6, Cert.Reference25Ideal.Read.val_main_v13]
  simp only [var x X r n hx]

include hx in
theorem slope (u : Fin 1) : k0_pay7 (F := Ideal) x (ix2 r u) = Cert.Reference25Ideal.Read.val_main_v16 (F := Ideal) X (ix2 n u) := by
  pointwise [k0_pay7, Cert.Reference25Ideal.Read.val_main_v16, Cert.Reference25Ideal.Read.val_main_v15, Cert.Reference25Ideal.Read.val_main_cst_4, Cert.Reference25Ideal.Read.val_main_v14]
  simp only [var x X r n hx, root x X r n hx]

include hx in
theorem normed (q : Fin 1024) : k0_pay8 (F := Ideal) x (ix2 r q) = Cert.Reference25Ideal.Read.val_main_v18 (F := Ideal) X (ix2 n q) := by
  pointwise [k0_pay8, Cert.Reference25Ideal.Read.val_main_v18, Cert.Reference25Ideal.Read.val_main_v17]
  simp only [mean x X r n hx, root x X r n hx]

include hx hy hg hb in
theorem dsilu (q : Fin 1024) : k0_pay9 (F := Ideal) x g b y (ix2 r q) = Cert.Reference25Ideal.Read.val_main_v27 (F := Ideal) Y X G B (ix2 n q) := by
  pointwise [k0_pay9, k0_pay3, Cert.Reference25Ideal.Read.val_main_v27, Cert.Reference25Ideal.Read.val_main_call1_v2, Cert.Reference25Ideal.Read.val_main_call1_v1, Cert.Reference25Ideal.Read.val_main_call1_v0, Cert.Reference25Ideal.Read.val_main_v26, Cert.Reference25Ideal.Read.val_main_v25_1, Cert.Reference25Ideal.Read.val_main_call0_v7, Cert.Reference25Ideal.Read.val_main_call0_v6, Cert.Reference25Ideal.Read.val_main_call0_cst_1, Cert.Reference25Ideal.Read.val_main_v25_2, Cert.Reference25Ideal.Read.val_main_call0_v4, Cert.Reference25Ideal.Read.val_main_call0_cst_0, Cert.Reference25Ideal.Read.val_main_call0_v3, Cert.Reference25Ideal.Read.val_main_call0_v2, Cert.Reference25Ideal.Read.val_main_call0_cst, Cert.Reference25Ideal.Read.val_main_call0_v1, Cert.Reference25Ideal.Read.val_main_call0_v0, Cert.Reference25Ideal.Read.val_main_v24, Cert.Reference25Ideal.Read.val_main_v23, Cert.Reference25Ideal.Read.val_main_v22, Cert.Reference25Ideal.Read.val_main_v21, Cert.Reference25Ideal.Read.val_main_v20, Cert.Reference25Ideal.Read.val_main_v19]
  have hq := q.isLt
  simp only [normed x X r n hx, hg, hb, hy q (by omega)]
  rfl

include hx hy hg hb in
theorem dx (q : Fin 1024) : k0_pay10 (F := Ideal) (k0_pay3 g) (k0_pay4 x) (k0_pay6 x) (k0_pay7 x) (k0_pay9 x g b y) (ix2 r q)
    = Cert.Reference25Ideal.Read.val_main_v58 (F := Ideal) Y X G B (ix2 n q) := by
  pointwise [k0_pay10, k0_pay3, Cert.Reference25Ideal.Read.val_main_v37, Cert.Reference25Ideal.Read.val_main_v38, Cert.Reference25Ideal.Read.val_main_v39, Cert.Reference25Ideal.Read.val_main_v40, Cert.Reference25Ideal.Read.val_main_v41, Cert.Reference25Ideal.Read.val_main_v42, Cert.Reference25Ideal.Read.val_main_v43, Cert.Reference25Ideal.Read.val_main_v44, Cert.Reference25Ideal.Read.val_main_v45, Cert.Reference25Ideal.Read.val_main_v46, Cert.Reference25Ideal.Read.val_main_v47, Cert.Reference25Ideal.Read.val_main_v48, Cert.Reference25Ideal.Read.val_main_v49, Cert.Reference25Ideal.Read.val_main_v50, Cert.Reference25Ideal.Read.val_main_v51, Cert.Reference25Ideal.Read.val_main_v52, Cert.Reference25Ideal.Read.val_main_v53, Cert.Reference25Ideal.Read.val_main_v54, Cert.Reference25Ideal.Read.val_main_v55, Cert.Reference25Ideal.Read.val_main_v56, Cert.Reference25Ideal.Read.val_main_v57, Cert.Reference25Ideal.Read.val_main_v58, Cert.Reference25Ideal.Read.val_main_v34, Cert.Reference25Ideal.Read.val_main_v35, Cert.Reference25Ideal.Read.val_main_v19, Cert.Reference25Ideal.Read.val_main_cst_9, Cert.Reference25Ideal.Read.val_main_cst_10, Cert.Reference25Ideal.Read.val_main_cst_11, Cert.Reference25Ideal.Read.val_main_cst_12, Cert.Reference25Ideal.Read.val_main_cst_13, Cert.Reference25Ideal.Read.val_main_cst_14]
  have z (a : EReal) : 0 - a = -a := by rw [sub_eq_add_neg, zero_add]
  simp only [mean x X r n hx, root x X r n hx, slope x X r n hx, dsilu x X y Y g b G B r n hx hy hg hb, hg, z]

/-- One block's part of the scale's gradient. -/
def gainTerm (x y : FVec Ideal S256x1024 .f32) (g b : FVec Ideal S1x1024 .f32) (j : S1x1024.Idx) : EReal :=
  ∑ r : Fin 256, k0_pay8 (F := Ideal) x (ix2 r (j 1)) * k0_pay9 (F := Ideal) x g b y (ix2 r (j 1))

/-- One block's part of the shift's gradient. -/
def shiftTerm (x y : FVec Ideal S256x1024 .f32) (g b : FVec Ideal S1x1024 .f32) (j : S1x1024.Idx) : EReal :=
  ∑ r : Fin 256, k0_pay9 (F := Ideal) x g b y (ix2 r (j 1))

/-- The scale's block after a point. -/
theorem gain_add (v : FVec Ideal S1x1024 .f32) (j : S1x1024.Idx) :
    k0_pay11 (F := Ideal) (k0_pay8 x) (k0_pay9 x g b y) v j = v j + gainTerm x y g b j := by
  unfold gainTerm
  generalize k0_pay9 (F := Ideal) x g b y = p
  generalize k0_pay8 (F := Ideal) x = q
  pointwise [k0_pay11]

/-- The shift's block after a point. -/
theorem shift_add (v : FVec Ideal S1x1024 .f32) (j : S1x1024.Idx) :
    k0_pay12 (F := Ideal) (k0_pay9 x g b y) v j = v j + shiftTerm x y g b j := by
  unfold shiftTerm
  generalize k0_pay9 (F := Ideal) x g b y = p
  pointwise [k0_pay12]

end Row

/-- The scale's block starts at zero. -/
theorem gain_zero (j : S1x1024.Idx) : k0_pay1 (F := Ideal) j = 0 := by
  pointwise [k0_pay1]

/-- The shift's block starts at zero. -/
theorem shift_zero (j : S1x1024.Idx) : k0_pay2 (F := Ideal) j = 0 := by
  pointwise [k0_pay2]

/-- The block that every window is on at a grid point. -/
theorem idx : ∀ t : Fin cfg0.N, win0_0.index t = ![t.val % 16, 1] ∧ win0_1.index t = ![t.val % 16, 0]
    ∧ win0_2.index t = ![0, 0] ∧ win0_3.index t = ![0, 0] ∧ win0_4.index t = ![t.val % 16, 0]
    ∧ win0_5.index t = ![0, 0] ∧ win0_6.index t = ![0, 0] :=
  (by decide +kernel : ∀ t : Fin grid0.N, _)

/-- The cotangent's gradient block, at every grid point. -/
theorem dx_out (t : Fin cfg0.N) : (outsAt0 m c t.val t.isLt).1
    = k0_pay10 (F := Ideal) (k0_pay3 (iblk m c 2 t)) (k0_pay4 (iblk m c 1 t)) (k0_pay6 (iblk m c 1 t)) (k0_pay7 (iblk m c 1 t))
      (k0_pay9 (iblk m c 1 t) (iblk m c 2 t) (iblk m c 3 t) (iblk m c 0 t)) := by
  by_cases h : t.val % 16 = 0
  · rw [outsAt0_A m c t h]
    frame_out
  · rw [outsAt0_B m c t h]
    frame_out

theorem gain_step (t : Fin cfg0.N) (h : ¬t.val % 16 = 0) (j : S1x1024.Idx) : (outsAt0 m c t.val t.isLt).2.1 j
    = (outsAt0 m c (t.val - 1) (Nat.lt_of_le_of_lt (Nat.sub_le _ _) t.isLt)).2.1 j
      + gainTerm (iblk m c 1 t) (iblk m c 0 t) (iblk m c 2 t) (iblk m c 3 t) j := by
  rw [outsAt0_B m c t h]
  frame_out
  exact gain_add _ _ _ _ _ j

theorem gain_start (t : Fin cfg0.N) (h : t.val % 16 = 0) (j : S1x1024.Idx) : (outsAt0 m c t.val t.isLt).2.1 j
    = 0 + gainTerm (iblk m c 1 t) (iblk m c 0 t) (iblk m c 2 t) (iblk m c 3 t) j := by
  rw [outsAt0_A m c t h]
  frame_out
  exact (gain_add _ _ _ _ _ j).trans (congrArg (· + _) (gain_zero j))

theorem shift_step (t : Fin cfg0.N) (h : ¬t.val % 16 = 0) (j : S1x1024.Idx) : (outsAt0 m c t.val t.isLt).2.2 j
    = (outsAt0 m c (t.val - 1) (Nat.lt_of_le_of_lt (Nat.sub_le _ _) t.isLt)).2.2 j
      + shiftTerm (iblk m c 1 t) (iblk m c 0 t) (iblk m c 2 t) (iblk m c 3 t) j := by
  rw [outsAt0_B m c t h]
  frame_out
  exact shift_add _ _ _ _ _ j

theorem shift_start (t : Fin cfg0.N) (h : t.val % 16 = 0) (j : S1x1024.Idx) : (outsAt0 m c t.val t.isLt).2.2 j
    = 0 + shiftTerm (iblk m c 1 t) (iblk m c 0 t) (iblk m c 2 t) (iblk m c 3 t) j := by
  rw [outsAt0_A m c t h]
  frame_out
  exact (shift_add _ _ _ _ _ j).trans (congrArg (· + _) (shift_zero j))

section Blocks

variable (t : Fin cfg0.N) (r : Fin 256) (n : Fin 4096) (hn : (n : ℕ) = t.val % 16 * 256 + r)

include hn in
theorem x_block (q : Fin 1024) : iblk m c 1 t (ix2 r q) = (m ((c : Thread nD τ).loc main_arg1)) (ix2 n q) := by
  blk_point [iblk, V, idx t]

include hn in
theorem y_block (q : Fin 1024) (h : 1024 + (q : ℕ) < 2048) : iblk m c 0 t (ix2 r q) = (m ((c : Thread nD τ).loc main_arg0)) (ix2 n ⟨1024 + (q : ℕ), h⟩) := by
  blk_point [iblk, V, idx t]

/-- A vector laid out as one row, read at a column. -/
theorem row_read (B : FVec Ideal S1024 .f32) (j : S1x1024.Idx) :
    shapeCast S1x1024 B shapeCasts_S1024_S1x1024 j = B (ix1 (j 1)) := by
  obtain ⟨u, q, rfl⟩ : ∃ (u : Fin 1) (q : Fin 1024), j = ix2 u q := ⟨j 0, j 1, by funext i; fin_cases i <;> rfl⟩
  pointwise []

theorem g_block (u : Fin 1) (q : Fin 1024) : iblk m c 2 t (ix2 u q) = (m ((c : Thread nD τ).loc main_arg2)) (ix1 q) := by
  have hV : V m c main_v0 = shapeCast S1x1024 (m ((c : Thread nD τ).loc main_arg2)) shapeCasts_S1024_S1x1024 := by
    unfold V V0
    simp only [List.flatten_cons, List.flatten_nil, List.append_nil]
    after_results
    try rfl
  unfold iblk
  rw [hV]
  show shapeCast S1x1024 _ shapeCasts_S1024_S1x1024 _ = _
  refine (row_read _ _).trans ?_
  blk_point [idx t]

theorem b_block (u : Fin 1) (q : Fin 1024) : iblk m c 3 t (ix2 u q) = (m ((c : Thread nD τ).loc main_arg3)) (ix1 q) := by
  have hV : V m c main_v1 = shapeCast S1x1024 (m ((c : Thread nD τ).loc main_arg3)) shapeCasts_S1024_S1x1024 := by
    unfold V V0
    simp only [List.flatten_cons, List.flatten_nil, List.append_nil]
    after_results
    try rfl
  unfold iblk
  rw [hV]
  show shapeCast S1x1024 _ shapeCasts_S1024_S1x1024 _ = _
  refine (row_read _ _).trans ?_
  blk_point [idx t]

end Blocks

/-- The input's gradient, as the reference computes it of the arguments in memory. -/
def dxResult : FVec Ideal S4096x1024 .f32 :=
  Cert.Reference25Ideal.Read.val_main_v58 (F := Ideal) (m ((c : Thread nD τ).loc main_arg0)) (m ((c : Thread nD τ).loc main_arg1)) (m ((c : Thread nD τ).loc main_arg2)) (m ((c : Thread nD τ).loc main_arg3))

/-- The scale's gradient. -/
def gainResult : FVec Ideal S1024 .f32 :=
  Cert.Reference25Ideal.Read.val_main_v36 (F := Ideal) (m ((c : Thread nD τ).loc main_arg0)) (m ((c : Thread nD τ).loc main_arg1)) (m ((c : Thread nD τ).loc main_arg2)) (m ((c : Thread nD τ).loc main_arg3))

/-- The shift's gradient. -/
def shiftResult : FVec Ideal S1024 .f32 :=
  Cert.Reference25Ideal.Read.val_main_v30 (F := Ideal) (m ((c : Thread nD τ).loc main_arg0)) (m ((c : Thread nD τ).loc main_arg1)) (m ((c : Thread nD τ).loc main_arg2)) (m ((c : Thread nD τ).loc main_arg3))

/-- The input's gradient at a grid point's block. -/
theorem dx_point (t : Fin cfg0.N) (y : S256x1024.Idx) (J : S4096x1024.Idx) (h0 : (J 0 : ℕ) = t.val % 16 * 256 + y 0) (h1 : (J 1 : ℕ) = y 1) :
    k0_pay10 (F := Ideal) (k0_pay3 (iblk m c 2 t)) (k0_pay4 (iblk m c 1 t)) (k0_pay6 (iblk m c 1 t)) (k0_pay7 (iblk m c 1 t))
      (k0_pay9 (iblk m c 1 t) (iblk m c 2 t) (iblk m c 3 t) (iblk m c 0 t)) y = dxResult m c J := by
  have e : J 1 = y 1 := Fin.ext h1
  rw [ValueIdx.eq_ix2 y, ValueIdx.eq_ix2 J, e]
  exact dx _ _ _ _ _ _ _ _ _ _ (x_block m c t _ _ h0) (y_block m c t _ _ h0) (g_block m c t) (b_block m c t) _

/-- The first array the launch writes is the reference's. -/
theorem dx_final : (dats m 0 c).arrAt 4 cfg0.N = dxResult m c := by
  refine (dats m 0 c).arrAt_eq_of_covers 4 _ (by decide +kernel) fun t hf y => ?_
  blk_simp
  rw [after0_4, dx_out]
  refine dx_point m c t y _ ?_ ?_
  all_goals (blk_simp [idx t] <;> try omega)

/-- The second is the scale's gradient. -/
theorem gain_final : (dats m 0 c).arrAt 5 cfg0.N = fun j : S1x1024.Idx => gainResult m c (ix1 (j 1)) := by
  refine (dats m 0 c).arrAt_eq_of_covers 5 _ (by decide +kernel) fun t hf y => ?_
  have hr : t.val % 16 = 16 - 1 := (flush0_5 t).mp hf
  have ht : t.val < 16 := lt_of_lt_of_eq t.isLt (show cfg0.N = 16 from N_0)
  have e1 : ((win0_5.blk t).view.emb y 1 : ℕ) = (y 1 : ℕ) := by blk_simp [idx t]
  blk_simp
  rw [after0_5]
  refine (Pipeline.eq_sum_fin_of_reset_step_apply_of_flush (fun n h => (outsAt0 m c n h).2.1) 16 (fun _ => 0)
    (fun t j => gainTerm (iblk m c 1 t) (iblk m c 0 t) (iblk m c 2 t) (iblk m c 3 t) j) (gain_start m c) (gain_step m c) t hr y).trans ?_
  rw [zero_add]
  unfold gainTerm gainResult
  generalize (win0_5.blk t).view.emb y 1 = q at e1 ⊢
  have eq : q = y 1 := Fin.ext e1
  subst eq
  pointwise [Cert.Reference25Ideal.Read.val_main_v36, Cert.Reference25Ideal.Read.val_main_cst_8, Cert.Reference25Ideal.Read.val_main_v33, Cert.Reference25Ideal.Read.val_main_v32, Cert.Reference25Ideal.Read.val_main_cst_7, Cert.Reference25Ideal.Read.val_main_v31]
  refine Eq.trans ?_ (Fin.sum_univ_one _).symm
  refine Fin.sum_mul_add_congr fun s k hl => ?_
  have hs := s.isLt
  have hn : (⟨(s : ℕ) * 256 + (k : ℕ), hl⟩ : Fin 4096).val = (16 * (t.val / 16) + s.val) % 16 * 256 + k.val := by
    show (s : ℕ) * 256 + (k : ℕ) = _
    omega
  exact congrArg₂ (· * ·) (normed _ _ _ _ (x_block m c ⟨_, Pipeline.run_point_lt_of_flush t hr s⟩ k _ hn) _)
    (dsilu _ _ _ _ _ _ _ _ _ _ (x_block m c ⟨_, Pipeline.run_point_lt_of_flush t hr s⟩ k _ hn)
      (y_block m c ⟨_, Pipeline.run_point_lt_of_flush t hr s⟩ k _ hn) (g_block m c _) (b_block m c _) _)

/-- The third is the shift's gradient. -/
theorem shift_final : (dats m 0 c).arrAt 6 cfg0.N = fun j : S1x1024.Idx => shiftResult m c (ix1 (j 1)) := by
  refine (dats m 0 c).arrAt_eq_of_covers 6 _ (by decide +kernel) fun t hf y => ?_
  have hr : t.val % 16 = 16 - 1 := (flush0_6 t).mp hf
  have ht : t.val < 16 := lt_of_lt_of_eq t.isLt (show cfg0.N = 16 from N_0)
  have e1 : ((win0_6.blk t).view.emb y 1 : ℕ) = (y 1 : ℕ) := by blk_simp [idx t]
  blk_simp
  rw [after0_6]
  refine (Pipeline.eq_sum_fin_of_reset_step_apply_of_flush (fun n h => (outsAt0 m c n h).2.2) 16 (fun _ => 0)
    (fun t j => shiftTerm (iblk m c 1 t) (iblk m c 0 t) (iblk m c 2 t) (iblk m c 3 t) j) (shift_start m c) (shift_step m c) t hr y).trans ?_
  rw [zero_add]
  unfold shiftTerm shiftResult
  generalize (win0_6.blk t).view.emb y 1 = q at e1 ⊢
  have eq : q = y 1 := Fin.ext e1
  subst eq
  pointwise [Cert.Reference25Ideal.Read.val_main_v30, Cert.Reference25Ideal.Read.val_main_cst_6, Cert.Reference25Ideal.Read.val_main_v29, Cert.Reference25Ideal.Read.val_main_v28, Cert.Reference25Ideal.Read.val_main_cst_5]
  refine Eq.trans ?_ (Fin.sum_univ_one _).symm
  refine Fin.sum_mul_add_congr fun s k hl => ?_
  have hs := s.isLt
  have hn : (⟨(s : ℕ) * 256 + (k : ℕ), hl⟩ : Fin 4096).val = (16 * (t.val / 16) + s.val) % 16 * 256 + k.val := by
    show (s : ℕ) * 256 + (k : ℕ) = _
    omega
  exact dsilu _ _ _ _ _ _ _ _ _ _ (x_block m c ⟨_, Pipeline.run_point_lt_of_flush t hr s⟩ k _ hn)
      (y_block m c ⟨_, Pipeline.run_point_lt_of_flush t hr s⟩ k _ hn) (g_block m c _) (b_block m c _) _

/-- A row read as a vector. -/
theorem row_vector (B : FVec Ideal S1024 .f32) :
    shapeCast S1024 (fun j : S1x1024.Idx => B (ix1 (j 1))) shapeCasts_S1x1024_S1024 = B := by
  funext j
  pointwise []

/-- The host reads the scale's row as a vector. -/
theorem gain_tail : Pipeline.afterTail₀ cfgs (dats m) 0 (V0 m) [hostOps1] c main_v3 = gainResult m c := by
  have hB := gain_final m c
  generalize gainResult m c = B at hB
  unfold Pipeline.afterTail₀
  simp only [List.flatten_cons, List.flatten_nil, List.append_nil]
  after_results
  erw [(dats m 0 c).withArrays_arrAt (by decide) (V0 m c) (fun _ => rfl) 5]
  rw [hB]
  exact row_vector B

/-- The host reads the shift's row as a vector. -/
theorem shift_tail : Pipeline.afterTail₀ cfgs (dats m) 0 (V0 m) [hostOps1] c main_v4 = shiftResult m c := by
  have hB := shift_final m c
  generalize shiftResult m c = B at hB
  unfold Pipeline.afterTail₀
  simp only [List.flatten_cons, List.flatten_nil, List.append_nil]
  after_results
  erw [(dats m 0 c).withArrays_arrAt (by decide) (V0 m c) (fun _ => rfl) 6]
  rw [hB]
  exact row_vector B

/-- The kernel's ideal results are the reference's, for every input. -/
theorem algebraic : Cert.algebraic_Kernel25Ideal_Reference25Ideal := by
  pair_intro
  · run_from Cert.Kernel25Ideal.Gen.run_main m g
    · exact W_main_arg2 m (dats m) c
    · exact W_main_arg3 m (dats m) c
  · hlo_run
    · exact (dx_final m c).symm
    · exact (gain_tail m c).symm
    · exact (shift_tail m c).symm

/-- The kernel changes nothing but its results, over the machine's own floats. -/
theorem frame_kernel : Cert.quiescent_Kernel25 :=
  fun m ρ _ => Cert.Kernel25.Gen.frame m ρ

/-- The same over the extended reals. -/
theorem frame_ideal : Cert.quiescent_Kernel25Ideal :=
  fun m ρ _ => Cert.Kernel25Ideal.Gen.frame m ρ

/-- The reference changes nothing but its results. -/
theorem frame_ref : Cert.quiescent_Reference25Ideal := by
  intro m ρ _
  hlo_run
  · exact fun c => by simp
  · exact sem_eq_zero_of_no_sems (by decide) _

end Cert.CfLnGrad

end
-- ==== Proof.ScMul.lean ====
/- The product the short convolution reads, block by block. -/
module

public import proofs.«01_k».proof.Defs
public import proofs.«01_k».proof.Proof.Gen.Kernel26.Frame
public import proofs.«01_k».proof.Proof.Gen.Kernel26Ideal.Frame
public import proofs.«01_k».proof.Proof.Gen.Reference26Ideal.Read
public import Idealize.ShloMosaic.Lib.Pipeline.ValueKit
public import Idealize.ShloMosaic.Lib.Claim

@[expose] public section

set_option maxRecDepth 16384

noncomputable section

namespace Cert.ScMul

open Cert.Kernel26Ideal Cert.Kernel26Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 2, t.val % 2 + 2]
    ∧ win0_1.index t = ![t.val / 2, t.val % 2 + 4]
    ∧ win0_2.index t = ![t.val / 2, t.val % 2] :=
  (by decide +kernel : ∀ t : Fin grid0.N, _)

/-- The product, as the reference computes it of the arguments in memory. -/
def result0 : FVec Ideal S4096x1024 .f32 :=
  Cert.Reference26Ideal.Read.val_main_v2 (F := Ideal) (m ((c : Thread nD τ).loc main_arg0))

/-- The launch writes it. -/
theorem final0 : (dats m 0 c).arrAt 2 cfg0.N = result0 m c := by
  refine (dats m 0 c).arrAt_eq_of_covers 2 _ (by decide +kernel) fun t hf y => ?_
  blk_simp
  rw [after0_2]
  frame_out
  unfold result0
  pointwise [k0_pay1, Cert.Reference26Ideal.Read.val_main_v0, Cert.Reference26Ideal.Read.val_main_v1, Cert.Reference26Ideal.Read.val_main_v2]
  blk_point [iblk, V, idx t]

/-- The kernel's ideal results are the reference's, for every input. -/
theorem algebraic : Cert.algebraic_Kernel26Ideal_Reference26Ideal := by
  pair_intro
  · run_from Cert.Kernel26Ideal.Gen.run_main m g
  · hlo_run
    exact (final0 m c).symm

/-- The kernel changes nothing but its results, over the machine's own floats. -/
theorem frame_kernel : Cert.quiescent_Kernel26 :=
  fun m ρ _ => Cert.Kernel26.Gen.frame m ρ

/-- The same over the extended reals. -/
theorem frame_ideal : Cert.quiescent_Kernel26Ideal :=
  fun m ρ _ => Cert.Kernel26Ideal.Gen.frame m ρ

/-- The reference changes nothing but its results. -/
theorem frame_ref : Cert.quiescent_Reference26Ideal := by
  intro m ρ _
  hlo_run
  · exact fun c => by simp
  · exact sem_eq_zero_of_no_sems (by decide) _

end Cert.ScMul

end
-- ==== Proof.ScOut.lean ====
/- The product of a gate with the short convolution, block by block. -/
module

public import proofs.«01_k».proof.Defs
public import proofs.«01_k».proof.Proof.Gen.Kernel27.Frame
public import proofs.«01_k».proof.Proof.Gen.Kernel27Ideal.Frame
public import proofs.«01_k».proof.Proof.Gen.Reference27Ideal.Read
public import Idealize.ShloMosaic.Lib.Pipeline.ValueKit
public import Idealize.ShloMosaic.Lib.Claim

@[expose] public section

set_option maxRecDepth 16384

noncomputable section

namespace Cert.ScOut

open Cert.Kernel27Ideal Cert.Kernel27Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val / 2, t.val % 2]
    ∧ win0_1.index t = ![t.val / 2, t.val % 2]
    ∧ win0_2.index t = ![t.val / 2, t.val % 2] :=
  (by decide +kernel : ∀ t : Fin grid0.N, _)

/-- The product, as the reference computes it of the arguments in memory. -/
def result0 : FVec Ideal S4096x1024 .bf16 :=
  Cert.Reference27Ideal.Read.val_main_v2 (F := Ideal) (m ((c : Thread nD τ).loc main_arg0)) (m ((c : Thread nD τ).loc main_arg1))

/-- The launch writes it. -/
theorem final0 : (dats m 0 c).arrAt 2 cfg0.N = result0 m c := by
  refine (dats m 0 c).arrAt_eq_of_covers 2 _ (by decide +kernel) fun t hf y => ?_
  blk_simp
  rw [after0_2]
  frame_out
  unfold result0
  pointwise [k0_pay1, Cert.Reference27Ideal.Read.val_main_v0, Cert.Reference27Ideal.Read.val_main_v1, Cert.Reference27Ideal.Read.val_main_v2]
  blk_point [iblk, V, idx t]

/-- The kernel's ideal results are the reference's, for every input. -/
theorem algebraic : Cert.algebraic_Kernel27Ideal_Reference27Ideal := by
  pair_intro
  · run_from Cert.Kernel27Ideal.Gen.run_main m g
  · hlo_run
    exact (final0 m c).symm

/-- The kernel changes nothing but its results, over the machine's own floats. -/
theorem frame_kernel : Cert.quiescent_Kernel27 :=
  fun m ρ _ => Cert.Kernel27.Gen.frame m ρ

/-- The same over the extended reals. -/
theorem frame_ideal : Cert.quiescent_Kernel27Ideal :=
  fun m ρ _ => Cert.Kernel27Ideal.Gen.frame m ρ

/-- The reference changes nothing but its results. -/
theorem frame_ref : Cert.quiescent_Reference27Ideal := by
  intro m ρ _
  hlo_run
  · exact fun c => by simp
  · exact sem_eq_zero_of_no_sems (by decide) _

end Cert.ScOut

end
-- ==== Proof.GluOut.lean ====
/- The gated linear unit, block by block. -/
module

public import proofs.«01_k».proof.Defs
public import proofs.«01_k».proof.Proof.Gen.Kernel28.Frame
public import proofs.«01_k».proof.Proof.Gen.Kernel28Ideal.Frame
public import proofs.«01_k».proof.Proof.Gen.Reference28Ideal.Read
public import Idealize.ShloMosaic.Lib.Pipeline.ValueKit
public import Idealize.ShloMosaic.Lib.Claim

@[expose] public section

set_option maxRecDepth 16384

noncomputable section

namespace Cert.GluOut

open Cert.Kernel28Ideal Cert.Kernel28Ideal.Gen
open Idealize.ShloMosaic Idealize.ShloMosaic.TcCoe Idealize.SL.Sem

variable (m : (ℓ : Loc nD τ sig) → Buf (Elt Ideal) ℓ) (c : Dev nD)

/-- The logistic function. -/
theorem logistic_eq (x : EReal) : Ideal.logistic x = Ideal.div 1 (1 + Ideal.exp (-x)) := rfl

/-- The block that every window is on at a grid point. -/
theorem idx : ∀ t : Fin cfg0.N, win0_0.index t = ![t.val / 2, t.val % 2 + 6]
    ∧ win0_1.index t = ![t.val / 2, t.val % 2 + 8]
    ∧ win0_2.index t = ![t.val / 2, t.val % 2] :=
  (by decide +kernel : ∀ t : Fin grid0.N, _)

/-- The unit, as the reference computes it of the arguments in memory. -/
def result0 : FVec Ideal S4096x1024 .f32 :=
  Cert.Reference28Ideal.Read.val_main_v8 (F := Ideal) (m ((c : Thread nD τ).loc main_arg0))

/-- The launch writes it. -/
theorem final0 : (dats m 0 c).arrAt 2 cfg0.N = result0 m c := by
  refine (dats m 0 c).arrAt_eq_of_covers 2 _ (by decide +kernel) fun t hf y => ?_
  blk_simp
  rw [after0_2]
  frame_out
  unfold result0
  pointwise [k0_pay1, logistic_eq, Cert.Reference28Ideal.Read.val_main_v0, Cert.Reference28Ideal.Read.val_main_v1, Cert.Reference28Ideal.Read.val_main_v2, Cert.Reference28Ideal.Read.val_main_v3, Cert.Reference28Ideal.Read.val_main_cst, Cert.Reference28Ideal.Read.val_main_v4, Cert.Reference28Ideal.Read.val_main_v5, Cert.Reference28Ideal.Read.val_main_cst_0, Cert.Reference28Ideal.Read.val_main_v6, Cert.Reference28Ideal.Read.val_main_v7, Cert.Reference28Ideal.Read.val_main_v8]
  blk_point [iblk, V, idx t]

/-- The kernel's ideal results are the reference's, for every input. -/
theorem algebraic : Cert.algebraic_Kernel28Ideal_Reference28Ideal := by
  pair_intro
  · run_from Cert.Kernel28Ideal.Gen.run_main m g
  · hlo_run
    exact (final0 m c).symm

/-- The kernel changes nothing but its results, over the machine's own floats. -/
theorem frame_kernel : Cert.quiescent_Kernel28 :=
  fun m ρ _ => Cert.Kernel28.Gen.frame m ρ

/-- The same over the extended reals. -/
theorem frame_ideal : Cert.quiescent_Kernel28Ideal :=
  fun m ρ _ => Cert.Kernel28Ideal.Gen.frame m ρ

/-- The reference changes nothing but its results. -/
theorem frame_ref : Cert.quiescent_Reference28Ideal := by
  intro m ρ _
  hlo_run
  · exact fun c => by simp
  · exact sem_eq_zero_of_no_sems (by decide) _

end Cert.GluOut

end
-- ==== Proof.ScConv.lean ====
/- The short convolution, block of rows by block of rows. -/
module

public import proofs.«01_k».proof.Defs
public import proofs.«01_k».proof.Proof.Gen.Kernel29.Frame
public import proofs.«01_k».proof.Proof.Gen.Kernel29Ideal.Frame
public import proofs.«01_k».proof.Proof.Gen.Reference29Ideal.Read
public import Idealize.ShloMosaic.Lib.Pipeline.ValueKit
public import Idealize.ShloMosaic.Lib.Claim

@[expose] public section

set_option maxRecDepth 16384

noncomputable section

namespace Cert.ScConv

open Cert.Kernel29Ideal Cert.Kernel29Ideal.Gen
open Idealize.ShloMosaic Idealize.ShloMosaic.TcCoe Idealize.SL.Sem

variable (m : (ℓ : Loc nD τ sig) → Buf (Elt Ideal) ℓ) (c : Dev nD)

/-- The block that every window is on at a grid point: the rows of the second window are the block before's. -/
theorem idx : ∀ t : Fin cfg0.N, win0_0.index t = ![t.val % 8, t.val / 8]
    ∧ win0_1.index t = ![t.val % 8 - 1, t.val / 8]
    ∧ win0_2.index t = ![0, t.val / 8]
    ∧ win0_3.index t = ![t.val % 8, t.val / 8] :=
  (by decide +kernel : ∀ t : Fin grid0.N, _)

/-- The second grid coordinate is the number of the block of rows. -/
theorem row_block : ∀ t : Fin cfg0.N, (grid0.coords t 1 : ℕ) = t.val % 8 :=
  (by decide +kernel : ∀ t : Fin grid0.N, _)

/-- A row of the input `d` rows earlier, zero before the first. -/
def rowBefore (X : FVec Ideal S4096x1024 .f32) (n d : ℕ) (q : Fin 1024) : EReal :=
  if h : d ≤ n ∧ n - d < 4096 then X (ix2 ⟨n - d, h.2⟩ q) else 0

/-- The block moved down by `d` rows: what enters comes from the block before, and is zero before the first. -/
def down (i : grid0.Coords) (a b : FVec Ideal S512x512 .f32) (j : S512x512.Idx) (d : ℕ) : EReal :=
  if (j 0 : ℕ) < d then (if 0 < (i 1 : ℕ) then b (ix2 ⟨((j 0 : ℕ) + 512 - d) % 512, Nat.mod_lt _ (by decide)⟩ (j 1)) else 0)
  else a (ix2 ⟨((j 0 : ℕ) + 512 - d) % 512, Nat.mod_lt _ (by decide)⟩ (j 1))

/-- A choice on the order of two small words is a choice on the numbers. -/
theorem select_slt (p q : ℕ) (hp : p < 2 ^ 31) (hq : q < 2 ^ 31) (x y : EReal) :
    Scalar.select (IntOp.cmpi .slt (BitVec.ofNat 32 p) (BitVec.ofNat 32 q)) x y = if p < q then x else y := by
  rw [WordCmp.cmpi_slt_ofNat hp hq]
  by_cases h : p < q <;> simp [Scalar.select, h]

/-- The same for the order the other way round. -/
theorem select_sgt (p q : ℕ) (hp : p < 2 ^ 31) (hq : q < 2 ^ 31) (x y : EReal) :
    Scalar.select (Scalar.cmpi .sgt (BitVec.ofNat 32 p) (BitVec.ofNat 32 q)) x y = if q < p then x else y := by
  refine (congrArg (fun s => Scalar.select s x y) (WordCmp.cmpi_sgt_ofNat hp hq)).trans ?_
  by_cases h : q < p <;> simp [Scalar.select, h]

/-- Two rotated blocks, joined at the row where the block before ends, are the block moved down. -/
theorem rot_at (i : grid0.Coords) (a b : FVec Ideal S512x512 .f32) (j : S512x512.Idx) (d : ℕ) (hd : d < 512) (h) (h') :
    Scalar.select (IntOp.cmpi .slt (BitVec.ofNat 32 (j 0 : ℕ)) (BitVec.ofNat 32 d))
      (Scalar.select (Scalar.cmpi .sgt (BitVec.ofNat 32 (i 1 : ℕ)) 0#32)
        (b (ix2 ⟨((j 0 : ℕ) + 512 - d) % 512, h⟩ (j 1))) 0)
      (a (ix2 ⟨((j 0 : ℕ) + 512 - d) % 512, h'⟩ (j 1))) = down i a b j d := by
  have h0 : (j 0 : ℕ) < 512 := (j 0).isLt
  have h1 : (i 1 : ℕ) < 8 := (i 1).isLt
  rw [select_slt _ _ (by omega) (by omega), select_sgt _ _ (by omega) (by omega)]
  rfl

/-- Moving by no rows. -/
theorem down_zero (i : grid0.Coords) (a b : FVec Ideal S512x512 .f32) (j : S512x512.Idx) : a j = down i a b j 0 := by
  have h0 : (j 0 : ℕ) < 512 := (j 0).isLt
  unfold down
  rw [if_neg (by omega)]
  have e : (⟨((j 0 : ℕ) + 512 - 0) % 512, Nat.mod_lt _ (by decide)⟩ : Fin 512) = j 0 :=
    Fin.ext (show ((j 0 : ℕ) + 512 - 0) % 512 = (j 0 : ℕ) by omega)
  rw [e]
  exact congrArg a (ValueIdx.eq_ix2 j)

/-- The block the kernel writes, of the blocks it reads. -/
abbrev blockOut (i : grid0.Coords) (a b : FVec Ideal S512x512 .f32) (w : FVec Ideal S3x512 .f32) : FVec Ideal S512x512 .f32 :=
  k0_pay1 (F := Ideal) i a b w

/-- One block of the result: each tap times the block moved down by as many rows as the tap is from the last. -/
theorem pay_at (i : grid0.Coords) (a b : FVec Ideal S512x512 .f32) (w : FVec Ideal S3x512 .f32) (j : S512x512.Idx) :
    blockOut i a b w j = w (ix2 0 (j 1)) * down i a b j 2
      + w (ix2 1 (j 1)) * down i a b j 1
      + w (ix2 2 (j 1)) * down i a b j 0 := by
  pointwise [blockOut, k0_pay1]
  exact congrArg₂ (· + ·) (congrArg₂ (· + ·) (congrArg (w (ix2 0 (j 1)) * ·) (rot_at i a b j 2 (by norm_num) _ _))
    (congrArg (w (ix2 1 (j 1)) * ·) (rot_at i a b j 1 (by norm_num) _ _)))
    (congrArg (w (ix2 2 (j 1)) * ·) (down_zero i a b j))

/-- A row of the input below the zero rows. -/
theorem row_at (x0 : FVec Ideal S4096x1024 .f32) {n : ℕ} (k d : ℕ) (hn : n < 4096) (q : Fin 1024) (hk : k + d = 2) :
    (if h : k + n < 2 then (0 : EReal) else x0 (ix2 ⟨k + n - 2, by omega⟩ q)) = rowBefore x0 n d q := by
  have e : k + n - 2 = n - d := by omega
  unfold rowBefore
  simp only [e]
  by_cases h₁ : d ≤ n
  · rw [dif_neg (by omega), dif_pos ⟨h₁, by omega⟩]
  · rw [dif_pos (by omega), dif_neg (fun h₂ => h₁ h₂.1)]

/-- The same for the first tap. -/
theorem row_first (x0 : FVec Ideal S4096x1024 .f32) {n : ℕ} (hn : n < 4096) (q : Fin 1024) :
    (if h : n < 2 then (0 : EReal) else x0 (ix2 ⟨n - 2, by omega⟩ q)) = rowBefore x0 n 2 q := by
  unfold rowBefore
  by_cases h₁ : 2 ≤ n
  · rw [dif_neg (by omega), dif_pos ⟨h₁, by omega⟩]
  · rw [dif_pos (by omega), dif_neg (fun h₂ => h₁ h₂.1)]

/-- The input's own row. -/
theorem row_zero (x0 : FVec Ideal S4096x1024 .f32) (j : S4096x1024.Idx) : x0 j = rowBefore x0 (j 0 : ℕ) 0 (j 1) := by
  unfold rowBefore
  rw [dif_pos ⟨Nat.zero_le _, (show (j 0 : ℕ) - 0 < 4096 from (j 0).isLt)⟩]
  exact congrArg x0 (ValueIdx.eq_ix2 j)

/-- The reference at an entry. -/
theorem ref_at (x0 : FVec Ideal S4096x1024 .f32) (x1 : FVec Ideal S3x1024 .f32) (j : S4096x1024.Idx) :
    Cert.Reference29Ideal.Read.val_main_v21 (F := Ideal) x0 x1 j = x1 (ix2 0 (j 1)) * rowBefore x0 (j 0 : ℕ) 2 (j 1)
      + x1 (ix2 1 (j 1)) * rowBefore x0 (j 0 : ℕ) 1 (j 1)
      + x1 (ix2 2 (j 1)) * rowBefore x0 (j 0 : ℕ) 0 (j 1) := by
  pointwise [Cert.Reference29Ideal.Read.val_main_cst, Cert.Reference29Ideal.Read.val_main_v0, Cert.Reference29Ideal.Read.val_main_v1, Cert.Reference29Ideal.Read.val_main_v2, Cert.Reference29Ideal.Read.val_main_v3, Cert.Reference29Ideal.Read.val_main_v4, Cert.Reference29Ideal.Read.val_main_v5, Cert.Reference29Ideal.Read.val_main_v6, Cert.Reference29Ideal.Read.val_main_v7, Cert.Reference29Ideal.Read.val_main_v8, Cert.Reference29Ideal.Read.val_main_v9, Cert.Reference29Ideal.Read.val_main_v10, Cert.Reference29Ideal.Read.val_main_v11, Cert.Reference29Ideal.Read.val_main_v12, Cert.Reference29Ideal.Read.val_main_v13, Cert.Reference29Ideal.Read.val_main_v14, Cert.Reference29Ideal.Read.val_main_v15, Cert.Reference29Ideal.Read.val_main_v16, Cert.Reference29Ideal.Read.val_main_v17, Cert.Reference29Ideal.Read.val_main_v18, Cert.Reference29Ideal.Read.val_main_v19, Cert.Reference29Ideal.Read.val_main_v20, Cert.Reference29Ideal.Read.val_main_v21]
  exact congrArg₂ (· + ·) (congrArg₂ (· + ·) (congrArg (x1 (ix2 0 (j 1)) * ·) (row_first x0 (j 0).isLt (j 1)))
    (congrArg (x1 (ix2 1 (j 1)) * ·) (row_at x0 1 1 (j 0).isLt (j 1) (by norm_num))))
    (congrArg (x1 (ix2 2 (j 1)) * ·) (row_zero x0 j))

/-- A moved block of the input is the input, moved. -/
theorem down_block (t : Fin cfg0.N) (y : S512x512.Idx) (j : S4096x1024.Idx) (hj0 : (j 0 : ℕ) = t.val % 8 * 512 + y 0)
    (hj1 : (j 1 : ℕ) = t.val / 8 * 512 + y 1) (d : ℕ) (hd : d < 3) :
    down (grid0.coords t) (iblk m c 0 t) (iblk m c 1 t) y d = rowBefore (m ((c : Thread nD τ).loc main_arg0)) (j 0 : ℕ) d (j 1) := by
  have h0 : (y 0 : ℕ) < 512 := (y 0).isLt
  have ht : t.val % 8 < 8 := Nat.mod_lt _ (by decide)
  have hj : (j 0 : ℕ) < 4096 := (j 0).isLt
  unfold down rowBefore
  rw [row_block t]
  by_cases hu : (y 0 : ℕ) < d
  · rw [if_pos hu]
    by_cases hn : 0 < t.val % 8
    · rw [if_pos hn, dif_pos (by omega)]
      blk_point [iblk, V, idx t]
    · rw [if_neg hn, dif_neg (by omega)]
  · rw [if_neg hu, dif_pos (by omega)]
    blk_point [iblk, V, idx t]

/-- A row of taps read at a grid point. -/
theorem w_block (t : Fin cfg0.N) (y : S512x512.Idx) (j : S4096x1024.Idx)
    (hj1 : (j 1 : ℕ) = t.val / 8 * 512 + y 1) (k : Fin 3) :
    (show FVec Ideal S3x512 .f32 from iblk m c 2 t) (ix2 k (y 1)) = (m ((c : Thread nD τ).loc main_arg1)) (ix2 k (j 1)) := by
  blk_point [iblk, V, idx t]

/-- What the reference computes of the arguments in memory. -/
def result : FVec Ideal S4096x1024 .f32 :=
  Cert.Reference29Ideal.Read.val_main_v21 (F := Ideal) (m ((c : Thread nD τ).loc main_arg0)) (m ((c : Thread nD τ).loc main_arg1))

/-- One entry of a block is the reference's. -/
theorem point (t : Fin cfg0.N) (y : S512x512.Idx) (j : S4096x1024.Idx) (hj0 : (j 0 : ℕ) = t.val % 8 * 512 + y 0)
    (hj1 : (j 1 : ℕ) = t.val / 8 * 512 + y 1) :
    blockOut (grid0.coords t) (iblk m c 0 t) (iblk m c 1 t) (iblk m c 2 t) y = result m c j := by
  refine (pay_at _ _ _ _ _).trans (Eq.trans ?_ (ref_at _ _ _).symm)
  rw [down_block m c t y j hj0 hj1 2 (by norm_num)]
  rw [down_block m c t y j hj0 hj1 1 (by norm_num)]
  rw [down_block m c t y j hj0 hj1 0 (by norm_num)]
  have hw := w_block m c t y j hj1
  rw [show (iblk m c 2 t : FVec Ideal S3x512 .f32) (ix2 0 (y 1)) = _ from hw 0]
  rw [show (iblk m c 2 t : FVec Ideal S3x512 .f32) (ix2 1 (y 1)) = _ from hw 1]
  rw [show (iblk m c 2 t : FVec Ideal S3x512 .f32) (ix2 2 (y 1)) = _ from hw 2]
/-- The array the launch writes is the reference's. -/
theorem final : (dats m 0 c).arrAt 3 cfg0.N = result m c := by
  refine (dats m 0 c).arrAt_eq_of_covers 3 _ (by decide +kernel) fun t hf y => ?_
  blk_simp
  rw [after0_3]
  frame_out
  refine point m c t y _ ?_ ?_
  all_goals (blk_simp [idx t] <;> try omega)

/-- The kernel's ideal result is the reference's, for every input. -/
theorem algebraic : Cert.algebraic_Kernel29Ideal_Reference29Ideal := by
  pair_intro
  · run_from Cert.Kernel29Ideal.Gen.run_main m g
  · hlo_run
    exact (final m c).symm

/-- The kernel changes nothing but its results, over the machine's own floats. -/
theorem frame_kernel : Cert.quiescent_Kernel29 :=
  fun m ρ _ => Cert.Kernel29.Gen.frame m ρ

/-- The same over the extended reals. -/
theorem frame_ideal : Cert.quiescent_Kernel29Ideal :=
  fun m ρ _ => Cert.Kernel29Ideal.Gen.frame m ρ

/-- The reference changes nothing but its results. -/
theorem frame_ref : Cert.quiescent_Reference29Ideal := by
  intro m ρ _
  hlo_run
  · exact fun c => by simp
  · exact sem_eq_zero_of_no_sems (by decide) _

end Cert.ScConv

end
-- ==== Proof.LruConv.lean ====
/- The convolution before the recurrence, block of rows by block of rows. -/
module

public import proofs.«01_k».proof.Defs
public import proofs.«01_k».proof.Proof.Gen.Kernel30.Frame
public import proofs.«01_k».proof.Proof.Gen.Kernel30Ideal.Frame
public import proofs.«01_k».proof.Proof.Gen.Reference30Ideal.Read
public import Idealize.ShloMosaic.Lib.Pipeline.ValueKit
public import Idealize.ShloMosaic.Lib.Claim

@[expose] public section

set_option maxRecDepth 16384

noncomputable section

namespace Cert.LruConv

open Cert.Kernel30Ideal Cert.Kernel30Ideal.Gen
open Idealize.ShloMosaic Idealize.ShloMosaic.TcCoe Idealize.SL.Sem

variable (m : (ℓ : Loc nD τ sig) → Buf (Elt Ideal) ℓ) (c : Dev nD)

/-- The block that every window is on at a grid point: the rows of the second window are the block before's. -/
theorem idx : ∀ t : Fin cfg0.N, win0_0.index t = ![t.val % 8, t.val / 8]
    ∧ win0_1.index t = ![t.val % 8 - 1, t.val / 8]
    ∧ win0_2.index t = ![0, t.val / 8]
    ∧ win0_3.index t = ![0, t.val / 8]
    ∧ win0_4.index t = ![t.val % 8, t.val / 8] :=
  (by decide +kernel : ∀ t : Fin grid0.N, _)

/-- The second grid coordinate is the number of the block of rows. -/
theorem row_block : ∀ t : Fin cfg0.N, (grid0.coords t 1 : ℕ) = t.val % 8 :=
  (by decide +kernel : ∀ t : Fin grid0.N, _)

/-- A row of the input `d` rows earlier, zero before the first. -/
def rowBefore (X : FVec Ideal S4096x6144 .f32) (n d : ℕ) (q : Fin 6144) : EReal :=
  if h : d ≤ n ∧ n - d < 4096 then X (ix2 ⟨n - d, h.2⟩ q) else 0

/-- The block moved down by `d` rows: what enters comes from the block before, and is zero before the first. -/
def down (i : grid0.Coords) (a b : FVec Ideal S512x512 .f32) (j : S512x512.Idx) (d : ℕ) : EReal :=
  if (j 0 : ℕ) < d then (if 0 < (i 1 : ℕ) then b (ix2 ⟨((j 0 : ℕ) + 512 - d) % 512, Nat.mod_lt _ (by decide)⟩ (j 1)) else 0)
  else a (ix2 ⟨((j 0 : ℕ) + 512 - d) % 512, Nat.mod_lt _ (by decide)⟩ (j 1))

/-- A choice on the order of two small words is a choice on the numbers. -/
theorem select_slt (p q : ℕ) (hp : p < 2 ^ 31) (hq : q < 2 ^ 31) (x y : EReal) :
    Scalar.select (IntOp.cmpi .slt (BitVec.ofNat 32 p) (BitVec.ofNat 32 q)) x y = if p < q then x else y := by
  rw [WordCmp.cmpi_slt_ofNat hp hq]
  by_cases h : p < q <;> simp [Scalar.select, h]

/-- The same for the order the other way round. -/
theorem select_sgt (p q : ℕ) (hp : p < 2 ^ 31) (hq : q < 2 ^ 31) (x y : EReal) :
    Scalar.select (Scalar.cmpi .sgt (BitVec.ofNat 32 p) (BitVec.ofNat 32 q)) x y = if q < p then x else y := by
  refine (congrArg (fun s => Scalar.select s x y) (WordCmp.cmpi_sgt_ofNat hp hq)).trans ?_
  by_cases h : q < p <;> simp [Scalar.select, h]

/-- Two rotated blocks, joined at the row where the block before ends, are the block moved down. -/
theorem rot_at (i : grid0.Coords) (a b : FVec Ideal S512x512 .f32) (j : S512x512.Idx) (d : ℕ) (hd : d < 512) (h) (h') :
    Scalar.select (IntOp.cmpi .slt (BitVec.ofNat 32 (j 0 : ℕ)) (BitVec.ofNat 32 d))
      (Scalar.select (Scalar.cmpi .sgt (BitVec.ofNat 32 (i 1 : ℕ)) 0#32)
        (b (ix2 ⟨((j 0 : ℕ) + 512 - d) % 512, h⟩ (j 1))) 0)
      (a (ix2 ⟨((j 0 : ℕ) + 512 - d) % 512, h'⟩ (j 1))) = down i a b j d := by
  have h0 : (j 0 : ℕ) < 512 := (j 0).isLt
  have h1 : (i 1 : ℕ) < 8 := (i 1).isLt
  rw [select_slt _ _ (by omega) (by omega), select_sgt _ _ (by omega) (by omega)]
  rfl

/-- Moving by no rows. -/
theorem down_zero (i : grid0.Coords) (a b : FVec Ideal S512x512 .f32) (j : S512x512.Idx) : a j = down i a b j 0 := by
  have h0 : (j 0 : ℕ) < 512 := (j 0).isLt
  unfold down
  rw [if_neg (by omega)]
  have e : (⟨((j 0 : ℕ) + 512 - 0) % 512, Nat.mod_lt _ (by decide)⟩ : Fin 512) = j 0 :=
    Fin.ext (show ((j 0 : ℕ) + 512 - 0) % 512 = (j 0 : ℕ) by omega)
  rw [e]
  exact congrArg a (ValueIdx.eq_ix2 j)

/-- The block the kernel writes, of the blocks it reads. -/
abbrev blockOut (i : grid0.Coords) (a b : FVec Ideal S512x512 .f32) (w : FVec Ideal S4x512 .f32) (v : FVec Ideal S1x512 .f32) : FVec Ideal S512x512 .f32 :=
  k0_pay1 (F := Ideal) (k0_pay2 i a b w) (k0_pay3 a w) v

/-- One block of the result: each tap times the block moved down by as many rows as the tap is from the last. -/
theorem pay_at (i : grid0.Coords) (a b : FVec Ideal S512x512 .f32) (w : FVec Ideal S4x512 .f32) (v : FVec Ideal S1x512 .f32) (j : S512x512.Idx) :
    blockOut i a b w v j = w (ix2 0 (j 1)) * down i a b j 3
      + w (ix2 1 (j 1)) * down i a b j 2
      + w (ix2 2 (j 1)) * down i a b j 1
      + w (ix2 3 (j 1)) * down i a b j 0
      + v (ix2 0 (j 1)) := by
  pointwise [blockOut, k0_pay1, k0_pay2, k0_pay3]
  exact congrArg (· + v (ix2 0 (j 1))) (congrArg₂ (· + ·) (congrArg₂ (· + ·) (congrArg₂ (· + ·) (congrArg (w (ix2 0 (j 1)) * ·) (rot_at i a b j 3 (by norm_num) _ _))
    (congrArg (w (ix2 1 (j 1)) * ·) (rot_at i a b j 2 (by norm_num) _ _)))
    (congrArg (w (ix2 2 (j 1)) * ·) (rot_at i a b j 1 (by norm_num) _ _)))
    (congrArg (w (ix2 3 (j 1)) * ·) (down_zero i a b j)))

/-- A row of the input below the zero rows. -/
theorem row_at (x0 : FVec Ideal S4096x6144 .f32) {n : ℕ} (k d : ℕ) (hn : n < 4096) (q : Fin 6144) (hk : k + d = 3) :
    (if h : k + n < 3 then (0 : EReal) else x0 (ix2 ⟨k + n - 3, by omega⟩ q)) = rowBefore x0 n d q := by
  have e : k + n - 3 = n - d := by omega
  unfold rowBefore
  simp only [e]
  by_cases h₁ : d ≤ n
  · rw [dif_neg (by omega), dif_pos ⟨h₁, by omega⟩]
  · rw [dif_pos (by omega), dif_neg (fun h₂ => h₁ h₂.1)]

/-- The same for the first tap. -/
theorem row_first (x0 : FVec Ideal S4096x6144 .f32) {n : ℕ} (hn : n < 4096) (q : Fin 6144) :
    (if h : n < 3 then (0 : EReal) else x0 (ix2 ⟨n - 3, by omega⟩ q)) = rowBefore x0 n 3 q := by
  unfold rowBefore
  by_cases h₁ : 3 ≤ n
  · rw [dif_neg (by omega), dif_pos ⟨h₁, by omega⟩]
  · rw [dif_pos (by omega), dif_neg (fun h₂ => h₁ h₂.1)]

/-- The input's own row. -/
theorem row_zero (x0 : FVec Ideal S4096x6144 .f32) (j : S4096x1024.Idx) : x0 (ix2 (j 0) ⟨(j 1 : ℕ), lt_of_lt_of_le (j 1).isLt (by decide)⟩) = rowBefore x0 (j 0 : ℕ) 0 ⟨(j 1 : ℕ), lt_of_lt_of_le (j 1).isLt (by decide)⟩ := by
  unfold rowBefore
  rw [dif_pos ⟨Nat.zero_le _, (show (j 0 : ℕ) - 0 < 4096 from (j 0).isLt)⟩]
  rfl

/-- The reference at an entry. -/
theorem ref_at (x0 : FVec Ideal S4096x6144 .f32) (x1 : FVec Ideal S4x1024 .f32) (x2 : FVec Ideal S1024 .f32) (j : S4096x1024.Idx) :
    Cert.Reference30Ideal.Read.val_main_v32 (F := Ideal) x0 x1 x2 j = x1 (ix2 0 (j 1)) * rowBefore x0 (j 0 : ℕ) 3 ⟨(j 1 : ℕ), lt_of_lt_of_le (j 1).isLt (by decide)⟩
      + x1 (ix2 1 (j 1)) * rowBefore x0 (j 0 : ℕ) 2 ⟨(j 1 : ℕ), lt_of_lt_of_le (j 1).isLt (by decide)⟩
      + x1 (ix2 2 (j 1)) * rowBefore x0 (j 0 : ℕ) 1 ⟨(j 1 : ℕ), lt_of_lt_of_le (j 1).isLt (by decide)⟩
      + x1 (ix2 3 (j 1)) * rowBefore x0 (j 0 : ℕ) 0 ⟨(j 1 : ℕ), lt_of_lt_of_le (j 1).isLt (by decide)⟩
      + x2 (ix1 (j 1)) := by
  pointwise [Cert.Reference30Ideal.Read.val_main_v0, Cert.Reference30Ideal.Read.val_main_cst, Cert.Reference30Ideal.Read.val_main_v1, Cert.Reference30Ideal.Read.val_main_v2, Cert.Reference30Ideal.Read.val_main_v3, Cert.Reference30Ideal.Read.val_main_v4, Cert.Reference30Ideal.Read.val_main_v5, Cert.Reference30Ideal.Read.val_main_v6, Cert.Reference30Ideal.Read.val_main_v7, Cert.Reference30Ideal.Read.val_main_v8, Cert.Reference30Ideal.Read.val_main_v9, Cert.Reference30Ideal.Read.val_main_v10, Cert.Reference30Ideal.Read.val_main_v11, Cert.Reference30Ideal.Read.val_main_v12, Cert.Reference30Ideal.Read.val_main_v13, Cert.Reference30Ideal.Read.val_main_v14, Cert.Reference30Ideal.Read.val_main_v15, Cert.Reference30Ideal.Read.val_main_v16, Cert.Reference30Ideal.Read.val_main_v17, Cert.Reference30Ideal.Read.val_main_v18, Cert.Reference30Ideal.Read.val_main_v19, Cert.Reference30Ideal.Read.val_main_v20, Cert.Reference30Ideal.Read.val_main_v21, Cert.Reference30Ideal.Read.val_main_v22, Cert.Reference30Ideal.Read.val_main_v23, Cert.Reference30Ideal.Read.val_main_v24, Cert.Reference30Ideal.Read.val_main_v25, Cert.Reference30Ideal.Read.val_main_v26, Cert.Reference30Ideal.Read.val_main_v27, Cert.Reference30Ideal.Read.val_main_v28, Cert.Reference30Ideal.Read.val_main_v29, Cert.Reference30Ideal.Read.val_main_v30, Cert.Reference30Ideal.Read.val_main_v31, Cert.Reference30Ideal.Read.val_main_v32]
  exact congrArg (· + x2 (ix1 (j 1))) (congrArg₂ (· + ·) (congrArg₂ (· + ·) (congrArg₂ (· + ·) (congrArg (x1 (ix2 0 (j 1)) * ·) (row_first x0 (j 0).isLt ⟨(j 1 : ℕ), lt_of_lt_of_le (j 1).isLt (by decide)⟩))
    (congrArg (x1 (ix2 1 (j 1)) * ·) (row_at x0 1 2 (j 0).isLt ⟨(j 1 : ℕ), lt_of_lt_of_le (j 1).isLt (by decide)⟩ (by norm_num))))
    (congrArg (x1 (ix2 2 (j 1)) * ·) (row_at x0 2 1 (j 0).isLt ⟨(j 1 : ℕ), lt_of_lt_of_le (j 1).isLt (by decide)⟩ (by norm_num))))
    (congrArg (x1 (ix2 3 (j 1)) * ·) (row_zero x0 j)))

/-- A moved block of the input is the input, moved. -/
theorem down_block (t : Fin cfg0.N) (y : S512x512.Idx) (j : S4096x1024.Idx) (hj0 : (j 0 : ℕ) = t.val % 8 * 512 + y 0)
    (hj1 : (j 1 : ℕ) = t.val / 8 * 512 + y 1) (d : ℕ) (hd : d < 4) :
    down (grid0.coords t) (iblk m c 0 t) (iblk m c 1 t) y d = rowBefore (m ((c : Thread nD τ).loc main_arg0)) (j 0 : ℕ) d ⟨(j 1 : ℕ), lt_of_lt_of_le (j 1).isLt (by decide)⟩ := by
  have h0 : (y 0 : ℕ) < 512 := (y 0).isLt
  have ht : t.val % 8 < 8 := Nat.mod_lt _ (by decide)
  have hj : (j 0 : ℕ) < 4096 := (j 0).isLt
  unfold down rowBefore
  rw [row_block t]
  by_cases hu : (y 0 : ℕ) < d
  · rw [if_pos hu]
    by_cases hn : 0 < t.val % 8
    · rw [if_pos hn, dif_pos (by omega)]
      blk_point [iblk, V, idx t]
    · rw [if_neg hn, dif_neg (by omega)]
  · rw [if_neg hu, dif_pos (by omega)]
    blk_point [iblk, V, idx t]

/-- A row of taps read at a grid point. -/
theorem w_block (t : Fin cfg0.N) (y : S512x512.Idx) (j : S4096x1024.Idx)
    (hj1 : (j 1 : ℕ) = t.val / 8 * 512 + y 1) (k : Fin 4) :
    (show FVec Ideal S4x512 .f32 from iblk m c 2 t) (ix2 k (y 1)) = (m ((c : Thread nD τ).loc main_arg1)) (ix2 k (j 1)) := by
  blk_point [iblk, V, idx t]

/-- A vector laid out as one row, read at a column. -/
theorem row_read (B : FVec Ideal S1024 .f32) (j : S1x1024.Idx) :
    shapeCast S1x1024 B shapeCasts_S1024_S1x1024 j = B (ix1 (j 1)) := by
  obtain ⟨u, q, rfl⟩ : ∃ (u : Fin 1) (q : Fin 1024), j = ix2 u q := ⟨j 0, j 1, by funext i; fin_cases i <;> rfl⟩
  pointwise []

/-- The bias read at a grid point. -/
theorem v_block (t : Fin cfg0.N) (y : S512x512.Idx) (j : S4096x1024.Idx)
    (hj1 : (j 1 : ℕ) = t.val / 8 * 512 + y 1) :
    (show FVec Ideal S1x512 .f32 from iblk m c 3 t) (ix2 0 (y 1)) = (m ((c : Thread nD τ).loc main_arg2)) (ix1 (j 1)) := by
  have hV : V m c main_v0 = shapeCast S1x1024 (m ((c : Thread nD τ).loc main_arg2)) shapeCasts_S1024_S1x1024 := by
    unfold V
    after_results
    try rfl
  unfold iblk
  rw [hV]
  show shapeCast S1x1024 _ shapeCasts_S1024_S1x1024 _ = _
  refine (row_read _ _).trans ?_
  blk_point [idx t]

/-- What the reference computes of the arguments in memory. -/
def result : FVec Ideal S4096x1024 .f32 :=
  Cert.Reference30Ideal.Read.val_main_v32 (F := Ideal) (m ((c : Thread nD τ).loc main_arg0)) (m ((c : Thread nD τ).loc main_arg1)) (m ((c : Thread nD τ).loc main_arg2))

/-- One entry of a block is the reference's. -/
theorem point (t : Fin cfg0.N) (y : S512x512.Idx) (j : S4096x1024.Idx) (hj0 : (j 0 : ℕ) = t.val % 8 * 512 + y 0)
    (hj1 : (j 1 : ℕ) = t.val / 8 * 512 + y 1) :
    blockOut (grid0.coords t) (iblk m c 0 t) (iblk m c 1 t) (iblk m c 2 t) (iblk m c 3 t) y = result m c j := by
  refine (pay_at _ _ _ _ _ _).trans (Eq.trans ?_ (ref_at _ _ _ _).symm)
  rw [down_block m c t y j hj0 hj1 3 (by norm_num)]
  rw [down_block m c t y j hj0 hj1 2 (by norm_num)]
  rw [down_block m c t y j hj0 hj1 1 (by norm_num)]
  rw [down_block m c t y j hj0 hj1 0 (by norm_num)]
  have hw := w_block m c t y j hj1
  rw [show (iblk m c 2 t : FVec Ideal S4x512 .f32) (ix2 0 (y 1)) = _ from hw 0]
  rw [show (iblk m c 2 t : FVec Ideal S4x512 .f32) (ix2 1 (y 1)) = _ from hw 1]
  rw [show (iblk m c 2 t : FVec Ideal S4x512 .f32) (ix2 2 (y 1)) = _ from hw 2]
  rw [show (iblk m c 2 t : FVec Ideal S4x512 .f32) (ix2 3 (y 1)) = _ from hw 3]
  rw [show (iblk m c 3 t : FVec Ideal S1x512 .f32) (ix2 0 (y 1)) = _ from v_block m c t y j hj1]
/-- The array the launch writes is the reference's. -/
theorem final : (dats m 0 c).arrAt 4 cfg0.N = result m c := by
  refine (dats m 0 c).arrAt_eq_of_covers 4 _ (by decide +kernel) fun t hf y => ?_
  blk_simp
  rw [after0_4]
  frame_out
  refine point m c t y _ ?_ ?_
  all_goals (blk_simp [idx t] <;> try omega)

/-- The kernel's ideal result is the reference's, for every input. -/
theorem algebraic : Cert.algebraic_Kernel30Ideal_Reference30Ideal := by
  pair_intro
  · run_from Cert.Kernel30Ideal.Gen.run_main m g
  · hlo_run
    exact (final m c).symm

/-- The kernel changes nothing but its results, over the machine's own floats. -/
theorem frame_kernel : Cert.quiescent_Kernel30 :=
  fun m ρ _ => Cert.Kernel30.Gen.frame m ρ

/-- The same over the extended reals. -/
theorem frame_ideal : Cert.quiescent_Kernel30Ideal :=
  fun m ρ _ => Cert.Kernel30Ideal.Gen.frame m ρ

/-- The reference changes nothing but its results. -/
theorem frame_ref : Cert.quiescent_Reference30Ideal := by
  intro m ρ _
  hlo_run
  · exact fun c => by simp
  · exact sem_eq_zero_of_no_sems (by decide) _

end Cert.LruConv

end
-- ==== Proof.CfConv.lean ====
/- The 31-tap convolution, block of rows by block of rows. -/
module

public import proofs.«01_k».proof.Defs
public import proofs.«01_k».proof.Proof.Gen.Kernel31.Frame
public import proofs.«01_k».proof.Proof.Gen.Kernel31Ideal.Frame
public import proofs.«01_k».proof.Proof.Gen.Reference31Ideal.Read
public import Idealize.ShloMosaic.Lib.Pipeline.ValueKit
public import Idealize.ShloMosaic.Lib.Claim

@[expose] public section

set_option maxRecDepth 16384

noncomputable section

namespace Cert.CfConv

open Cert.Kernel31Ideal Cert.Kernel31Ideal.Gen
open Idealize.ShloMosaic Idealize.ShloMosaic.TcCoe Idealize.SL.Sem

variable (m : (ℓ : Loc nD τ sig) → Buf (Elt Ideal) ℓ) (c : Dev nD)

/-- The block that every window is on at a grid point: the rows of the second window are the block before's. -/
theorem idx : ∀ t : Fin cfg0.N, win0_0.index t = ![t.val % 16, t.val / 16]
    ∧ win0_1.index t = ![t.val % 16 - 1, t.val / 16]
    ∧ win0_2.index t = ![0, t.val / 16]
    ∧ win0_3.index t = ![0, t.val / 16]
    ∧ win0_4.index t = ![t.val % 16, t.val / 16] :=
  (by decide +kernel : ∀ t : Fin grid0.N, _)

/-- The second grid coordinate is the number of the block of rows. -/
theorem row_block : ∀ t : Fin cfg0.N, (grid0.coords t 1 : ℕ) = t.val % 16 :=
  (by decide +kernel : ∀ t : Fin grid0.N, _)

/-- A row of the input `d` rows earlier, zero before the first. -/
def rowBefore (X : FVec Ideal S4096x1024 .f32) (n d : ℕ) (q : Fin 1024) : EReal :=
  if h : d ≤ n ∧ n - d < 4096 then X (ix2 ⟨n - d, h.2⟩ q) else 0

/-- The block moved down by `d` rows: what enters comes from the block before, and is zero before the first. -/
def down (i : grid0.Coords) (a b : FVec Ideal S256x256 .f32) (j : S256x256.Idx) (d : ℕ) : EReal :=
  if (j 0 : ℕ) < d then (if 0 < (i 1 : ℕ) then b (ix2 ⟨((j 0 : ℕ) + 256 - d) % 256, Nat.mod_lt _ (by decide)⟩ (j 1)) else 0)
  else a (ix2 ⟨((j 0 : ℕ) + 256 - d) % 256, Nat.mod_lt _ (by decide)⟩ (j 1))

/-- A choice on the order of two small words is a choice on the numbers. -/
theorem select_slt (p q : ℕ) (hp : p < 2 ^ 31) (hq : q < 2 ^ 31) (x y : EReal) :
    Scalar.select (IntOp.cmpi .slt (BitVec.ofNat 32 p) (BitVec.ofNat 32 q)) x y = if p < q then x else y := by
  rw [WordCmp.cmpi_slt_ofNat hp hq]
  by_cases h : p < q <;> simp [Scalar.select, h]

/-- The same for the order the other way round. -/
theorem select_sgt (p q : ℕ) (hp : p < 2 ^ 31) (hq : q < 2 ^ 31) (x y : EReal) :
    Scalar.select (Scalar.cmpi .sgt (BitVec.ofNat 32 p) (BitVec.ofNat 32 q)) x y = if q < p then x else y := by
  refine (congrArg (fun s => Scalar.select s x y) (WordCmp.cmpi_sgt_ofNat hp hq)).trans ?_
  by_cases h : q < p <;> simp [Scalar.select, h]

/-- Two rotated blocks, joined at the row where the block before ends, are the block moved down. -/
theorem rot_at (i : grid0.Coords) (a b : FVec Ideal S256x256 .f32) (j : S256x256.Idx) (d : ℕ) (hd : d < 256) (h) (h') :
    Scalar.select (IntOp.cmpi .slt (BitVec.ofNat 32 (j 0 : ℕ)) (BitVec.ofNat 32 d))
      (Scalar.select (Scalar.cmpi .sgt (BitVec.ofNat 32 (i 1 : ℕ)) 0#32)
        (b (ix2 ⟨((j 0 : ℕ) + 256 - d) % 256, h⟩ (j 1))) 0)
      (a (ix2 ⟨((j 0 : ℕ) + 256 - d) % 256, h'⟩ (j 1))) = down i a b j d := by
  have h0 : (j 0 : ℕ) < 256 := (j 0).isLt
  have h1 : (i 1 : ℕ) < 16 := (i 1).isLt
  rw [select_slt _ _ (by omega) (by omega), select_sgt _ _ (by omega) (by omega)]
  rfl

/-- Moving by no rows. -/
theorem down_zero (i : grid0.Coords) (a b : FVec Ideal S256x256 .f32) (j : S256x256.Idx) : a j = down i a b j 0 := by
  have h0 : (j 0 : ℕ) < 256 := (j 0).isLt
  unfold down
  rw [if_neg (by omega)]
  have e : (⟨((j 0 : ℕ) + 256 - 0) % 256, Nat.mod_lt _ (by decide)⟩ : Fin 256) = j 0 :=
    Fin.ext (show ((j 0 : ℕ) + 256 - 0) % 256 = (j 0 : ℕ) by omega)
  rw [e]
  exact congrArg a (ValueIdx.eq_ix2 j)

/-- The block the kernel writes, of the blocks it reads. -/
abbrev blockOut (i : grid0.Coords) (a b : FVec Ideal S256x256 .f32) (w : FVec Ideal S31x256 .f32) (v : FVec Ideal S1x256 .f32) : FVec Ideal S256x256 .f32 :=
  k0_pay20 (F := Ideal) a (k0_pay1 i b) w (k0_pay17 a (k0_pay1 i b) w (k0_pay12 a (k0_pay1 i b) w (k0_pay10 a (k0_pay1 i b) w (k0_pay7 a (k0_pay1 i b) w (k0_pay4 a (k0_pay1 i b) w (k0_pay2 i a b w) (k0_pay3 w) (iota .tc S256x256 32 [0] iota_S256x256_d0_w32) 27#32) (k0_pay5 a (k0_pay1 i b)) (k0_pay6 w)) (k0_pay8 w) k0_pay9 18#32) (k0_pay11 w)) (k0_pay13 w) k0_pay14 (k0_pay15 (k0_pay1 i b)) (k0_pay16 a)) (k0_pay18 w) (iota .tc S256x256 32 [0] iota_S256x256_d0_w32) k0_pay19 v

/-- One block of the result: each tap times the block moved down by as many rows as the tap is from the last. -/
theorem pay_at (i : grid0.Coords) (a b : FVec Ideal S256x256 .f32) (w : FVec Ideal S31x256 .f32) (v : FVec Ideal S1x256 .f32) (j : S256x256.Idx) :
    blockOut i a b w v j = w (ix2 0 (j 1)) * down i a b j 30
      + w (ix2 1 (j 1)) * down i a b j 29
      + w (ix2 2 (j 1)) * down i a b j 28
      + w (ix2 3 (j 1)) * down i a b j 27
      + w (ix2 4 (j 1)) * down i a b j 26
      + w (ix2 5 (j 1)) * down i a b j 25
      + w (ix2 6 (j 1)) * down i a b j 24
      + w (ix2 7 (j 1)) * down i a b j 23
      + w (ix2 8 (j 1)) * down i a b j 22
      + w (ix2 9 (j 1)) * down i a b j 21
      + w (ix2 10 (j 1)) * down i a b j 20
      + w (ix2 11 (j 1)) * down i a b j 19
      + w (ix2 12 (j 1)) * down i a b j 18
      + w (ix2 13 (j 1)) * down i a b j 17
      + w (ix2 14 (j 1)) * down i a b j 16
      + w (ix2 15 (j 1)) * down i a b j 15
      + w (ix2 16 (j 1)) * down i a b j 14
      + w (ix2 17 (j 1)) * down i a b j 13
      + w (ix2 18 (j 1)) * down i a b j 12
      + w (ix2 19 (j 1)) * down i a b j 11
      + w (ix2 20 (j 1)) * down i a b j 10
      + w (ix2 21 (j 1)) * down i a b j 9
      + w (ix2 22 (j 1)) * down i a b j 8
      + w (ix2 23 (j 1)) * down i a b j 7
      + w (ix2 24 (j 1)) * down i a b j 6
      + w (ix2 25 (j 1)) * down i a b j 5
      + w (ix2 26 (j 1)) * down i a b j 4
      + w (ix2 27 (j 1)) * down i a b j 3
      + w (ix2 28 (j 1)) * down i a b j 2
      + w (ix2 29 (j 1)) * down i a b j 1
      + w (ix2 30 (j 1)) * down i a b j 0
      + v (ix2 0 (j 1)) := by
  pointwise [blockOut, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
  exact congrArg (· + v (ix2 0 (j 1))) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg (w (ix2 0 (j 1)) * ·) (rot_at i a b j 30 (by norm_num) _ _))
    (congrArg (w (ix2 1 (j 1)) * ·) (rot_at i a b j 29 (by norm_num) _ _)))
    (congrArg (w (ix2 2 (j 1)) * ·) (rot_at i a b j 28 (by norm_num) _ _)))
    (congrArg (w (ix2 3 (j 1)) * ·) (rot_at i a b j 27 (by norm_num) _ _)))
    (congrArg (w (ix2 4 (j 1)) * ·) (rot_at i a b j 26 (by norm_num) _ _)))
    (congrArg (w (ix2 5 (j 1)) * ·) (rot_at i a b j 25 (by norm_num) _ _)))
    (congrArg (w (ix2 6 (j 1)) * ·) (rot_at i a b j 24 (by norm_num) _ _)))
    (congrArg (w (ix2 7 (j 1)) * ·) (rot_at i a b j 23 (by norm_num) _ _)))
    (congrArg (w (ix2 8 (j 1)) * ·) (rot_at i a b j 22 (by norm_num) _ _)))
    (congrArg (w (ix2 9 (j 1)) * ·) (rot_at i a b j 21 (by norm_num) _ _)))
    (congrArg (w (ix2 10 (j 1)) * ·) (rot_at i a b j 20 (by norm_num) _ _)))
    (congrArg (w (ix2 11 (j 1)) * ·) (rot_at i a b j 19 (by norm_num) _ _)))
    (congrArg (w (ix2 12 (j 1)) * ·) (rot_at i a b j 18 (by norm_num) _ _)))
    (congrArg (w (ix2 13 (j 1)) * ·) (rot_at i a b j 17 (by norm_num) _ _)))
    (congrArg (w (ix2 14 (j 1)) * ·) (rot_at i a b j 16 (by norm_num) _ _)))
    (congrArg (w (ix2 15 (j 1)) * ·) (rot_at i a b j 15 (by norm_num) _ _)))
    (congrArg (w (ix2 16 (j 1)) * ·) (rot_at i a b j 14 (by norm_num) _ _)))
    (congrArg (w (ix2 17 (j 1)) * ·) (rot_at i a b j 13 (by norm_num) _ _)))
    (congrArg (w (ix2 18 (j 1)) * ·) (rot_at i a b j 12 (by norm_num) _ _)))
    (congrArg (w (ix2 19 (j 1)) * ·) (rot_at i a b j 11 (by norm_num) _ _)))
    (congrArg (w (ix2 20 (j 1)) * ·) (rot_at i a b j 10 (by norm_num) _ _)))
    (congrArg (w (ix2 21 (j 1)) * ·) (rot_at i a b j 9 (by norm_num) _ _)))
    (congrArg (w (ix2 22 (j 1)) * ·) (rot_at i a b j 8 (by norm_num) _ _)))
    (congrArg (w (ix2 23 (j 1)) * ·) (rot_at i a b j 7 (by norm_num) _ _)))
    (congrArg (w (ix2 24 (j 1)) * ·) (rot_at i a b j 6 (by norm_num) _ _)))
    (congrArg (w (ix2 25 (j 1)) * ·) (rot_at i a b j 5 (by norm_num) _ _)))
    (congrArg (w (ix2 26 (j 1)) * ·) (rot_at i a b j 4 (by norm_num) _ _)))
    (congrArg (w (ix2 27 (j 1)) * ·) (rot_at i a b j 3 (by norm_num) _ _)))
    (congrArg (w (ix2 28 (j 1)) * ·) (rot_at i a b j 2 (by norm_num) _ _)))
    (congrArg (w (ix2 29 (j 1)) * ·) (rot_at i a b j 1 (by norm_num) _ _)))
    (congrArg (w (ix2 30 (j 1)) * ·) (down_zero i a b j)))

/-- A row of the input below the zero rows. -/
theorem row_at (x0 : FVec Ideal S4096x1024 .f32) {n : ℕ} (k d : ℕ) (hn : n < 4096) (q : Fin 1024) (hk : k + d = 30) :
    (if h : k + n < 30 then (0 : EReal) else x0 (ix2 ⟨k + n - 30, by omega⟩ q)) = rowBefore x0 n d q := by
  have e : k + n - 30 = n - d := by omega
  unfold rowBefore
  simp only [e]
  by_cases h₁ : d ≤ n
  · rw [dif_neg (by omega), dif_pos ⟨h₁, by omega⟩]
  · rw [dif_pos (by omega), dif_neg (fun h₂ => h₁ h₂.1)]

/-- The same for the first tap. -/
theorem row_first (x0 : FVec Ideal S4096x1024 .f32) {n : ℕ} (hn : n < 4096) (q : Fin 1024) :
    (if h : n < 30 then (0 : EReal) else x0 (ix2 ⟨n - 30, by omega⟩ q)) = rowBefore x0 n 30 q := by
  unfold rowBefore
  by_cases h₁ : 30 ≤ n
  · rw [dif_neg (by omega), dif_pos ⟨h₁, by omega⟩]
  · rw [dif_pos (by omega), dif_neg (fun h₂ => h₁ h₂.1)]

/-- The input's own row. -/
theorem row_zero (x0 : FVec Ideal S4096x1024 .f32) (j : S4096x1024.Idx) : x0 j = rowBefore x0 (j 0 : ℕ) 0 (j 1) := by
  unfold rowBefore
  rw [dif_pos ⟨Nat.zero_le _, (show (j 0 : ℕ) - 0 < 4096 from (j 0).isLt)⟩]
  exact congrArg x0 (ValueIdx.eq_ix2 j)

/-- The reference at an entry. -/
theorem ref_at (x0 : FVec Ideal S4096x1024 .f32) (x1 : FVec Ideal S31x1024 .f32) (x2 : FVec Ideal S1024 .f32) (j : S4096x1024.Idx) :
    Cert.Reference31Ideal.Read.val_main_v220 (F := Ideal) x0 x1 x2 j = x1 (ix2 0 (j 1)) * rowBefore x0 (j 0 : ℕ) 30 (j 1)
      + x1 (ix2 1 (j 1)) * rowBefore x0 (j 0 : ℕ) 29 (j 1)
      + x1 (ix2 2 (j 1)) * rowBefore x0 (j 0 : ℕ) 28 (j 1)
      + x1 (ix2 3 (j 1)) * rowBefore x0 (j 0 : ℕ) 27 (j 1)
      + x1 (ix2 4 (j 1)) * rowBefore x0 (j 0 : ℕ) 26 (j 1)
      + x1 (ix2 5 (j 1)) * rowBefore x0 (j 0 : ℕ) 25 (j 1)
      + x1 (ix2 6 (j 1)) * rowBefore x0 (j 0 : ℕ) 24 (j 1)
      + x1 (ix2 7 (j 1)) * rowBefore x0 (j 0 : ℕ) 23 (j 1)
      + x1 (ix2 8 (j 1)) * rowBefore x0 (j 0 : ℕ) 22 (j 1)
      + x1 (ix2 9 (j 1)) * rowBefore x0 (j 0 : ℕ) 21 (j 1)
      + x1 (ix2 10 (j 1)) * rowBefore x0 (j 0 : ℕ) 20 (j 1)
      + x1 (ix2 11 (j 1)) * rowBefore x0 (j 0 : ℕ) 19 (j 1)
      + x1 (ix2 12 (j 1)) * rowBefore x0 (j 0 : ℕ) 18 (j 1)
      + x1 (ix2 13 (j 1)) * rowBefore x0 (j 0 : ℕ) 17 (j 1)
      + x1 (ix2 14 (j 1)) * rowBefore x0 (j 0 : ℕ) 16 (j 1)
      + x1 (ix2 15 (j 1)) * rowBefore x0 (j 0 : ℕ) 15 (j 1)
      + x1 (ix2 16 (j 1)) * rowBefore x0 (j 0 : ℕ) 14 (j 1)
      + x1 (ix2 17 (j 1)) * rowBefore x0 (j 0 : ℕ) 13 (j 1)
      + x1 (ix2 18 (j 1)) * rowBefore x0 (j 0 : ℕ) 12 (j 1)
      + x1 (ix2 19 (j 1)) * rowBefore x0 (j 0 : ℕ) 11 (j 1)
      + x1 (ix2 20 (j 1)) * rowBefore x0 (j 0 : ℕ) 10 (j 1)
      + x1 (ix2 21 (j 1)) * rowBefore x0 (j 0 : ℕ) 9 (j 1)
      + x1 (ix2 22 (j 1)) * rowBefore x0 (j 0 : ℕ) 8 (j 1)
      + x1 (ix2 23 (j 1)) * rowBefore x0 (j 0 : ℕ) 7 (j 1)
      + x1 (ix2 24 (j 1)) * rowBefore x0 (j 0 : ℕ) 6 (j 1)
      + x1 (ix2 25 (j 1)) * rowBefore x0 (j 0 : ℕ) 5 (j 1)
      + x1 (ix2 26 (j 1)) * rowBefore x0 (j 0 : ℕ) 4 (j 1)
      + x1 (ix2 27 (j 1)) * rowBefore x0 (j 0 : ℕ) 3 (j 1)
      + x1 (ix2 28 (j 1)) * rowBefore x0 (j 0 : ℕ) 2 (j 1)
      + x1 (ix2 29 (j 1)) * rowBefore x0 (j 0 : ℕ) 1 (j 1)
      + x1 (ix2 30 (j 1)) * rowBefore x0 (j 0 : ℕ) 0 (j 1)
      + x2 (ix1 (j 1)) := by
  pointwise [Cert.Reference31Ideal.Read.val_main_cst, Cert.Reference31Ideal.Read.val_main_v0, Cert.Reference31Ideal.Read.val_main_v1, Cert.Reference31Ideal.Read.val_main_v2, Cert.Reference31Ideal.Read.val_main_v3, Cert.Reference31Ideal.Read.val_main_v4, Cert.Reference31Ideal.Read.val_main_v5, Cert.Reference31Ideal.Read.val_main_v6, Cert.Reference31Ideal.Read.val_main_v7, Cert.Reference31Ideal.Read.val_main_v8, Cert.Reference31Ideal.Read.val_main_v9, Cert.Reference31Ideal.Read.val_main_v10, Cert.Reference31Ideal.Read.val_main_v11, Cert.Reference31Ideal.Read.val_main_v12, Cert.Reference31Ideal.Read.val_main_v13, Cert.Reference31Ideal.Read.val_main_v14, Cert.Reference31Ideal.Read.val_main_v15, Cert.Reference31Ideal.Read.val_main_v16, Cert.Reference31Ideal.Read.val_main_v17, Cert.Reference31Ideal.Read.val_main_v18, Cert.Reference31Ideal.Read.val_main_v19, Cert.Reference31Ideal.Read.val_main_v20, Cert.Reference31Ideal.Read.val_main_v21, Cert.Reference31Ideal.Read.val_main_v22, Cert.Reference31Ideal.Read.val_main_v23, Cert.Reference31Ideal.Read.val_main_v24, Cert.Reference31Ideal.Read.val_main_v25, Cert.Reference31Ideal.Read.val_main_v26, Cert.Reference31Ideal.Read.val_main_v27, Cert.Reference31Ideal.Read.val_main_v28, Cert.Reference31Ideal.Read.val_main_v29, Cert.Reference31Ideal.Read.val_main_v30, Cert.Reference31Ideal.Read.val_main_v31, Cert.Reference31Ideal.Read.val_main_v32, Cert.Reference31Ideal.Read.val_main_v33, Cert.Reference31Ideal.Read.val_main_v34, Cert.Reference31Ideal.Read.val_main_v35, Cert.Reference31Ideal.Read.val_main_v36, Cert.Reference31Ideal.Read.val_main_v37, Cert.Reference31Ideal.Read.val_main_v38, Cert.Reference31Ideal.Read.val_main_v39, Cert.Reference31Ideal.Read.val_main_v40, Cert.Reference31Ideal.Read.val_main_v41, Cert.Reference31Ideal.Read.val_main_v42, Cert.Reference31Ideal.Read.val_main_v43, Cert.Reference31Ideal.Read.val_main_v44, Cert.Reference31Ideal.Read.val_main_v45, Cert.Reference31Ideal.Read.val_main_v46, Cert.Reference31Ideal.Read.val_main_v47, Cert.Reference31Ideal.Read.val_main_v48, Cert.Reference31Ideal.Read.val_main_v49, Cert.Reference31Ideal.Read.val_main_v50, Cert.Reference31Ideal.Read.val_main_v51, Cert.Reference31Ideal.Read.val_main_v52, Cert.Reference31Ideal.Read.val_main_v53, Cert.Reference31Ideal.Read.val_main_v54, Cert.Reference31Ideal.Read.val_main_v55, Cert.Reference31Ideal.Read.val_main_v56, Cert.Reference31Ideal.Read.val_main_v57, Cert.Reference31Ideal.Read.val_main_v58, Cert.Reference31Ideal.Read.val_main_v59, Cert.Reference31Ideal.Read.val_main_v60, Cert.Reference31Ideal.Read.val_main_v61, Cert.Reference31Ideal.Read.val_main_v62, Cert.Reference31Ideal.Read.val_main_v63, Cert.Reference31Ideal.Read.val_main_v64, Cert.Reference31Ideal.Read.val_main_v65, Cert.Reference31Ideal.Read.val_main_v66, Cert.Reference31Ideal.Read.val_main_v67, Cert.Reference31Ideal.Read.val_main_v68, Cert.Reference31Ideal.Read.val_main_v69, Cert.Reference31Ideal.Read.val_main_v70, Cert.Reference31Ideal.Read.val_main_v71, Cert.Reference31Ideal.Read.val_main_v72, Cert.Reference31Ideal.Read.val_main_v73, Cert.Reference31Ideal.Read.val_main_v74, Cert.Reference31Ideal.Read.val_main_v75, Cert.Reference31Ideal.Read.val_main_v76, Cert.Reference31Ideal.Read.val_main_v77, Cert.Reference31Ideal.Read.val_main_v78, Cert.Reference31Ideal.Read.val_main_v79, Cert.Reference31Ideal.Read.val_main_v80, Cert.Reference31Ideal.Read.val_main_v81, Cert.Reference31Ideal.Read.val_main_v82, Cert.Reference31Ideal.Read.val_main_v83, Cert.Reference31Ideal.Read.val_main_v84, Cert.Reference31Ideal.Read.val_main_v85, Cert.Reference31Ideal.Read.val_main_v86, Cert.Reference31Ideal.Read.val_main_v87, Cert.Reference31Ideal.Read.val_main_v88, Cert.Reference31Ideal.Read.val_main_v89, Cert.Reference31Ideal.Read.val_main_v90, Cert.Reference31Ideal.Read.val_main_v91, Cert.Reference31Ideal.Read.val_main_v92, Cert.Reference31Ideal.Read.val_main_v93, Cert.Reference31Ideal.Read.val_main_v94, Cert.Reference31Ideal.Read.val_main_v95, Cert.Reference31Ideal.Read.val_main_v96, Cert.Reference31Ideal.Read.val_main_v97, Cert.Reference31Ideal.Read.val_main_v98, Cert.Reference31Ideal.Read.val_main_v99, Cert.Reference31Ideal.Read.val_main_v100, Cert.Reference31Ideal.Read.val_main_v101, Cert.Reference31Ideal.Read.val_main_v102, Cert.Reference31Ideal.Read.val_main_v103, Cert.Reference31Ideal.Read.val_main_v104, Cert.Reference31Ideal.Read.val_main_v105, Cert.Reference31Ideal.Read.val_main_v106, Cert.Reference31Ideal.Read.val_main_v107, Cert.Reference31Ideal.Read.val_main_v108, Cert.Reference31Ideal.Read.val_main_v109, Cert.Reference31Ideal.Read.val_main_v110, Cert.Reference31Ideal.Read.val_main_v111, Cert.Reference31Ideal.Read.val_main_v112, Cert.Reference31Ideal.Read.val_main_v113, Cert.Reference31Ideal.Read.val_main_v114, Cert.Reference31Ideal.Read.val_main_v115, Cert.Reference31Ideal.Read.val_main_v116, Cert.Reference31Ideal.Read.val_main_v117, Cert.Reference31Ideal.Read.val_main_v118, Cert.Reference31Ideal.Read.val_main_v119, Cert.Reference31Ideal.Read.val_main_v120, Cert.Reference31Ideal.Read.val_main_v121, Cert.Reference31Ideal.Read.val_main_v122, Cert.Reference31Ideal.Read.val_main_v123, Cert.Reference31Ideal.Read.val_main_v124, Cert.Reference31Ideal.Read.val_main_v125, Cert.Reference31Ideal.Read.val_main_v126, Cert.Reference31Ideal.Read.val_main_v127, Cert.Reference31Ideal.Read.val_main_v128, Cert.Reference31Ideal.Read.val_main_v129, Cert.Reference31Ideal.Read.val_main_v130, Cert.Reference31Ideal.Read.val_main_v131, Cert.Reference31Ideal.Read.val_main_v132, Cert.Reference31Ideal.Read.val_main_v133, Cert.Reference31Ideal.Read.val_main_v134, Cert.Reference31Ideal.Read.val_main_v135, Cert.Reference31Ideal.Read.val_main_v136, Cert.Reference31Ideal.Read.val_main_v137, Cert.Reference31Ideal.Read.val_main_v138, Cert.Reference31Ideal.Read.val_main_v139, Cert.Reference31Ideal.Read.val_main_v140, Cert.Reference31Ideal.Read.val_main_v141, Cert.Reference31Ideal.Read.val_main_v142, Cert.Reference31Ideal.Read.val_main_v143, Cert.Reference31Ideal.Read.val_main_v144, Cert.Reference31Ideal.Read.val_main_v145, Cert.Reference31Ideal.Read.val_main_v146, Cert.Reference31Ideal.Read.val_main_v147, Cert.Reference31Ideal.Read.val_main_v148, Cert.Reference31Ideal.Read.val_main_v149, Cert.Reference31Ideal.Read.val_main_v150, Cert.Reference31Ideal.Read.val_main_v151, Cert.Reference31Ideal.Read.val_main_v152, Cert.Reference31Ideal.Read.val_main_v153, Cert.Reference31Ideal.Read.val_main_v154, Cert.Reference31Ideal.Read.val_main_v155, Cert.Reference31Ideal.Read.val_main_v156, Cert.Reference31Ideal.Read.val_main_v157, Cert.Reference31Ideal.Read.val_main_v158, Cert.Reference31Ideal.Read.val_main_v159, Cert.Reference31Ideal.Read.val_main_v160, Cert.Reference31Ideal.Read.val_main_v161, Cert.Reference31Ideal.Read.val_main_v162, Cert.Reference31Ideal.Read.val_main_v163, Cert.Reference31Ideal.Read.val_main_v164, Cert.Reference31Ideal.Read.val_main_v165, Cert.Reference31Ideal.Read.val_main_v166, Cert.Reference31Ideal.Read.val_main_v167, Cert.Reference31Ideal.Read.val_main_v168, Cert.Reference31Ideal.Read.val_main_v169, Cert.Reference31Ideal.Read.val_main_v170, Cert.Reference31Ideal.Read.val_main_v171, Cert.Reference31Ideal.Read.val_main_v172, Cert.Reference31Ideal.Read.val_main_v173, Cert.Reference31Ideal.Read.val_main_v174, Cert.Reference31Ideal.Read.val_main_v175, Cert.Reference31Ideal.Read.val_main_v176, Cert.Reference31Ideal.Read.val_main_v177, Cert.Reference31Ideal.Read.val_main_v178, Cert.Reference31Ideal.Read.val_main_v179, Cert.Reference31Ideal.Read.val_main_v180, Cert.Reference31Ideal.Read.val_main_v181, Cert.Reference31Ideal.Read.val_main_v182, Cert.Reference31Ideal.Read.val_main_v183, Cert.Reference31Ideal.Read.val_main_v184, Cert.Reference31Ideal.Read.val_main_v185, Cert.Reference31Ideal.Read.val_main_v186, Cert.Reference31Ideal.Read.val_main_v187, Cert.Reference31Ideal.Read.val_main_v188, Cert.Reference31Ideal.Read.val_main_v189, Cert.Reference31Ideal.Read.val_main_v190, Cert.Reference31Ideal.Read.val_main_v191, Cert.Reference31Ideal.Read.val_main_v192, Cert.Reference31Ideal.Read.val_main_v193, Cert.Reference31Ideal.Read.val_main_v194, Cert.Reference31Ideal.Read.val_main_v195, Cert.Reference31Ideal.Read.val_main_v196, Cert.Reference31Ideal.Read.val_main_v197, Cert.Reference31Ideal.Read.val_main_v198, Cert.Reference31Ideal.Read.val_main_v199, Cert.Reference31Ideal.Read.val_main_v200, Cert.Reference31Ideal.Read.val_main_v201, Cert.Reference31Ideal.Read.val_main_v202, Cert.Reference31Ideal.Read.val_main_v203, Cert.Reference31Ideal.Read.val_main_v204, Cert.Reference31Ideal.Read.val_main_v205, Cert.Reference31Ideal.Read.val_main_v206, Cert.Reference31Ideal.Read.val_main_v207, Cert.Reference31Ideal.Read.val_main_v208, Cert.Reference31Ideal.Read.val_main_v209, Cert.Reference31Ideal.Read.val_main_v210, Cert.Reference31Ideal.Read.val_main_v211, Cert.Reference31Ideal.Read.val_main_v212, Cert.Reference31Ideal.Read.val_main_v213, Cert.Reference31Ideal.Read.val_main_v214, Cert.Reference31Ideal.Read.val_main_v215, Cert.Reference31Ideal.Read.val_main_v216, Cert.Reference31Ideal.Read.val_main_v217, Cert.Reference31Ideal.Read.val_main_v218, Cert.Reference31Ideal.Read.val_main_v219, Cert.Reference31Ideal.Read.val_main_v220]
  exact congrArg (· + x2 (ix1 (j 1))) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg (x1 (ix2 0 (j 1)) * ·) (row_first x0 (j 0).isLt (j 1)))
    (congrArg (x1 (ix2 1 (j 1)) * ·) (row_at x0 1 29 (j 0).isLt (j 1) (by norm_num))))
    (congrArg (x1 (ix2 2 (j 1)) * ·) (row_at x0 2 28 (j 0).isLt (j 1) (by norm_num))))
    (congrArg (x1 (ix2 3 (j 1)) * ·) (row_at x0 3 27 (j 0).isLt (j 1) (by norm_num))))
    (congrArg (x1 (ix2 4 (j 1)) * ·) (row_at x0 4 26 (j 0).isLt (j 1) (by norm_num))))
    (congrArg (x1 (ix2 5 (j 1)) * ·) (row_at x0 5 25 (j 0).isLt (j 1) (by norm_num))))
    (congrArg (x1 (ix2 6 (j 1)) * ·) (row_at x0 6 24 (j 0).isLt (j 1) (by norm_num))))
    (congrArg (x1 (ix2 7 (j 1)) * ·) (row_at x0 7 23 (j 0).isLt (j 1) (by norm_num))))
    (congrArg (x1 (ix2 8 (j 1)) * ·) (row_at x0 8 22 (j 0).isLt (j 1) (by norm_num))))
    (congrArg (x1 (ix2 9 (j 1)) * ·) (row_at x0 9 21 (j 0).isLt (j 1) (by norm_num))))
    (congrArg (x1 (ix2 10 (j 1)) * ·) (row_at x0 10 20 (j 0).isLt (j 1) (by norm_num))))
    (congrArg (x1 (ix2 11 (j 1)) * ·) (row_at x0 11 19 (j 0).isLt (j 1) (by norm_num))))
    (congrArg (x1 (ix2 12 (j 1)) * ·) (row_at x0 12 18 (j 0).isLt (j 1) (by norm_num))))
    (congrArg (x1 (ix2 13 (j 1)) * ·) (row_at x0 13 17 (j 0).isLt (j 1) (by norm_num))))
    (congrArg (x1 (ix2 14 (j 1)) * ·) (row_at x0 14 16 (j 0).isLt (j 1) (by norm_num))))
    (congrArg (x1 (ix2 15 (j 1)) * ·) (row_at x0 15 15 (j 0).isLt (j 1) (by norm_num))))
    (congrArg (x1 (ix2 16 (j 1)) * ·) (row_at x0 16 14 (j 0).isLt (j 1) (by norm_num))))
    (congrArg (x1 (ix2 17 (j 1)) * ·) (row_at x0 17 13 (j 0).isLt (j 1) (by norm_num))))
    (congrArg (x1 (ix2 18 (j 1)) * ·) (row_at x0 18 12 (j 0).isLt (j 1) (by norm_num))))
    (congrArg (x1 (ix2 19 (j 1)) * ·) (row_at x0 19 11 (j 0).isLt (j 1) (by norm_num))))
    (congrArg (x1 (ix2 20 (j 1)) * ·) (row_at x0 20 10 (j 0).isLt (j 1) (by norm_num))))
    (congrArg (x1 (ix2 21 (j 1)) * ·) (row_at x0 21 9 (j 0).isLt (j 1) (by norm_num))))
    (congrArg (x1 (ix2 22 (j 1)) * ·) (row_at x0 22 8 (j 0).isLt (j 1) (by norm_num))))
    (congrArg (x1 (ix2 23 (j 1)) * ·) (row_at x0 23 7 (j 0).isLt (j 1) (by norm_num))))
    (congrArg (x1 (ix2 24 (j 1)) * ·) (row_at x0 24 6 (j 0).isLt (j 1) (by norm_num))))
    (congrArg (x1 (ix2 25 (j 1)) * ·) (row_at x0 25 5 (j 0).isLt (j 1) (by norm_num))))
    (congrArg (x1 (ix2 26 (j 1)) * ·) (row_at x0 26 4 (j 0).isLt (j 1) (by norm_num))))
    (congrArg (x1 (ix2 27 (j 1)) * ·) (row_at x0 27 3 (j 0).isLt (j 1) (by norm_num))))
    (congrArg (x1 (ix2 28 (j 1)) * ·) (row_at x0 28 2 (j 0).isLt (j 1) (by norm_num))))
    (congrArg (x1 (ix2 29 (j 1)) * ·) (row_at x0 29 1 (j 0).isLt (j 1) (by norm_num))))
    (congrArg (x1 (ix2 30 (j 1)) * ·) (row_zero x0 j)))

/-- A moved block of the input is the input, moved. -/
theorem down_block (t : Fin cfg0.N) (y : S256x256.Idx) (j : S4096x1024.Idx) (hj0 : (j 0 : ℕ) = t.val % 16 * 256 + y 0)
    (hj1 : (j 1 : ℕ) = t.val / 16 * 256 + y 1) (d : ℕ) (hd : d < 31) :
    down (grid0.coords t) (iblk m c 0 t) (iblk m c 1 t) y d = rowBefore (m ((c : Thread nD τ).loc main_arg0)) (j 0 : ℕ) d (j 1) := by
  have h0 : (y 0 : ℕ) < 256 := (y 0).isLt
  have ht : t.val % 16 < 16 := Nat.mod_lt _ (by decide)
  have hj : (j 0 : ℕ) < 4096 := (j 0).isLt
  unfold down rowBefore
  rw [row_block t]
  by_cases hu : (y 0 : ℕ) < d
  · rw [if_pos hu]
    by_cases hn : 0 < t.val % 16
    · rw [if_pos hn, dif_pos (by omega)]
      blk_point [iblk, V, idx t]
    · rw [if_neg hn, dif_neg (by omega)]
  · rw [if_neg hu, dif_pos (by omega)]
    blk_point [iblk, V, idx t]

/-- A row of taps read at a grid point. -/
theorem w_block (t : Fin cfg0.N) (y : S256x256.Idx) (j : S4096x1024.Idx)
    (hj1 : (j 1 : ℕ) = t.val / 16 * 256 + y 1) (k : Fin 31) :
    (show FVec Ideal S31x256 .f32 from iblk m c 2 t) (ix2 k (y 1)) = (m ((c : Thread nD τ).loc main_arg1)) (ix2 k (j 1)) := by
  blk_point [iblk, V, idx t]

/-- A vector laid out as one row, read at a column. -/
theorem row_read (B : FVec Ideal S1024 .f32) (j : S1x1024.Idx) :
    shapeCast S1x1024 B shapeCasts_S1024_S1x1024 j = B (ix1 (j 1)) := by
  obtain ⟨u, q, rfl⟩ : ∃ (u : Fin 1) (q : Fin 1024), j = ix2 u q := ⟨j 0, j 1, by funext i; fin_cases i <;> rfl⟩
  pointwise []

/-- The bias read at a grid point. -/
theorem v_block (t : Fin cfg0.N) (y : S256x256.Idx) (j : S4096x1024.Idx)
    (hj1 : (j 1 : ℕ) = t.val / 16 * 256 + y 1) :
    (show FVec Ideal S1x256 .f32 from iblk m c 3 t) (ix2 0 (y 1)) = (m ((c : Thread nD τ).loc main_arg2)) (ix1 (j 1)) := by
  have hV : V m c main_v0 = shapeCast S1x1024 (m ((c : Thread nD τ).loc main_arg2)) shapeCasts_S1024_S1x1024 := by
    unfold V
    after_results
    try rfl
  unfold iblk
  rw [hV]
  show shapeCast S1x1024 _ shapeCasts_S1024_S1x1024 _ = _
  refine (row_read _ _).trans ?_
  blk_point [idx t]

/-- What the reference computes of the arguments in memory. -/
def result : FVec Ideal S4096x1024 .f32 :=
  Cert.Reference31Ideal.Read.val_main_v220 (F := Ideal) (m ((c : Thread nD τ).loc main_arg0)) (m ((c : Thread nD τ).loc main_arg1)) (m ((c : Thread nD τ).loc main_arg2))

/-- One entry of a block is the reference's. -/
theorem point (t : Fin cfg0.N) (y : S256x256.Idx) (j : S4096x1024.Idx) (hj0 : (j 0 : ℕ) = t.val % 16 * 256 + y 0)
    (hj1 : (j 1 : ℕ) = t.val / 16 * 256 + y 1) :
    blockOut (grid0.coords t) (iblk m c 0 t) (iblk m c 1 t) (iblk m c 2 t) (iblk m c 3 t) y = result m c j := by
  refine (pay_at _ _ _ _ _ _).trans (Eq.trans ?_ (ref_at _ _ _ _).symm)
  rw [down_block m c t y j hj0 hj1 30 (by norm_num)]
  rw [down_block m c t y j hj0 hj1 29 (by norm_num)]
  rw [down_block m c t y j hj0 hj1 28 (by norm_num)]
  rw [down_block m c t y j hj0 hj1 27 (by norm_num)]
  rw [down_block m c t y j hj0 hj1 26 (by norm_num)]
  rw [down_block m c t y j hj0 hj1 25 (by norm_num)]
  rw [down_block m c t y j hj0 hj1 24 (by norm_num)]
  rw [down_block m c t y j hj0 hj1 23 (by norm_num)]
  rw [down_block m c t y j hj0 hj1 22 (by norm_num)]
  rw [down_block m c t y j hj0 hj1 21 (by norm_num)]
  rw [down_block m c t y j hj0 hj1 20 (by norm_num)]
  rw [down_block m c t y j hj0 hj1 19 (by norm_num)]
  rw [down_block m c t y j hj0 hj1 18 (by norm_num)]
  rw [down_block m c t y j hj0 hj1 17 (by norm_num)]
  rw [down_block m c t y j hj0 hj1 16 (by norm_num)]
  rw [down_block m c t y j hj0 hj1 15 (by norm_num)]
  rw [down_block m c t y j hj0 hj1 14 (by norm_num)]
  rw [down_block m c t y j hj0 hj1 13 (by norm_num)]
  rw [down_block m c t y j hj0 hj1 12 (by norm_num)]
  rw [down_block m c t y j hj0 hj1 11 (by norm_num)]
  rw [down_block m c t y j hj0 hj1 10 (by norm_num)]
  rw [down_block m c t y j hj0 hj1 9 (by norm_num)]
  rw [down_block m c t y j hj0 hj1 8 (by norm_num)]
  rw [down_block m c t y j hj0 hj1 7 (by norm_num)]
  rw [down_block m c t y j hj0 hj1 6 (by norm_num)]
  rw [down_block m c t y j hj0 hj1 5 (by norm_num)]
  rw [down_block m c t y j hj0 hj1 4 (by norm_num)]
  rw [down_block m c t y j hj0 hj1 3 (by norm_num)]
  rw [down_block m c t y j hj0 hj1 2 (by norm_num)]
  rw [down_block m c t y j hj0 hj1 1 (by norm_num)]
  rw [down_block m c t y j hj0 hj1 0 (by norm_num)]
  have hw := w_block m c t y j hj1
  rw [show (iblk m c 2 t : FVec Ideal S31x256 .f32) (ix2 0 (y 1)) = _ from hw 0]
  rw [show (iblk m c 2 t : FVec Ideal S31x256 .f32) (ix2 1 (y 1)) = _ from hw 1]
  rw [show (iblk m c 2 t : FVec Ideal S31x256 .f32) (ix2 2 (y 1)) = _ from hw 2]
  rw [show (iblk m c 2 t : FVec Ideal S31x256 .f32) (ix2 3 (y 1)) = _ from hw 3]
  rw [show (iblk m c 2 t : FVec Ideal S31x256 .f32) (ix2 4 (y 1)) = _ from hw 4]
  rw [show (iblk m c 2 t : FVec Ideal S31x256 .f32) (ix2 5 (y 1)) = _ from hw 5]
  rw [show (iblk m c 2 t : FVec Ideal S31x256 .f32) (ix2 6 (y 1)) = _ from hw 6]
  rw [show (iblk m c 2 t : FVec Ideal S31x256 .f32) (ix2 7 (y 1)) = _ from hw 7]
  rw [show (iblk m c 2 t : FVec Ideal S31x256 .f32) (ix2 8 (y 1)) = _ from hw 8]
  rw [show (iblk m c 2 t : FVec Ideal S31x256 .f32) (ix2 9 (y 1)) = _ from hw 9]
  rw [show (iblk m c 2 t : FVec Ideal S31x256 .f32) (ix2 10 (y 1)) = _ from hw 10]
  rw [show (iblk m c 2 t : FVec Ideal S31x256 .f32) (ix2 11 (y 1)) = _ from hw 11]
  rw [show (iblk m c 2 t : FVec Ideal S31x256 .f32) (ix2 12 (y 1)) = _ from hw 12]
  rw [show (iblk m c 2 t : FVec Ideal S31x256 .f32) (ix2 13 (y 1)) = _ from hw 13]
  rw [show (iblk m c 2 t : FVec Ideal S31x256 .f32) (ix2 14 (y 1)) = _ from hw 14]
  rw [show (iblk m c 2 t : FVec Ideal S31x256 .f32) (ix2 15 (y 1)) = _ from hw 15]
  rw [show (iblk m c 2 t : FVec Ideal S31x256 .f32) (ix2 16 (y 1)) = _ from hw 16]
  rw [show (iblk m c 2 t : FVec Ideal S31x256 .f32) (ix2 17 (y 1)) = _ from hw 17]
  rw [show (iblk m c 2 t : FVec Ideal S31x256 .f32) (ix2 18 (y 1)) = _ from hw 18]
  rw [show (iblk m c 2 t : FVec Ideal S31x256 .f32) (ix2 19 (y 1)) = _ from hw 19]
  rw [show (iblk m c 2 t : FVec Ideal S31x256 .f32) (ix2 20 (y 1)) = _ from hw 20]
  rw [show (iblk m c 2 t : FVec Ideal S31x256 .f32) (ix2 21 (y 1)) = _ from hw 21]
  rw [show (iblk m c 2 t : FVec Ideal S31x256 .f32) (ix2 22 (y 1)) = _ from hw 22]
  rw [show (iblk m c 2 t : FVec Ideal S31x256 .f32) (ix2 23 (y 1)) = _ from hw 23]
  rw [show (iblk m c 2 t : FVec Ideal S31x256 .f32) (ix2 24 (y 1)) = _ from hw 24]
  rw [show (iblk m c 2 t : FVec Ideal S31x256 .f32) (ix2 25 (y 1)) = _ from hw 25]
  rw [show (iblk m c 2 t : FVec Ideal S31x256 .f32) (ix2 26 (y 1)) = _ from hw 26]
  rw [show (iblk m c 2 t : FVec Ideal S31x256 .f32) (ix2 27 (y 1)) = _ from hw 27]
  rw [show (iblk m c 2 t : FVec Ideal S31x256 .f32) (ix2 28 (y 1)) = _ from hw 28]
  rw [show (iblk m c 2 t : FVec Ideal S31x256 .f32) (ix2 29 (y 1)) = _ from hw 29]
  rw [show (iblk m c 2 t : FVec Ideal S31x256 .f32) (ix2 30 (y 1)) = _ from hw 30]
  rw [show (iblk m c 3 t : FVec Ideal S1x256 .f32) (ix2 0 (y 1)) = _ from v_block m c t y j hj1]
/-- The block before, zero where there is none, as the frame names it. -/
theorem before_eq (i : grid0.Coords) (a b : FVec Ideal S256x256 .f32) (w : FVec Ideal S31x256 .f32) (v : FVec Ideal S1x256 .f32) :
    k0_pay21 (F := Ideal) i a b w v = k0_pay1 i b := by
  unfold k0_pay21
  frame_out

/-- What the frame says a grid point leaves is the block the kernel writes. -/
theorem out_eq (i : grid0.Coords) (a b : FVec Ideal S256x256 .f32) (w : FVec Ideal S31x256 .f32) (v : FVec Ideal S1x256 .f32) :
    out0_4 (F := Ideal) i a b w v = blockOut i a b w v := by
  frame_out
  rw [before_eq]

set_option maxHeartbeats 4000000 in
/-- The array the launch writes is the reference's. -/
theorem final : (dats m 0 c).arrAt 4 cfg0.N = result m c := by
  refine (dats m 0 c).arrAt_eq_of_covers 4 _ (by decide +kernel) fun t hf y => ?_
  blk_simp
  rw [after0_4]
  rw [out_eq]
  refine point m c t y _ ?_ ?_
  all_goals (blk_simp [idx t] <;> try omega)

set_option maxHeartbeats 4000000 in
/-- The kernel's ideal result is the reference's, for every input. -/
theorem algebraic : Cert.algebraic_Kernel31Ideal_Reference31Ideal := by
  pair_intro
  · run_from Cert.Kernel31Ideal.Gen.run_main m g
  · hlo_run
    exact (final m c).symm

/-- The kernel changes nothing but its results, over the machine's own floats. -/
theorem frame_kernel : Cert.quiescent_Kernel31 :=
  fun m ρ _ => Cert.Kernel31.Gen.frame m ρ

/-- The same over the extended reals. -/
theorem frame_ideal : Cert.quiescent_Kernel31Ideal :=
  fun m ρ _ => Cert.Kernel31Ideal.Gen.frame m ρ

/-- The reference changes nothing but its results. -/
theorem frame_ref : Cert.quiescent_Reference31Ideal := by
  intro m ρ _
  hlo_run
  · exact fun c => by simp
  · exact sem_eq_zero_of_no_sems (by decide) _

end Cert.CfConv

end
-- ==== Proof.CfLnOut.lean ====
/- The layer norm and its SiLU, row by row. -/
module

public import proofs.«01_k».proof.Defs
public import proofs.«01_k».proof.Proof.Gen.Kernel32.Frame
public import proofs.«01_k».proof.Proof.Gen.Kernel32Ideal.Frame
public import proofs.«01_k».proof.Proof.Gen.Reference32Ideal.Read
public import Idealize.ShloMosaic.Lib.Pipeline.ValueKit
public import Idealize.ShloMosaic.Lib.Claim

@[expose] public section

set_option maxRecDepth 16384

noncomputable section

namespace Cert.CfLnOut

open Cert.Kernel32Ideal Cert.Kernel32Ideal.Gen
open Idealize.ShloMosaic Idealize.ShloMosaic.TcCoe Idealize.SL.Sem

variable (m : (ℓ : Loc nD τ sig) → Buf (Elt Ideal) ℓ) (c : Dev nD)

/-- The block the kernel writes, of the blocks it reads. -/
abbrev blockOut (x : FVec Ideal S256x1024 .f32) (g b : FVec Ideal S1x1024 .f32) : FVec Ideal S256x1024 .bf16 :=
  k0_pay1 (F := Ideal) x g b

/-- A row of the block is the reference's row, where the two read the same row. -/
theorem row_at (x : FVec Ideal S256x1024 .f32) (X : FVec Ideal S4096x1024 .f32) (g b : FVec Ideal S1x1024 .f32) (G B : FVec Ideal S1024 .f32)
    (r : Fin 256) (n : Fin 4096) (hx : ∀ q : Fin 1024, x (ix2 r q) = X (ix2 n q))
    (hg : ∀ (u : Fin 1) (q : Fin 1024), g (ix2 u q) = G (ix1 q)) (hb : ∀ (u : Fin 1) (q : Fin 1024), b (ix2 u q) = B (ix1 q)) (q : Fin 1024) :
    blockOut x g b (ix2 r q) = Cert.Reference32Ideal.Read.val_main_v23 (F := Ideal) X G B (ix2 n q) := by
  pointwise [blockOut, k0_pay1, Cert.Reference32Ideal.Read.val_main_cst, Cert.Reference32Ideal.Read.val_main_v0, Cert.Reference32Ideal.Read.val_main_v1, Cert.Reference32Ideal.Read.val_main_cst_0, Cert.Reference32Ideal.Read.val_main_v2, Cert.Reference32Ideal.Read.val_main_v3, Cert.Reference32Ideal.Read.val_main_v4, Cert.Reference32Ideal.Read.val_main_v5, Cert.Reference32Ideal.Read.val_main_v6, Cert.Reference32Ideal.Read.val_main_cst_1, Cert.Reference32Ideal.Read.val_main_v7, Cert.Reference32Ideal.Read.val_main_v8, Cert.Reference32Ideal.Read.val_main_cst_2, Cert.Reference32Ideal.Read.val_main_v9, Cert.Reference32Ideal.Read.val_main_v10, Cert.Reference32Ideal.Read.val_main_cst_3, Cert.Reference32Ideal.Read.val_main_v11, Cert.Reference32Ideal.Read.val_main_v12, Cert.Reference32Ideal.Read.val_main_v13, Cert.Reference32Ideal.Read.val_main_v14, Cert.Reference32Ideal.Read.val_main_v15, Cert.Reference32Ideal.Read.val_main_v16, Cert.Reference32Ideal.Read.val_main_v17, Cert.Reference32Ideal.Read.val_main_v18, Cert.Reference32Ideal.Read.val_main_v19, Cert.Reference32Ideal.Read.val_main_v20, Cert.Reference32Ideal.Read.val_main_v21, Cert.Reference32Ideal.Read.val_main_call0_v0, Cert.Reference32Ideal.Read.val_main_call0_v1, Cert.Reference32Ideal.Read.val_main_call0_cst, Cert.Reference32Ideal.Read.val_main_call0_v2, Cert.Reference32Ideal.Read.val_main_call0_v3, Cert.Reference32Ideal.Read.val_main_call0_cst_0, Cert.Reference32Ideal.Read.val_main_call0_v4, Cert.Reference32Ideal.Read.val_main_call0_v5, Cert.Reference32Ideal.Read.val_main_v22, Cert.Reference32Ideal.Read.val_main_v23]
  simp only [hx, hg, hb]
  rfl

/-- The block that every window is on at a grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- A row of the input at a grid point. -/
theorem x_block (t : Fin cfg0.N) (r : Fin 256) (n : Fin 4096) (hn : (n : ℕ) = t.val * 256 + r) (q : Fin 1024) :
    iblk m c 0 t (ix2 r q) = (m ((c : Thread nD τ).loc main_arg0)) (ix2 n q) := by
  blk_point [iblk, V, idx t]

/-- A vector laid out as one row, read at a column. -/
theorem row_read (B : FVec Ideal S1024 .f32) (j : S1x1024.Idx) :
    shapeCast S1x1024 B shapeCasts_S1024_S1x1024 j = B (ix1 (j 1)) := by
  obtain ⟨u, q, rfl⟩ : ∃ (u : Fin 1) (q : Fin 1024), j = ix2 u q := ⟨j 0, j 1, by funext i; fin_cases i <;> rfl⟩
  pointwise []

/-- The scale at a grid point. -/
theorem g_block (t : Fin cfg0.N) (u : Fin 1) (q : Fin 1024) : iblk m c 1 t (ix2 u q) = (m ((c : Thread nD τ).loc main_arg1)) (ix1 q) := by
  have hV : V m c main_v0 = shapeCast S1x1024 (m ((c : Thread nD τ).loc main_arg1)) shapeCasts_S1024_S1x1024 := by
    unfold V
    after_results
    try rfl
  unfold iblk
  rw [hV]
  show shapeCast S1x1024 _ shapeCasts_S1024_S1x1024 _ = _
  refine (row_read _ _).trans ?_
  blk_point [idx t]

/-- The shift at a grid point. -/
theorem b_block (t : Fin cfg0.N) (u : Fin 1) (q : Fin 1024) : iblk m c 2 t (ix2 u q) = (m ((c : Thread nD τ).loc main_arg2)) (ix1 q) := by
  have hV : V m c main_v1 = shapeCast S1x1024 (m ((c : Thread nD τ).loc main_arg2)) shapeCasts_S1024_S1x1024 := by
    unfold V
    after_results
    try rfl
  unfold iblk
  rw [hV]
  show shapeCast S1x1024 _ shapeCasts_S1024_S1x1024 _ = _
  refine (row_read _ _).trans ?_
  blk_point [idx t]

/-- What the reference computes of the arguments in memory. -/
def result : FVec Ideal S4096x1024 .bf16 :=
  Cert.Reference32Ideal.Read.val_main_v23 (F := Ideal) (m ((c : Thread nD τ).loc main_arg0)) (m ((c : Thread nD τ).loc main_arg1)) (m ((c : Thread nD τ).loc main_arg2))

/-- One entry of a block is the reference's. -/
theorem point (t : Fin cfg0.N) (y : S256x1024.Idx) (J : S4096x1024.Idx) (h0 : (J 0 : ℕ) = t.val * 256 + y 0) (h1 : (J 1 : ℕ) = y 1) :
    blockOut (iblk m c 0 t) (iblk m c 1 t) (iblk m c 2 t) y = result m c J := by
  have e : J 1 = y 1 := Fin.ext h1
  rw [ValueIdx.eq_ix2 y, ValueIdx.eq_ix2 J, e]
  exact row_at _ _ _ _ _ _ _ _ (x_block m c t _ _ h0) (g_block m c t) (b_block m c t) _

/-- The array the launch writes is the reference's. -/
theorem final : (dats m 0 c).arrAt 3 cfg0.N = result m c := by
  refine (dats m 0 c).arrAt_eq_of_covers 3 _ (by decide +kernel) fun t hf y => ?_
  blk_simp
  rw [after0_3]
  frame_out
  refine point m c t y _ ?_ ?_
  all_goals (blk_simp [idx t] <;> try omega)

/-- The kernel's ideal result is the reference's, for every input. -/
theorem algebraic : Cert.algebraic_Kernel32Ideal_Reference32Ideal := by
  pair_intro
  · run_from Cert.Kernel32Ideal.Gen.run_main m g
  · hlo_run
    exact (final m c).symm

/-- The kernel changes nothing but its results, over the machine's own floats. -/
theorem frame_kernel : Cert.quiescent_Kernel32 :=
  fun m ρ _ => Cert.Kernel32.Gen.frame m ρ

/-- The same over the extended reals. -/
theorem frame_ideal : Cert.quiescent_Kernel32Ideal :=
  fun m ρ _ => Cert.Kernel32Ideal.Gen.frame m ρ

/-- The reference changes nothing but its results. -/
theorem frame_ref : Cert.quiescent_Reference32Ideal := by
  intro m ρ _
  hlo_run
  · exact fun c => by simp
  · exact sem_eq_zero_of_no_sems (by decide) _

end Cert.CfLnOut

end
-- ==== Proof.RmsOut.lean ====
/- The RMS norm, row by row. -/
module

public import proofs.«01_k».proof.Defs
public import proofs.«01_k».proof.Proof.Gen.Kernel33.Frame
public import proofs.«01_k».proof.Proof.Gen.Kernel33Ideal.Frame
public import proofs.«01_k».proof.Proof.Gen.Reference33Ideal.Read
public import Idealize.ShloMosaic.Lib.Pipeline.ValueKit
public import Idealize.ShloMosaic.Lib.Claim

@[expose] public section

set_option maxRecDepth 16384

noncomputable section

namespace Cert.RmsOut

open Cert.Kernel33Ideal Cert.Kernel33Ideal.Gen
open Idealize.ShloMosaic Idealize.ShloMosaic.TcCoe Idealize.SL.Sem

variable (m : (ℓ : Loc nD τ sig) → Buf (Elt Ideal) ℓ) (c : Dev nD)

/-- The block the kernel writes, of the blocks it reads. -/
abbrev blockOut (x : FVec Ideal S256x2048 .f32) (g : FVec Ideal S1x2048 .f32) : FVec Ideal S256x2048 .bf16 :=
  k0_pay1 (F := Ideal) x g

/-- A row of the block is the reference's row, where the two read the same row. -/
theorem row_at (x : FVec Ideal S256x2048 .f32) (X : FVec Ideal S4096x2048 .f32) (g : FVec Ideal S1x2048 .f32) (G : FVec Ideal S2048 .f32)
    (r : Fin 256) (n : Fin 4096) (hx : ∀ q : Fin 2048, x (ix2 r q) = X (ix2 n q))
    (hg : ∀ (u : Fin 1) (q : Fin 2048), g (ix2 u q) = G (ix1 q)) (q : Fin 2048) :
    blockOut x g (ix2 r q) = Cert.Reference33Ideal.Read.val_main_v13 (F := Ideal) X G (ix2 n q) := by
  pointwise [blockOut, k0_pay1, Cert.Reference33Ideal.Read.val_main_v0, Cert.Reference33Ideal.Read.val_main_cst, Cert.Reference33Ideal.Read.val_main_v1, Cert.Reference33Ideal.Read.val_main_v2, Cert.Reference33Ideal.Read.val_main_cst_0, Cert.Reference33Ideal.Read.val_main_v3, Cert.Reference33Ideal.Read.val_main_v4, Cert.Reference33Ideal.Read.val_main_cst_1, Cert.Reference33Ideal.Read.val_main_v5, Cert.Reference33Ideal.Read.val_main_v6, Cert.Reference33Ideal.Read.val_main_v7, Cert.Reference33Ideal.Read.val_main_v8, Cert.Reference33Ideal.Read.val_main_v9, Cert.Reference33Ideal.Read.val_main_v10, Cert.Reference33Ideal.Read.val_main_v11, Cert.Reference33Ideal.Read.val_main_v12, Cert.Reference33Ideal.Read.val_main_v13]
  simp only [hx, hg]

/-- The block that every window is on at a grid point. -/
theorem idx : ∀ t : Fin cfg0.N, win0_0.index t = ![t.val, 0] ∧ win0_1.index t = ![0, 0]
    ∧ win0_2.index t = ![t.val, 0] :=
  (by decide +kernel : ∀ t : Fin grid0.N, _)

/-- A row of the input at a grid point. -/
theorem x_block (t : Fin cfg0.N) (r : Fin 256) (n : Fin 4096) (hn : (n : ℕ) = t.val * 256 + r) (q : Fin 2048) :
    iblk m c 0 t (ix2 r q) = (m ((c : Thread nD τ).loc main_arg0)) (ix2 n q) := by
  blk_point [iblk, V, idx t]

/-- A vector laid out as one row, read at a column. -/
theorem row_read (B : FVec Ideal S2048 .f32) (j : S1x2048.Idx) :
    shapeCast S1x2048 B shapeCasts_S2048_S1x2048 j = B (ix1 (j 1)) := by
  obtain ⟨u, q, rfl⟩ : ∃ (u : Fin 1) (q : Fin 2048), j = ix2 u q := ⟨j 0, j 1, by funext i; fin_cases i <;> rfl⟩
  pointwise []

/-- The scale at a grid point. -/
theorem g_block (t : Fin cfg0.N) (u : Fin 1) (q : Fin 2048) : iblk m c 1 t (ix2 u q) = (m ((c : Thread nD τ).loc main_arg1)) (ix1 q) := by
  have hV : V m c main_v0 = shapeCast S1x2048 (m ((c : Thread nD τ).loc main_arg1)) shapeCasts_S2048_S1x2048 := by
    unfold V
    after_results
    try rfl
  unfold iblk
  rw [hV]
  show shapeCast S1x2048 _ shapeCasts_S2048_S1x2048 _ = _
  refine (row_read _ _).trans ?_
  blk_point [idx t]

/-- What the reference computes of the arguments in memory. -/
def result : FVec Ideal S4096x2048 .bf16 :=
  Cert.Reference33Ideal.Read.val_main_v13 (F := Ideal) (m ((c : Thread nD τ).loc main_arg0)) (m ((c : Thread nD τ).loc main_arg1))

/-- One entry of a block is the reference's. -/
theorem point (t : Fin cfg0.N) (y : S256x2048.Idx) (J : S4096x2048.Idx) (h0 : (J 0 : ℕ) = t.val * 256 + y 0) (h1 : (J 1 : ℕ) = y 1) :
    blockOut (iblk m c 0 t) (iblk m c 1 t) y = result m c J := by
  have e : J 1 = y 1 := Fin.ext h1
  rw [ValueIdx.eq_ix2 y, ValueIdx.eq_ix2 J, e]
  exact row_at _ _ _ _ _ _ (x_block m c t _ _ h0) (g_block m c t) _

/-- The array the launch writes is the reference's. -/
theorem final : (dats m 0 c).arrAt 2 cfg0.N = result m c := by
  refine (dats m 0 c).arrAt_eq_of_covers 2 _ (by decide +kernel) fun t hf y => ?_
  blk_simp
  rw [after0_2]
  frame_out
  refine point m c t y _ ?_ ?_
  all_goals (blk_simp [idx t] <;> try omega)

/-- The kernel's ideal result is the reference's, for every input. -/
theorem algebraic : Cert.algebraic_Kernel33Ideal_Reference33Ideal := by
  pair_intro
  · run_from Cert.Kernel33Ideal.Gen.run_main m g
  · hlo_run
    exact (final m c).symm

/-- The kernel changes nothing but its results, over the machine's own floats. -/
theorem frame_kernel : Cert.quiescent_Kernel33 :=
  fun m ρ _ => Cert.Kernel33.Gen.frame m ρ

/-- The same over the extended reals. -/
theorem frame_ideal : Cert.quiescent_Kernel33Ideal :=
  fun m ρ _ => Cert.Kernel33Ideal.Gen.frame m ρ

/-- The reference changes nothing but its results. -/
theorem frame_ref : Cert.quiescent_Reference33Ideal := by
  intro m ρ _
  hlo_run
  · exact fun c => by simp
  · exact sem_eq_zero_of_no_sems (by decide) _

end Cert.RmsOut

end
-- ==== Proof.RmsGrad.lean ====
/- The gradient of the RMS norm, with the residual gradient added. -/
module

public import proofs.«01_k».proof.Defs
public import proofs.«01_k».proof.Proof.Gen.Kernel34.Frame
public import proofs.«01_k».proof.Proof.Gen.Kernel34Ideal.Frame
public import proofs.«01_k».proof.Proof.Gen.Reference34Ideal.Read
public import Idealize.ShloMosaic.Lib.Pipeline.ValueKit
public import Idealize.ShloMosaic.Lib.Claim

@[expose] public section

set_option maxRecDepth 16384

noncomputable section

namespace Cert.RmsGrad

open Cert.Kernel34Ideal Cert.Kernel34Ideal.Gen
open Idealize.ShloMosaic Idealize.ShloMosaic.TcCoe Idealize.SL.Sem

variable (m : (ℓ : Loc nD τ sig) → Buf (Elt Ideal) ℓ) (c : Dev nD)

/-- The width of a row. -/
theorem width_eq : Ideal.ofBits .f32 1157627904#32 = ((2048 : ℝ) : EReal) := by
  simp [Ideal.ofBits, Ideal.ieee, -EReal.coe_mul]; norm_num

/-- Minus one half. -/
theorem half_eq : Ideal.ofBits .f32 3204448256#32 = ((-(1 / 2) : ℝ) : EReal) := by
  simp [Ideal.ofBits, Ideal.ieee, -EReal.coe_mul]; norm_num

/-- One half. -/
theorem pos_half_eq : Ideal.ofBits .f32 1056964608#32 = ((1 / 2 : ℝ) : EReal) := by
  simp [Ideal.ofBits, Ideal.ieee, -EReal.coe_mul]; norm_num

/-- Half a squared error's mean over a row, differentiated: the kernel's one factor against the reference's. -/
theorem cotangent (e : EReal) : e * Ideal.ofBits .f32 973078528#32
    = Ideal.div (Ideal.ofBits .f32 1056964608#32) (Ideal.ofBits .f32 1157627904#32)
      * (Ideal.ofBits .f32 1073741824#32 * e) := by
  have h1 : Ideal.ofBits .f32 973078528#32 = ((1 / 2048 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; norm_num
  rw [width_eq, pos_half_eq, h1, h2, Ideal.div_coe (by norm_num : (2048 : ℝ) ≠ 0), ← mul_assoc, mul_comm e]
  simp only [← EReal.coe_mul]
  norm_num

/-- The small number added to the mean square is positive. -/
theorem eps_pos : 0 < Ideal.ofBits .f32 897988541#32 := by
  rw [show Ideal.ofBits .f32 897988541#32 = ((8796093 / 8796093022208 : ℝ) : EReal) by
    simp [Ideal.ofBits, Ideal.ieee, -EReal.coe_mul]; norm_num]
  exact EReal.coe_pos.mpr (by norm_num)

/-- A square is not negative. -/
theorem sq_nonneg' (a : EReal) : 0 ≤ a * a := by
  rcases le_total 0 a with h | h
  · exact mul_nonneg h h
  · have h' : 0 ≤ -a := by simpa using EReal.neg_le_neg_iff.mpr h
    simpa using mul_nonneg h' h'

/-- A positive real factor goes into a finite sum. -/
theorem mul_sum_pos {ι : Type} (s : Finset ι) (f : ι → EReal) (k : ℝ) (hk : 0 ≤ k) :
    (k : EReal) * ∑ i ∈ s, f i = ∑ i ∈ s, (k : EReal) * f i := by
  classical
  induction s using Finset.induction_on with
  | empty => simp
  | insert a s ha ih =>
    rw [Finset.sum_insert ha, Finset.sum_insert ha,
      EReal.left_distrib_of_nonneg_of_ne_top (EReal.coe_nonneg.mpr hk) (EReal.coe_ne_top k), ih]

/-- Twice an extended real. -/
theorem add_self (a : EReal) : a + a = ((2 : ℝ) : EReal) * a := by
  induction a with
  | bot => rw [EReal.coe_mul_bot_of_pos (by norm_num)]; rfl
  | top => rw [EReal.coe_mul_top_of_pos (by norm_num)]; rfl
  | coe x => rw [← EReal.coe_add, ← EReal.coe_mul, two_mul]

/-- The mean square of a row, with the small number added, is positive. -/
theorem square_pos (X : Fin 2048 → EReal) :
    0 < Ideal.div (∑ q, X q * X q) (Ideal.ofBits .f32 1157627904#32) + Ideal.ofBits .f32 897988541#32 := by
  rw [width_eq, Ideal.div_coe (by norm_num : (2048 : ℝ) ≠ 0)]
  have h0 : 0 ≤ ∑ q, X q * X q := Finset.sum_nonneg fun q _ => sq_nonneg' (X q)
  have h1 : 0 ≤ (∑ q, X q * X q) * (((1 / 2048 : ℝ)) : EReal) := mul_nonneg h0 (EReal.coe_nonneg.mpr (by norm_num))
  exact lt_of_lt_of_le eps_pos (le_add_of_nonneg_left h1)

/-- The kernel's formula for the derivative of a normed row, against the derivative taken step by step. `v` is the mean
    square with the small number, `D` the cotangent times the scale. -/
theorem core (v : EReal) (hv : 0 < v) (X D : Fin 2048 → EReal) (q : Fin 2048) :
    Ideal.rsqrt v * (D q - X q * Ideal.rsqrt v * Ideal.div (∑ p, D p * (X p * Ideal.rsqrt v)) (Ideal.ofBits .f32 1157627904#32))
      = D q * Ideal.rsqrt v
        + X q * Ideal.div ((∑ p, X p * D p) * (Ideal.ofBits .f32 3204448256#32 * Ideal.div (Ideal.rsqrt v) v)) (Ideal.ofBits .f32 1157627904#32)
        + Ideal.div ((∑ p, X p * D p) * (Ideal.ofBits .f32 3204448256#32 * Ideal.div (Ideal.rsqrt v) v)) (Ideal.ofBits .f32 1157627904#32) * X q := by
  rw [width_eq, half_eq]
  simp only [Ideal.div_coe (by norm_num : (2048 : ℝ) ≠ 0)]
  generalize hS : (∑ p, X p * D p) = S
  induction v with
  | bot => exact absurd hv (by simp)
  | top =>
    have hr : Ideal.rsqrt ⊤ = 0 := rfl
    have hd : Ideal.div 0 ⊤ = 0 := by simp [Ideal.div]
    simp only [hr, hd, zero_mul, mul_zero, add_zero]
  | coe w =>
    have hw : 0 < w := EReal.coe_pos.mp hv
    obtain ⟨k, hk, hkk, hr⟩ : ∃ k : ℝ, 0 < k ∧ k * k = w⁻¹ ∧ Ideal.rsqrt (w : EReal) = (k : EReal) := by
      refine ⟨(Real.sqrt w)⁻¹, inv_pos.mpr (Real.sqrt_pos.mpr hw), ?_, ?_⟩
      · rw [← mul_inv, Real.mul_self_sqrt hw.le]
      · show (if w < 0 then (⊥ : EReal) else if w = 0 then ⊤ else ((Real.sqrt w)⁻¹ : ℝ)) = _
        rw [if_neg hw.not_gt, if_neg hw.ne']
    rw [hr]
    have hsum : (∑ p, D p * (X p * (k : EReal))) = (k : EReal) * S := by
      rw [← hS, mul_sum_pos _ _ _ hk.le]
      exact Finset.sum_congr rfl fun p _ => by ac_rfl
    rw [hsum, Ideal.div_coe hw.ne', sub_eq_add_neg,
      EReal.left_distrib_of_nonneg_of_ne_top (EReal.coe_nonneg.mpr hk.le) (EReal.coe_ne_top k), add_assoc, mul_comm _ (X q), add_self]
    refine congrArg₂ (· + ·) (mul_comm _ _) ?_
    rw [mul_neg, ← neg_mul, ← EReal.coe_neg]
    have e1 : ((-k : ℝ) : EReal) * (X q * k * (k * S * ((1 / 2048 : ℝ) : EReal)))
        = X q * S * (((-k : ℝ) : EReal) * k * k * ((1 / 2048 : ℝ) : EReal)) := by ac_rfl
    have e2 : ((2 : ℝ) : EReal) * (X q * (S * (((-(1 / 2) : ℝ) : EReal) * (k * ((1 / w : ℝ) : EReal))) * ((1 / 2048 : ℝ) : EReal)))
        = X q * S * (((2 : ℝ) : EReal) * ((-(1 / 2) : ℝ) : EReal) * k * ((1 / w : ℝ) : EReal) * ((1 / 2048 : ℝ) : EReal)) := by ac_rfl
    rw [e1, e2]
    refine congrArg (X q * S * ·) ?_
    simp only [← EReal.coe_mul]
    refine congrArg _ ?_
    rw [one_div w, ← hkk]
    ring

section Row

variable (x d e : FVec Ideal S256x2048 .f32) (X Dh E : FVec Ideal S4096x2048 .f32) (g : FVec Ideal S1x2048 .f32) (G : FVec Ideal S2048 .f32)
  (r : Fin 256) (n : Fin 4096)
  (hx : ∀ q : Fin 2048, x (ix2 r q) = X (ix2 n q)) (hd : ∀ q : Fin 2048, d (ix2 r q) = Dh (ix2 n q))
  (he : ∀ q : Fin 2048, e (ix2 r q) = E (ix2 n q)) (hg : ∀ (u : Fin 1) (q : Fin 2048), g (ix2 u q) = G (ix1 q))

include hx in
theorem normed (q : Fin 2048) : k0_pay3 (F := Ideal) x (ix2 r q) = Cert.Reference34Ideal.Read.val_main_v12 (F := Ideal) X (ix2 n q) := by
  pointwise [k0_pay2, k0_pay3, Cert.Reference34Ideal.Read.val_main_v12, Cert.Reference34Ideal.Read.val_main_v11, Cert.Reference34Ideal.Read.val_main_v7, Cert.Reference34Ideal.Read.val_main_v6, Cert.Reference34Ideal.Read.val_main_v5, Cert.Reference34Ideal.Read.val_main_cst_1, Cert.Reference34Ideal.Read.val_main_v4, Cert.Reference34Ideal.Read.val_main_v3, Cert.Reference34Ideal.Read.val_main_cst_0, Cert.Reference34Ideal.Read.val_main_v2, Cert.Reference34Ideal.Read.val_main_v1, Cert.Reference34Ideal.Read.val_main_cst, Cert.Reference34Ideal.Read.val_main_v0]
  simp only [hx]

include hx hd he hg in
theorem dx (q : Fin 2048) : k0_pay4 (F := Ideal) x d g e (ix2 r q) = Cert.Reference34Ideal.Read.val_main_v36 (F := Ideal) Dh X G E (ix2 n q) := by
  pointwise [k0_pay2, k0_pay3, k0_pay4, Cert.Reference34Ideal.Read.val_main_v0, Cert.Reference34Ideal.Read.val_main_v1, Cert.Reference34Ideal.Read.val_main_v2, Cert.Reference34Ideal.Read.val_main_v3, Cert.Reference34Ideal.Read.val_main_v4, Cert.Reference34Ideal.Read.val_main_v5, Cert.Reference34Ideal.Read.val_main_v6, Cert.Reference34Ideal.Read.val_main_v7, Cert.Reference34Ideal.Read.val_main_v8, Cert.Reference34Ideal.Read.val_main_v9, Cert.Reference34Ideal.Read.val_main_v10, Cert.Reference34Ideal.Read.val_main_v11, Cert.Reference34Ideal.Read.val_main_v13, Cert.Reference34Ideal.Read.val_main_v19, Cert.Reference34Ideal.Read.val_main_v20, Cert.Reference34Ideal.Read.val_main_v22, Cert.Reference34Ideal.Read.val_main_v23, Cert.Reference34Ideal.Read.val_main_v24, Cert.Reference34Ideal.Read.val_main_v25, Cert.Reference34Ideal.Read.val_main_v26, Cert.Reference34Ideal.Read.val_main_v27, Cert.Reference34Ideal.Read.val_main_v28, Cert.Reference34Ideal.Read.val_main_v29, Cert.Reference34Ideal.Read.val_main_v30, Cert.Reference34Ideal.Read.val_main_v31, Cert.Reference34Ideal.Read.val_main_v32, Cert.Reference34Ideal.Read.val_main_v33, Cert.Reference34Ideal.Read.val_main_v34, Cert.Reference34Ideal.Read.val_main_v35, Cert.Reference34Ideal.Read.val_main_v36, Cert.Reference34Ideal.Read.val_main_cst, Cert.Reference34Ideal.Read.val_main_cst_0, Cert.Reference34Ideal.Read.val_main_cst_1, Cert.Reference34Ideal.Read.val_main_cst_2, Cert.Reference34Ideal.Read.val_main_cst_5, Cert.Reference34Ideal.Read.val_main_cst_6, Cert.Reference34Ideal.Read.val_main_cst_7]
  simp only [hx, hd, he, hg, Fin.sum_univ_one]
  exact congrArg (E (ix2 n q) + ·) (core _ (square_pos fun p => X (ix2 n p)) (fun p => X (ix2 n p)) (fun p => Dh (ix2 n p) * G (ix1 p)) q)

include hx hd he hg in
theorem dxb (q : Fin 2048) : k0_pay5 (F := Ideal) x d g e (ix2 r q) = Cert.Reference34Ideal.Read.val_main_v37 (F := Ideal) Dh X G E (ix2 n q) := by
  have h := dx x d e X Dh E g G r n hx hd he hg q
  generalize hp : k0_pay4 (F := Ideal) x d g e = p at h
  unfold k0_pay5 Cert.Reference34Ideal.Read.val_main_v37
  rw [hp]
  generalize Cert.Reference34Ideal.Read.val_main_v36 (F := Ideal) Dh X G E = s at h ⊢
  pointwise []
  exact h

/-- One block's part of the scale's gradient. -/
def gainTerm (x d : FVec Ideal S256x2048 .f32) (j : S1x2048.Idx) : EReal :=
  ∑ r : Fin 256, d (ix2 r (j 1)) * k0_pay3 (F := Ideal) x (ix2 r (j 1))

/-- The scale's block after a point. -/
theorem gain_add (v : FVec Ideal S1x2048 .f32) (j : S1x2048.Idx) :
    k0_pay1 (F := Ideal) d (k0_pay3 x) v j = v j + gainTerm x d j := by
  unfold gainTerm
  generalize k0_pay3 (F := Ideal) x = q
  pointwise [k0_pay1]

end Row

/-- The scale's block starts at zero. -/
theorem gain_zero (j : S1x2048.Idx) : k0_pay6 (F := Ideal) j = 0 := by
  pointwise [k0_pay6]

/-- The block that every window is on at a grid point. -/
theorem idx : ∀ t : Fin cfg0.N, win0_0.index t = ![t.val % 16, 0] ∧ win0_1.index t = ![t.val % 16, 0]
    ∧ win0_2.index t = ![0, 0] ∧ win0_3.index t = ![t.val % 16, 0] ∧ win0_4.index t = ![t.val % 16, 0]
    ∧ win0_5.index t = ![t.val % 16, 0] ∧ win0_6.index t = ![0, 0] :=
  (by decide +kernel : ∀ t : Fin grid0.N, _)

/-- The gradient's block, at every grid point. -/
theorem dx_out (t : Fin cfg0.N) : (outsAt0 m c t.val t.isLt).1
    = k0_pay4 (F := Ideal) (iblk m c 1 t) (iblk m c 0 t) (iblk m c 2 t) (iblk m c 3 t) := by
  by_cases h : t.val % 16 = 0
  · rw [outsAt0_A m c t h]
    frame_out
  · rw [outsAt0_B m c t h]
    frame_out

/-- The same in half precision. -/
theorem dxb_out (t : Fin cfg0.N) : (outsAt0 m c t.val t.isLt).2.1
    = k0_pay5 (F := Ideal) (iblk m c 1 t) (iblk m c 0 t) (iblk m c 2 t) (iblk m c 3 t) := by
  by_cases h : t.val % 16 = 0
  · rw [outsAt0_A m c t h]
    frame_out
  · rw [outsAt0_B m c t h]
    frame_out

theorem gain_step (t : Fin cfg0.N) (h : ¬t.val % 16 = 0) (j : S1x2048.Idx) : (outsAt0 m c t.val t.isLt).2.2 j
    = (outsAt0 m c (t.val - 1) (Nat.lt_of_le_of_lt (Nat.sub_le _ _) t.isLt)).2.2 j
      + gainTerm (iblk m c 1 t) (iblk m c 0 t) j := by
  rw [outsAt0_B m c t h]
  frame_out
  exact gain_add _ _ _ j

theorem gain_start (t : Fin cfg0.N) (h : t.val % 16 = 0) (j : S1x2048.Idx) : (outsAt0 m c t.val t.isLt).2.2 j
    = 0 + gainTerm (iblk m c 1 t) (iblk m c 0 t) j := by
  rw [outsAt0_A m c t h]
  frame_out
  exact (gain_add _ _ _ j).trans (congrArg (· + _) (gain_zero j))

section Blocks

variable (t : Fin cfg0.N) (r : Fin 256) (n : Fin 4096) (hn : (n : ℕ) = t.val % 16 * 256 + r)

include hn in
theorem d_block (q : Fin 2048) : iblk m c 0 t (ix2 r q) = (m ((c : Thread nD τ).loc main_arg0)) (ix2 n q) := by
  blk_point [iblk, V, idx t]

include hn in
theorem x_block (q : Fin 2048) : iblk m c 1 t (ix2 r q) = (m ((c : Thread nD τ).loc main_arg1)) (ix2 n q) := by
  blk_point [iblk, V, idx t]

include hn in
theorem e_block (q : Fin 2048) : iblk m c 3 t (ix2 r q) = (m ((c : Thread nD τ).loc main_arg3)) (ix2 n q) := by
  blk_point [iblk, V, idx t]

/-- A vector laid out as one row, read at a column. -/
theorem row_read (B : FVec Ideal S2048 .f32) (j : S1x2048.Idx) :
    shapeCast S1x2048 B shapeCasts_S2048_S1x2048 j = B (ix1 (j 1)) := by
  obtain ⟨u, q, rfl⟩ : ∃ (u : Fin 1) (q : Fin 2048), j = ix2 u q := ⟨j 0, j 1, by funext i; fin_cases i <;> rfl⟩
  pointwise []

theorem g_block (u : Fin 1) (q : Fin 2048) : iblk m c 2 t (ix2 u q) = (m ((c : Thread nD τ).loc main_arg2)) (ix1 q) := by
  have hV : V m c main_v0 = shapeCast S1x2048 (m ((c : Thread nD τ).loc main_arg2)) shapeCasts_S2048_S1x2048 := by
    unfold V V0
    simp only [List.flatten_cons, List.flatten_nil, List.append_nil]
    after_results
    try rfl
  unfold iblk
  rw [hV]
  show shapeCast S1x2048 _ shapeCasts_S2048_S1x2048 _ = _
  refine (row_read _ _).trans ?_
  blk_point [idx t]

end Blocks

/-- The input's gradient, as the reference computes it of the arguments in memory. -/
def dxResult : FVec Ideal S4096x2048 .f32 :=
  Cert.Reference34Ideal.Read.val_main_v36 (F := Ideal) (m ((c : Thread nD τ).loc main_arg0)) (m ((c : Thread nD τ).loc main_arg1)) (m ((c : Thread nD τ).loc main_arg2)) (m ((c : Thread nD τ).loc main_arg3))

/-- The same in half precision. -/
def dxbResult : FVec Ideal S4096x2048 .bf16 :=
  Cert.Reference34Ideal.Read.val_main_v37 (F := Ideal) (m ((c : Thread nD τ).loc main_arg0)) (m ((c : Thread nD τ).loc main_arg1)) (m ((c : Thread nD τ).loc main_arg2)) (m ((c : Thread nD τ).loc main_arg3))

/-- The scale's gradient. -/
def gainResult : FVec Ideal S2048 .f32 :=
  Cert.Reference34Ideal.Read.val_main_v21 (F := Ideal) (m ((c : Thread nD τ).loc main_arg0)) (m ((c : Thread nD τ).loc main_arg1))

/-- The input's gradient at a grid point's block. -/
theorem dx_point (t : Fin cfg0.N) (y : S256x2048.Idx) (J : S4096x2048.Idx) (h0 : (J 0 : ℕ) = t.val % 16 * 256 + y 0) (h1 : (J 1 : ℕ) = y 1) :
    k0_pay4 (F := Ideal) (iblk m c 1 t) (iblk m c 0 t) (iblk m c 2 t) (iblk m c 3 t) y = dxResult m c J := by
  have e : J 1 = y 1 := Fin.ext h1
  rw [ValueIdx.eq_ix2 y, ValueIdx.eq_ix2 J, e]
  exact dx _ _ _ _ _ _ _ _ _ _ (x_block m c t _ _ h0) (d_block m c t _ _ h0) (e_block m c t _ _ h0) (g_block m c t) _

theorem dxb_point (t : Fin cfg0.N) (y : S256x2048.Idx) (J : S4096x2048.Idx) (h0 : (J 0 : ℕ) = t.val % 16 * 256 + y 0) (h1 : (J 1 : ℕ) = y 1) :
    k0_pay5 (F := Ideal) (iblk m c 1 t) (iblk m c 0 t) (iblk m c 2 t) (iblk m c 3 t) y = dxbResult m c J := by
  have e : J 1 = y 1 := Fin.ext h1
  rw [ValueIdx.eq_ix2 y, ValueIdx.eq_ix2 J, e]
  exact dxb _ _ _ _ _ _ _ _ _ _ (x_block m c t _ _ h0) (d_block m c t _ _ h0) (e_block m c t _ _ h0) (g_block m c t) _

/-- The first array the launch writes is the reference's. -/
theorem dx_final : (dats m 0 c).arrAt 4 cfg0.N = dxResult m c := by
  refine (dats m 0 c).arrAt_eq_of_covers 4 _ (by decide +kernel) fun t hf y => ?_
  blk_simp
  rw [after0_4, dx_out]
  refine dx_point m c t y _ ?_ ?_
  all_goals (blk_simp [idx t] <;> try omega)

/-- The second is the same in half precision. -/
theorem dxb_final : (dats m 0 c).arrAt 5 cfg0.N = dxbResult m c := by
  refine (dats m 0 c).arrAt_eq_of_covers 5 _ (by decide +kernel) fun t hf y => ?_
  blk_simp
  rw [after0_5, dxb_out]
  refine dxb_point m c t y _ ?_ ?_
  all_goals (blk_simp [idx t] <;> try omega)

/-- The third is the scale's gradient. -/
theorem gain_final : (dats m 0 c).arrAt 6 cfg0.N = fun j : S1x2048.Idx => gainResult m c (ix1 (j 1)) := by
  refine (dats m 0 c).arrAt_eq_of_covers 6 _ (by decide +kernel) fun t hf y => ?_
  have hr : t.val % 16 = 16 - 1 := (flush0_6 t).mp hf
  have ht : t.val < 16 := lt_of_lt_of_eq t.isLt (show cfg0.N = 16 from N_0)
  have e1 : ((win0_6.blk t).view.emb y 1 : ℕ) = (y 1 : ℕ) := by blk_simp [idx t]
  blk_simp
  rw [after0_6]
  refine (Pipeline.eq_sum_fin_of_reset_step_apply_of_flush (fun n h => (outsAt0 m c n h).2.2) 16 (fun _ => 0)
    (fun t j => gainTerm (iblk m c 1 t) (iblk m c 0 t) j) (gain_start m c) (gain_step m c) t hr y).trans ?_
  rw [zero_add]
  unfold gainTerm gainResult
  generalize (win0_6.blk t).view.emb y 1 = q at e1 ⊢
  have eq : q = y 1 := Fin.ext e1
  subst eq
  pointwise [Cert.Reference34Ideal.Read.val_main_v21, Cert.Reference34Ideal.Read.val_main_cst_4, Cert.Reference34Ideal.Read.val_main_v18, Cert.Reference34Ideal.Read.val_main_v17, Cert.Reference34Ideal.Read.val_main_cst_3, Cert.Reference34Ideal.Read.val_main_v16]
  refine Eq.trans ?_ (Fin.sum_univ_one _).symm
  refine Fin.sum_mul_add_congr fun s k hl => ?_
  have hs := s.isLt
  have hn : (⟨(s : ℕ) * 256 + (k : ℕ), hl⟩ : Fin 4096).val = (16 * (t.val / 16) + s.val) % 16 * 256 + k.val := by
    show (s : ℕ) * 256 + (k : ℕ) = _
    omega
  rw [mul_comm]
  exact congrArg₂ (· * ·) (normed _ _ _ _ (x_block m c ⟨_, Pipeline.run_point_lt_of_flush t hr s⟩ k _ hn) _)
    (d_block m c ⟨_, Pipeline.run_point_lt_of_flush t hr s⟩ k _ hn _)

/-- A row read as a vector. -/
theorem row_vector (B : FVec Ideal S2048 .f32) :
    shapeCast S2048 (fun j : S1x2048.Idx => B (ix1 (j 1))) shapeCasts_S1x2048_S2048 = B := by
  funext j
  pointwise []

/-- The host reads the scale's row as a vector. -/
theorem gain_tail : Pipeline.afterTail₀ cfgs (dats m) 0 (V0 m) [hostOps1] c main_v2 = gainResult m c := by
  have hB := gain_final m c
  generalize gainResult m c = B at hB
  unfold Pipeline.afterTail₀
  simp only [List.flatten_cons, List.flatten_nil, List.append_nil]
  after_results
  erw [(dats m 0 c).withArrays_arrAt (by decide) (V0 m c) (fun _ => rfl) 6]
  rw [hB]
  exact row_vector B

/-- The kernel's ideal results are the reference's, for every input. -/
theorem algebraic : Cert.algebraic_Kernel34Ideal_Reference34Ideal := by
  pair_intro
  · run_from Cert.Kernel34Ideal.Gen.run_main m g
    · exact W_main_arg2 m (dats m) c
  · hlo_run
    · exact (dx_final m c).symm
    · exact (dxb_final m c).symm
    · exact (gain_tail m c).symm

/-- The kernel changes nothing but its results, over the machine's own floats. -/
theorem frame_kernel : Cert.quiescent_Kernel34 :=
  fun m ρ _ => Cert.Kernel34.Gen.frame m ρ

/-- The same over the extended reals. -/
theorem frame_ideal : Cert.quiescent_Kernel34Ideal :=
  fun m ρ _ => Cert.Kernel34Ideal.Gen.frame m ρ

/-- The reference changes nothing but its results. -/
theorem frame_ref : Cert.quiescent_Reference34Ideal := by
  intro m ρ _
  hlo_run
  · exact fun c => by simp
  · exact sem_eq_zero_of_no_sems (by decide) _

end Cert.RmsGrad

end
-- ==== Proof.FinalLoss.lean ====
/- The loss of one device, and its gradients. -/
module

public import proofs.«01_k».proof.Defs
public import proofs.«01_k».proof.Proof.Gen.Kernel35.Frame
public import proofs.«01_k».proof.Proof.Gen.Kernel35Ideal.Frame
public import proofs.«01_k».proof.Proof.Gen.Reference35Ideal.Read
public import proofs.«01_k».proof.Proof.RmsGrad
public import Idealize.ShloMosaic.Lib.Pipeline.ValueKit
public import Idealize.ShloMosaic.Lib.Claim

@[expose] public section

set_option maxRecDepth 16384

noncomputable section

namespace Cert.FinalLoss

open Cert.Kernel35Ideal Cert.Kernel35Ideal.Gen
open Idealize.ShloMosaic Idealize.ShloMosaic.TcCoe Idealize.SL.Sem

variable (m : (ℓ : Loc nD τ sig) → Buf (Elt Ideal) ℓ) (c : Dev nD)

section Row

variable (x e : FVec Ideal S256x2048 .f32) (X E : FVec Ideal S4096x2048 .f32) (g : FVec Ideal S1x2048 .f32) (G : FVec Ideal S2048 .f32)
  (r : Fin 256) (n : Fin 4096)
  (hx : ∀ q : Fin 2048, x (ix2 r q) = X (ix2 n q)) (he : ∀ q : Fin 2048, e (ix2 r q) = E (ix2 n q))
  (hg : ∀ (u : Fin 1) (q : Fin 2048), g (ix2 u q) = G (ix1 q))

include hx in
/-- The normed row. -/
theorem normed (q : Fin 2048) : k0_pay8 (F := Ideal) x (ix2 r q) = Cert.Reference35Ideal.Read.val_main_v12 (F := Ideal) X (ix2 n q) := by
  pointwise [k0_pay7, k0_pay8, Cert.Reference35Ideal.Read.val_main_v12, Cert.Reference35Ideal.Read.val_main_v11, Cert.Reference35Ideal.Read.val_main_v7, Cert.Reference35Ideal.Read.val_main_v6, Cert.Reference35Ideal.Read.val_main_v5, Cert.Reference35Ideal.Read.val_main_cst_1, Cert.Reference35Ideal.Read.val_main_v4, Cert.Reference35Ideal.Read.val_main_v3, Cert.Reference35Ideal.Read.val_main_cst_0, Cert.Reference35Ideal.Read.val_main_v2, Cert.Reference35Ideal.Read.val_main_v1, Cert.Reference35Ideal.Read.val_main_cst, Cert.Reference35Ideal.Read.val_main_v0]
  simp only [hx]

include hx he hg in
/-- The error. -/
theorem err (q : Fin 2048) : k0_pay9 (F := Ideal) x g e (ix2 r q) = Cert.Reference35Ideal.Read.val_main_v16 (F := Ideal) X G E (ix2 n q) := by
  have h := normed x X r n hx q
  pointwise [k0_pay9, Cert.Reference35Ideal.Read.val_main_v16, Cert.Reference35Ideal.Read.val_main_v15, Cert.Reference35Ideal.Read.val_main_v14, Cert.Reference35Ideal.Read.val_main_v13]
  rw [h, he, hg]

include hx he hg in
/-- The cotangent of the scaled row. -/
theorem cot (q : Fin 2048) : k0_pay11 (F := Ideal) x g e (ix2 r q) = Cert.Reference35Ideal.Read.val_main_v30 (F := Ideal) X G E (ix2 n q) := by
  have h := err x e X E g G r n hx he hg q
  pointwise [k0_pay11, Cert.Reference35Ideal.Read.val_main_v30, Cert.Reference35Ideal.Read.val_main_v29, Cert.Reference35Ideal.Read.val_main_v28, Cert.Reference35Ideal.Read.val_main_v27, Cert.Reference35Ideal.Read.val_main_cst_10, Cert.Reference35Ideal.Read.val_main_v26, Cert.Reference35Ideal.Read.val_main_v25, Cert.Reference35Ideal.Read.val_main_cst_9, Cert.Reference35Ideal.Read.val_main_cst_8, Cert.Reference35Ideal.Read.val_main_v19, Cert.Reference35Ideal.Read.val_main_v18, Cert.Reference35Ideal.Read.val_main_cst_3]
  rw [h]
  exact Cert.RmsGrad.cotangent _

include hx he hg in
/-- The input's gradient. -/
theorem dx (q : Fin 2048) : k0_pay1 (F := Ideal) (k0_pay12 x g e g) (k0_pay13 x) (ix2 r q) = Cert.Reference35Ideal.Read.val_main_v50 (F := Ideal) X G E (ix2 n q) := by
  have h := cot x e X E g G r n hx he hg
  pointwise [k0_pay1, k0_pay12, k0_pay13, k0_pay7, k0_pay8, Cert.Reference35Ideal.Read.val_main_v50, Cert.Reference35Ideal.Read.val_main_v49, Cert.Reference35Ideal.Read.val_main_v48, Cert.Reference35Ideal.Read.val_main_v47, Cert.Reference35Ideal.Read.val_main_v46, Cert.Reference35Ideal.Read.val_main_v45, Cert.Reference35Ideal.Read.val_main_cst_15, Cert.Reference35Ideal.Read.val_main_v44, Cert.Reference35Ideal.Read.val_main_v43, Cert.Reference35Ideal.Read.val_main_cst_14, Cert.Reference35Ideal.Read.val_main_v42, Cert.Reference35Ideal.Read.val_main_v41, Cert.Reference35Ideal.Read.val_main_v40, Cert.Reference35Ideal.Read.val_main_v39, Cert.Reference35Ideal.Read.val_main_v38, Cert.Reference35Ideal.Read.val_main_cst_13, Cert.Reference35Ideal.Read.val_main_v37, Cert.Reference35Ideal.Read.val_main_v35, Cert.Reference35Ideal.Read.val_main_v34, Cert.Reference35Ideal.Read.val_main_v13, Cert.Reference35Ideal.Read.val_main_v10, Cert.Reference35Ideal.Read.val_main_v9, Cert.Reference35Ideal.Read.val_main_cst_2, Cert.Reference35Ideal.Read.val_main_v8, Cert.Reference35Ideal.Read.val_main_v7, Cert.Reference35Ideal.Read.val_main_v6, Cert.Reference35Ideal.Read.val_main_v5, Cert.Reference35Ideal.Read.val_main_cst_1, Cert.Reference35Ideal.Read.val_main_v4, Cert.Reference35Ideal.Read.val_main_v3, Cert.Reference35Ideal.Read.val_main_cst_0, Cert.Reference35Ideal.Read.val_main_v2, Cert.Reference35Ideal.Read.val_main_v1, Cert.Reference35Ideal.Read.val_main_cst, Cert.Reference35Ideal.Read.val_main_v0]
  simp only [hx, hg, h, Fin.sum_univ_one]
  exact Cert.RmsGrad.core _ (Cert.RmsGrad.square_pos fun p => X (ix2 n p)) (fun p => X (ix2 n p)) (fun p => Cert.Reference35Ideal.Read.val_main_v30 (F := Ideal) X G E (ix2 n p) * G (ix1 p)) q

include hx he hg in
/-- The same in half precision. -/
theorem dxb (q : Fin 2048) : k0_pay2 (F := Ideal) (k0_pay12 x g e g) (k0_pay13 x) (ix2 r q) = Cert.Reference35Ideal.Read.val_main_v51 (F := Ideal) X G E (ix2 n q) := by
  have h := dx x e X E g G r n hx he hg q
  generalize hp : k0_pay1 (F := Ideal) (k0_pay12 x g e g) (k0_pay13 x) = p at h
  unfold k0_pay2 Cert.Reference35Ideal.Read.val_main_v51
  rw [hp]
  generalize Cert.Reference35Ideal.Read.val_main_v50 (F := Ideal) X G E = s at h ⊢
  pointwise []
  exact h

/-- One block's part of the scale's gradient. -/
def gainTerm (x e : FVec Ideal S256x2048 .f32) (g : FVec Ideal S1x2048 .f32) (j : S1x2048.Idx) : EReal :=
  ∑ r : Fin 256, k0_pay11 (F := Ideal) x g e (ix2 r (j 1)) * k0_pay8 (F := Ideal) x (ix2 r (j 1))

/-- The scale's block after a point. -/
theorem gain_add (v : FVec Ideal S1x2048 .f32) (j : S1x2048.Idx) :
    k0_pay5 (F := Ideal) (k0_pay8 x) (k0_pay11 x g e) v j = v j + gainTerm x e g j := by
  unfold gainTerm
  generalize k0_pay8 (F := Ideal) x = q
  generalize k0_pay11 (F := Ideal) x g e = w
  pointwise [k0_pay5]

/-- One block's part of the loss. -/
def lossTerm (x e : FVec Ideal S256x2048 .f32) (g : FVec Ideal S1x2048 .f32) : EReal :=
  ∑ r : Fin 256, Ideal.ofBits .f32 1056964608#32 * Ideal.div (∑ q : Fin 2048, k0_pay9 (F := Ideal) x g e (ix2 r q) * k0_pay9 (F := Ideal) x g e (ix2 r q)) (Ideal.ofBits .f32 1157627904#32)

/-- A block's part, its factor taken into the sum. -/
theorem loss_term (u w : Fin 1) : k0_pay10 (F := Ideal) x g e (ix2 u w) = lossTerm x e g := by
  unfold lossTerm
  pointwise [k0_pay10]
  rw [Cert.RmsGrad.pos_half_eq]
  exact Cert.RmsGrad.mul_sum_pos _ _ _ (by norm_num)

/-- The loss's block after a point. -/
theorem loss_add (v : FVec Ideal S1x128 .f32) (j : S1x128.Idx) :
    k0_pay6 (F := Ideal) (k0_pay10 x g e) v j = v j + lossTerm x e g := by
  have h := loss_term x e g
  pointwise [k0_pay6]
  rw [h]

end Row

/-- The scale's block starts at zero. -/
theorem gain_zero (j : S1x2048.Idx) : k0_pay3 (F := Ideal) j = 0 := by
  pointwise [k0_pay3]

/-- The loss's block starts at zero. -/
theorem loss_zero (j : S1x128.Idx) : k0_pay4 (F := Ideal) j = 0 := by
  pointwise [k0_pay4]

/-- The block that every window is on at a grid point. -/
theorem idx : ∀ t : Fin cfg0.N, win0_0.index t = ![t.val % 16, 0] ∧ win0_1.index t = ![0, 0]
    ∧ win0_2.index t = ![t.val % 16, 0] ∧ win0_3.index t = ![0, 0] ∧ win0_4.index t = ![t.val % 16, 0]
    ∧ win0_5.index t = ![t.val % 16, 0] ∧ win0_6.index t = ![0, 0] :=
  (by decide +kernel : ∀ t : Fin grid0.N, _)

/-- The gradient's block, at every grid point. -/
theorem dx_out (t : Fin cfg0.N) : (outsAt0 m c t.val t.isLt).2.1
    = k0_pay1 (F := Ideal) (k0_pay12 (iblk m c 0 t) (iblk m c 1 t) (iblk m c 2 t) (iblk m c 1 t)) (k0_pay13 (iblk m c 0 t)) := by
  by_cases h : t.val % 16 = 0
  · rw [outsAt0_A m c t h]
    frame_out
  · rw [outsAt0_B m c t h]
    frame_out

/-- The same in half precision. -/
theorem dxb_out (t : Fin cfg0.N) : (outsAt0 m c t.val t.isLt).2.2.1
    = k0_pay2 (F := Ideal) (k0_pay12 (iblk m c 0 t) (iblk m c 1 t) (iblk m c 2 t) (iblk m c 1 t)) (k0_pay13 (iblk m c 0 t)) := by
  by_cases h : t.val % 16 = 0
  · rw [outsAt0_A m c t h]
    frame_out
  · rw [outsAt0_B m c t h]
    frame_out

theorem gain_step (t : Fin cfg0.N) (h : ¬t.val % 16 = 0) (j : S1x2048.Idx) : (outsAt0 m c t.val t.isLt).2.2.2 j
    = (outsAt0 m c (t.val - 1) (Nat.lt_of_le_of_lt (Nat.sub_le _ _) t.isLt)).2.2.2 j
      + gainTerm (iblk m c 0 t) (iblk m c 2 t) (iblk m c 1 t) j := by
  rw [outsAt0_B m c t h]
  frame_out
  exact gain_add _ _ _ _ j

theorem gain_start (t : Fin cfg0.N) (h : t.val % 16 = 0) (j : S1x2048.Idx) : (outsAt0 m c t.val t.isLt).2.2.2 j
    = 0 + gainTerm (iblk m c 0 t) (iblk m c 2 t) (iblk m c 1 t) j := by
  rw [outsAt0_A m c t h]
  frame_out
  exact (gain_add _ _ _ _ j).trans (congrArg (· + _) (gain_zero j))

theorem loss_step (t : Fin cfg0.N) (h : ¬t.val % 16 = 0) (j : S1x128.Idx) : (outsAt0 m c t.val t.isLt).1 j
    = (outsAt0 m c (t.val - 1) (Nat.lt_of_le_of_lt (Nat.sub_le _ _) t.isLt)).1 j
      + lossTerm (iblk m c 0 t) (iblk m c 2 t) (iblk m c 1 t) := by
  rw [outsAt0_B m c t h]
  frame_out
  exact loss_add _ _ _ _ j

theorem loss_start (t : Fin cfg0.N) (h : t.val % 16 = 0) (j : S1x128.Idx) : (outsAt0 m c t.val t.isLt).1 j
    = 0 + lossTerm (iblk m c 0 t) (iblk m c 2 t) (iblk m c 1 t) := by
  rw [outsAt0_A m c t h]
  frame_out
  exact (loss_add _ _ _ _ j).trans (congrArg (· + _) (loss_zero j))

section Blocks

variable (t : Fin cfg0.N) (r : Fin 256) (n : Fin 4096) (hn : (n : ℕ) = t.val % 16 * 256 + r)

include hn in
theorem x_block (q : Fin 2048) : iblk m c 0 t (ix2 r q) = (m ((c : Thread nD τ).loc main_arg0)) (ix2 n q) := by
  blk_point [iblk, V, idx t]

include hn in
theorem e_block (q : Fin 2048) : iblk m c 2 t (ix2 r q) = (m ((c : Thread nD τ).loc main_arg2)) (ix2 n q) := by
  blk_point [iblk, V, idx t]

/-- A vector laid out as one row, read at a column. -/
theorem row_read (B : FVec Ideal S2048 .f32) (j : S1x2048.Idx) :
    shapeCast S1x2048 B shapeCasts_S2048_S1x2048 j = B (ix1 (j 1)) := by
  obtain ⟨u, q, rfl⟩ : ∃ (u : Fin 1) (q : Fin 2048), j = ix2 u q := ⟨j 0, j 1, by funext i; fin_cases i <;> rfl⟩
  pointwise []

theorem g_block (u : Fin 1) (q : Fin 2048) : iblk m c 1 t (ix2 u q) = (m ((c : Thread nD τ).loc main_arg1)) (ix1 q) := by
  have hV : V m c main_v0 = shapeCast S1x2048 (m ((c : Thread nD τ).loc main_arg1)) shapeCasts_S2048_S1x2048 := by
    unfold V V0
    simp only [List.flatten_cons, List.flatten_nil, List.append_nil]
    after_results
    try rfl
  unfold iblk
  rw [hV]
  show shapeCast S1x2048 _ shapeCasts_S2048_S1x2048 _ = _
  refine (row_read _ _).trans ?_
  blk_point [idx t]

end Blocks

/-- The loss, as the reference computes it of the arguments in memory. -/
def lossResult : FVec Ideal S_ .f32 :=
  Cert.Reference35Ideal.Read.val_main_v24 (F := Ideal) (m ((c : Thread nD τ).loc main_arg0)) (m ((c : Thread nD τ).loc main_arg1)) (m ((c : Thread nD τ).loc main_arg2))

/-- The input's gradient. -/
def dxResult : FVec Ideal S4096x2048 .f32 :=
  Cert.Reference35Ideal.Read.val_main_v50 (F := Ideal) (m ((c : Thread nD τ).loc main_arg0)) (m ((c : Thread nD τ).loc main_arg1)) (m ((c : Thread nD τ).loc main_arg2))

/-- The same in half precision. -/
def dxbResult : FVec Ideal S4096x2048 .bf16 :=
  Cert.Reference35Ideal.Read.val_main_v51 (F := Ideal) (m ((c : Thread nD τ).loc main_arg0)) (m ((c : Thread nD τ).loc main_arg1)) (m ((c : Thread nD τ).loc main_arg2))

/-- The scale's gradient. -/
def gainResult : FVec Ideal S2048 .f32 :=
  Cert.Reference35Ideal.Read.val_main_v36 (F := Ideal) (m ((c : Thread nD τ).loc main_arg0)) (m ((c : Thread nD τ).loc main_arg1)) (m ((c : Thread nD τ).loc main_arg2))

/-- The input's gradient at a grid point's block. -/
theorem dx_point (t : Fin cfg0.N) (y : S256x2048.Idx) (J : S4096x2048.Idx) (h0 : (J 0 : ℕ) = t.val % 16 * 256 + y 0) (h1 : (J 1 : ℕ) = y 1) :
    k0_pay1 (F := Ideal) (k0_pay12 (iblk m c 0 t) (iblk m c 1 t) (iblk m c 2 t) (iblk m c 1 t)) (k0_pay13 (iblk m c 0 t)) y = dxResult m c J := by
  have e : J 1 = y 1 := Fin.ext h1
  rw [ValueIdx.eq_ix2 y, ValueIdx.eq_ix2 J, e]
  exact dx _ _ _ _ _ _ _ _ (x_block m c t _ _ h0) (e_block m c t _ _ h0) (g_block m c t) _

/-- The same in half precision. -/
theorem dxb_point (t : Fin cfg0.N) (y : S256x2048.Idx) (J : S4096x2048.Idx) (h0 : (J 0 : ℕ) = t.val % 16 * 256 + y 0) (h1 : (J 1 : ℕ) = y 1) :
    k0_pay2 (F := Ideal) (k0_pay12 (iblk m c 0 t) (iblk m c 1 t) (iblk m c 2 t) (iblk m c 1 t)) (k0_pay13 (iblk m c 0 t)) y = dxbResult m c J := by
  have e : J 1 = y 1 := Fin.ext h1
  rw [ValueIdx.eq_ix2 y, ValueIdx.eq_ix2 J, e]
  exact dxb _ _ _ _ _ _ _ _ (x_block m c t _ _ h0) (e_block m c t _ _ h0) (g_block m c t) _

/-- The second array the launch writes is the input's gradient. -/
theorem dx_final : (dats m 0 c).arrAt 4 cfg0.N = dxResult m c := by
  refine (dats m 0 c).arrAt_eq_of_covers 4 _ (by decide +kernel) fun t hf y => ?_
  blk_simp
  rw [after0_4, dx_out]
  refine dx_point m c t y _ ?_ ?_
  all_goals (blk_simp [idx t] <;> try omega)

/-- The third is the same in half precision. -/
theorem dxb_final : (dats m 0 c).arrAt 5 cfg0.N = dxbResult m c := by
  refine (dats m 0 c).arrAt_eq_of_covers 5 _ (by decide +kernel) fun t hf y => ?_
  blk_simp
  rw [after0_5, dxb_out]
  refine dxb_point m c t y _ ?_ ?_
  all_goals (blk_simp [idx t] <;> try omega)

/-- The fourth is the scale's gradient. -/
theorem gain_final : (dats m 0 c).arrAt 6 cfg0.N = fun j : S1x2048.Idx => gainResult m c (ix1 (j 1)) := by
  refine (dats m 0 c).arrAt_eq_of_covers 6 _ (by decide +kernel) fun t hf y => ?_
  have hr : t.val % 16 = 16 - 1 := (flush0_6 t).mp hf
  have ht : t.val < 16 := lt_of_lt_of_eq t.isLt (show cfg0.N = 16 from N_0)
  have e1 : ((win0_6.blk t).view.emb y 1 : ℕ) = (y 1 : ℕ) := by blk_simp [idx t]
  blk_simp
  rw [after0_6]
  refine (Pipeline.eq_sum_fin_of_reset_step_apply_of_flush (fun n h => (outsAt0 m c n h).2.2.2) 16 (fun _ => 0)
    (fun t j => gainTerm (iblk m c 0 t) (iblk m c 2 t) (iblk m c 1 t) j) (gain_start m c) (gain_step m c) t hr y).trans ?_
  rw [zero_add]
  unfold gainTerm gainResult
  generalize (win0_6.blk t).view.emb y 1 = q at e1 ⊢
  have eq : q = y 1 := Fin.ext e1
  subst eq
  pointwise [Cert.Reference35Ideal.Read.val_main_v36, Cert.Reference35Ideal.Read.val_main_cst_12, Cert.Reference35Ideal.Read.val_main_v33, Cert.Reference35Ideal.Read.val_main_v32, Cert.Reference35Ideal.Read.val_main_cst_11, Cert.Reference35Ideal.Read.val_main_v31]
  refine Eq.trans ?_ (Fin.sum_univ_one _).symm
  refine Fin.sum_mul_add_congr fun s k hl => ?_
  have hs := s.isLt
  have hn : (⟨(s : ℕ) * 256 + (k : ℕ), hl⟩ : Fin 4096).val = (16 * (t.val / 16) + s.val) % 16 * 256 + k.val := by
    show (s : ℕ) * 256 + (k : ℕ) = _
    omega
  have hb := x_block m c ⟨_, Pipeline.run_point_lt_of_flush t hr s⟩ k _ hn
  rw [mul_comm]
  exact congrArg₂ (· * ·) (normed _ _ _ _ hb _)
    (cot _ _ _ _ _ _ _ _ hb (e_block m c ⟨_, Pipeline.run_point_lt_of_flush t hr s⟩ k _ hn) (g_block m c ⟨_, Pipeline.run_point_lt_of_flush t hr s⟩) _)

/-- The first is the loss, in every column. -/
theorem loss_final (p : S_.Idx) : (dats m 0 c).arrAt 3 cfg0.N = fun _ : S1x128.Idx => lossResult m c p := by
  refine (dats m 0 c).arrAt_eq_of_covers 3 _ (by decide +kernel) fun t hf y => ?_
  have hr : t.val % 16 = 16 - 1 := (flush0_3 t).mp hf
  have ht : t.val < 16 := lt_of_lt_of_eq t.isLt (show cfg0.N = 16 from N_0)
  blk_simp
  rw [after0_3]
  refine (Pipeline.eq_sum_fin_of_reset_step_apply_of_flush (fun n h => (outsAt0 m c n h).1) 16 (fun _ => 0)
    (fun t _ => lossTerm (iblk m c 0 t) (iblk m c 2 t) (iblk m c 1 t)) (loss_start m c) (loss_step m c) t hr y).trans ?_
  rw [zero_add]
  unfold lossTerm lossResult
  pointwise [Cert.Reference35Ideal.Read.val_main_v24, Cert.Reference35Ideal.Read.val_main_cst_7, Cert.Reference35Ideal.Read.val_main_v23, Cert.Reference35Ideal.Read.val_main_cst_6, Cert.Reference35Ideal.Read.val_main_v22, Cert.Reference35Ideal.Read.val_main_v21, Cert.Reference35Ideal.Read.val_main_cst_5, Cert.Reference35Ideal.Read.val_main_v20, Cert.Reference35Ideal.Read.val_main_cst_4, Cert.Reference35Ideal.Read.val_main_v17]
  conv_rhs => rw [Cert.RmsGrad.pos_half_eq, Cert.RmsGrad.mul_sum_pos _ _ _ (by norm_num), ← Cert.RmsGrad.pos_half_eq]
  refine Fin.sum_mul_add_congr fun s k hl => ?_
  have hs := s.isLt
  have hn : (⟨(s : ℕ) * 256 + (k : ℕ), hl⟩ : Fin 4096).val = (16 * (t.val / 16) + s.val) % 16 * 256 + k.val := by
    show (s : ℕ) * 256 + (k : ℕ) = _
    omega
  have hb := err _ _ _ _ _ _ _ _ (x_block m c ⟨_, Pipeline.run_point_lt_of_flush t hr s⟩ k _ hn)
    (e_block m c ⟨_, Pipeline.run_point_lt_of_flush t hr s⟩ k _ hn) (g_block m c ⟨_, Pipeline.run_point_lt_of_flush t hr s⟩)
  simp only [hb]

/-- A row read as a vector. -/
theorem row_vector (B : FVec Ideal S2048 .f32) :
    shapeCast S2048 (fun j : S1x2048.Idx => B (ix1 (j 1))) shapeCasts_S1x2048_S2048 = B := by
  funext j
  pointwise []

/-- The host reads the scale's row as a vector. -/
theorem gain_tail : Pipeline.afterTail₀ cfgs (dats m) 0 (V0 m) [hostOps1] c main_v4 = gainResult m c := by
  have hB := gain_final m c
  generalize gainResult m c = B at hB
  unfold Pipeline.afterTail₀
  simp only [List.flatten_cons, List.flatten_nil, List.append_nil]
  after_results
  erw [(dats m 0 c).withArrays_arrAt (by decide) (V0 m c) (fun _ => rfl) 6]
  rw [hB]
  exact row_vector B

/-- A number in every column, read at the first. -/
theorem first_column (B : FVec Ideal S_ .f32) (p : S_.Idx) :
    shapeCast S_ (extractStridedSlice S1x1 ![0, 0] (fun _ : S1x128.Idx => B p) slices_S1x128_S1x1_0_0) shapeCasts_S1x1_S_ = B := by
  funext j
  exact congrArg B (Subsingleton.elim _ _)

/-- The host reads the loss from the first column. -/
theorem loss_tail : Pipeline.afterTail₀ cfgs (dats m) 0 (V0 m) [hostOps1] c main_v3 = lossResult m c := by
  have hB := loss_final m c (fun b => b.elim0)
  generalize lossResult m c = B at hB
  unfold Pipeline.afterTail₀
  simp only [List.flatten_cons, List.flatten_nil, List.append_nil]
  after_results
  erw [(dats m 0 c).withArrays_arrAt (by decide) (V0 m c) (fun _ => rfl) 3]
  rw [hB]
  exact first_column B _

/-- The kernel's ideal results are the reference's, for every input. -/
theorem algebraic : Cert.algebraic_Kernel35Ideal_Reference35Ideal := by
  pair_intro
  · run_from Cert.Kernel35Ideal.Gen.run_main m g
    · exact W_main_arg1 m (dats m) c
  · hlo_run
    · exact (loss_tail m c).symm
    · exact (dx_final m c).symm
    · exact (dxb_final m c).symm
    · exact (gain_tail m c).symm

/-- The kernel changes nothing but its results, over the machine's own floats. -/
theorem frame_kernel : Cert.quiescent_Kernel35 :=
  fun m ρ _ => Cert.Kernel35.Gen.frame m ρ

/-- The same over the extended reals. -/
theorem frame_ideal : Cert.quiescent_Kernel35Ideal :=
  fun m ρ _ => Cert.Kernel35Ideal.Gen.frame m ρ

/-- The reference changes nothing but its results. -/
theorem frame_ref : Cert.quiescent_Reference35Ideal := by
  intro m ρ _
  hlo_run
  · exact fun c => by simp
  · exact sem_eq_zero_of_no_sems (by decide) _

end Cert.FinalLoss

end
-- ==== Proof.AdamSmall.lean ====
/- The AdamW update of the small parameters, block by block. -/
module

public import proofs.«01_k».proof.Defs
public import proofs.«01_k».proof.Proof.Gen.Kernel36.Frame
public import proofs.«01_k».proof.Proof.Gen.Kernel36Ideal.Frame
public import proofs.«01_k».proof.Proof.Gen.Reference36Ideal.Read
public import Idealize.ShloMosaic.Lib.Pipeline.ValueKit
public import Idealize.ShloMosaic.Lib.Claim

@[expose] public section

set_option maxRecDepth 16384

noncomputable section

namespace Cert.AdamSmall

open Cert.Kernel36Ideal Cert.Kernel36Ideal.Gen
open Idealize.ShloMosaic Idealize.ShloMosaic.TcCoe Idealize.SL.Sem

variable (m : (ℓ : Loc nD τ sig) → Buf (Elt Ideal) ℓ) (c : Dev nD)

/-- The block that every window is on at a grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The step, as the reference computes it of the arguments in memory. -/
def result0 : FVec Ideal S5120x128 .f32 :=
  Cert.Reference36Ideal.Read.val_main_v23 (F := Ideal) (m ((c : Thread nD τ).loc main_arg0)) (m ((c : Thread nD τ).loc main_arg1)) (m ((c : Thread nD τ).loc main_arg2)) (m ((c : Thread nD τ).loc main_arg3))

/-- The launch writes it. -/
theorem final0 : (dats m 0 c).arrAt 5 cfg0.N = result0 m c := by
  refine (dats m 0 c).arrAt_eq_of_covers 5 _ (by decide +kernel) fun t hf y => ?_
  blk_simp
  rw [after0_5]
  frame_out
  unfold result0
  pointwise [k0_pay1, k0_pay2, k0_pay3, Cert.Reference36Ideal.Read.val_main_cst, Cert.Reference36Ideal.Read.val_main_v0, Cert.Reference36Ideal.Read.val_main_v1, Cert.Reference36Ideal.Read.val_main_cst_0, Cert.Reference36Ideal.Read.val_main_v2, Cert.Reference36Ideal.Read.val_main_v3, Cert.Reference36Ideal.Read.val_main_v4, Cert.Reference36Ideal.Read.val_main_cst_1, Cert.Reference36Ideal.Read.val_main_v5, Cert.Reference36Ideal.Read.val_main_v6, Cert.Reference36Ideal.Read.val_main_v7, Cert.Reference36Ideal.Read.val_main_cst_2, Cert.Reference36Ideal.Read.val_main_v8, Cert.Reference36Ideal.Read.val_main_v9, Cert.Reference36Ideal.Read.val_main_v10, Cert.Reference36Ideal.Read.val_main_cst_3, Cert.Reference36Ideal.Read.val_main_v11, Cert.Reference36Ideal.Read.val_main_v12, Cert.Reference36Ideal.Read.val_main_cst_4, Cert.Reference36Ideal.Read.val_main_v13, Cert.Reference36Ideal.Read.val_main_v14, Cert.Reference36Ideal.Read.val_main_v15, Cert.Reference36Ideal.Read.val_main_cst_5, Cert.Reference36Ideal.Read.val_main_v16, Cert.Reference36Ideal.Read.val_main_v17, Cert.Reference36Ideal.Read.val_main_v18, Cert.Reference36Ideal.Read.val_main_cst_6, Cert.Reference36Ideal.Read.val_main_v19, Cert.Reference36Ideal.Read.val_main_v20, Cert.Reference36Ideal.Read.val_main_v21, Cert.Reference36Ideal.Read.val_main_cst_7, Cert.Reference36Ideal.Read.val_main_v22, Cert.Reference36Ideal.Read.val_main_v23]
  blk_point [iblk, V, idx t]

/-- The first moment, as the reference computes it of the arguments in memory. -/
def result1 : FVec Ideal S5120x128 .f32 :=
  Cert.Reference36Ideal.Read.val_main_v4 (F := Ideal) (m ((c : Thread nD τ).loc main_arg1)) (m ((c : Thread nD τ).loc main_arg3))

/-- The launch writes it. -/
theorem final1 : (dats m 0 c).arrAt 6 cfg0.N = result1 m c := by
  refine (dats m 0 c).arrAt_eq_of_covers 6 _ (by decide +kernel) fun t hf y => ?_
  blk_simp
  rw [after0_6]
  frame_out
  unfold result1
  pointwise [k0_pay1, Cert.Reference36Ideal.Read.val_main_cst, Cert.Reference36Ideal.Read.val_main_v0, Cert.Reference36Ideal.Read.val_main_v1, Cert.Reference36Ideal.Read.val_main_cst_0, Cert.Reference36Ideal.Read.val_main_v2, Cert.Reference36Ideal.Read.val_main_v3, Cert.Reference36Ideal.Read.val_main_v4, Cert.Reference36Ideal.Read.val_main_cst_1, Cert.Reference36Ideal.Read.val_main_v5, Cert.Reference36Ideal.Read.val_main_v6, Cert.Reference36Ideal.Read.val_main_v7, Cert.Reference36Ideal.Read.val_main_cst_2, Cert.Reference36Ideal.Read.val_main_v8, Cert.Reference36Ideal.Read.val_main_v9, Cert.Reference36Ideal.Read.val_main_v10, Cert.Reference36Ideal.Read.val_main_cst_3, Cert.Reference36Ideal.Read.val_main_v11, Cert.Reference36Ideal.Read.val_main_v12, Cert.Reference36Ideal.Read.val_main_cst_4, Cert.Reference36Ideal.Read.val_main_v13, Cert.Reference36Ideal.Read.val_main_v14, Cert.Reference36Ideal.Read.val_main_v15, Cert.Reference36Ideal.Read.val_main_cst_5, Cert.Reference36Ideal.Read.val_main_v16, Cert.Reference36Ideal.Read.val_main_v17, Cert.Reference36Ideal.Read.val_main_v18, Cert.Reference36Ideal.Read.val_main_cst_6, Cert.Reference36Ideal.Read.val_main_v19, Cert.Reference36Ideal.Read.val_main_v20, Cert.Reference36Ideal.Read.val_main_v21, Cert.Reference36Ideal.Read.val_main_cst_7, Cert.Reference36Ideal.Read.val_main_v22, Cert.Reference36Ideal.Read.val_main_v23]
  blk_point [iblk, V, idx t]

/-- The second moment, as the reference computes it of the arguments in memory. -/
def result2 : FVec Ideal S5120x128 .f32 :=
  Cert.Reference36Ideal.Read.val_main_v10 (F := Ideal) (m ((c : Thread nD τ).loc main_arg2)) (m ((c : Thread nD τ).loc main_arg3))

/-- The launch writes it. -/
theorem final2 : (dats m 0 c).arrAt 7 cfg0.N = result2 m c := by
  refine (dats m 0 c).arrAt_eq_of_covers 7 _ (by decide +kernel) fun t hf y => ?_
  blk_simp
  rw [after0_7]
  frame_out
  unfold result2
  pointwise [k0_pay2, Cert.Reference36Ideal.Read.val_main_cst, Cert.Reference36Ideal.Read.val_main_v0, Cert.Reference36Ideal.Read.val_main_v1, Cert.Reference36Ideal.Read.val_main_cst_0, Cert.Reference36Ideal.Read.val_main_v2, Cert.Reference36Ideal.Read.val_main_v3, Cert.Reference36Ideal.Read.val_main_v4, Cert.Reference36Ideal.Read.val_main_cst_1, Cert.Reference36Ideal.Read.val_main_v5, Cert.Reference36Ideal.Read.val_main_v6, Cert.Reference36Ideal.Read.val_main_v7, Cert.Reference36Ideal.Read.val_main_cst_2, Cert.Reference36Ideal.Read.val_main_v8, Cert.Reference36Ideal.Read.val_main_v9, Cert.Reference36Ideal.Read.val_main_v10, Cert.Reference36Ideal.Read.val_main_cst_3, Cert.Reference36Ideal.Read.val_main_v11, Cert.Reference36Ideal.Read.val_main_v12, Cert.Reference36Ideal.Read.val_main_cst_4, Cert.Reference36Ideal.Read.val_main_v13, Cert.Reference36Ideal.Read.val_main_v14, Cert.Reference36Ideal.Read.val_main_v15, Cert.Reference36Ideal.Read.val_main_cst_5, Cert.Reference36Ideal.Read.val_main_v16, Cert.Reference36Ideal.Read.val_main_v17, Cert.Reference36Ideal.Read.val_main_v18, Cert.Reference36Ideal.Read.val_main_cst_6, Cert.Reference36Ideal.Read.val_main_v19, Cert.Reference36Ideal.Read.val_main_v20, Cert.Reference36Ideal.Read.val_main_v21, Cert.Reference36Ideal.Read.val_main_cst_7, Cert.Reference36Ideal.Read.val_main_v22, Cert.Reference36Ideal.Read.val_main_v23]
  blk_point [iblk, V, idx t]

/-- The gradient is handed on as it is. -/
theorem final_grad : (dats m 0 c).arrAt 4 cfg0.N = (m ((c : Thread nD τ).loc main_arg3)) := by
  refine (dats m 0 c).arrAt_eq_of_covers 4 _ (by decide +kernel) fun t hf y => ?_
  blk_simp
  rw [after0_4]
  frame_out
  blk_point [iblk, V, idx t]

/-- The kernel's ideal results are the reference's, for every input. -/
theorem algebraic : Cert.algebraic_Kernel36Ideal_Reference36Ideal := by
  pair_intro
  · run_from Cert.Kernel36Ideal.Gen.run_main m g
  · hlo_run
    · exact (final_grad m c).symm
    · exact (final0 m c).symm
    · exact (final1 m c).symm
    · exact (final2 m c).symm

/-- The kernel changes nothing but its results, over the machine's own floats. -/
theorem frame_kernel : Cert.quiescent_Kernel36 :=
  fun m ρ _ => Cert.Kernel36.Gen.frame m ρ

/-- The same over the extended reals. -/
theorem frame_ideal : Cert.quiescent_Kernel36Ideal :=
  fun m ρ _ => Cert.Kernel36Ideal.Gen.frame m ρ

/-- The reference changes nothing but its results. -/
theorem frame_ref : Cert.quiescent_Reference36Ideal := by
  intro m ρ _
  hlo_run
  · exact fun c => by simp
  · exact sem_eq_zero_of_no_sems (by decide) _

end Cert.AdamSmall

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.LruClaims
public import proofs.«01_k».proof.Proof.DwIn
public import proofs.«01_k».proof.Proof.DwDown
public import proofs.«01_k».proof.Proof.FfnDh
public import proofs.«01_k».proof.Proof.FfnAct
public import proofs.«01_k».proof.Proof.FfnOut
public import proofs.«01_k».proof.Proof.MixDy
public import proofs.«01_k».proof.Proof.DwOut
public import proofs.«01_k».proof.Proof.DwEvIn
public import proofs.«01_k».proof.Proof.DwOdIn
public import proofs.«01_k».proof.Proof.DhEvIn
public import proofs.«01_k».proof.Proof.DhOdIn
public import proofs.«01_k».proof.Proof.EvIn
public import proofs.«01_k».proof.Proof.OdIn
public import proofs.«01_k».proof.Proof.MixOut
public import proofs.«01_k».proof.Proof.LruDx
public import proofs.«01_k».proof.Proof.ScDx
public import proofs.«01_k».proof.Proof.CfDx
public import proofs.«01_k».proof.Proof.LruDw
public import proofs.«01_k».proof.Proof.ScDw
public import proofs.«01_k».proof.Proof.CfDw
public import proofs.«01_k».proof.Proof.ScGateOut
public import proofs.«01_k».proof.Proof.ScGateIn
public import proofs.«01_k».proof.Proof.GluGrad
public import proofs.«01_k».proof.Proof.CfLnGrad
public import proofs.«01_k».proof.Proof.ScMul
public import proofs.«01_k».proof.Proof.ScOut
public import proofs.«01_k».proof.Proof.GluOut
public import proofs.«01_k».proof.Proof.ScConv
public import proofs.«01_k».proof.Proof.LruConv
public import proofs.«01_k».proof.Proof.CfConv
public import proofs.«01_k».proof.Proof.CfLnOut
public import proofs.«01_k».proof.Proof.RmsOut
public import proofs.«01_k».proof.Proof.RmsGrad
public import proofs.«01_k».proof.Proof.FinalLoss
public import proofs.«01_k».proof.Proof.AdamSmall

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    LruBwd.frame_kernel, LruBwd.frame_ideal, LruBwd.frame_ref,
    DwIn.frame_kernel, DwIn.frame_ideal, DwIn.frame_ref,
    DwDown.frame_kernel, DwDown.frame_ideal, DwDown.frame_ref,
    FfnDh.frame_kernel, FfnDh.frame_ideal, FfnDh.frame_ref,
    FfnAct.frame_kernel, FfnAct.frame_ideal, FfnAct.frame_ref,
    FfnOut.frame_kernel, FfnOut.frame_ideal, FfnOut.frame_ref,
    MixDy.frame_kernel, MixDy.frame_ideal, MixDy.frame_ref,
    DwOut.frame_kernel, DwOut.frame_ideal, DwOut.frame_ref,
    DwEvIn.frame_kernel, DwEvIn.frame_ideal, DwEvIn.frame_ref,
    DwOdIn.frame_kernel, DwOdIn.frame_ideal, DwOdIn.frame_ref,
    DhEvIn.frame_kernel, DhEvIn.frame_ideal, DhEvIn.frame_ref,
    DhOdIn.frame_kernel, DhOdIn.frame_ideal, DhOdIn.frame_ref,
    EvIn.frame_kernel, EvIn.frame_ideal, EvIn.frame_ref,
    OdIn.frame_kernel, OdIn.frame_ideal, OdIn.frame_ref,
    MixOut.frame_kernel, MixOut.frame_ideal, MixOut.frame_ref,
    LruDx.frame_kernel, LruDx.frame_ideal, LruDx.frame_ref,
    ScDx.frame_kernel, ScDx.frame_ideal, ScDx.frame_ref,
    CfDx.frame_kernel, CfDx.frame_ideal, CfDx.frame_ref,
    LruDw.frame_kernel, LruDw.frame_ideal, LruDw.frame_ref,
    ScDw.frame_kernel, ScDw.frame_ideal, ScDw.frame_ref,
    CfDw.frame_kernel, CfDw.frame_ideal, CfDw.frame_ref,
    ScGateOut.frame_kernel, ScGateOut.frame_ideal, ScGateOut.frame_ref,
    ScGateIn.frame_kernel, ScGateIn.frame_ideal, ScGateIn.frame_ref,
    GluGrad.frame_kernel, GluGrad.frame_ideal, GluGrad.frame_ref,
    CfLnGrad.frame_kernel, CfLnGrad.frame_ideal, CfLnGrad.frame_ref,
    ScMul.frame_kernel, ScMul.frame_ideal, ScMul.frame_ref,
    ScOut.frame_kernel, ScOut.frame_ideal, ScOut.frame_ref,
    GluOut.frame_kernel, GluOut.frame_ideal, GluOut.frame_ref,
    ScConv.frame_kernel, ScConv.frame_ideal, ScConv.frame_ref,
    LruConv.frame_kernel, LruConv.frame_ideal, LruConv.frame_ref,
    CfConv.frame_kernel, CfConv.frame_ideal, CfConv.frame_ref,
    CfLnOut.frame_kernel, CfLnOut.frame_ideal, CfLnOut.frame_ref,
    RmsOut.frame_kernel, RmsOut.frame_ideal, RmsOut.frame_ref,
    RmsGrad.frame_kernel, RmsGrad.frame_ideal, RmsGrad.frame_ref,
    FinalLoss.frame_kernel, FinalLoss.frame_ideal, FinalLoss.frame_ref,
    AdamSmall.frame_kernel, AdamSmall.frame_ideal, AdamSmall.frame_ref,
    trivial, LruBwd.algebraic, trivial, DwIn.algebraic,
    trivial, DwDown.algebraic, trivial, FfnDh.algebraic,
    trivial, FfnAct.algebraic, trivial, FfnOut.algebraic,
    trivial, MixDy.algebraic, trivial, DwOut.algebraic,
    trivial, DwEvIn.algebraic, trivial, DwOdIn.algebraic,
    trivial, DhEvIn.algebraic, trivial, DhOdIn.algebraic,
    trivial, EvIn.algebraic, trivial, OdIn.algebraic,
    trivial, MixOut.algebraic, trivial, LruDx.algebraic,
    trivial, ScDx.algebraic, trivial, CfDx.algebraic,
    trivial, LruDw.algebraic, trivial, ScDw.algebraic,
    trivial, CfDw.algebraic, trivial, ScGateOut.algebraic,
    trivial, ScGateIn.algebraic, trivial, GluGrad.algebraic,
    trivial, CfLnGrad.algebraic, trivial, ScMul.algebraic,
    trivial, ScOut.algebraic, trivial, GluOut.algebraic,
    trivial, ScConv.algebraic, trivial, LruConv.algebraic,
    trivial, CfConv.algebraic, trivial, CfLnOut.algebraic,
    trivial, RmsOut.algebraic, trivial, RmsGrad.algebraic,
    trivial, FinalLoss.algebraic, trivial, AdamSmall.algebraic⟩

end Cert.Proof

end
